-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_named : Cert.Pre_experts_named.Facts] (m : (ℓ : Loc Cert.Kernel3.nD Cert.Kernel3.τ Cert.Kernel3.sig) → Buf (Elt Bits) ℓ) : Prop :=
  ∀ c : Dev Cert.Kernel3.nD,
    (Cert.Pre_experts_named.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_named : Cert.Pre_experts_named.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_named.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_named [hPre_experts_named : Cert.Pre_experts_named.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_named.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 [hPre_experts_named : Cert.Pre_experts_named.Facts] (m : (ℓ : Loc Cert.Kernel4.nD Cert.Kernel4.τ Cert.Kernel4.sig) → Buf (Elt Bits) ℓ) : Prop :=
  ∀ c : Dev Cert.Kernel4.nD,
    (Cert.Pre_experts_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts_named : Cert.Pre_experts_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts_named [hPre_experts_named : Cert.Pre_experts_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] [hPre_experts_named : Cert.Pre_experts_named.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_named [hReference3Ideal : Cert.Reference3Ideal.Facts] [hPre_experts_named : Cert.Pre_experts_named.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_named m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] [hPre_experts_named : Cert.Pre_experts_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_experts_named [hReference4Ideal : Cert.Reference4Ideal.Facts] [hPre_experts_named : Cert.Pre_experts_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts_named m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)) (v3 : (c : Dev Cert.Kernel2Ideal.nD) → Buf (Elt Ideal) ((c.tc : Thread Cert.Kernel2Ideal.nD Cert.Kernel2Ideal.τ).loc Cert.Kernel2Ideal.main_v16_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_v16_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_v63) = v2 c
          ∧ r.2.mem ((c.tc : Thread Cert.Reference2Ideal.nD Cert.Reference2Ideal.τ).loc Cert.Reference2Ideal.main_v65) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] [hPre_experts_named : Cert.Pre_experts_named.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] [hPre_experts_named : Cert.Pre_experts_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v69) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v45_0)) (v1 : (c : Dev Cert.Kernel5Ideal.nD) → Buf (Elt Ideal) ((c.tc : Thread Cert.Kernel5Ideal.nD Cert.Kernel5Ideal.τ).loc Cert.Kernel5Ideal.main_v45_1)) (v2 : (c : Dev Cert.Kernel5Ideal.nD) → Buf (Elt Ideal) ((c.tc : Thread Cert.Kernel5Ideal.nD Cert.Kernel5Ideal.τ).loc Cert.Kernel5Ideal.main_v45_2)) (v3 : (c : Dev Cert.Kernel5Ideal.nD) → Buf (Elt Ideal) ((c.tc : Thread Cert.Kernel5Ideal.nD Cert.Kernel5Ideal.τ).loc Cert.Kernel5Ideal.main_v45_3)) (v4 : (c : Dev Cert.Kernel5Ideal.nD) → Buf (Elt Ideal) ((c.tc : Thread Cert.Kernel5Ideal.nD Cert.Kernel5Ideal.τ).loc Cert.Kernel5Ideal.main_v45_4)) (v5 : (c : Dev Cert.Kernel5Ideal.nD) → Buf (Elt Ideal) ((c.tc : Thread Cert.Kernel5Ideal.nD Cert.Kernel5Ideal.τ).loc Cert.Kernel5Ideal.main_v45_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v45_0) = v0 c
          ∧ r.2.mem ((c.tc : Thread Cert.Kernel5Ideal.nD Cert.Kernel5Ideal.τ).loc Cert.Kernel5Ideal.main_v45_1) = v1 c
          ∧ r.2.mem ((c.tc : Thread Cert.Kernel5Ideal.nD Cert.Kernel5Ideal.τ).loc Cert.Kernel5Ideal.main_v45_2) = v2 c
          ∧ r.2.mem ((c.tc : Thread Cert.Kernel5Ideal.nD Cert.Kernel5Ideal.τ).loc Cert.Kernel5Ideal.main_v45_3) = v3 c
          ∧ r.2.mem ((c.tc : Thread Cert.Kernel5Ideal.nD Cert.Kernel5Ideal.τ).loc Cert.Kernel5Ideal.main_v45_4) = v4 c
          ∧ r.2.mem ((c.tc : Thread Cert.Kernel5Ideal.nD Cert.Kernel5Ideal.τ).loc Cert.Kernel5Ideal.main_v45_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v126) = v0 c
          ∧ r.2.mem ((c.tc : Thread Cert.Reference5Ideal.nD Cert.Reference5Ideal.τ).loc Cert.Reference5Ideal.main_v128) = v1 c
          ∧ r.2.mem ((c.tc : Thread Cert.Reference5Ideal.nD Cert.Reference5Ideal.τ).loc Cert.Reference5Ideal.main_v132) = v2 c
          ∧ r.2.mem ((c.tc : Thread Cert.Reference5Ideal.nD Cert.Reference5Ideal.τ).loc Cert.Reference5Ideal.main_v133) = v3 c
          ∧ r.2.mem ((c.tc : Thread Cert.Reference5Ideal.nD Cert.Reference5Ideal.τ).loc Cert.Reference5Ideal.main_v141) = v4 c
          ∧ r.2.mem ((c.tc : Thread Cert.Reference5Ideal.nD Cert.Reference5Ideal.τ).loc Cert.Reference5Ideal.main_v147) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_qkv : Cert.Pre_finite_qkv.Facts) (hPre_experts_named : Cert.Pre_experts_named.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_named := hPre_experts_named)
    ∧ quiescent_Kernel3Ideal (hKernel3Ideal := hKernel3Ideal) (hPre_experts_named := hPre_experts_named)
    ∧ quiescent_Reference3Ideal (hReference3Ideal := hReference3Ideal)
    ∧ quiescent_Reference3Ideal_pre_experts_named (hReference3Ideal := hReference3Ideal) (hPre_experts_named := hPre_experts_named)
    ∧ quiescent_Kernel4 (hKernel4 := hKernel4) (hPre_experts_named := hPre_experts_named)
    ∧ quiescent_Kernel4Ideal (hKernel4Ideal := hKernel4Ideal) (hPre_experts_named := hPre_experts_named)
    ∧ quiescent_Reference4Ideal (hReference4Ideal := hReference4Ideal)
    ∧ quiescent_Reference4Ideal_pre_experts_named (hReference4Ideal := hReference4Ideal) (hPre_experts_named := hPre_experts_named)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_named := hPre_experts_named)
    ∧ preserves_Kernel4_Kernel4Ideal
    ∧ algebraic_Kernel4Ideal_Reference4Ideal (hKernel4Ideal := hKernel4Ideal) (hReference4Ideal := hReference4Ideal) (hPre_experts_named := hPre_experts_named)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_experts_named.lean ====
abbrev S272 : Shape := ⟨1, ![272]⟩
abbrev S1 : Shape := ⟨1, ![1]⟩
abbrev S139264x1024 : Shape := ⟨2, ![139264, 1024]⟩
abbrev S2x16x1024x1024 : Shape := ⟨4, ![2, 16, 1024, 1024]⟩
abbrev S_ : Shape := ⟨0, ![]⟩

class Facts : Prop where
  bcast_S_S272 : S_.BroadcastsInDim S272 (![] : Fin 0 → Fin S272.rank)

variable [Facts]

def fn {F : FTy → Type} [FloatOps F] (main_arg0 : IVec S272 32) (main_arg1 : IVec S1 32) (main_arg2 : FVec F S139264x1024 .f32) (main_arg3 : FVec F S2x16x1024x1024 .f32) (main_arg4 : FVec F S2x16x1024x1024 .f32) (main_arg5 : FVec F S2x16x1024x1024 .f32) : IVec S272 1 :=
  let main_c : IVec S_ 32 := constantI S_ 32 0#32
  let main_v0 : IVec S272 32 := broadcastInDim S272 ![] bcast_S_S272 main_c
  let main_v1 : IVec S272 1 := cmpi .sge main_arg0 main_v0
  let main_c_0 : IVec S_ 32 := constantI S_ 32 16#32
  let main_v2 : IVec S272 32 := broadcastInDim S272 ![] bcast_S_S272 main_c_0
  let main_v3 : IVec S272 1 := cmpi .slt main_arg0 main_v2
  let main_v4 : IVec S272 1 := andi main_v1 main_v3
  main_v4
-- ==== Pre_finite_qkv.lean ====
abbrev S8x8192x1024 : Shape := ⟨3, ![8, 8192, 1024]⟩
abbrev S8x8192x2048 : Shape := ⟨3, ![8, 8192, 2048]⟩
abbrev S1x2048 : Shape := ⟨2, ![1, 2048]⟩
abbrev S_ : Shape := ⟨0, ![]⟩

class Facts : Prop where
  bitsLt_bf16_f32 : FTy.bits .bf16 < FTy.bits .f32
  bcast_S_S8x8192x1024 : S_.BroadcastsInDim S8x8192x1024 (![] : Fin 0 → Fin S8x8192x1024.rank)
  bcast_S_S8x8192x2048 : S_.BroadcastsInDim S8x8192x2048 (![] : Fin 0 → Fin S8x8192x2048.rank)

variable [Facts]

def fn {F : FTy → Type} [FloatOps F] (main_arg0 : FVec F S8x8192x1024 .bf16) (main_arg1 : FVec F S8x8192x1024 .bf16) (main_arg2 : FVec F S8x8192x2048 .bf16) (main_arg3 : FVec F S8x8192x2048 .f32) (main_arg4 : FVec F S1x2048 .f32) (main_arg5 : FVec F S1x2048 .f32) : IVec S8x8192x1024 1 × IVec S8x8192x1024 1 × IVec S8x8192x2048 1 :=
  let main_v0 : FVec F S8x8192x1024 .f32 := (extf .f32 · bitsLt_bf16_f32) main_arg0
  let main_v1 : FVec F S8x8192x1024 .f32 := (extf .f32 · bitsLt_bf16_f32) main_arg0
  let main_v2 : FVec F S8x8192x1024 .f32 := subf main_v0 main_v1
  let main_cst : FVec F S_ .f32 := constant S_ .f32 0x00000000#32
  let main_v3 : FVec F S8x8192x1024 .f32 := broadcastInDim S8x8192x1024 ![] bcast_S_S8x8192x1024 main_cst
  let main_v4 : IVec S8x8192x1024 1 := cmpf .oeq main_v2 main_v3
  let main_v5 : FVec F S8x8192x1024 .f32 := (extf .f32 · bitsLt_bf16_f32) main_arg1
  let main_v6 : FVec F S8x8192x1024 .f32 := (extf .f32 · bitsLt_bf16_f32) main_arg1
  let main_v7 : FVec F S8x8192x1024 .f32 := subf main_v5 main_v6
  let main_cst_0 : FVec F S_ .f32 := constant S_ .f32 0x00000000#32
  let main_v8 : FVec F S8x8192x1024 .f32 := broadcastInDim S8x8192x1024 ![] bcast_S_S8x8192x1024 main_cst_0
  let main_v9 : IVec S8x8192x1024 1 := cmpf .oeq main_v7 main_v8
  let main_v10 : FVec F S8x8192x2048 .f32 := (extf .f32 · bitsLt_bf16_f32) main_arg2
  let main_v11 : FVec F S8x8192x2048 .f32 := (extf .f32 · bitsLt_bf16_f32) main_arg2
  let main_v12 : FVec F S8x8192x2048 .f32 := subf main_v10 main_v11
  let main_cst_1 : FVec F S_ .f32 := constant S_ .f32 0x00000000#32
  let main_v13 : FVec F S8x8192x2048 .f32 := broadcastInDim S8x8192x2048 ![] bcast_S_S8x8192x2048 main_cst_1
  let main_v14 : IVec S8x8192x2048 1 := cmpf .oeq main_v12 main_v13
  (main_v4, main_v9, main_v14)
-- ==== Kernel.lean ====
abbrev S8x8192x1024 : Shape := ⟨3, ![8, 8192, 1024]⟩
abbrev S8x8192x2048 : Shape := ⟨3, ![8, 8192, 2048]⟩
abbrev S1x2048 : Shape := ⟨2, ![1, 2048]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S8x1 : Shape := ⟨2, ![8, 1]⟩
abbrev S8x256 : Shape := ⟨2, ![8, 256]⟩
abbrev S8x256x1 : Shape := ⟨3, ![8, 256, 1]⟩
abbrev S8x1x128 : Shape := ⟨3, ![8, 1, 128]⟩
abbrev S2x256x1024 : Shape := ⟨3, ![2, 256, 1024]⟩
abbrev S2x256x2048 : Shape := ⟨3, ![2, 256, 2048]⟩
abbrev S16x128x256 : Shape := ⟨3, ![16, 128, 256]⟩
abbrev S1x256x128 : Shape := ⟨3, ![1, 256, 128]⟩
abbrev S256x128 : Shape := ⟨2, ![256, 128]⟩
abbrev S1x128x256 : Shape := ⟨3, ![1, 128, 256]⟩
abbrev S128x256 : Shape := ⟨2, ![128, 256]⟩
abbrev S1x256x1 : Shape := ⟨3, ![1, 256, 1]⟩
abbrev S1x1x128 : Shape := ⟨3, ![1, 1, 128]⟩
abbrev S1x128 : Shape := ⟨2, ![1, 128]⟩
abbrev S1x1 : Shape := ⟨2, ![1, 1]⟩

abbrev nBuf : Space → Nat
  | .hbm => 67
  | .vmem => 17
  | .smem => 0
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x2048, .bf16⟩
  | .hbm, ⟨3, _⟩ => ⟨S8x8192x2048, .f32⟩
  | .hbm, ⟨4, _⟩ => ⟨S1x2048, .f32⟩
  | .hbm, ⟨5, _⟩ => ⟨S1x2048, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8, .f32⟩
  | .hbm, ⟨17, _⟩ => ⟨S256, .f32⟩
  | .hbm, ⟨18, _⟩ => ⟨S256x1, .f32⟩
  | .hbm, ⟨19, _⟩ => ⟨S1x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .i1⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S8x1x1, .f32⟩
  | .hbm, ⟨30, _⟩ => ⟨S1x256x256, .f32⟩
  | .hbm, ⟨31, _⟩ => ⟨S8x256x256, .f32⟩
  | .hbm, ⟨32, _⟩ => ⟨S8x256x256, .f32⟩
  | .hbm, ⟨33, _⟩ => ⟨S8x256x256, .f32⟩
  | .hbm, ⟨34, _⟩ => ⟨S8x256x256, .f32⟩
  | .hbm, ⟨35, _⟩ => ⟨S_, .f32⟩
  | .hbm, ⟨36, _⟩ => ⟨S_, .f32⟩
  | .hbm, ⟨37, _⟩ => ⟨S8x256x256, .i1⟩
  | .hbm, ⟨38, _⟩ => ⟨S8x256x256, .f32⟩
  | .hbm, ⟨39, _⟩ => ⟨S8x256x256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S8x1, .f32⟩
  | .hbm, ⟨44, _⟩ => ⟨S1x256, .f32⟩
  | .hbm, ⟨45, _⟩ => ⟨S8x256, .f32⟩
  | .hbm, ⟨46, _⟩ => ⟨S8x256, .f32⟩
  | .hbm, ⟨47, _⟩ => ⟨S8x256, .f32⟩
  | .hbm, ⟨48, _⟩ => ⟨S8x256, .f32⟩
  | .hbm, ⟨49, _⟩ => ⟨S8x256x1, .f32⟩
  | .hbm, ⟨50, _⟩ => ⟨S_, .f32⟩
  | .hbm, ⟨51, _⟩ => ⟨S256, .f32⟩
  | .hbm, ⟨52, _⟩ => ⟨S256, .f32⟩
  | .hbm, ⟨53, _⟩ => ⟨S8x1, .f32⟩
  | .hbm, ⟨54, _⟩ => ⟨S1x256, .f32⟩
  | .hbm, ⟨55, _⟩ => ⟨S8x256, .f32⟩
  | .hbm, ⟨56, _⟩ => ⟨S8x256, .f32⟩
  | .hbm, ⟨57, _⟩ => ⟨S8x256, .f32⟩
  | .hbm, ⟨58, _⟩ => ⟨S8x256, .f32⟩
  | .hbm, ⟨59, _⟩ => ⟨S8x256x1, .f32⟩
  | .hbm, ⟨60, _⟩ => ⟨S_, .f32⟩
  | .hbm, ⟨61, _⟩ => ⟨S8, .f32⟩
  | .hbm, ⟨62, _⟩ => ⟨S8, .f32⟩
  | .hbm, ⟨63, _⟩ => ⟨S8, .f32⟩
  | .hbm, ⟨64, _⟩ => ⟨S8x1x1, .f32⟩
  | .hbm, ⟨65, _⟩ => ⟨S8x1x128, .f32⟩
  | .hbm, ⟨66, _⟩ => ⟨S8x8192x2048, .bf16⟩
  | .local _ .vmem, ⟨0, _⟩ => ⟨S2x256x1024, .bf16⟩
  | .local _ .vmem, ⟨1, _⟩ => ⟨S2x256x1024, .bf16⟩
  | .local _ .vmem, ⟨2, _⟩ => ⟨S2x256x1024, .bf16⟩
  | .local _ .vmem, ⟨3, _⟩ => ⟨S2x256x1024, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .f32⟩
  | .local _ .vmem, ⟨7, _⟩ => ⟨S2x256x2048, .f32⟩
  | .local _ .vmem, ⟨8, _⟩ => ⟨S8x256x256, .f32⟩
  | .local _ .vmem, ⟨9, _⟩ => ⟨S8x256x1, .f32⟩
  | .local _ .vmem, ⟨10, _⟩ => ⟨S8x256x1, .f32⟩
  | .local _ .vmem, ⟨11, _⟩ => ⟨S8x1x128, .f32⟩
  | .local _ .vmem, ⟨12, _⟩ => ⟨S1x2048, .f32⟩
  | .local _ .vmem, ⟨13, _⟩ => ⟨S1x2048, .f32⟩
  | .local _ .vmem, ⟨14, _⟩ => ⟨S2x256x2048, .bf16⟩
  | .local _ .vmem, ⟨15, _⟩ => ⟨S2x256x2048, .bf16⟩
  | .local _ .vmem, ⟨16, _⟩ => ⟨S16x128x256, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S2x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x8192x1024 : Shape := ⟨3, ![8, 8192, 1024]⟩
abbrev S8x8192x2048 : Shape := ⟨3, ![8, 8192, 2048]⟩
abbrev S1x2048 : Shape := ⟨2, ![1, 2048]⟩
abbrev S8x8192x8x128 : Shape := ⟨4, ![8, 8192, 8, 128]⟩
abbrev S8x8192x8x256 : Shape := ⟨4, ![8, 8192, 8, 256]⟩
abbrev S8 : Shape := ⟨1, ![8]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x8x128x256 : Shape := ⟨4, ![8, 8, 128, 256]⟩
abbrev S8x64x128x8x128 : Shape := ⟨5, ![8, 64, 128, 8, 128]⟩
abbrev S64x8x8x128x128 : Shape := ⟨5, ![64, 8, 8, 128, 128]⟩
abbrev S8x64x128x8x256 : Shape := ⟨5, ![8, 64, 128, 8, 256]⟩
abbrev S64x8x8x128x256 : Shape := ⟨5, ![64, 8, 8, 128, 256]⟩
abbrev S1x8x8x128x128 : Shape := ⟨5, ![1, 8, 8, 128, 128]⟩
abbrev S8x8x128x128 : Shape := ⟨4, ![8, 8, 128, 128]⟩
abbrev S1x8x8x128x256 : Shape := ⟨5, ![1, 8, 8, 128, 256]⟩
abbrev S1x8x128x128 : Shape := ⟨4, ![1, 8, 128, 128]⟩
abbrev S1x8x128x1 : Shape := ⟨4, ![1, 8, 128, 1]⟩
abbrev S1x8x1x1 : Shape := ⟨4, ![1, 8, 1, 1]⟩
abbrev S8x8192x8 : Shape := ⟨3, ![8, 8192, 8]⟩
abbrev S8x8192x8x1 : Shape := ⟨4, ![8, 8192, 8, 1]⟩
abbrev S8x256 : Shape := ⟨2, ![8, 256]⟩
abbrev S1x1x8x256 : Shape := ⟨4, ![1, 1, 8, 256]⟩

abbrev nBuf : Space → Nat
  | .hbm => 174
  | .vmem => 0
  | .smem => 0
  | _ => 0

abbrev hbmTy0_0 (i : Nat) : BufTy := match i % 128 with
  | 0 => ⟨S8x8192x1024, .bf16⟩
  | 1 => ⟨S8x8192x1024, .bf16⟩
  | 2 => ⟨S8x8192x2048, .bf16⟩
  | 3 => ⟨S8x8192x2048, .f32⟩
  | 4 => ⟨S1x2048, .f32⟩
  | 5 => ⟨S1x2048, .f32⟩
  | 6 => ⟨S8x8192x1024, .f32⟩
  | 7 => ⟨S8x8192x8x128, .f32⟩
  | 8 => ⟨S8x8192x1024, .f32⟩
  | 9 => ⟨S8x8192x8x128, .f32⟩
  | 10 => ⟨S8x8192x2048, .f32⟩
  | 11 => ⟨S8x8192x8x256, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S_, .f32⟩
  | 20 => ⟨S8, .f32⟩
  | 21 => ⟨S8, .f32⟩
  | 22 => ⟨S8, .f32⟩
  | 23 => ⟨S128, .f32⟩
  | 24 => ⟨S128x1, .f32⟩
  | 25 => ⟨S1x128, .f32⟩
  | 26 => ⟨S128x128, .f32⟩
  | 27 => ⟨S128x128, .f32⟩
  | 28 => ⟨S128x128, .f32⟩
  | 29 => ⟨S_, .f32⟩
  | 30 => ⟨S128x128, .f32⟩
  | 31 => ⟨S128x128, .i1⟩
  | 32 => ⟨S_, .f32⟩
  | 33 => ⟨S128x128, .f32⟩
  | 34 => ⟨S128x128, .f32⟩
  | 35 => ⟨S8x1x1, .f32⟩
  | 36 => ⟨S1x128x128, .f32⟩
  | 37 => ⟨S8x128x128, .f32⟩
  | 38 => ⟨S8x128x128, .f32⟩
  | 39 => ⟨S8x128x128, .f32⟩
  | 40 => ⟨S8x128x128, .f32⟩
  | 41 => ⟨S_, .f32⟩
  | 42 => ⟨S_, .f32⟩
  | 43 => ⟨S8x128x128, .i1⟩
  | 44 => ⟨S8x128x128, .f32⟩
  | 45 => ⟨S8x128x128, .f32⟩
  | 46 => ⟨S_, .f32⟩
  | 47 => ⟨S128, .f32⟩
  | 48 => ⟨S128, .f32⟩
  | 49 => ⟨S8x1, .f32⟩
  | 50 => ⟨S1x128, .f32⟩
  | 51 => ⟨S8x128, .f32⟩
  | 52 => ⟨S8x128, .f32⟩
  | 53 => ⟨S8x128, .f32⟩
  | 54 => ⟨S8x128, .f32⟩
  | 55 => ⟨S8x128x1, .f32⟩
  | 56 => ⟨S_, .f32⟩
  | 57 => ⟨S128, .f32⟩
  | 58 => ⟨S128, .f32⟩
  | 59 => ⟨S8x1, .f32⟩
  | 60 => ⟨S1x128, .f32⟩
  | 61 => ⟨S8x128, .f32⟩
  | 62 => ⟨S8x128, .f32⟩
  | 63 => ⟨S8x128, .f32⟩
  | 64 => ⟨S8x128, .f32⟩
  | 65 => ⟨S8x128x1, .f32⟩
  | 66 => ⟨S_, .f32⟩
  | 67 => ⟨S8, .f32⟩
  | 68 => ⟨S8, .f32⟩
  | 69 => ⟨S8, .f32⟩
  | 70 => ⟨S8x1x1, .f32⟩
  | 71 => ⟨S_, .f32⟩
  | 72 => ⟨S8x8x128x256, .f32⟩
  | 73 => ⟨S8x64x128x8x128, .f32⟩
  | 74 => ⟨S64x8x8x128x128, .f32⟩
  | 75 => ⟨S8x64x128x8x128, .f32⟩
  | 76 => ⟨S64x8x8x128x128, .f32⟩
  | 77 => ⟨S8x64x128x8x256, .f32⟩
  | 78 => ⟨S64x8x8x128x256, .f32⟩
  | 79 => ⟨S_, .f32⟩
  | 80 => ⟨S64x8x8x128x256, .f32⟩
  | 81 => ⟨S_, .i32⟩
  | 82 => ⟨S64x8x8x128x128, .f32⟩
  | 83 => ⟨S64x8x8x128x128, .f32⟩
  | 84 => ⟨S64x8x8x128x256, .f32⟩
  | 85 => ⟨S8x128x128, .f32⟩
  | 86 => ⟨S8x128x1, .f32⟩
  | 87 => ⟨S8x1x1, .f32⟩
  | 88 => ⟨S8x128x1, .f32⟩
  | 89 => ⟨S_, .i32⟩
  | 90 => ⟨S8x8x128x256, .f32⟩
  | 91 => ⟨S64x8x8x128x256, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x8x8x128x128, .f32⟩
  | 99 => ⟨S8x8x128x128, .f32⟩
  | 100 => ⟨S_, .i32⟩
  | 101 => ⟨S_, .i32⟩
  | 102 => ⟨S_, .i32⟩
  | 103 => ⟨S_, .i32⟩
  | 104 => ⟨S1x8x8x128x128, .f32⟩
  | 105 => ⟨S8x8x128x128, .f32⟩
  | 106 => ⟨S_, .i32⟩
  | 107 => ⟨S_, .i32⟩
  | 108 => ⟨S_, .i32⟩
  | 109 => ⟨S_, .i32⟩
  | 110 => ⟨S1x8x8x128x256, .f32⟩
  | 111 => ⟨S8x8x128x256, .f32⟩
  | 112 => ⟨S8x8x128x128, .f32⟩
  | 113 => ⟨S1x8x128x128, .f32⟩
  | 114 => ⟨S8x8x128x128, .f32⟩
  | 115 => ⟨S8x8x128x128, .f32⟩
  | 116 => ⟨S8x8x128x256, .f32⟩
  | 117 => ⟨S8x8x128x256, .f32⟩
  | 118 => ⟨S1x8x128x1, .f32⟩
  | 119 => ⟨S8x8x128x256, .f32⟩
  | 120 => ⟨S8x8x128x256, .f32⟩
  | 121 => ⟨S1x8x1x1, .f32⟩
  | 122 => ⟨S8x8x128x256, .f32⟩
  | 123 => ⟨S8x8x128x256, .f32⟩
  | 124 => ⟨S1x8x128x1, .f32⟩
  | 125 => ⟨S8x8x128x128, .f32⟩
  | 126 => ⟨S8x8x128x128, .f32⟩
  | 127 => ⟨S8x8x128x256, .f32⟩
  | _ => ⟨S8x8192x1024, .bf16⟩

abbrev hbmTy0_1 (i : Nat) : BufTy := match i % 128 with
  | 0 => ⟨S8x8x128x256, .f32⟩
  | 1 => ⟨S8x8x128x256, .f32⟩
  | 2 => ⟨S1x8x8x128x256, .f32⟩
  | 3 => ⟨S_, .i32⟩
  | 4 => ⟨S_, .i32⟩
  | 5 => ⟨S_, .i32⟩
  | 6 => ⟨S_, .i32⟩
  | 7 => ⟨S64x8x8x128x256, .f32⟩
  | 8 => ⟨S_, .i32⟩
  | 9 => ⟨S_, .i32⟩
  | 10 => ⟨S8x64x128x8x256, .f32⟩
  | 11 => ⟨S8x8192x8x256, .f32⟩
  | 12 => ⟨S_, .f32⟩
  | 13 => ⟨S8x8192x8, .f32⟩
  | 14 => ⟨S8x8192x8x1, .f32⟩
  | 15 => ⟨S_, .f32⟩
  | 16 => ⟨S8x8192x8x1, .f32⟩
  | 17 => ⟨S8x8192x8x1, .f32⟩
  | 18 => ⟨S8x8192x8x256, .f32⟩
  | 19 => ⟨S8x8192x8x256, .f32⟩
  | 20 => ⟨S8x8192x8x256, .f32⟩
  | 21 => ⟨S_, .f32⟩
  | 22 => ⟨S8x8192x8, .f32⟩
  | 23 => ⟨S8x8192x8x1, .f32⟩
  | 24 => ⟨S_, .f32⟩
  | 25 => ⟨S8x8192x8x1, .f32⟩
  | 26 => ⟨S8x8192x8x1, .f32⟩
  | 27 => ⟨S8x8192x8x256, .f32⟩
  | 28 => ⟨S8x8192x8x256, .f32⟩
  | 29 => ⟨S_, .f32⟩
  | 30 => ⟨S8x8192x8x1, .f32⟩
  | 31 => ⟨S8x8192x8x1, .f32⟩
  | 32 => ⟨S8x8192x8x1, .f32⟩
  | 33 => ⟨S8x8192x8x256, .f32⟩
  | 34 => ⟨S8x8192x8x256, .f32⟩
  | 35 => ⟨S8x256, .f32⟩
  | 36 => ⟨S1x1x8x256, .f32⟩
  | 37 => ⟨S8x8192x8x256, .f32⟩
  | 38 => ⟨S8x8192x8x256, .f32⟩
  | 39 => ⟨S8x256, .f32⟩
  | 40 => ⟨S1x1x8x256, .f32⟩
  | 41 => ⟨S8x8192x8x256, .f32⟩
  | 42 => ⟨S8x8192x8x256, .f32⟩
  | 43 => ⟨S8x8192x2048, .f32⟩
  | 44 => ⟨S8x8192x2048, .f32⟩
  | 45 => ⟨S8x8192x2048, .bf16⟩
  | _ => ⟨S8x8192x1024, .bf16⟩

abbrev hbmTy (i : Nat) : BufTy := match i / 128 with
  | 0 => hbmTy0_0 i
  | 1 => hbmTy0_1 i
  | _ => ⟨S8x8192x1024, .bf16⟩

abbrev bufTy : (tb : Table) → Fin (tcTables nBuf tb) → BufTy
  | .hbm, ⟨i, _⟩ => hbmTy i
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_9 : Ref sig .tc := ⟨.hbm, 79, rfl⟩
abbrev main_v60 : Ref sig .tc := ⟨.hbm, 80, rfl⟩
abbrev main_c : Ref sig .tc := ⟨.hbm, 81, rfl⟩
abbrev main_v61_0 : Ref sig .tc := ⟨.hbm, 82, rfl⟩
abbrev main_v61_1 : Ref sig .tc := ⟨.hbm, 83, rfl⟩
abbrev main_v61_2 : Ref sig .tc := ⟨.hbm, 84, rfl⟩
abbrev main_v61_3 : Ref sig .tc := ⟨.hbm, 85, rfl⟩
abbrev main_v61_4 : Ref sig .tc := ⟨.hbm, 86, rfl⟩
abbrev main_v61_5 : Ref sig .tc := ⟨.hbm, 87, rfl⟩
abbrev main_v61_6 : Ref sig .tc := ⟨.hbm, 88, rfl⟩
abbrev main_v61_7 : Ref sig .tc := ⟨.hbm, 89, rfl⟩
abbrev main_v61_8 : Ref sig .tc := ⟨.hbm, 90, rfl⟩
abbrev main_v61_9 : Ref sig .tc := ⟨.hbm, 91, rfl⟩
abbrev main_while0c_c_24 : Ref sig .tc := ⟨.hbm, 92, rfl⟩
abbrev main_while0c_v93 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v93 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_c_2 : Ref sig .tc := ⟨.hbm, 103, rfl⟩
abbrev main_while0b_call2_v0 : Ref sig .tc := ⟨.hbm, 104, rfl⟩
abbrev main_while0b_v94 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v95 : Ref sig .tc := ⟨.hbm, 111, rfl⟩
abbrev main_while0b_v96 : Ref sig .tc := ⟨.hbm, 112, rfl⟩
abbrev main_while0b_v97 : Ref sig .tc := ⟨.hbm, 113, rfl⟩
abbrev main_while0b_v98 : Ref sig .tc := ⟨.hbm, 114, rfl⟩
abbrev main_while0b_v99 : Ref sig .tc := ⟨.hbm, 115, rfl⟩
abbrev main_while0b_v100 : Ref sig .tc := ⟨.hbm, 116, rfl⟩
abbrev main_while0b_v101 : Ref sig .tc := ⟨.hbm, 117, rfl⟩
abbrev main_while0b_v102 : Ref sig .tc := ⟨.hbm, 118, rfl⟩
abbrev main_while0b_v103 : Ref sig .tc := ⟨.hbm, 119, rfl⟩
abbrev main_while0b_v104 : Ref sig .tc := ⟨.hbm, 120, rfl⟩
abbrev main_while0b_v105 : Ref sig .tc := ⟨.hbm, 121, rfl⟩
abbrev main_while0b_v106 : Ref sig .tc := ⟨.hbm, 122, rfl⟩
abbrev main_while0b_v107 : Ref sig .tc := ⟨.hbm, 123, rfl⟩
abbrev main_while0b_v108 : Ref sig .tc := ⟨.hbm, 124, rfl⟩
abbrev main_while0b_v109 : Ref sig .tc := ⟨.hbm, 125, rfl⟩
abbrev main_while0b_v110 : Ref sig .tc := ⟨.hbm, 126, rfl⟩
abbrev main_while0b_v111 : Ref sig .tc := ⟨.hbm, 127, rfl⟩
abbrev main_while0b_v112 : Ref sig .tc := ⟨.hbm, 128, rfl⟩
abbrev main_while0b_v113 : Ref sig .tc := ⟨.hbm, 129, rfl⟩
abbrev main_while0b_call4_v0 : Ref sig .tc := ⟨.hbm, 130, rfl⟩
abbrev main_while0b_call4_c : Ref sig .tc := ⟨.hbm, 131, rfl⟩
abbrev main_while0b_call4_c_0 : Ref sig .tc := ⟨.hbm, 132, rfl⟩
abbrev main_while0b_call4_c_1 : Ref sig .tc := ⟨.hbm, 133, rfl⟩
abbrev main_while0b_call4_c_2 : Ref sig .tc := ⟨.hbm, 134, rfl⟩
abbrev main_while0b_v114 : Ref sig .tc := ⟨.hbm, 135, rfl⟩
abbrev main_while0b_c_24 : Ref sig .tc := ⟨.hbm, 136, rfl⟩
abbrev main_while0b_v115 : Ref sig .tc := ⟨.hbm, 137, rfl⟩
abbrev main_v62 : Ref sig .tc := ⟨.hbm, 138, rfl⟩
abbrev main_v63 : Ref sig .tc := ⟨.hbm, 139, rfl⟩
abbrev main_cst_10 : Ref sig .tc := ⟨.hbm, 140, rfl⟩
abbrev main_v64 : Ref sig .tc := ⟨.hbm, 141, rfl⟩
abbrev main_v65 : Ref sig .tc := ⟨.hbm, 142, rfl⟩
abbrev main_cst_11 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_cst_12 : Ref sig .tc := ⟨.hbm, 149, rfl⟩
abbrev main_v71 : Ref sig .tc := ⟨.hbm, 150, rfl⟩
abbrev main_v72 : Ref sig .tc := ⟨.hbm, 151, rfl⟩
abbrev main_cst_13 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_cst_14 : Ref sig .tc := ⟨.hbm, 157, rfl⟩
abbrev main_v77 : Ref sig .tc := ⟨.hbm, 158, rfl⟩
abbrev main_v78 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_v85 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S65536x1024 : Shape := ⟨2, ![65536, 1024]⟩
abbrev S1024x6144 : Shape := ⟨2, ![1024, 6144]⟩
abbrev S_ : Shape := ⟨0, ![]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S65536x2048 : Shape := ⟨2, ![65536, 2048]⟩
abbrev S512x1024 : Shape := ⟨2, ![512, 1024]⟩
abbrev S512x128 : Shape := ⟨2, ![512, 128]⟩
abbrev S512x2048 : Shape := ⟨2, ![512, 2048]⟩
abbrev S1024x256 : Shape := ⟨2, ![1024, 256]⟩
abbrev S512x256 : Shape := ⟨2, ![512, 256]⟩
abbrev S1024x1024 : Shape := ⟨2, ![1024, 1024]⟩

abbrev nBuf : Space → Nat
  | .hbm => 45
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1024x6144, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S63, .f32⟩
  | .hbm, ⟨10, _⟩ => ⟨S_, .f32⟩
  | .hbm, ⟨11, _⟩ => ⟨S63, .f32⟩
  | .hbm, ⟨12, _⟩ => ⟨S63, .f32⟩
  | .hbm, ⟨13, _⟩ => ⟨S1, .f32⟩
  | .hbm, ⟨14, _⟩ => ⟨S_, .f32⟩
  | .hbm, ⟨15, _⟩ => ⟨S63, .f32⟩
  | .hbm, ⟨16, _⟩ => ⟨S63, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S63, .f32⟩
  | .hbm, ⟨21, _⟩ => ⟨S63, .f32⟩
  | .hbm, ⟨22, _⟩ => ⟨S63, .f32⟩
  | .hbm, ⟨23, _⟩ => ⟨S1, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S8192, .f32⟩
  | .hbm, ⟨30, _⟩ => ⟨S8192x1, .f32⟩
  | .hbm, ⟨31, _⟩ => ⟨S1x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x128, .f32⟩
  | .hbm, ⟨38, _⟩ => ⟨S8192x64, .f32⟩
  | .hbm, ⟨39, _⟩ => ⟨S8192x128, .f32⟩
  | .hbm, ⟨40, _⟩ => ⟨S1024x6144, .bf16⟩
  | .hbm, ⟨41, _⟩ => ⟨S65536x1024, .bf16⟩
  | .hbm, ⟨42, _⟩ => ⟨S65536x1024, .bf16⟩
  | .hbm, ⟨43, _⟩ => ⟨S65536x2048, .bf16⟩
  | .hbm, ⟨44, _⟩ => ⟨S65536x2048, .f32⟩
  | .local _ .vmem, ⟨0, _⟩ => ⟨S512x1024, .f32⟩
  | .local _ .vmem, ⟨1, _⟩ => ⟨S512x1024, .f32⟩
  | .local _ .vmem, ⟨2, _⟩ => ⟨S1024x6144, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .f32⟩
  | .local _ .vmem, ⟨14, _⟩ => ⟨S512x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_cst_1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16_0 : Ref sig .tc := ⟨.hbm, 41, rfl⟩
abbrev main_v16_1 : Ref sig .tc := ⟨.hbm, 42, rfl⟩
abbrev main_v16_2 : Ref sig .tc := ⟨.hbm, 43, rfl⟩
abbrev main_v16_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S65536x1024 : Shape := ⟨2, ![65536, 1024]⟩
abbrev S1024x6144 : Shape := ⟨2, ![1024, 6144]⟩
abbrev S8x8192x1024 : Shape := ⟨3, ![8, 8192, 1024]⟩
abbrev S8x8192x6144 : Shape := ⟨3, ![8, 8192, 6144]⟩
abbrev S8x8192x2048 : Shape := ⟨3, ![8, 8192, 2048]⟩
abbrev S_ : Shape := ⟨0, ![]⟩
abbrev S63 : Shape := ⟨1, ![63]⟩
abbrev S1 : Shape := ⟨1, ![1]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S8x8192x8x128 : Shape := ⟨4, ![8, 8192, 8, 128]⟩
abbrev S8x8192x8x64 : Shape := ⟨4, ![8, 8192, 8, 64]⟩
abbrev S1x8192x1x64 : Shape := ⟨4, ![1, 8192, 1, 64]⟩
abbrev S65536x2048 : Shape := ⟨2, ![65536, 2048]⟩

abbrev nBuf : Space → Nat
  | .hbm => 100
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x6144, .f32⟩
  | .hbm, ⟨2, _⟩ => ⟨S8x8192x1024, .f32⟩
  | .hbm, ⟨3, _⟩ => ⟨S8x8192x6144, .f32⟩
  | .hbm, ⟨4, _⟩ => ⟨S8x8192x1024, .f32⟩
  | .hbm, ⟨5, _⟩ => ⟨S8x8192x1024, .f32⟩
  | .hbm, ⟨6, _⟩ => ⟨S8x8192x2048, .f32⟩
  | .hbm, ⟨7, _⟩ => ⟨S8x8192x2048, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S63, .f32⟩
  | .hbm, ⟨16, _⟩ => ⟨S_, .f32⟩
  | .hbm, ⟨17, _⟩ => ⟨S63, .f32⟩
  | .hbm, ⟨18, _⟩ => ⟨S63, .f32⟩
  | .hbm, ⟨19, _⟩ => ⟨S1, .f32⟩
  | .hbm, ⟨20, _⟩ => ⟨S_, .f32⟩
  | .hbm, ⟨21, _⟩ => ⟨S63, .f32⟩
  | .hbm, ⟨22, _⟩ => ⟨S63, .f32⟩
  | .hbm, ⟨23, _⟩ => ⟨S63, .f32⟩
  | .hbm, ⟨24, _⟩ => ⟨S63, .f32⟩
  | .hbm, ⟨25, _⟩ => ⟨S1, .f32⟩
  | .hbm, ⟨26, _⟩ => ⟨S63, .f32⟩
  | .hbm, ⟨27, _⟩ => ⟨S63, .f32⟩
  | .hbm, ⟨28, _⟩ => ⟨S63, .f32⟩
  | .hbm, ⟨29, _⟩ => ⟨S1, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S64, .f32⟩
  | .hbm, ⟨34, _⟩ => ⟨S64, .f32⟩
  | .hbm, ⟨35, _⟩ => ⟨S8192, .f32⟩
  | .hbm, ⟨36, _⟩ => ⟨S8192x1, .f32⟩
  | .hbm, ⟨37, _⟩ => ⟨S1x64, .f32⟩
  | .hbm, ⟨38, _⟩ => ⟨S8192x64, .f32⟩
  | .hbm, ⟨39, _⟩ => ⟨S8192x64, .f32⟩
  | .hbm, ⟨40, _⟩ => ⟨S8192x64, .f32⟩
  | .hbm, ⟨41, _⟩ => ⟨S8192x64, .f32⟩
  | .hbm, ⟨42, _⟩ => ⟨S8192x1x64, .f32⟩
  | .hbm, ⟨43, _⟩ => ⟨S8192x64, .f32⟩
  | .hbm, ⟨44, _⟩ => ⟨S8192x1x64, .f32⟩
  | .hbm, ⟨45, _⟩ => ⟨S8x8192x8x128, .f32⟩
  | .hbm, ⟨46, _⟩ => ⟨S8x8192x8x64, .f32⟩
  | .hbm, ⟨47, _⟩ => ⟨S8x8192x8x64, .f32⟩
  | .hbm, ⟨48, _⟩ => ⟨S1x8192x1x64, .f32⟩
  | .hbm, ⟨49, _⟩ => ⟨S8x8192x8x64, .f32⟩
  | .hbm, ⟨50, _⟩ => ⟨S8x8192x8x64, .f32⟩
  | .hbm, ⟨51, _⟩ => ⟨S1x8192x1x64, .f32⟩
  | .hbm, ⟨52, _⟩ => ⟨S8x8192x8x64, .f32⟩
  | .hbm, ⟨53, _⟩ => ⟨S8x8192x8x64, .f32⟩
  | .hbm, ⟨54, _⟩ => ⟨S8x8192x8x64, .f32⟩
  | .hbm, ⟨55, _⟩ => ⟨S1x8192x1x64, .f32⟩
  | .hbm, ⟨56, _⟩ => ⟨S8x8192x8x64, .f32⟩
  | .hbm, ⟨57, _⟩ => ⟨S8x8192x8x64, .f32⟩
  | .hbm, ⟨58, _⟩ => ⟨S1x8192x1x64, .f32⟩
  | .hbm, ⟨59, _⟩ => ⟨S8x8192x8x64, .f32⟩
  | .hbm, ⟨60, _⟩ => ⟨S8x8192x8x64, .f32⟩
  | .hbm, ⟨61, _⟩ => ⟨S8x8192x8x64, .f32⟩
  | .hbm, ⟨62, _⟩ => ⟨S8x8192x8x128, .f32⟩
  | .hbm, ⟨63, _⟩ => ⟨S8x8192x8x128, .f32⟩
  | .hbm, ⟨64, _⟩ => ⟨S8x8192x8x64, .f32⟩
  | .hbm, ⟨65, _⟩ => ⟨S8x8192x8x64, .f32⟩
  | .hbm, ⟨66, _⟩ => ⟨S1x8192x1x64, .f32⟩
  | .hbm, ⟨67, _⟩ => ⟨S8x8192x8x64, .f32⟩
  | .hbm, ⟨68, _⟩ => ⟨S8x8192x8x64, .f32⟩
  | .hbm, ⟨69, _⟩ => ⟨S1x8192x1x64, .f32⟩
  | .hbm, ⟨70, _⟩ => ⟨S8x8192x8x64, .f32⟩
  | .hbm, ⟨71, _⟩ => ⟨S8x8192x8x64, .f32⟩
  | .hbm, ⟨72, _⟩ => ⟨S8x8192x8x64, .f32⟩
  | .hbm, ⟨73, _⟩ => ⟨S1x8192x1x64, .f32⟩
  | .hbm, ⟨74, _⟩ => ⟨S8x8192x8x64, .f32⟩
  | .hbm, ⟨75, _⟩ => ⟨S8x8192x8x64, .f32⟩
  | .hbm, ⟨76, _⟩ => ⟨S1x8192x1x64, .f32⟩
  | .hbm, ⟨77, _⟩ => ⟨S8x8192x8x64, .f32⟩
  | .hbm, ⟨78, _⟩ => ⟨S8x8192x8x64, .f32⟩
  | .hbm, ⟨79, _⟩ => ⟨S8x8192x8x64, .f32⟩
  | .hbm, ⟨80, _⟩ => ⟨S8x8192x8x128, .f32⟩
  | .hbm, ⟨81, _⟩ => ⟨S_, .f32⟩
  | .hbm, ⟨82, _⟩ => ⟨S8x8192x8x128, .f32⟩
  | .hbm, ⟨83, _⟩ => ⟨S8x8192x8x128, .f32⟩
  | .hbm, ⟨84, _⟩ => ⟨S65536x1024, .f32⟩
  | .hbm, ⟨85, _⟩ => ⟨S65536x1024, .bf16⟩
  | .hbm, ⟨86, _⟩ => ⟨S65536x1024, .f32⟩
  | .hbm, ⟨87, _⟩ => ⟨S65536x1024, .bf16⟩
  | .hbm, ⟨88, _⟩ => ⟨S65536x2048, .f32⟩
  | .hbm, ⟨89, _⟩ => ⟨S65536x2048, .bf16⟩
  | .hbm, ⟨90, _⟩ => ⟨S8x8192x2048, .f32⟩
  | .hbm, ⟨91, _⟩ => ⟨S8x8192x2048, .f32⟩
  | .hbm, ⟨92, _⟩ => ⟨S_, .f32⟩
  | .hbm, ⟨93, _⟩ => ⟨S8x8192x2048, .f32⟩
  | .hbm, ⟨94, _⟩ => ⟨S8x8192x2048, .f32⟩
  | .hbm, ⟨95, _⟩ => ⟨S_, .f32⟩
  | .hbm, ⟨96, _⟩ => ⟨S8x8192x2048, .f32⟩
  | .hbm, ⟨97, _⟩ => ⟨S8x8192x2048, .f32⟩
  | .hbm, ⟨98, _⟩ => ⟨S8x8192x2048, .f32⟩
  | .hbm, ⟨99, _⟩ => ⟨S65536x2048, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_2 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Kernel3.lean ====
abbrev S272 : Shape := ⟨1, ![272]⟩
abbrev S1 : Shape := ⟨1, ![1]⟩
abbrev S139264x1024 : Shape := ⟨2, ![139264, 1024]⟩
abbrev S2x16x1024x1024 : Shape := ⟨4, ![2, 16, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 5
  | .vmem => 14
  | .smem => 2
  | _ => 0

abbrev bufTy : (tb : Table) → Fin (tcTables nBuf tb) → BufTy
  | .hbm, ⟨0, _⟩ => ⟨S139264x1024, .f32⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S139264x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .smem, ⟨0, _⟩ => ⟨S272, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S272 : Shape := ⟨1, ![272]⟩
abbrev S1 : Shape := ⟨1, ![1]⟩
abbrev S139264x1024 : Shape := ⟨2, ![139264, 1024]⟩
abbrev S2x16x1024x1024 : Shape := ⟨4, ![2, 16, 1024, 1024]⟩
abbrev S1x16x1024x1024 : Shape := ⟨4, ![1, 16, 1024, 1024]⟩
abbrev S16x1024x1024 : Shape := ⟨3, ![16, 1024, 1024]⟩
abbrev S272x512x1024 : Shape := ⟨3, ![272, 512, 1024]⟩
abbrev S_ : Shape := ⟨0, ![]⟩
abbrev S272x1 : Shape := ⟨2, ![272, 1]⟩
abbrev S272x3 : Shape := ⟨2, ![272, 3]⟩
abbrev S272x1x1024x1024 : Shape := ⟨4, ![272, 1, 1024, 1024]⟩
abbrev S272x1024x1024 : Shape := ⟨3, ![272, 1024, 1024]⟩
abbrev S272x1x1 : Shape := ⟨3, ![272, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S272, .i32⟩
  | .hbm, ⟨1, _⟩ => ⟨S1, .i32⟩
  | .hbm, ⟨2, _⟩ => ⟨S139264x1024, .f32⟩
  | .hbm, ⟨3, _⟩ => ⟨S2x16x1024x1024, .f32⟩
  | .hbm, ⟨4, _⟩ => ⟨S2x16x1024x1024, .f32⟩
  | .hbm, ⟨5, _⟩ => ⟨S2x16x1024x1024, .f32⟩
  | .hbm, ⟨6, _⟩ => ⟨S1x16x1024x1024, .f32⟩
  | .hbm, ⟨7, _⟩ => ⟨S16x1024x1024, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S272x512x1024, .f32⟩
  | .hbm, ⟨13, _⟩ => ⟨S_, .i32⟩
  | .hbm, ⟨14, _⟩ => ⟨S272, .i32⟩
  | .hbm, ⟨15, _⟩ => ⟨S272, .i1⟩
  | .hbm, ⟨16, _⟩ => ⟨S_, .i32⟩
  | .hbm, ⟨17, _⟩ => ⟨S272, .i32⟩
  | .hbm, ⟨18, _⟩ => ⟨S272, .i32⟩
  | .hbm, ⟨19, _⟩ => ⟨S272, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S272x1, .i32⟩
  | .hbm, ⟨37, _⟩ => ⟨S272x1, .i32⟩
  | .hbm, ⟨38, _⟩ => ⟨S272x1, .i32⟩
  | .hbm, ⟨39, _⟩ => ⟨S272x3, .i32⟩
  | .hbm, ⟨40, _⟩ => ⟨S272x1x1024x1024, .f32⟩
  | .hbm, ⟨41, _⟩ => ⟨S272x1024x1024, .f32⟩
  | .hbm, ⟨42, _⟩ => ⟨S272x512x1024, .f32⟩
  | .hbm, ⟨43, _⟩ => ⟨S272x512x1024, .f32⟩
  | .hbm, ⟨44, _⟩ => ⟨S272x512x1024, .f32⟩
  | .hbm, ⟨45, _⟩ => ⟨S_, .f32⟩
  | .hbm, ⟨46, _⟩ => ⟨S272x512x1024, .f32⟩
  | .hbm, ⟨47, _⟩ => ⟨S272x512x1024, .f32⟩
  | .hbm, ⟨48, _⟩ => ⟨S_, .f32⟩
  | .hbm, ⟨49, _⟩ => ⟨S272x512x1024, .f32⟩
  | .hbm, ⟨50, _⟩ => ⟨S272x512x1024, .f32⟩
  | .hbm, ⟨51, _⟩ => ⟨S272x512x1024, .f32⟩
  | .hbm, ⟨52, _⟩ => ⟨S_, .i32⟩
  | .hbm, ⟨53, _⟩ => ⟨S272, .i32⟩
  | .hbm, ⟨54, _⟩ => ⟨S272, .i1⟩
  | .hbm, ⟨55, _⟩ => ⟨S_, .i32⟩
  | .hbm, ⟨56, _⟩ => ⟨S272, .i32⟩
  | .hbm, ⟨57, _⟩ => ⟨S272, .i32⟩
  | .hbm, ⟨58, _⟩ => ⟨S272, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S272x1, .i32⟩
  | .hbm, ⟨76, _⟩ => ⟨S272x1, .i32⟩
  | .hbm, ⟨77, _⟩ => ⟨S272x1, .i32⟩
  | .hbm, ⟨78, _⟩ => ⟨S272x3, .i32⟩
  | .hbm, ⟨79, _⟩ => ⟨S272x1x1024x1024, .f32⟩
  | .hbm, ⟨80, _⟩ => ⟨S272x1024x1024, .f32⟩
  | .hbm, ⟨81, _⟩ => ⟨S272x512x1024, .f32⟩
  | .hbm, ⟨82, _⟩ => ⟨S272x512x1024, .f32⟩
  | .hbm, ⟨83, _⟩ => ⟨S_, .i32⟩
  | .hbm, ⟨84, _⟩ => ⟨S272, .i32⟩
  | .hbm, ⟨85, _⟩ => ⟨S272, .i1⟩
  | .hbm, ⟨86, _⟩ => ⟨S_, .i32⟩
  | .hbm, ⟨87, _⟩ => ⟨S272, .i32⟩
  | .hbm, ⟨88, _⟩ => ⟨S272, .i32⟩
  | .hbm, ⟨89, _⟩ => ⟨S272, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S272x1, .i32⟩
  | .hbm, ⟨107, _⟩ => ⟨S272x1, .i32⟩
  | .hbm, ⟨108, _⟩ => ⟨S272x1, .i32⟩
  | .hbm, ⟨109, _⟩ => ⟨S272x3, .i32⟩
  | .hbm, ⟨110, _⟩ => ⟨S272x1x1024x1024, .f32⟩
  | .hbm, ⟨111, _⟩ => ⟨S272x1024x1024, .f32⟩
  | .hbm, ⟨112, _⟩ => ⟨S272x512x1024, .f32⟩
  | .hbm, ⟨113, _⟩ => ⟨S272, .i32⟩
  | .hbm, ⟨114, _⟩ => ⟨S_, .i32⟩
  | .hbm, ⟨115, _⟩ => ⟨S272, .i32⟩
  | .hbm, ⟨116, _⟩ => ⟨S272, .i1⟩
  | .hbm, ⟨117, _⟩ => ⟨S272x1x1, .i1⟩
  | .hbm, ⟨118, _⟩ => ⟨S_, .f32⟩
  | .hbm, ⟨119, _⟩ => ⟨S_, .f32⟩
  | .hbm, ⟨120, _⟩ => ⟨S272x512x1024, .i1⟩
  | .hbm, ⟨121, _⟩ => ⟨S272x512x1024, .f32⟩
  | .hbm, ⟨122, _⟩ => ⟨S272x512x1024, .f32⟩
  | .hbm, ⟨123, _⟩ => ⟨S139264x1024, .f32⟩
  | _, _ => ⟨S272, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_c_2 : Ref sig .tc := ⟨.hbm, 21, rfl⟩
abbrev main_v12 : Ref sig .tc := ⟨.hbm, 22, rfl⟩
abbrev main_c_3 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_c_6 : Ref sig .tc := ⟨.hbm, 28, rfl⟩
abbrev main_c_7 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v25 : Ref sig .tc := ⟨.hbm, 51, rfl⟩
abbrev main_c_11 : Ref sig .tc := ⟨.hbm, 52, rfl⟩
abbrev main_v26 : Ref sig .tc := ⟨.hbm, 53, rfl⟩
abbrev main_v27 : Ref sig .tc := ⟨.hbm, 54, rfl⟩
abbrev main_c_12 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_13 : Ref sig .tc := ⟨.hbm, 59, rfl⟩
abbrev main_c_14 : Ref sig .tc := ⟨.hbm, 60, rfl⟩
abbrev main_v31 : Ref sig .tc := ⟨.hbm, 61, rfl⟩
abbrev main_c_15 : Ref sig .tc := ⟨.hbm, 62, rfl⟩
abbrev main_c_16 : Ref sig .tc := ⟨.hbm, 63, rfl⟩
abbrev main_v32 : Ref sig .tc := ⟨.hbm, 64, rfl⟩
abbrev main_c_17 : Ref sig .tc := ⟨.hbm, 65, rfl⟩
abbrev main_v33 : Ref sig .tc := ⟨.hbm, 66, rfl⟩
abbrev main_c_18 : Ref sig .tc := ⟨.hbm, 67, rfl⟩
abbrev main_c_19 : Ref sig .tc := ⟨.hbm, 68, rfl⟩
abbrev main_v34 : Ref sig .tc := ⟨.hbm, 69, rfl⟩
abbrev main_c_20 : Ref sig .tc := ⟨.hbm, 70, rfl⟩
abbrev main_c_21 : Ref sig .tc := ⟨.hbm, 71, rfl⟩
abbrev main_v35 : Ref sig .tc := ⟨.hbm, 72, rfl⟩
abbrev main_c_22 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_23 : Ref sig .tc := ⟨.hbm, 83, rfl⟩
abbrev main_v45 : Ref sig .tc := ⟨.hbm, 84, rfl⟩
abbrev main_v46 : Ref sig .tc := ⟨.hbm, 85, rfl⟩
abbrev main_c_24 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_25 : Ref sig .tc := ⟨.hbm, 90, rfl⟩
abbrev main_c_26 : Ref sig .tc := ⟨.hbm, 91, rfl⟩
abbrev main_v50 : Ref sig .tc := ⟨.hbm, 92, rfl⟩
abbrev main_c_27 : Ref sig .tc := ⟨.hbm, 93, rfl⟩
abbrev main_c_28 : Ref sig .tc := ⟨.hbm, 94, rfl⟩
abbrev main_v51 : Ref sig .tc := ⟨.hbm, 95, rfl⟩
abbrev main_c_29 : Ref sig .tc := ⟨.hbm, 96, rfl⟩
abbrev main_v52 : Ref sig .tc := ⟨.hbm, 97, rfl⟩
abbrev main_c_30 : Ref sig .tc := ⟨.hbm, 98, rfl⟩
abbrev main_c_31 : Ref sig .tc := ⟨.hbm, 99, rfl⟩
abbrev main_v53 : Ref sig .tc := ⟨.hbm, 100, rfl⟩
abbrev main_c_32 : Ref sig .tc := ⟨.hbm, 101, rfl⟩
abbrev main_c_33 : Ref sig .tc := ⟨.hbm, 102, rfl⟩
abbrev main_v54 : Ref sig .tc := ⟨.hbm, 103, rfl⟩
abbrev main_c_34 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]
-- ==== Kernel4.lean ====
abbrev S272 : Shape := ⟨1, ![272]⟩
abbrev S1 : Shape := ⟨1, ![1]⟩
abbrev S139264x1024 : Shape := ⟨2, ![139264, 1024]⟩
abbrev S2x16x1024x1024 : Shape := ⟨4, ![2, 16, 1024, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 5
  | .vmem => 14
  | .smem => 2
  | _ => 0

abbrev bufTy : (tb : Table) → Fin (tcTables nBuf tb) → BufTy
  | .hbm, ⟨0, _⟩ => ⟨S139264x1024, .f32⟩
  | .hbm, ⟨1, _⟩ => ⟨S2x16x1024x1024, .f32⟩
  | .hbm, ⟨2, _⟩ => ⟨S2x16x1024x1024, .f32⟩
  | .hbm, ⟨3, _⟩ => ⟨S2x16x1024x1024, .f32⟩
  | .hbm, ⟨4, _⟩ => ⟨S139264x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .smem, ⟨0, _⟩ => ⟨S272, .i32⟩
  | .local _ .smem, ⟨1, _⟩ => ⟨S1, .i32⟩
  | _, _ => ⟨S139264x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![272], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S272.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S272) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S272 : Shape := ⟨1, ![272]⟩
abbrev S1 : Shape := ⟨1, ![1]⟩
abbrev S139264x1024 : Shape := ⟨2, ![139264, 1024]⟩
abbrev S2x16x1024x1024 : Shape := ⟨4, ![2, 16, 1024, 1024]⟩
abbrev S1x16x1024x1024 : Shape := ⟨4, ![1, 16, 1024, 1024]⟩
abbrev S16x1024x1024 : Shape := ⟨3, ![16, 1024, 1024]⟩
abbrev S272x512x1024 : Shape := ⟨3, ![272, 512, 1024]⟩
abbrev S_ : Shape := ⟨0, ![]⟩
abbrev S272x1 : Shape := ⟨2, ![272, 1]⟩
abbrev S272x3 : Shape := ⟨2, ![272, 3]⟩
abbrev S272x1x1024x1024 : Shape := ⟨4, ![272, 1, 1024, 1024]⟩
abbrev S272x1024x1024 : Shape := ⟨3, ![272, 1024, 1024]⟩
abbrev S272x1x1 : Shape := ⟨3, ![272, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S272, .i32⟩
  | .hbm, ⟨1, _⟩ => ⟨S1, .i32⟩
  | .hbm, ⟨2, _⟩ => ⟨S139264x1024, .f32⟩
  | .hbm, ⟨3, _⟩ => ⟨S2x16x1024x1024, .f32⟩
  | .hbm, ⟨4, _⟩ => ⟨S2x16x1024x1024, .f32⟩
  | .hbm, ⟨5, _⟩ => ⟨S2x16x1024x1024, .f32⟩
  | .hbm, ⟨6, _⟩ => ⟨S1x16x1024x1024, .f32⟩
  | .hbm, ⟨7, _⟩ => ⟨S16x1024x1024, .f32⟩
  | .hbm, ⟨8, _⟩ => ⟨S1x16x1024x1024, .f32⟩
  | .hbm, ⟨9, _⟩ => ⟨S16x1024x1024, .f32⟩
  | .hbm, ⟨10, _⟩ => ⟨S1x16x1024x1024, .f32⟩
  | .hbm, ⟨11, _⟩ => ⟨S16x1024x1024, .f32⟩
  | .hbm, ⟨12, _⟩ => ⟨S272x512x1024, .f32⟩
  | .hbm, ⟨13, _⟩ => ⟨S_, .i32⟩
  | .hbm, ⟨14, _⟩ => ⟨S272, .i32⟩
  | .hbm, ⟨15, _⟩ => ⟨S272, .i1⟩
  | .hbm, ⟨16, _⟩ => ⟨S_, .i32⟩
  | .hbm, ⟨17, _⟩ => ⟨S272, .i32⟩
  | .hbm, ⟨18, _⟩ => ⟨S272, .i32⟩
  | .hbm, ⟨19, _⟩ => ⟨S272, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S272x1, .i32⟩
  | .hbm, ⟨37, _⟩ => ⟨S272x1, .i32⟩
  | .hbm, ⟨38, _⟩ => ⟨S272x1, .i32⟩
  | .hbm, ⟨39, _⟩ => ⟨S272x3, .i32⟩
  | .hbm, ⟨40, _⟩ => ⟨S272x1x1024x1024, .f32⟩
  | .hbm, ⟨41, _⟩ => ⟨S272x1024x1024, .f32⟩
  | .hbm, ⟨42, _⟩ => ⟨S272x512x1024, .f32⟩
  | .hbm, ⟨43, _⟩ => ⟨S272x512x1024, .f32⟩
  | .hbm, ⟨44, _⟩ => ⟨S272x512x1024, .f32⟩
  | .hbm, ⟨45, _⟩ => ⟨S_, .f32⟩
  | .hbm, ⟨46, _⟩ => ⟨S272x512x1024, .f32⟩
  | .hbm, ⟨47, _⟩ => ⟨S272x512x1024, .f32⟩
  | .hbm, ⟨48, _⟩ => ⟨S_, .f32⟩
  | .hbm, ⟨49, _⟩ => ⟨S272x512x1024, .f32⟩
  | .hbm, ⟨50, _⟩ => ⟨S272x512x1024, .f32⟩
  | .hbm, ⟨51, _⟩ => ⟨S272x512x1024, .f32⟩
  | .hbm, ⟨52, _⟩ => ⟨S_, .i32⟩
  | .hbm, ⟨53, _⟩ => ⟨S272, .i32⟩
  | .hbm, ⟨54, _⟩ => ⟨S272, .i1⟩
  | .hbm, ⟨55, _⟩ => ⟨S_, .i32⟩
  | .hbm, ⟨56, _⟩ => ⟨S272, .i32⟩
  | .hbm, ⟨57, _⟩ => ⟨S272, .i32⟩
  | .hbm, ⟨58, _⟩ => ⟨S272, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S272x1, .i32⟩
  | .hbm, ⟨76, _⟩ => ⟨S272x1, .i32⟩
  | .hbm, ⟨77, _⟩ => ⟨S272x1, .i32⟩
  | .hbm, ⟨78, _⟩ => ⟨S272x3, .i32⟩
  | .hbm, ⟨79, _⟩ => ⟨S272x1x1024x1024, .f32⟩
  | .hbm, ⟨80, _⟩ => ⟨S272x1024x1024, .f32⟩
  | .hbm, ⟨81, _⟩ => ⟨S272x512x1024, .f32⟩
  | .hbm, ⟨82, _⟩ => ⟨S272x512x1024, .f32⟩
  | .hbm, ⟨83, _⟩ => ⟨S_, .i32⟩
  | .hbm, ⟨84, _⟩ => ⟨S272, .i32⟩
  | .hbm, ⟨85, _⟩ => ⟨S272, .i1⟩
  | .hbm, ⟨86, _⟩ => ⟨S_, .i32⟩
  | .hbm, ⟨87, _⟩ => ⟨S272, .i32⟩
  | .hbm, ⟨88, _⟩ => ⟨S272, .i32⟩
  | .hbm, ⟨89, _⟩ => ⟨S272, .i32⟩
  | .hbm, ⟨90, _⟩ => ⟨S_, .i32⟩
  | .hbm, ⟨91, _⟩ => ⟨S_, .i32⟩
  | .hbm, ⟨92, _⟩ => ⟨S_, .i1⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i32⟩
  | .hbm, ⟨98, _⟩ => ⟨S_, .i32⟩
  | .hbm, ⟨99, _⟩ => ⟨S_, .i32⟩
  | .hbm, ⟨100, _⟩ => ⟨S_, .i1⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i32⟩
  | .hbm, ⟨106, _⟩ => ⟨S272x1, .i32⟩
  | .hbm, ⟨107, _⟩ => ⟨S272x1, .i32⟩
  | .hbm, ⟨108, _⟩ => ⟨S272x1, .i32⟩
  | .hbm, ⟨109, _⟩ => ⟨S272x3, .i32⟩
  | .hbm, ⟨110, _⟩ => ⟨S272x1x1024x1024, .f32⟩
  | .hbm, ⟨111, _⟩ => ⟨S272x1024x1024, .f32⟩
  | .hbm, ⟨112, _⟩ => ⟨S272x512x1024, .f32⟩
  | .hbm, ⟨113, _⟩ => ⟨S272, .i32⟩
  | .hbm, ⟨114, _⟩ => ⟨S_, .i32⟩
  | .hbm, ⟨115, _⟩ => ⟨S272, .i32⟩
  | .hbm, ⟨116, _⟩ => ⟨S272, .i1⟩
  | .hbm, ⟨117, _⟩ => ⟨S272x1x1, .i1⟩
  | .hbm, ⟨118, _⟩ => ⟨S_, .f32⟩
  | .hbm, ⟨119, _⟩ => ⟨S_, .f32⟩
  | .hbm, ⟨120, _⟩ => ⟨S272x512x1024, .i1⟩
  | .hbm, ⟨121, _⟩ => ⟨S272x512x1024, .f32⟩
  | .hbm, ⟨122, _⟩ => ⟨S272x512x1024, .f32⟩
  | .hbm, ⟨123, _⟩ => ⟨S139264x1024, .f32⟩
  | _, _ => ⟨S272, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_c_2 : Ref sig .tc := ⟨.hbm, 21, rfl⟩
abbrev main_v12 : Ref sig .tc := ⟨.hbm, 22, rfl⟩
abbrev main_c_3 : Ref sig .tc := ⟨.hbm, 23, rfl⟩
abbrev main_c_4 : Ref sig .tc := ⟨.hbm, 24, rfl⟩
abbrev main_v13 : Ref sig .tc := ⟨.hbm, 25, rfl⟩
abbrev main_c_5 : Ref sig .tc := ⟨.hbm, 26, rfl⟩
abbrev main_v14 : Ref sig .tc := ⟨.hbm, 27, rfl⟩
abbrev main_c_6 : Ref sig .tc := ⟨.hbm, 28, rfl⟩
abbrev main_c_7 : Ref sig .tc := ⟨.hbm, 29, rfl⟩
abbrev main_v15 : Ref sig .tc := ⟨.hbm, 30, rfl⟩
abbrev main_c_8 : Ref sig .tc := ⟨.hbm, 31, rfl⟩
abbrev main_c_9 : Ref sig .tc := ⟨.hbm, 32, rfl⟩
abbrev main_v16 : Ref sig .tc := ⟨.hbm, 33, rfl⟩
abbrev main_c_10 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v25 : Ref sig .tc := ⟨.hbm, 51, rfl⟩
abbrev main_c_11 : Ref sig .tc := ⟨.hbm, 52, rfl⟩
abbrev main_v26 : Ref sig .tc := ⟨.hbm, 53, rfl⟩
abbrev main_v27 : Ref sig .tc := ⟨.hbm, 54, rfl⟩
abbrev main_c_12 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_13 : Ref sig .tc := ⟨.hbm, 59, rfl⟩
abbrev main_c_14 : Ref sig .tc := ⟨.hbm, 60, rfl⟩
abbrev main_v31 : Ref sig .tc := ⟨.hbm, 61, rfl⟩
abbrev main_c_15 : Ref sig .tc := ⟨.hbm, 62, rfl⟩
abbrev main_c_16 : Ref sig .tc := ⟨.hbm, 63, rfl⟩
abbrev main_v32 : Ref sig .tc := ⟨.hbm, 64, rfl⟩
abbrev main_c_17 : Ref sig .tc := ⟨.hbm, 65, rfl⟩
abbrev main_v33 : Ref sig .tc := ⟨.hbm, 66, rfl⟩
abbrev main_c_18 : Ref sig .tc := ⟨.hbm, 67, rfl⟩
abbrev main_c_19 : Ref sig .tc := ⟨.hbm, 68, rfl⟩
abbrev main_v34 : Ref sig .tc := ⟨.hbm, 69, rfl⟩
abbrev main_c_20 : Ref sig .tc := ⟨.hbm, 70, rfl⟩
abbrev main_c_21 : Ref sig .tc := ⟨.hbm, 71, rfl⟩
abbrev main_v35 : Ref sig .tc := ⟨.hbm, 72, rfl⟩
abbrev main_c_22 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_23 : Ref sig .tc := ⟨.hbm, 83, rfl⟩
abbrev main_v45 : Ref sig .tc := ⟨.hbm, 84, rfl⟩
abbrev main_v46 : Ref sig .tc := ⟨.hbm, 85, rfl⟩
abbrev main_c_24 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_25 : Ref sig .tc := ⟨.hbm, 90, rfl⟩
abbrev main_c_26 : Ref sig .tc := ⟨.hbm, 91, rfl⟩
abbrev main_v50 : Ref sig .tc := ⟨.hbm, 92, rfl⟩
abbrev main_c_27 : Ref sig .tc := ⟨.hbm, 93, rfl⟩
abbrev main_c_28 : Ref sig .tc := ⟨.hbm, 94, rfl⟩
abbrev main_v51 : Ref sig .tc := ⟨.hbm, 95, rfl⟩
abbrev main_c_29 : Ref sig .tc := ⟨.hbm, 96, rfl⟩
abbrev main_v52 : Ref sig .tc := ⟨.hbm, 97, rfl⟩
abbrev main_c_30 : Ref sig .tc := ⟨.hbm, 98, rfl⟩
abbrev main_c_31 : Ref sig .tc := ⟨.hbm, 99, rfl⟩
abbrev main_v53 : Ref sig .tc := ⟨.hbm, 100, rfl⟩
abbrev main_c_32 : Ref sig .tc := ⟨.hbm, 101, rfl⟩
abbrev main_c_33 : Ref sig .tc := ⟨.hbm, 102, rfl⟩
abbrev main_v54 : Ref sig .tc := ⟨.hbm, 103, rfl⟩
abbrev main_c_34 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v68 : Ref sig .tc := ⟨.hbm, 122, rfl⟩
abbrev main_v69 : Ref sig .tc := ⟨.hbm, 123, rfl⟩

abbrev nD : Nat := 1
abbrev τ : Topo := Topo.v7x

variable {F : FTy → Type} [FloatOps F]
-- ==== Kernel5.lean ====
abbrev S65536x1024 : Shape := ⟨2, ![65536, 1024]⟩
abbrev S1024x3352 : Shape := ⟨2, ![1024, 3352]⟩
abbrev S1024x3328 : Shape := ⟨2, ![1024, 3328]⟩
abbrev S1024x24 : Shape := ⟨2, ![1024, 24]⟩
abbrev S_ : Shape := ⟨0, ![]⟩
abbrev S1024x128 : Shape := ⟨2, ![1024, 128]⟩
abbrev S1024x3456 : Shape := ⟨2, ![1024, 3456]⟩
abbrev S8 : Shape := ⟨1, ![8]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S8192x128 : Shape := ⟨2, ![8192, 128]⟩
abbrev S512 : Shape := ⟨1, ![512]⟩
abbrev S1x1x512 : Shape := ⟨3, ![1, 1, 512]⟩
abbrev S32 : Shape := ⟨1, ![32]⟩
abbrev S1x32x1 : Shape := ⟨3, ![1, 32, 1]⟩
abbrev S16 : Shape := ⟨1, ![16]⟩
abbrev S16x1x1 : Shape := ⟨3, ![16, 1, 1]⟩
abbrev S16x32x1 : Shape := ⟨3, ![16, 32, 1]⟩
abbrev S16x32x512 : Shape := ⟨3, ![16, 32, 512]⟩
abbrev S65536x2048 : Shape := ⟨2, ![65536, 2048]⟩
abbrev S65536x512 : Shape := ⟨2, ![65536, 512]⟩
abbrev S65536x256 : Shape := ⟨2, ![65536, 256]⟩
abbrev S65536x128 : Shape := ⟨2, ![65536, 128]⟩
abbrev S2x256x128x256 : Shape := ⟨4, ![2, 256, 128, 256]⟩
abbrev S2x4096x2048 : Shape := ⟨3, ![2, 4096, 2048]⟩
abbrev S512x1024 : Shape := ⟨2, ![512, 1024]⟩
abbrev S512x128 : Shape := ⟨2, ![512, 128]⟩
abbrev S512x2048 : Shape := ⟨2, ![512, 2048]⟩
abbrev S512x512 : Shape := ⟨2, ![512, 512]⟩
abbrev S512x256 : Shape := ⟨2, ![512, 256]⟩
abbrev S2x2x128x256 : Shape := ⟨4, ![2, 2, 128, 256]⟩
abbrev S2x32x2048 : Shape := ⟨3, ![2, 32, 2048]⟩
abbrev S1024x512 : Shape := ⟨2, ![1024, 512]⟩
abbrev S1024x768 : Shape := ⟨2, ![1024, 768]⟩
abbrev S512x768 : Shape := ⟨2, ![512, 768]⟩
abbrev S1x32x512 : Shape := ⟨3, ![1, 32, 512]⟩
abbrev S32x512 : Shape := ⟨2, ![32, 512]⟩
abbrev S32x128 : Shape := ⟨2, ![32, 128]⟩
abbrev S1x32x128 : Shape := ⟨3, ![1, 32, 128]⟩
abbrev S256x128 : Shape := ⟨2, ![256, 128]⟩
abbrev S128x256 : Shape := ⟨2, ![128, 256]⟩
abbrev S1x1x128x256 : Shape := ⟨4, ![1, 1, 128, 256]⟩

abbrev nBuf : Space → Nat
  | .hbm => 62
  | .vmem => 22
  | .smem => 0
  | _ => 0

abbrev bufTy : (tb : Table) → Fin (tcTables nBuf tb) → BufTy
  | .hbm, ⟨0, _⟩ => ⟨S65536x1024, .f32⟩
  | .hbm, ⟨1, _⟩ => ⟨S1024x3352, .f32⟩
  | .hbm, ⟨2, _⟩ => ⟨S1024x3328, .f32⟩
  | .hbm, ⟨3, _⟩ => ⟨S1024x24, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x3456, .f32⟩
  | .hbm, ⟨8, _⟩ => ⟨S1024x3456, .bf16⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8192, .f32⟩
  | .hbm, ⟨18, _⟩ => ⟨S8192x1, .f32⟩
  | .hbm, ⟨19, _⟩ => ⟨S1x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S8192x8, .f32⟩
  | .hbm, ⟨25, _⟩ => ⟨S_, .f32⟩
  | .hbm, ⟨26, _⟩ => ⟨S8192x48, .f32⟩
  | .hbm, ⟨27, _⟩ => ⟨S8192x64, .f32⟩
  | .hbm, ⟨28, _⟩ => ⟨S8192x8, .f32⟩
  | .hbm, ⟨29, _⟩ => ⟨S_, .f32⟩
  | .hbm, ⟨30, _⟩ => ⟨S8192x56, .f32⟩
  | .hbm, ⟨31, _⟩ => ⟨S8192x64, .f32⟩
  | .hbm, ⟨32, _⟩ => ⟨S_, .f32⟩
  | .hbm, ⟨33, _⟩ => ⟨S8192x8, .f32⟩
  | .hbm, ⟨34, _⟩ => ⟨S_, .f32⟩
  | .hbm, ⟨35, _⟩ => ⟨S8192x48, .f32⟩
  | .hbm, ⟨36, _⟩ => ⟨S8192x64, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S512, .i32⟩
  | .hbm, ⟨41, _⟩ => ⟨S1x1x512, .i32⟩
  | .hbm, ⟨42, _⟩ => ⟨S32, .i32⟩
  | .hbm, ⟨43, _⟩ => ⟨S1x32x1, .i32⟩
  | .hbm, ⟨44, _⟩ => ⟨S_, .i32⟩
  | .hbm, ⟨45, _⟩ => ⟨S1x32x1, .i32⟩
  | .hbm, ⟨46, _⟩ => ⟨S1x32x1, .i32⟩
  | .hbm, ⟨47, _⟩ => ⟨S16, .i32⟩
  | .hbm, ⟨48, _⟩ => ⟨S16x1x1, .i32⟩
  | .hbm, ⟨49, _⟩ => ⟨S16x32x1, .i32⟩
  | .hbm, ⟨50, _⟩ => ⟨S16x32x1, .i32⟩
  | .hbm, ⟨51, _⟩ => ⟨S16x32x1, .i32⟩
  | .hbm, ⟨52, _⟩ => ⟨S16x32x512, .i32⟩
  | .hbm, ⟨53, _⟩ => ⟨S16x32x512, .i32⟩
  | .hbm, ⟨54, _⟩ => ⟨S16x32x512, .i1⟩
  | .hbm, ⟨55, _⟩ => ⟨S16x32x512, .bf16⟩
  | .hbm, ⟨56, _⟩ => ⟨S65536x2048, .f32⟩
  | .hbm, ⟨57, _⟩ => ⟨S65536x512, .bf16⟩
  | .hbm, ⟨58, _⟩ => ⟨S65536x256, .bf16⟩
  | .hbm, ⟨59, _⟩ => ⟨S65536x128, .f32⟩
  | .hbm, ⟨60, _⟩ => ⟨S2x256x128x256, .bf16⟩
  | .hbm, ⟨61, _⟩ => ⟨S2x4096x2048, .bf16⟩
  | .local _ .vmem, ⟨0, _⟩ => ⟨S512x1024, .f32⟩
  | .local _ .vmem, ⟨1, _⟩ => ⟨S512x1024, .f32⟩
  | .local _ .vmem, ⟨2, _⟩ => ⟨S1024x3456, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S16x32x512, .bf16⟩
  | .local _ .vmem, ⟨10, _⟩ => ⟨S512x2048, .f32⟩
  | .local _ .vmem, ⟨11, _⟩ => ⟨S512x2048, .f32⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | .local _ .vmem, ⟨16, _⟩ => ⟨S512x128, .f32⟩
  | .local _ .vmem, ⟨17, _⟩ => ⟨S512x128, .f32⟩
  | .local _ .vmem, ⟨18, _⟩ => ⟨S2x2x128x256, .bf16⟩
  | .local _ .vmem, ⟨19, _⟩ => ⟨S2x2x128x256, .bf16⟩
  | .local _ .vmem, ⟨20, _⟩ => ⟨S2x32x2048, .bf16⟩
  | .local _ .vmem, ⟨21, _⟩ => ⟨S2x32x2048, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45_0 : Ref sig .tc := ⟨.hbm, 56, rfl⟩
abbrev main_v45_1 : Ref sig .tc := ⟨.hbm, 57, rfl⟩
abbrev main_v45_2 : Ref sig .tc := ⟨.hbm, 58, rfl⟩
abbrev main_v45_3 : Ref sig .tc := ⟨.hbm, 59, rfl⟩
abbrev main_v45_4 : Ref sig .tc := ⟨.hbm, 60, rfl⟩
abbrev main_v45_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3456 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x32x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S65536x1024 : Shape := ⟨2, ![65536, 1024]⟩
abbrev S1024x3352 : Shape := ⟨2, ![1024, 3352]⟩
abbrev S8x8192x1024 : Shape := ⟨3, ![8, 8192, 1024]⟩
abbrev S8x8192x3352 : Shape := ⟨3, ![8, 8192, 3352]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8x8192x2048 : Shape := ⟨3, ![8, 8192, 2048]⟩
abbrev S8x8192x1304 : Shape := ⟨3, ![8, 8192, 1304]⟩
abbrev S8x8192x512 : Shape := ⟨3, ![8, 8192, 512]⟩
abbrev S8x8192x8x64 : Shape := ⟨4, ![8, 8192, 8, 64]⟩
abbrev S8x8192x8x16 : Shape := ⟨4, ![8, 8192, 8, 16]⟩
abbrev S8x8192x8x8 : Shape := ⟨4, ![8, 8192, 8, 8]⟩
abbrev S1x8192x1x8 : Shape := ⟨4, ![1, 8192, 1, 8]⟩
abbrev S8x8192x8x48 : Shape := ⟨4, ![8, 8192, 8, 48]⟩
abbrev S8x8192x768 : Shape := ⟨3, ![8, 8192, 768]⟩
abbrev S8x8192x6x2x64 : Shape := ⟨5, ![8, 8192, 6, 2, 64]⟩
abbrev S8x8192x1x2x64 : Shape := ⟨5, ![8, 8192, 1, 2, 64]⟩
abbrev S8x8192x2x64 : Shape := ⟨4, ![8, 8192, 2, 64]⟩
abbrev S8x8192x2x16 : Shape := ⟨4, ![8, 8192, 2, 16]⟩
abbrev S8x8192x2x8 : Shape := ⟨4, ![8, 8192, 2, 8]⟩
abbrev S8x8192x2x48 : Shape := ⟨4, ![8, 8192, 2, 48]⟩
abbrev S8x8192x24 : Shape := ⟨3, ![8, 8192, 24]⟩
abbrev S8x8192x128 : Shape := ⟨3, ![8, 8192, 128]⟩
abbrev S65536x2048 : Shape := ⟨2, ![65536, 2048]⟩
abbrev S65536x512 : Shape := ⟨2, ![65536, 512]⟩
abbrev S65536x128 : Shape := ⟨2, ![65536, 128]⟩
abbrev S65536x256 : Shape := ⟨2, ![65536, 256]⟩
abbrev S256x256x128 : Shape := ⟨3, ![256, 256, 128]⟩
abbrev S256x128x256 : Shape := ⟨3, ![256, 128, 256]⟩
abbrev S1x256x128x256 : Shape := ⟨4, ![1, 256, 128, 256]⟩
abbrev S2x256x128x256 : Shape := ⟨4, ![2, 256, 128, 256]⟩
abbrev S4096x2048 : Shape := ⟨2, ![4096, 2048]⟩
abbrev S1x4096x2048 : Shape := ⟨3, ![1, 4096, 2048]⟩
abbrev S2x4096x2048 : Shape := ⟨3, ![2, 4096, 2048]⟩

abbrev nBuf : Space → Nat
  | .hbm => 157
  | .vmem => 0
  | .smem => 0
  | _ => 0

abbrev hbmTy0_0 (i : Nat) : BufTy := match i % 128 with
  | 0 => ⟨S65536x1024, .f32⟩
  | 1 => ⟨S1024x3352, .f32⟩
  | 2 => ⟨S8x8192x1024, .f32⟩
  | 3 => ⟨S8x8192x3352, .f32⟩
  | 4 => ⟨S8, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8192, .f32⟩
  | 13 => ⟨S8192x1, .f32⟩
  | 14 => ⟨S1x8, .f32⟩
  | 15 => ⟨S8192x8, .f32⟩
  | 16 => ⟨S8192x8, .f32⟩
  | 17 => ⟨S8192x8, .f32⟩
  | 18 => ⟨S8192x8, .f32⟩
  | 19 => ⟨S8192x1x8, .f32⟩
  | 20 => ⟨S8192x8, .f32⟩
  | 21 => ⟨S8192x1x8, .f32⟩
  | 22 => ⟨S8x8192x2048, .f32⟩
  | 23 => ⟨S8x8192x1304, .f32⟩
  | 24 => ⟨S8x8192x512, .f32⟩
  | 25 => ⟨S8x8192x8x64, .f32⟩
  | 26 => ⟨S8x8192x8x16, .f32⟩
  | 27 => ⟨S8x8192x8x8, .f32⟩
  | 28 => ⟨S8x8192x8x8, .f32⟩
  | 29 => ⟨S1x8192x1x8, .f32⟩
  | 30 => ⟨S8x8192x8x8, .f32⟩
  | 31 => ⟨S8x8192x8x8, .f32⟩
  | 32 => ⟨S1x8192x1x8, .f32⟩
  | 33 => ⟨S8x8192x8x8, .f32⟩
  | 34 => ⟨S8x8192x8x8, .f32⟩
  | 35 => ⟨S8x8192x8x8, .f32⟩
  | 36 => ⟨S1x8192x1x8, .f32⟩
  | 37 => ⟨S8x8192x8x8, .f32⟩
  | 38 => ⟨S8x8192x8x8, .f32⟩
  | 39 => ⟨S1x8192x1x8, .f32⟩
  | 40 => ⟨S8x8192x8x8, .f32⟩
  | 41 => ⟨S8x8192x8x8, .f32⟩
  | 42 => ⟨S8x8192x8x8, .f32⟩
  | 43 => ⟨S8x8192x8x16, .f32⟩
  | 44 => ⟨S8x8192x8x48, .f32⟩
  | 45 => ⟨S8x8192x8x64, .f32⟩
  | 46 => ⟨S_, .f32⟩
  | 47 => ⟨S8x8192x8x64, .f32⟩
  | 48 => ⟨S8x8192x8x64, .f32⟩
  | 49 => ⟨S8x8192x768, .f32⟩
  | 50 => ⟨S8x8192x6x2x64, .f32⟩
  | 51 => ⟨S8x8192x1x2x64, .f32⟩
  | 52 => ⟨S8x8192x2x64, .f32⟩
  | 53 => ⟨S8x8192x2x16, .f32⟩
  | 54 => ⟨S8x8192x2x8, .f32⟩
  | 55 => ⟨S8x8192x2x8, .f32⟩
  | 56 => ⟨S1x8192x1x8, .f32⟩
  | 57 => ⟨S8x8192x2x8, .f32⟩
  | 58 => ⟨S8x8192x2x8, .f32⟩
  | 59 => ⟨S1x8192x1x8, .f32⟩
  | 60 => ⟨S8x8192x2x8, .f32⟩
  | 61 => ⟨S8x8192x2x8, .f32⟩
  | 62 => ⟨S8x8192x2x8, .f32⟩
  | 63 => ⟨S1x8192x1x8, .f32⟩
  | 64 => ⟨S8x8192x2x8, .f32⟩
  | 65 => ⟨S8x8192x2x8, .f32⟩
  | 66 => ⟨S1x8192x1x8, .f32⟩
  | 67 => ⟨S8x8192x2x8, .f32⟩
  | 68 => ⟨S8x8192x2x8, .f32⟩
  | 69 => ⟨S8x8192x2x8, .f32⟩
  | 70 => ⟨S8x8192x2x16, .f32⟩
  | 71 => ⟨S8x8192x2x48, .f32⟩
  | 72 => ⟨S8x8192x2x64, .f32⟩
  | 73 => ⟨S8x8192x1x2x64, .f32⟩
  | 74 => ⟨S8x8192x2x64, .f32⟩
  | 75 => ⟨S8x8192x2x16, .f32⟩
  | 76 => ⟨S8x8192x2x8, .f32⟩
  | 77 => ⟨S8x8192x2x8, .f32⟩
  | 78 => ⟨S1x8192x1x8, .f32⟩
  | 79 => ⟨S8x8192x2x8, .f32⟩
  | 80 => ⟨S8x8192x2x8, .f32⟩
  | 81 => ⟨S1x8192x1x8, .f32⟩
  | 82 => ⟨S8x8192x2x8, .f32⟩
  | 83 => ⟨S8x8192x2x8, .f32⟩
  | 84 => ⟨S8x8192x2x8, .f32⟩
  | 85 => ⟨S1x8192x1x8, .f32⟩
  | 86 => ⟨S8x8192x2x8, .f32⟩
  | 87 => ⟨S8x8192x2x8, .f32⟩
  | 88 => ⟨S1x8192x1x8, .f32⟩
  | 89 => ⟨S8x8192x2x8, .f32⟩
  | 90 => ⟨S8x8192x2x8, .f32⟩
  | 91 => ⟨S8x8192x2x8, .f32⟩
  | 92 => ⟨S8x8192x2x16, .f32⟩
  | 93 => ⟨S8x8192x2x48, .f32⟩
  | 94 => ⟨S8x8192x2x64, .f32⟩
  | 95 => ⟨S8x8192x1x2x64, .f32⟩
  | 96 => ⟨S8x8192x2x64, .f32⟩
  | 97 => ⟨S8x8192x2x16, .f32⟩
  | 98 => ⟨S8x8192x2x8, .f32⟩
  | 99 => ⟨S8x8192x2x8, .f32⟩
  | 100 => ⟨S1x8192x1x8, .f32⟩
  | 101 => ⟨S8x8192x2x8, .f32⟩
  | 102 => ⟨S8x8192x2x8, .f32⟩
  | 103 => ⟨S1x8192x1x8, .f32⟩
  | 104 => ⟨S8x8192x2x8, .f32⟩
  | 105 => ⟨S8x8192x2x8, .f32⟩
  | 106 => ⟨S8x8192x2x8, .f32⟩
  | 107 => ⟨S1x8192x1x8, .f32⟩
  | 108 => ⟨S8x8192x2x8, .f32⟩
  | 109 => ⟨S8x8192x2x8, .f32⟩
  | 110 => ⟨S1x8192x1x8, .f32⟩
  | 111 => ⟨S8x8192x2x8, .f32⟩
  | 112 => ⟨S8x8192x2x8, .f32⟩
  | 113 => ⟨S8x8192x2x8, .f32⟩
  | 114 => ⟨S8x8192x2x16, .f32⟩
  | 115 => ⟨S8x8192x2x48, .f32⟩
  | 116 => ⟨S8x8192x2x64, .f32⟩
  | 117 => ⟨S8x8192x1x2x64, .f32⟩
  | 118 => ⟨S8x8192x2x64, .f32⟩
  | 119 => ⟨S8x8192x1x2x64, .f32⟩
  | 120 => ⟨S8x8192x2x64, .f32⟩
  | 121 => ⟨S8x8192x1x2x64, .f32⟩
  | 122 => ⟨S8x8192x2x64, .f32⟩
  | 123 => ⟨S8x8192x24, .f32⟩
  | 124 => ⟨S_, .i32⟩
  | 125 => ⟨S_, .f32⟩
  | 126 => ⟨S8x8192x128, .f32⟩
  | 127 => ⟨S8x8192x128, .f32⟩
  | _ => ⟨S65536x1024, .f32⟩

abbrev hbmTy0_1 (i : Nat) : BufTy := match i % 128 with
  | 0 => ⟨S8x8192x128, .f32⟩
  | 1 => ⟨S_, .f32⟩
  | 2 => ⟨S8x8192x128, .f32⟩
  | 3 => ⟨S8x8192x128, .f32⟩
  | 4 => ⟨S_, .f32⟩
  | 5 => ⟨S8x8192x128, .f32⟩
  | 6 => ⟨S8x8192x128, .f32⟩
  | 7 => ⟨S65536x2048, .f32⟩
  | 8 => ⟨S65536x512, .f32⟩
  | 9 => ⟨S65536x512, .bf16⟩
  | 10 => ⟨S65536x128, .f32⟩
  | 11 => ⟨S65536x128, .f32⟩
  | 12 => ⟨S65536x256, .f32⟩
  | 13 => ⟨S65536x256, .bf16⟩
  | 14 => ⟨S65536x128, .f32⟩
  | 15 => ⟨S256x256x128, .f32⟩
  | 16 => ⟨S256x128x256, .f32⟩
  | 17 => ⟨S256x256x128, .f32⟩
  | 18 => ⟨S256x128x256, .f32⟩
  | 19 => ⟨S1x256x128x256, .f32⟩
  | 20 => ⟨S1x256x128x256, .f32⟩
  | 21 => ⟨S2x256x128x256, .f32⟩
  | 22 => ⟨S2x256x128x256, .bf16⟩
  | 23 => ⟨S4096x2048, .f32⟩
  | 24 => ⟨S4096x2048, .f32⟩
  | 25 => ⟨S1x4096x2048, .f32⟩
  | 26 => ⟨S1x4096x2048, .f32⟩
  | 27 => ⟨S2x4096x2048, .f32⟩
  | 28 => ⟨S2x4096x2048, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_1 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_c : Ref sig .tc := ⟨.hbm, 124, rfl⟩
abbrev main_call0_v0 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_cst_2 : Ref sig .tc := ⟨.hbm, 129, rfl⟩
abbrev main_v122 : Ref sig .tc := ⟨.hbm, 130, rfl⟩
abbrev main_v123 : Ref sig .tc := ⟨.hbm, 131, rfl⟩
abbrev main_cst_3 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩

abbrev nD : Nat := 1
abbrev τ : Topo := Topo.v7x

variable {F : FTy → Type} [FloatOps F]
-- ==== Kernel6.lean ====
abbrev S65536x512 : Shape := ⟨2, ![65536, 512]⟩
abbrev S1024x1024 : Shape := ⟨2, ![1024, 1024]⟩
abbrev S65536x1024 : Shape := ⟨2, ![65536, 1024]⟩
abbrev S1x1024 : Shape := ⟨2, ![1, 1024]⟩
abbrev S1024x16 : Shape := ⟨2, ![1024, 16]⟩
abbrev S16 : Shape := ⟨1, ![16]⟩
abbrev S512x1024 : Shape := ⟨2, ![512, 1024]⟩
abbrev S16x1024 : Shape := ⟨2, ![16, 1024]⟩
abbrev S16x1 : Shape := ⟨2, ![16, 1]⟩
abbrev S2x65536 : Shape := ⟨2, ![2, 65536]⟩
abbrev S16x128 : Shape := ⟨2, ![16, 128]⟩
abbrev S1024x512 : Shape := ⟨2, ![1024, 512]⟩
abbrev S2x1024 : Shape := ⟨2, ![2, 1024]⟩
abbrev S1024 : Shape := ⟨1, ![1024]⟩
abbrev S1024x1 : Shape := ⟨2, ![1024, 1]⟩

abbrev nBuf : Space → Nat
  | .hbm => 22
  | .vmem => 23
  | .smem => 0
  | _ => 0

abbrev bufTy : (tb : Table) → Fin (tcTables nBuf tb) → BufTy
  | .hbm, ⟨0, _⟩ => ⟨S65536x512, .f32⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S1x1024, .f32⟩
  | .hbm, ⟨5, _⟩ => ⟨S1x1024, .f32⟩
  | .hbm, ⟨6, _⟩ => ⟨S1024x16, .f32⟩
  | .hbm, ⟨7, _⟩ => ⟨S16, .f32⟩
  | .hbm, ⟨8, _⟩ => ⟨S1024x1024, .bf16⟩
  | .hbm, ⟨9, _⟩ => ⟨S512x1024, .bf16⟩
  | .hbm, ⟨10, _⟩ => ⟨S512x1024, .bf16⟩
  | .hbm, ⟨11, _⟩ => ⟨S16x1024, .f32⟩
  | .hbm, ⟨12, _⟩ => ⟨S16x1, .f32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .bf16⟩
  | .hbm, ⟨17, _⟩ => ⟨S65536x1024, .f32⟩
  | .hbm, ⟨18, _⟩ => ⟨S2x65536, .i32⟩
  | .hbm, ⟨19, _⟩ => ⟨S2x65536, .f32⟩
  | .hbm, ⟨20, _⟩ => ⟨S2x65536, .i32⟩
  | .hbm, ⟨21, _⟩ => ⟨S16x128, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S16x1024, .f32⟩
  | .local _ .vmem, ⟨11, _⟩ => ⟨S16x1, .f32⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S2x1024, .i32⟩
  | .local _ .vmem, ⟨16, _⟩ => ⟨S2x1024, .i32⟩
  | .local _ .vmem, ⟨17, _⟩ => ⟨S2x1024, .f32⟩
  | .local _ .vmem, ⟨18, _⟩ => ⟨S2x1024, .f32⟩
  | .local _ .vmem, ⟨19, _⟩ => ⟨S2x1024, .i32⟩
  | .local _ .vmem, ⟨20, _⟩ => ⟨S2x1024, .i32⟩
  | .local _ .vmem, ⟨21, _⟩ => ⟨S16x128, .f32⟩
  | .local _ .vmem, ⟨22, _⟩ => ⟨S16x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1024 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference6Ideal.lean ====
abbrev S65536x512 : Shape := ⟨2, ![65536, 512]⟩
abbrev S1024x1024 : Shape := ⟨2, ![1024, 1024]⟩
abbrev S65536x1024 : Shape := ⟨2, ![65536, 1024]⟩
abbrev S1x1024 : Shape := ⟨2, ![1, 1024]⟩
abbrev S1024x16 : Shape := ⟨2, ![1024, 16]⟩
abbrev S16 : Shape := ⟨1, ![16]⟩
abbrev S_ : Shape := ⟨0, ![]⟩
abbrev S65536 : Shape := ⟨1, ![65536]⟩
abbrev S65536x1 : Shape := ⟨2, ![65536, 1]⟩

abbrev nBuf : Space → Nat
  | .hbm => 42
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .bf16⟩
  | .hbm, ⟨2, _⟩ => ⟨S1024x1024, .f32⟩
  | .hbm, ⟨3, _⟩ => ⟨S65536x1024, .f32⟩
  | .hbm, ⟨4, _⟩ => ⟨S1x1024, .f32⟩
  | .hbm, ⟨5, _⟩ => ⟨S1x1024, .f32⟩
  | .hbm, ⟨6, _⟩ => ⟨S1024x16, .f32⟩
  | .hbm, ⟨7, _⟩ => ⟨S16, .f32⟩
  | .hbm, ⟨8, _⟩ => ⟨S65536x512, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S_, .f32⟩
  | .hbm, ⟨25, _⟩ => ⟨S65536, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1, .f32⟩
  | .hbm, ⟨34, _⟩ => ⟨S65536x1, .f32⟩
  | .hbm, ⟨35, _⟩ => ⟨S65536x1, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel7.lean ====
abbrev S65536x2048 : Shape := ⟨2, ![65536, 2048]⟩
abbrev S2048x1024 : Shape := ⟨2, ![2048, 1024]⟩
abbrev S65536x1024 : Shape := ⟨2, ![65536, 1024]⟩
abbrev S1x1024 : Shape := ⟨2, ![1, 1024]⟩
abbrev S1024x16 : Shape := ⟨2, ![1024, 16]⟩
abbrev S16 : Shape := ⟨1, ![16]⟩
abbrev S16x1024 : Shape := ⟨2, ![16, 1024]⟩
abbrev S16x1 : Shape := ⟨2, ![16, 1]⟩
abbrev S1024x1024 : Shape := ⟨2, ![1024, 1024]⟩
abbrev S2x65536 : Shape := ⟨2, ![2, 65536]⟩
abbrev S16x128 : Shape := ⟨2, ![16, 128]⟩
abbrev S1024x2048 : Shape := ⟨2, ![1024, 2048]⟩
abbrev S2x1024 : Shape := ⟨2, ![2, 1024]⟩
abbrev S1024 : Shape := ⟨1, ![1024]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S65536x2048, .bf16⟩
  | .hbm, ⟨1, _⟩ => ⟨S2048x1024, .f32⟩
  | .hbm, ⟨2, _⟩ => ⟨S65536x1024, .f32⟩
  | .hbm, ⟨3, _⟩ => ⟨S1x1024, .f32⟩
  | .hbm, ⟨4, _⟩ => ⟨S1x1024, .f32⟩
  | .hbm, ⟨5, _⟩ => ⟨S1024x16, .f32⟩
  | .hbm, ⟨6, _⟩ => ⟨S16, .f32⟩
  | .hbm, ⟨7, _⟩ => ⟨S2048x1024, .bf16⟩
  | .hbm, ⟨8, _⟩ => ⟨S16x1024, .f32⟩
  | .hbm, ⟨9, _⟩ => ⟨S16x1, .f32⟩
  | .hbm, ⟨10, _⟩ => ⟨S1024x1024, .i32⟩
  | .hbm, ⟨11, _⟩ => ⟨S1024x1024, .i32⟩
  | .hbm, ⟨12, _⟩ => ⟨S1024x1024, .i1⟩
  | .hbm, ⟨13, _⟩ => ⟨S1024x1024, .bf16⟩
  | .hbm, ⟨14, _⟩ => ⟨S65536x1024, .f32⟩
  | .hbm, ⟨15, _⟩ => ⟨S2x65536, .i32⟩
  | .hbm, ⟨16, _⟩ => ⟨S2x65536, .f32⟩
  | .hbm, ⟨17, _⟩ => ⟨S2x65536, .i32⟩
  | .hbm, ⟨18, _⟩ => ⟨S16x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S16x1024, .f32⟩
  | .local _ .vmem, ⟨8, _⟩ => ⟨S16x1, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S2x1024, .i32⟩
  | .local _ .vmem, ⟨13, _⟩ => ⟨S2x1024, .i32⟩
  | .local _ .vmem, ⟨14, _⟩ => ⟨S2x1024, .f32⟩
  | .local _ .vmem, ⟨15, _⟩ => ⟨S2x1024, .f32⟩
  | .local _ .vmem, ⟨16, _⟩ => ⟨S2x1024, .i32⟩
  | .local _ .vmem, ⟨17, _⟩ => ⟨S2x1024, .i32⟩
  | .local _ .vmem, ⟨18, _⟩ => ⟨S16x128, .f32⟩
  | .local _ .vmem, ⟨19, _⟩ => ⟨S16x1, .f32⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1024 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference7Ideal.lean ====
abbrev S65536x2048 : Shape := ⟨2, ![65536, 2048]⟩
abbrev S2048x1024 : Shape := ⟨2, ![2048, 1024]⟩
abbrev S65536x1024 : Shape := ⟨2, ![65536, 1024]⟩
abbrev S1x1024 : Shape := ⟨2, ![1, 1024]⟩
abbrev S1024x16 : Shape := ⟨2, ![1024, 16]⟩
abbrev S16 : Shape := ⟨1, ![16]⟩
abbrev S_ : Shape := ⟨0, ![]⟩
abbrev S65536 : Shape := ⟨1, ![65536]⟩
abbrev S65536x1 : Shape := ⟨2, ![65536, 1]⟩

abbrev nBuf : Space → Nat
  | .hbm => 40
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S2048x1024, .f32⟩
  | .hbm, ⟨2, _⟩ => ⟨S65536x1024, .f32⟩
  | .hbm, ⟨3, _⟩ => ⟨S1x1024, .f32⟩
  | .hbm, ⟨4, _⟩ => ⟨S1x1024, .f32⟩
  | .hbm, ⟨5, _⟩ => ⟨S1024x16, .f32⟩
  | .hbm, ⟨6, _⟩ => ⟨S16, .f32⟩
  | .hbm, ⟨7, _⟩ => ⟨S65536x2048, .f32⟩
  | .hbm, ⟨8, _⟩ => ⟨S65536x1024, .f32⟩
  | .hbm, ⟨9, _⟩ => ⟨S_, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S_, .f32⟩
  | .hbm, ⟨14, _⟩ => ⟨S65536, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1024, .f32⟩
  | .hbm, ⟨29, _⟩ => ⟨S65536x1024, .f32⟩
  | .hbm, ⟨30, _⟩ => ⟨S_, .f32⟩
  | .hbm, ⟨31, _⟩ => ⟨S65536x1, .f32⟩
  | .hbm, ⟨32, _⟩ => ⟨S65536x1, .f32⟩
  | .hbm, ⟨33, _⟩ => ⟨S65536x1, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.ExpertsRun.lean ====
/- One grid point of the experts' kernel: what its body leaves on each of its three paths. -/
module

public import proofs.«01_k».proof.Defs
public import proofs.«01_k».proof.Proof.Gen.Kernel3Ideal
public import proofs.«01_k».proof.Proof.Gen.Kernel3Ideal.Launch
public import proofs.«01_k».proof.Proof.Gen.Kernel3Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section
set_option maxRecDepth 16384
noncomputable section
namespace Cert.Experts
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables and the scratch buffers the kernel is handed -/

/-- The expert of each block. -/
abbrev experts : Memref sig .tc .smem S272 .i32 := Memref.whole main_arg0
/-- How many blocks are used. -/
abbrev count : Memref sig .tc .smem S1 .i32 := Memref.whole main_arg1
/-- The hidden layer of the block. -/
abbrev hidden : Memref sig .tc .vmem S512x1024 .bf16 := Memref.whole cc0_scratch0
/-- The three weight matrices of the current expert, rounded. -/
abbrev gateCache : Memref sig .tc .vmem S1024x1024 .bf16 := Memref.whole cc0_scratch1
abbrev upCache : Memref sig .tc .vmem S1024x1024 .bf16 := Memref.whole cc0_scratch2
abbrev downCache : Memref sig .tc .vmem S1024x1024 .bf16 := Memref.whole cc0_scratch3

/-- The number of used blocks, as the body loads it. -/
abbrev usedWord (T1 : S1.Idx → BitVec 32) : BitVec 32 :=
  View.readAt (Elt F) count.view (Rect.unit (s := S1) ![0] S1.size inb_S1_S1_0).toLoadRect T1 (Shape.Idx.first (numel1_S1.symm ▸ Nat.one_pos))
/-- The expert of this block, -/
abbrev hereWord (T0 : S272.Idx → BitVec 32) (i : grid0.Coords) : BitVec 32 :=
  View.readAt (Elt F) experts.view (Rect.unit (s := S272) (k0_off1 i) S1.size (k0_off1_inb i)).toLoadRect T0 (Shape.Idx.first (numel1_S1.symm ▸ Nat.one_pos))
/-- and of the block before it. -/
abbrev beforeWord (T0 : S272.Idx → BitVec 32) (i : grid0.Coords) : BitVec 32 :=
  View.readAt (Elt F) experts.view (Rect.unit (s := S272) (k0_off2 i) S1.size (k0_off2_inb i)).toLoadRect T0 (Shape.Idx.first (numel1_S1.symm ▸ Nat.one_pos))

/-- The body refreshes its rounded weights: the block is used, and it is the first one or of another expert than the one before. -/
abbrev refresh (T0 : S272.Idx → BitVec 32) (T1 : S1.Idx → BitVec 32) (i : grid0.Coords) : Prop :=
  (Scalar.cmpi .ne (Scalar.extui (Scalar.andi (Scalar.cmpi .slt (BitVec.ofNat 32 (i 0).val) (usedWord (F := F) T1)) (Scalar.ori (Scalar.cmpi .eq (BitVec.ofNat 32 (i 0).val) 0#32) (Scalar.cmpi .ne (hereWord (F := F) T0 i) (beforeWord (F := F) T0 i))))) 0#32) = 1#1

/-! ## What a point computes -/

/-- The hidden layer of a block `x` under the rounded weights `g` and `u`: two column halves, stored side by side. -/
def hiddenOf (x : Vec F S512x1024 .f32) (g u : Vec F S1024x1024 .bf16) : Vec F S512x1024 .bf16 :=
  View.canon
    [⟨Rect.unit (s := S512x1024) ![0, 512] S512x512.size inb_S512x1024_S512x512_0_512,
        k0_pay6 x (View.ld g (Rect.unit (s := S1024x1024) ![0, 512] S1024x512.size inb_S1024x1024_S1024x512_0_512))
          (View.ld u (Rect.unit (s := S1024x1024) ![0, 512] S1024x512.size inb_S1024x1024_S1024x512_0_512))⟩,
      ⟨Rect.unit (s := S512x1024) ![0, 0] S512x512.size inb_S512x1024_S512x512_0_0,
        k0_pay5 x (View.ld g (Rect.unit (s := S1024x1024) ![0, 0] S1024x512.size inb_S1024x1024_S1024x512_0_0))
          (View.ld u (Rect.unit (s := S1024x1024) ![0, 0] S1024x512.size inb_S1024x1024_S1024x512_0_0))⟩]

/-- The block's output under the rounded weights `g`, `u`, `d`. -/
def outputOf (x : Vec F S512x1024 .f32) (g u d : Vec F S1024x1024 .bf16) : Vec F S512x1024 .f32 :=
  k0_pay7 (hiddenOf x g u) d

/-- A load of the whole of what stores over anything unspecified left. -/
theorem readCov_all {s : Shape} {e : EltTy} (v : View sig .tc .vmem s e) (L : List (View.Piece (Elt F) s e)) {off : Fin s.rank → ℕ}
    (inb : ∀ a, off a + s.size a ≤ s.size a) : v.readCov L (Rect.unit off s.size inb).toLoadRect = View.canon L := by
  show v.readAt (Elt F) _ (v.writes (Elt F) v.junk L) = _
  rw [View.readAt_full]
  funext y
  exact View.read_writes_junk_apply_eq_canon v y L

/-- A load of a part of what one store of the whole left: that part of the stored value. -/
theorem readCov_part {s : Shape} {e : EltTy} (v : View sig .tc .vmem s e) {off : Fin s.rank → ℕ} (inb : ∀ a, off a + s.size a ≤ s.size a)
    (w : s.Idx → Elt F e) (r : Rect s) : v.readCov [⟨Rect.unit off s.size inb, w⟩] r.toLoadRect = View.ld w r := by
  show View.ld (v.read (Elt F) (v.writes (Elt F) v.junk [⟨Rect.unit off s.size inb, w⟩])) r = _
  rw [View.read_writes_full]

/-- What the body's loads and stores of a used block come to. -/
theorem output_read (v7 : View sig .tc .vmem S512x1024 .f32) (vh : View sig .tc .vmem S512x1024 .bf16)
    (x : Vec F S512x1024 .f32) (g u d : Vec F S1024x1024 .bf16) (x0 x0' : Vec F S512x1024 .f32)
    (gl ul gh uh : Vec F S1024x512 .bf16) (d' : Vec F S1024x1024 .bf16) (h0 : x0 = x) (h0' : x0' = x)
    (hgl : gl = View.ld g (Rect.unit (s := S1024x1024) ![0, 0] S1024x512.size inb_S1024x1024_S1024x512_0_0))
    (hul : ul = View.ld u (Rect.unit (s := S1024x1024) ![0, 0] S1024x512.size inb_S1024x1024_S1024x512_0_0))
    (hgh : gh = View.ld g (Rect.unit (s := S1024x1024) ![0, 512] S1024x512.size inb_S1024x1024_S1024x512_0_512))
    (huh : uh = View.ld u (Rect.unit (s := S1024x1024) ![0, 512] S1024x512.size inb_S1024x1024_S1024x512_0_512))
    (hd : d' = d) :
    v7.read (Elt F) (v7.writes (Elt F) v7.junk [⟨Rect.unit (s := S512x1024) ![0, 0] S512x1024.size inb_S512x1024_S512x1024_0_0,
      k0_pay7 (vh.readCov [⟨Rect.unit (s := S512x1024) ![0, 512] S512x512.size inb_S512x1024_S512x512_0_512, k0_pay6 x0 gh uh⟩,
          ⟨Rect.unit (s := S512x1024) ![0, 0] S512x512.size inb_S512x1024_S512x512_0_0, k0_pay5 x0' gl ul⟩]
        (Rect.unit (s := S512x1024) ![0, 0] S512x1024.size inb_S512x1024_S512x1024_0_0).toLoadRect) d'⟩]) = outputOf x g u d := by
  subst h0 h0' hgl hul hgh huh hd
  rw [View.read_writes_full, readCov_all]
  rfl

/-- The four input blocks and the core's halves of the two tables, which a point only reads. -/
def windows (c : Dev nD) (arg3 : Memref sig .tc .vmem S512x1024 .f32) (arg4 arg5 arg6 : Memref sig .tc .vmem S1x1x1024x1024 .f32)
    (T0 : S272.Idx → BitVec 32) (T1 : S1.Idx → BitVec 32) (x0 : Vec F S512x1024 .f32) (x1 x2 x3 : Vec F S1x1x1024x1024 .f32) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (experts.view.loc (c : Thread nD τ) ↦{fullShare.right} T0)
    ∗ (count.view.loc (c : Thread nD τ) ↦{fullShare.right} T1))

set_option maxHeartbeats 8000000 in
/-- A used block that refreshes the rounded weights. -/
theorem run_refresh (c : Dev nD) (i : grid0.Coords) (arg3 : Memref sig .tc .vmem S512x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S512x1024 .f32) (harg7 : arg7.IsWhole) (T0 : S272.Idx → BitVec 32) (T1 : S1.Idx → BitVec 32)
    (x0 : Vec F S512x1024 .f32) (x1 x2 x3 : Vec F S1x1x1024x1024 .f32)
    (hc0 : refresh (F := F) T0 T1 i) (hc2 : k0_cond2 i (usedWord (F := F) T1) = 1#1) (hc3 : ¬ k0_cond3 i (usedWord (F := F) T1) = 1#1)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3)) (K : PUnit → sProp 𝕄) :
    iprop(windows c arg3 arg4 arg5 arg6 T0 T1 x0 x1 x2 x3
          ∗ (∃ d, owns (c : Thread nD τ) arg7 fullShare d)
          ∗ (hidden.view.loc (c : Thread nD τ) ↦{fullShare} a0)
          ∗ (gateCache.view.loc (c : Thread nD τ) ↦{fullShare} a1)
          ∗ (upCache.view.loc (c : Thread nD τ) ↦{fullShare} a2)
          ∗ (downCache.view.loc (c : Thread nD τ) ↦{fullShare} a3)
          ∗ (iprop(windows c arg3 arg4 arg5 arg6 T0 T1 x0 x1 x2 x3
              ∗ owns (c : Thread nD τ) arg7 fullShare (outputOf x0 (k0_pay1 x1) (k0_pay2 x2) (k0_pay3 x3))
              ∗ (∃ f, hidden.view.loc (c : Thread nD τ) ↦{fullShare} f)
              ∗ (∃ f, ⌜gateCache.view.read (Elt F) f = k0_pay1 x1⌝ ∗ gateCache.view.loc (c : Thread nD τ) ↦{fullShare} f)
              ∗ (∃ f, ⌜upCache.view.read (Elt F) f = k0_pay2 x2⌝ ∗ upCache.view.loc (c : Thread nD τ) ↦{fullShare} f)
              ∗ (∃ f, ⌜downCache.view.read (Elt F) f = k0_pay3 x3⌝ ∗ downCache.view.loc (c : Thread nD τ) ↦{fullShare} f)) -∗ K ⟨⟩))
      ⊢ wp frame (wpE (defs₀ (F := F)) Variants.none c none) Set.univ (cc0_moe_ffn i experts (Memref.isWhole_whole _) count (Memref.isWhole_whole _) arg3 harg3 arg4 harg4 arg5 harg5 arg6 harg6 arg7 harg7 hidden (Memref.isWhole_whole _) gateCache (Memref.isWhole_whole _) upCache (Memref.isWhole_whole _) downCache (Memref.isWhole_whole _)) K := by
    unfold windows owns
    rw [cc0_moe_ffn_eq_skeleton]; unfold cc0_moe_ffn_skel
    iintro ⟨⟨H0, H1, H2, H3, HT0, HT1⟩, ⟨%d4, %f4, -, HO4⟩, HS0, HS1, HS2, HS3, Hk⟩
    have hS0 : hidden.IsWhole := Memref.isWhole_whole _
    have hS1 : gateCache.IsWhole := Memref.isWhole_whole _
    have hS2 : upCache.IsWhole := Memref.isWhole_whole _
    have hS3 : downCache.IsWhole := Memref.isWhole_whole _
    have hT0 : experts.IsWhole := Memref.isWhole_whole _
    have hT1 : count.IsWhole := Memref.isWhole_whole _
    sl_exec! (disch := first | (guard_target = Scalar.cmpi _ _ _ = _; exact hc0) | (guard_target = k0_cond2 _ _ = _; exact hc2) | (guard_target = k0_cond3 _ _ = _; exact hc3) | (guard_target = ¬(Scalar.cmpi _ _ _ = _); exact hc0) | (guard_target = ¬(k0_cond2 _ _ = _); exact hc2) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; swap
      · iexact HO4
      · ipureintro
        exact output_read arg7.view hidden.view x0 (k0_pay1 x1) (k0_pay2 x2) (k0_pay3 x3) _ _ _ _ _ _ _
          (View.readAt_rep_full _ _ _) (View.readAt_rep_full _ _ _)
          ((readCov_part _ _ _ _).trans (by rw [View.readAt_rep_full]))
          ((readCov_part _ _ _ _).trans (by rw [View.readAt_rep_full]))
          ((readCov_part _ _ _ _).trans (by rw [View.readAt_rep_full]))
          ((readCov_part _ _ _ _).trans (by rw [View.readAt_rep_full]))
          ((View.readCov_full _ _ _ _ _).trans (by rw [View.readAt_rep_full]))
    isplitl [HS0]
    · iexists _; iexact HS0
    isplitl [HS1]
    · iexists _; isplitr; swap
      · iexact HS1
      · ipureintro; exact (View.read_writes_full _ _ _ _ _).trans (congrArg k0_pay1 (View.readAt_rep_full _ _ _))
    isplitl [HS2]
    · iexists _; isplitr; swap
      · iexact HS2
      · ipureintro; exact (View.read_writes_full _ _ _ _ _).trans (congrArg k0_pay2 (View.readAt_rep_full _ _ _))
    iexists _; isplitr; swap
    · iexact HS3
    · ipureintro; exact (View.read_writes_full _ _ _ _ _).trans (congrArg k0_pay3 (View.readAt_rep_full _ _ _))

set_option maxHeartbeats 8000000 in
/-- A used block of the expert before: the rounded weights are carried. -/
theorem run_carry (c : Dev nD) (i : grid0.Coords) (arg3 : Memref sig .tc .vmem S512x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S512x1024 .f32) (harg7 : arg7.IsWhole) (T0 : S272.Idx → BitVec 32) (T1 : S1.Idx → BitVec 32)
    (x0 : Vec F S512x1024 .f32) (x1 x2 x3 : Vec F S1x1x1024x1024 .f32)
    (hc0 : ¬ refresh (F := F) T0 T1 i) (hc2 : k0_cond2 i (usedWord (F := F) T1) = 1#1) (hc3 : ¬ k0_cond3 i (usedWord (F := F) T1) = 1#1)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3)) (K : PUnit → sProp 𝕄) :
    iprop(windows c arg3 arg4 arg5 arg6 T0 T1 x0 x1 x2 x3
          ∗ (∃ d, owns (c : Thread nD τ) arg7 fullShare d)
          ∗ (hidden.view.loc (c : Thread nD τ) ↦{fullShare} a0)
          ∗ (gateCache.view.loc (c : Thread nD τ) ↦{fullShare} a1)
          ∗ (upCache.view.loc (c : Thread nD τ) ↦{fullShare} a2)
          ∗ (downCache.view.loc (c : Thread nD τ) ↦{fullShare} a3)
          ∗ (iprop(windows c arg3 arg4 arg5 arg6 T0 T1 x0 x1 x2 x3
              ∗ owns (c : Thread nD τ) arg7 fullShare (outputOf x0 (gateCache.view.read (Elt F) a1) (upCache.view.read (Elt F) a2) (downCache.view.read (Elt F) a3))
              ∗ (∃ f, hidden.view.loc (c : Thread nD τ) ↦{fullShare} f)
              ∗ (gateCache.view.loc (c : Thread nD τ) ↦{fullShare} a1)
              ∗ (upCache.view.loc (c : Thread nD τ) ↦{fullShare} a2)
              ∗ (downCache.view.loc (c : Thread nD τ) ↦{fullShare} a3)) -∗ K ⟨⟩))
      ⊢ wp frame (wpE (defs₀ (F := F)) Variants.none c none) Set.univ (cc0_moe_ffn i experts (Memref.isWhole_whole _) count (Memref.isWhole_whole _) arg3 harg3 arg4 harg4 arg5 harg5 arg6 harg6 arg7 harg7 hidden (Memref.isWhole_whole _) gateCache (Memref.isWhole_whole _) upCache (Memref.isWhole_whole _) downCache (Memref.isWhole_whole _)) K := by
    unfold windows owns
    rw [cc0_moe_ffn_eq_skeleton]; unfold cc0_moe_ffn_skel
    iintro ⟨⟨H0, H1, H2, H3, HT0, HT1⟩, ⟨%d4, %f4, -, HO4⟩, HS0, HS1, HS2, HS3, Hk⟩
    have hS0 : hidden.IsWhole := Memref.isWhole_whole _
    have hS1 : gateCache.IsWhole := Memref.isWhole_whole _
    have hS2 : upCache.IsWhole := Memref.isWhole_whole _
    have hS3 : downCache.IsWhole := Memref.isWhole_whole _
    have hT0 : experts.IsWhole := Memref.isWhole_whole _
    have hT1 : count.IsWhole := Memref.isWhole_whole _
    sl_exec! (disch := first | (guard_target = Scalar.cmpi _ _ _ = _; exact hc0) | (guard_target = k0_cond2 _ _ = _; exact hc2) | (guard_target = k0_cond3 _ _ = _; exact hc3) | (guard_target = ¬(Scalar.cmpi _ _ _ = _); exact hc0) | (guard_target = ¬(k0_cond2 _ _ = _); exact hc2) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; swap
      · iexact HO4
      · ipureintro
        exact output_read arg7.view hidden.view x0 _ _ _ _ _ _ _ _ _ _
          (View.readAt_rep_full _ _ _) (View.readAt_rep_full _ _ _) rfl rfl rfl rfl (View.readAt_full _ _ _)
    isplitl [HS0]
    · iexists _; iexact HS0
    isplitl [HS1]; · iexact HS1
    isplitl [HS2]; · iexact HS2
    iexact HS3

set_option maxHeartbeats 8000000 in
/-- A block that is not used: its output is zeros. -/
theorem run_unused (c : Dev nD) (i : grid0.Coords) (arg3 : Memref sig .tc .vmem S512x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S512x1024 .f32) (harg7 : arg7.IsWhole) (T0 : S272.Idx → BitVec 32) (T1 : S1.Idx → BitVec 32)
    (x0 : Vec F S512x1024 .f32) (x1 x2 x3 : Vec F S1x1x1024x1024 .f32)
    (hc0 : ¬ refresh (F := F) T0 T1 i) (hc2 : ¬ k0_cond2 i (usedWord (F := F) T1) = 1#1) (hc3 : k0_cond3 i (usedWord (F := F) T1) = 1#1)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3)) (K : PUnit → sProp 𝕄) :
    iprop(windows c arg3 arg4 arg5 arg6 T0 T1 x0 x1 x2 x3
          ∗ (∃ d, owns (c : Thread nD τ) arg7 fullShare d)
          ∗ (hidden.view.loc (c : Thread nD τ) ↦{fullShare} a0)
          ∗ (gateCache.view.loc (c : Thread nD τ) ↦{fullShare} a1)
          ∗ (upCache.view.loc (c : Thread nD τ) ↦{fullShare} a2)
          ∗ (downCache.view.loc (c : Thread nD τ) ↦{fullShare} a3)
          ∗ (iprop(windows c arg3 arg4 arg5 arg6 T0 T1 x0 x1 x2 x3
              ∗ owns (c : Thread nD τ) arg7 fullShare (k0_pay8)
              ∗ (∃ f, hidden.view.loc (c : Thread nD τ) ↦{fullShare} f)
              ∗ (gateCache.view.loc (c : Thread nD τ) ↦{fullShare} a1)
              ∗ (upCache.view.loc (c : Thread nD τ) ↦{fullShare} a2)
              ∗ (downCache.view.loc (c : Thread nD τ) ↦{fullShare} a3)) -∗ K ⟨⟩))
      ⊢ wp frame (wpE (defs₀ (F := F)) Variants.none c none) Set.univ (cc0_moe_ffn i experts (Memref.isWhole_whole _) count (Memref.isWhole_whole _) arg3 harg3 arg4 harg4 arg5 harg5 arg6 harg6 arg7 harg7 hidden (Memref.isWhole_whole _) gateCache (Memref.isWhole_whole _) upCache (Memref.isWhole_whole _) downCache (Memref.isWhole_whole _)) K := by
    unfold windows owns
    rw [cc0_moe_ffn_eq_skeleton]; unfold cc0_moe_ffn_skel
    iintro ⟨⟨H0, H1, H2, H3, HT0, HT1⟩, ⟨%d4, %f4, -, HO4⟩, HS0, HS1, HS2, HS3, Hk⟩
    have hS0 : hidden.IsWhole := Memref.isWhole_whole _
    have hS1 : gateCache.IsWhole := Memref.isWhole_whole _
    have hS2 : upCache.IsWhole := Memref.isWhole_whole _
    have hS3 : downCache.IsWhole := Memref.isWhole_whole _
    have hT0 : experts.IsWhole := Memref.isWhole_whole _
    have hT1 : count.IsWhole := Memref.isWhole_whole _
    sl_exec! (disch := first | (guard_target = Scalar.cmpi _ _ _ = _; exact hc0) | (guard_target = k0_cond2 _ _ = _; exact hc2) | (guard_target = k0_cond3 _ _ = _; exact hc3) | (guard_target = ¬(Scalar.cmpi _ _ _ = _); exact hc0) | (guard_target = ¬(k0_cond2 _ _ = _); exact hc2) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; swap
      · iexact HO4
      · ipureintro; exact View.read_writes_full _ _ _ _ _
    isplitl [HS0]
    · iexists _; iexact HS0
    isplitl [HS1]; · iexact HS1
    isplitl [HS2]; · iexact HS2
    iexact HS3

end Cert.Experts
-- ==== Proof.ExpertsWords.lean ====
/- The words that steer the experts' kernel: the table of experts and the number of used blocks, and the three conditions
   its body decides with them. -/
module

public import proofs.«01_k».proof.Proof.ExpertsRun
public import Idealize.ShloMosaic.Lib.Pointwise
public import Idealize.ShloMosaic.Lib.Pipeline.ValueKit

@[expose] public section
set_option maxRecDepth 16384
noncomputable section
namespace Cert.Experts
open Cert.Kernel3Ideal Cert.Kernel3Ideal.Gen
open Idealize.ShloMosaic Idealize.ShloMosaic.TcCoe Idealize.ShloMosaic.Tactic

variable {F : FTy → Type} [FloatOps F]

theorem coord_lt (i : grid0.Coords) : (i 0).val < 272 := (i 0).isLt

/-- The expert of block `n`. -/
def expertAt (T0 : S272.Idx → BitVec 32) (n : ℕ) (h : n < 272) : BitVec 32 := T0 (ix1 ⟨n, h⟩)

/-- Block `n` is used. -/
def Used (T1 : S1.Idx → BitVec 32) (n : ℕ) : Prop := (n : ℤ) < (T1 (ix1 0)).toInt

theorem Used.pred {T1 : S1.Idx → BitVec 32} {n : ℕ} (h : Used T1 (n + 1)) : Used T1 n := by
  unfold Used at *; push_cast at h; omega

theorem usedWord_eq (T1 : S1.Idx → BitVec 32) : usedWord (F := F) T1 = T1 (ix1 0) := by
  refine congrArg T1 ?_
  funext ax; apply Fin.ext
  match ax with | ⟨0, _⟩ => rfl

theorem off1_eq : ∀ i : grid0.Coords, k0_off1 i 0 = (i 0).val := by decide +kernel
theorem off2_eq : ∀ i : grid0.Coords, k0_off2 i 0 = (i 0).val - 1 := by decide +kernel

theorem hereWord_eq (T0 : S272.Idx → BitVec 32) (i : grid0.Coords) :
    hereWord (F := F) T0 i = expertAt T0 (i 0).val (coord_lt i) := by
  refine congrArg T0 ?_
  funext ax; apply Fin.ext
  match ax with
  | ⟨0, _⟩ => show k0_off1 i 0 + 1 * 0 = (i 0).val; rw [off1_eq]; omega

theorem beforeWord_eq (T0 : S272.Idx → BitVec 32) (i : grid0.Coords) :
    beforeWord (F := F) T0 i = expertAt T0 ((i 0).val - 1) (by have := coord_lt i; omega) := by
  refine congrArg T0 ?_
  funext ax; apply Fin.ext
  match ax with
  | ⟨0, _⟩ => show k0_off2 i 0 + 1 * 0 = (i 0).val - 1; rw [off2_eq]; omega

theorem toInt_coord : ∀ n : Fin 272, (BitVec.ofNat 32 n.val).toInt = (n.val : ℤ) := by decide +kernel
theorem zero_coord : ∀ n : Fin 272, BitVec.ofNat 32 n.val = 0#32 ↔ n.val = 0 := by decide +kernel

theorem bit_cases (b : BitVec 1) : b = 0#1 ∨ b = 1#1 := by
  revert b; decide

/-- A condition widened to a word and compared with zero is the condition. -/
theorem widened (b : BitVec 1) : Scalar.cmpi .ne (Scalar.extui b : BitVec 32) 0#32 = b := by
  revert b; decide

theorem cmpi_slt (x y : BitVec 32) : Scalar.cmpi .slt x y = 1#1 ↔ x.toInt < y.toInt := by
  show BitVec.ofBool (x.slt y) = 1#1 ↔ _
  rw [BitVec.slt]
  by_cases h : x.toInt < y.toInt <;> simp [h]
theorem cmpi_sge (x y : BitVec 32) : Scalar.cmpi .sge x y = 1#1 ↔ y.toInt ≤ x.toInt := by
  show BitVec.ofBool (y.sle x) = 1#1 ↔ _
  rw [BitVec.sle]
  by_cases h : y.toInt ≤ x.toInt <;> simp [h]
theorem cmpi_eq (x y : BitVec 32) : Scalar.cmpi .eq x y = 1#1 ↔ x = y := by
  show BitVec.ofBool (x == y) = 1#1 ↔ _
  by_cases h : x = y
  · simp [h]
  · have e : (x == y) = false := beq_false_of_ne h
    rw [e]; simp [h]
theorem cmpi_ne (x y : BitVec 32) : Scalar.cmpi .ne x y = 1#1 ↔ x ≠ y := by
  show BitVec.ofBool (x != y) = 1#1 ↔ _
  by_cases h : x = y
  · simp [h]
  · have e : (x != y) = true := bne_iff_ne.mpr h
    rw [e]; simp [h]
theorem andi_one (a b : BitVec 1) : Scalar.andi a b = 1#1 ↔ a = 1#1 ∧ b = 1#1 := by
  revert a b; decide
theorem ori_one (a b : BitVec 1) : Scalar.ori a b = 1#1 ↔ a = 1#1 ∨ b = 1#1 := by
  revert a b; decide

variable (T0 : S272.Idx → BitVec 32) (T1 : S1.Idx → BitVec 32) (i : grid0.Coords)

theorem cond2_iff (v : BitVec 32) : k0_cond2 i v = 1#1 ↔ ((i 0).val : ℤ) < v.toInt := by
  show Scalar.cmpi .ne (Scalar.extui (Scalar.cmpi .slt (BitVec.ofNat 32 (i 0).val) v) : BitVec 32) 0#32 = 1#1 ↔ _
  rw [widened, cmpi_slt, toInt_coord ⟨(i 0).val, coord_lt i⟩]
theorem cond3_iff (v : BitVec 32) : k0_cond3 i v = 1#1 ↔ v.toInt ≤ ((i 0).val : ℤ) := by
  show Scalar.cmpi .ne (Scalar.extui (Scalar.cmpi .sge (BitVec.ofNat 32 (i 0).val) v) : BitVec 32) 0#32 = 1#1 ↔ _
  rw [widened, cmpi_sge, toInt_coord ⟨(i 0).val, coord_lt i⟩]

theorem used_cond2 : k0_cond2 i (usedWord (F := F) T1) = 1#1 ↔ Used T1 (i 0).val := by
  rw [cond2_iff, usedWord_eq]; rfl
theorem used_cond3 : k0_cond3 i (usedWord (F := F) T1) = 1#1 ↔ ¬ Used T1 (i 0).val := by
  rw [cond3_iff, usedWord_eq]; exact not_lt.symm

theorem refresh_iff : refresh (F := F) T0 T1 i ↔ Used T1 (i 0).val ∧ ((i 0).val = 0 ∨
    expertAt T0 (i 0).val (coord_lt i) ≠ expertAt T0 ((i 0).val - 1) (by have := coord_lt i; omega)) := by
  unfold refresh
  rw [widened, andi_one, ori_one, cmpi_slt, cmpi_eq, cmpi_ne, zero_coord ⟨(i 0).val, coord_lt i⟩, hereWord_eq, beforeWord_eq,
    usedWord_eq, toInt_coord ⟨(i 0).val, coord_lt i⟩]
  rfl

/-! ## The weights' blocks -/

/-- A table word read by a window's index map. -/
theorem table_at (pf : pre0.Contents (Elt F)) :
    pf.at 0 (Rect.unit (s := S272) ![(Scalar.indexCast (BitVec.ofNat 32 (i 0).val) : Index).toNat] S1.size (k0_off1_inb i)) numel1_S1
      = expertAt (pf 0) (i 0).val (coord_lt i) := by
  refine congrArg (pf 0) ?_
  funext ax; apply Fin.ext
  match ax with
  | ⟨0, _⟩ => show k0_off1 i 0 + 1 * 0 = (i 0).val; rw [off1_eq]; omega

theorem map1_eq (pf : pre0.Contents (Elt F)) :
    cc0_transform_1 k0_off1_inb numel1_S1 pf i = ![0, (expertAt (pf 0) (i 0).val (coord_lt i)).toNat, 0, 0] := by
  rw [← table_at]; rfl
theorem map2_eq (pf : pre0.Contents (Elt F)) :
    cc0_transform_2 k0_off1_inb numel1_S1 pf i = ![0, (expertAt (pf 0) (i 0).val (coord_lt i)).toNat, 0, 0] := by
  rw [← table_at]; rfl
theorem map3_eq (pf : pre0.Contents (Elt F)) :
    cc0_transform_3 k0_off1_inb numel1_S1 pf i = ![0, (expertAt (pf 0) (i 0).val (coord_lt i)).toNat, 0, 0] := by
  rw [← table_at]; rfl

/-- Every table entry names one of the sixteen experts. -/
def Named (T0 : S272.Idx → BitVec 32) : Prop := ∀ (n : ℕ) (h : n < 272), (expertAt T0 n h).toNat < 16

theorem block_inside (n : ℕ) (h : n < 16) : ∀ a : Fin 4, ((![0, n, 0, 0] : Fin 4 → ℕ) a + 1) * S1x1x1024x1024.size a ≤ S2x16x1024x1024.size a
  | ⟨0, _⟩ => by show (0 + 1) * 1 ≤ 2; omega
  | ⟨1, _⟩ => by show (n + 1) * 1 ≤ 16; omega
  | ⟨2, _⟩ => by show (0 + 1) * 1024 ≤ 1024; omega
  | ⟨3, _⟩ => by show (0 + 1) * 1024 ≤ 1024; omega

/-- Then every block of weights is inside its array. -/
theorem blocks_ok (pf : pre0.Contents (Elt F)) (h : Named (pf 0)) : ok0 pf :=
  ⟨fun i => ⟨by rw [map1_eq]; exact block_inside _ (h _ _), .inl rfl⟩,
    fun i => ⟨by rw [map2_eq]; exact block_inside _ (h _ _), .inl rfl⟩,
    fun i => ⟨by rw [map3_eq]; exact block_inside _ (h _ _), .inl rfl⟩⟩

/-- The output's block is stored at every point. -/
theorem never_idle (pf : pre0.Contents (Elt F)) : idle0 pf 4 i = false := by
  show (!(k0_cond2 i (pf.atD 1 ![0]) == 1#1) && !(k0_cond3 i (pf.atD 1 ![0]) == 1#1)) = false
  generalize pf.atD 1 ![0] = v
  by_cases h : ((i 0).val : ℤ) < (show BitVec 32 from v).toInt
  · rw [(cond2_iff i v).mpr h]; rfl
  · rw [(cond3_iff i v).mpr (not_lt.mp h)]; simp

end Cert.Experts
-- ==== Proof.ExpertsBody.lean ====
/- The launch of the experts' kernel: the blocks, the invariant the grid carries, the body at every point, and the run
   from any memory whose table names experts. -/
module

public import proofs.«01_k».proof.Proof.ExpertsWords

@[expose] public section
set_option maxRecDepth 16384
noncomputable section
namespace Cert.Experts
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables of the launch -/

/-- The one core. -/
abbrev core : Thread nD τ := ((0 : Dev nD) : Thread nD τ)
/-- The expert of each block, and the number of used blocks, in the launch's memory. -/
abbrev tab0 : S272.Idx → BitVec 32 := m (core.loc main_arg0)
abbrev tab1 : S1.Idx → BitVec 32 := m (core.loc main_arg1)

/-- Both as the contents of the prefetched tables. -/
def tables : pre0.Contents (Elt F) := fun | ⟨0, _⟩ => tab0 m | ⟨1, _⟩ => tab1 m | ⟨_ + 2, h⟩ => absurd h (by simp)

variable (hn : Named (tab0 m))

/-- The pipeline at them. -/
def held : (pcfg0 (F := F)).Adm := ⟨tables m, blocks_ok (tables m) hn⟩
abbrev cfg : Pipeline.Cfg sig Λ₀ := cfg0 (F := F) (held m hn)
abbrev cfgs : Fin 1 → Pipeline.Cfg sig Λ₀ := Pipeline.pin (pcfgs (F := F)) fun _ => held m hn

/-- The coordinates of point `t`: its number. -/
abbrev crd (t : Fin (cfg m hn).N) : grid0.Coords := grid0.coords t
theorem crd_val : ∀ t : Fin grid0.N, (grid0.coords t 0).val = t.val := by decide +kernel
theorem point_lt (t : Fin (cfg m hn).N) : t.val < 272 := lt_of_lt_of_eq t.isLt N_0

/-- The windows' staging buffers at point `t`. -/
abbrev st0 (t : Fin (cfg m hn).N) : Memref sig .tc .vmem S512x1024 .f32 := spec0_0.stage ((cfg m hn).slots t (0 : Fin 5))
abbrev st1 (t : Fin (cfg m hn).N) : Memref sig .tc .vmem S1x1x1024x1024 .f32 := spec0_1.stage ((cfg m hn).slots t (1 : Fin 5))
abbrev st2 (t : Fin (cfg m hn).N) : Memref sig .tc .vmem S1x1x1024x1024 .f32 := spec0_2.stage ((cfg m hn).slots t (2 : Fin 5))
abbrev st3 (t : Fin (cfg m hn).N) : Memref sig .tc .vmem S1x1x1024x1024 .f32 := spec0_3.stage ((cfg m hn).slots t (3 : Fin 5))
abbrev st4 (t : Fin (cfg m hn).N) : Memref sig .tc .vmem S512x1024 .f32 := spec0_4.stage ((cfg m hn).slots t (4 : Fin 5))
abbrev ws0 (t : Fin (cfg m hn).N) : (st0 m hn t).IsWhole := hstage0_0 (((cfg m hn).slots t (0 : Fin 5)).cast nbuf0_0)
abbrev ws1 (t : Fin (cfg m hn).N) : (st1 m hn t).IsWhole := hstage0_1 (((cfg m hn).slots t (1 : Fin 5)).cast nbuf0_1)
abbrev ws2 (t : Fin (cfg m hn).N) : (st2 m hn t).IsWhole := hstage0_2 (((cfg m hn).slots t (2 : Fin 5)).cast nbuf0_2)
abbrev ws3 (t : Fin (cfg m hn).N) : (st3 m hn t).IsWhole := hstage0_3 (((cfg m hn).slots t (3 : Fin 5)).cast nbuf0_3)
abbrev ws4 (t : Fin (cfg m hn).N) : (st4 m hn t).IsWhole := hstage0_4 (((cfg m hn).slots t (4 : Fin 5)).cast nbuf0_4)

/-! ## The blocks -/

/-- Window `w`'s block at point `t`. -/
def blockAt (c : Dev nD) (w : Fin (cfg m hn).W) (t : Fin (cfg m hn).N) :
    (((cfg m hn).win w).xblock ((cfg m hn).grid.coords t)).Idx → Elt F ((cfg m hn).win w).elt :=
  (((cfg m hn).win w).blk t).view.read (Elt F) (m (((cfg m hn).win w).arr.view.loc (c : Thread nD τ)))

/-- The rows of block `t`, and the weights of its expert. -/
abbrev rowsAt (c : Dev nD) (t : Fin (cfg m hn).N) : Vec F S512x1024 .f32 := blockAt m hn c (0 : Fin 5) t
abbrev gateAt (c : Dev nD) (t : Fin (cfg m hn).N) : Vec F S1x1x1024x1024 .f32 := blockAt m hn c (1 : Fin 5) t
abbrev upAt (c : Dev nD) (t : Fin (cfg m hn).N) : Vec F S1x1x1024x1024 .f32 := blockAt m hn c (2 : Fin 5) t
abbrev downAt (c : Dev nD) (t : Fin (cfg m hn).N) : Vec F S1x1x1024x1024 .f32 := blockAt m hn c (3 : Fin 5) t

theorem index1 (t : Fin (cfg m hn).N) : ((cfg m hn).win (1 : Fin 5)).index t = ![0, (expertAt (tab0 m) t.val (point_lt m hn t)).toNat, 0, 0] := by
  refine (map1_eq (grid0.coords t) (tables m)).trans ?_
  have e := crd_val t
  simp only [e]; rfl
theorem index2 (t : Fin (cfg m hn).N) : ((cfg m hn).win (2 : Fin 5)).index t = ![0, (expertAt (tab0 m) t.val (point_lt m hn t)).toNat, 0, 0] := by
  refine (map2_eq (grid0.coords t) (tables m)).trans ?_
  have e := crd_val t
  simp only [e]; rfl
theorem index3 (t : Fin (cfg m hn).N) : ((cfg m hn).win (3 : Fin 5)).index t = ![0, (expertAt (tab0 m) t.val (point_lt m hn t)).toNat, 0, 0] := by
  refine (map3_eq (grid0.coords t) (tables m)).trans ?_
  have e := crd_val t
  simp only [e]; rfl

/-- The expert's number, as an index of the weights. -/
def expertIx (t : Fin (cfg m hn).N) : Fin 16 := ⟨(expertAt (tab0 m) t.val (point_lt m hn t)).toNat, hn _ _⟩

theorem emb_weights {off : Fin 4 → ℕ} {n : Fin 16} (h : off = ![0, n.val, 0, 0])
    (inb : ∀ a, (off a + 1) * S1x1x1024x1024.size a ≤ S2x16x1024x1024.size a) (y : S1x1x1024x1024.Idx) (e : Fin 4 → ℕ)
    (he : ∀ a, e a = off a * S1x1x1024x1024.size a + 1 * (y a).val) (a : Fin 4) :
    e a = ((ix4 0 n (y 2) (y 3) : S2x16x1024x1024.Idx) a).val := by
  subst h
  rw [he]
  match a with
  | ⟨0, _⟩ => show 0 * 1 + 1 * (y 0).val = 0; have : (y 0).val < 1 := (y 0).isLt; omega
  | ⟨1, _⟩ => show n.val * 1 + 1 * (y 1).val = n.val; have : (y 1).val < 1 := (y 1).isLt; omega
  | ⟨2, _⟩ => show 0 * 1024 + 1 * (y 2).val = (y 2).val; omega
  | ⟨3, _⟩ => show 0 * 1024 + 1 * (y 3).val = (y 3).val; omega

theorem gateAt_eq (c : Dev nD) (t : Fin (cfg m hn).N) (y : S1x1x1024x1024.Idx) :
    gateAt m hn c t y = (m ((c : Thread nD τ).loc main_arg3) : S2x16x1024x1024.Idx → Elt F .f32) (ix4 0 (expertIx m hn t) (y 2) (y 3)) := by
  refine congrArg (m ((c : Thread nD τ).loc main_arg3) : S2x16x1024x1024.Idx → Elt F .f32) ?_
  funext a; apply Fin.ext
  exact emb_weights (index1 m hn t) (fun a => by rw [index1]; exact block_inside _ (hn _ _) a) y _ (fun _ => rfl) a

theorem upAt_eq (c : Dev nD) (t : Fin (cfg m hn).N) (y : S1x1x1024x1024.Idx) :
    upAt m hn c t y = (m ((c : Thread nD τ).loc main_arg4) : S2x16x1024x1024.Idx → Elt F .f32) (ix4 0 (expertIx m hn t) (y 2) (y 3)) := by
  refine congrArg (m ((c : Thread nD τ).loc main_arg4) : S2x16x1024x1024.Idx → Elt F .f32) ?_
  funext a; apply Fin.ext
  exact emb_weights (index2 m hn t) (fun a => by rw [index2]; exact block_inside _ (hn _ _) a) y _ (fun _ => rfl) a

theorem downAt_eq (c : Dev nD) (t : Fin (cfg m hn).N) (y : S1x1x1024x1024.Idx) :
    downAt m hn c t y = (m ((c : Thread nD τ).loc main_arg5) : S2x16x1024x1024.Idx → Elt F .f32) (ix4 0 (expertIx m hn t) (y 2) (y 3)) := by
  refine congrArg (m ((c : Thread nD τ).loc main_arg5) : S2x16x1024x1024.Idx → Elt F .f32) ?_
  funext a; apply Fin.ext
  exact emb_weights (index3 m hn t) (fun a => by rw [index3]; exact block_inside _ (hn _ _) a) y _ (fun _ => rfl) a

/-- Two blocks of one expert have the same weights. -/
theorem same_expert (t t' : Fin (cfg m hn).N)
    (h : expertAt (tab0 m) t.val (point_lt m hn t) = expertAt (tab0 m) t'.val (point_lt m hn t')) : expertIx m hn t = expertIx m hn t' :=
  Fin.ext (by
    show (expertAt (tab0 m) t.val (point_lt m hn t)).toNat = (expertAt (tab0 m) t'.val (point_lt m hn t')).toNat
    rw [h])
theorem gateAt_same (c : Dev nD) (t t' : Fin (cfg m hn).N) (h : expertIx m hn t = expertIx m hn t') : gateAt m hn c t = gateAt m hn c t' := by
  funext y; rw [gateAt_eq, gateAt_eq, h]
theorem upAt_same (c : Dev nD) (t t' : Fin (cfg m hn).N) (h : expertIx m hn t = expertIx m hn t') : upAt m hn c t = upAt m hn c t' := by
  funext y; rw [upAt_eq, upAt_eq, h]
theorem downAt_same (c : Dev nD) (t t' : Fin (cfg m hn).N) (h : expertIx m hn t = expertIx m hn t') : downAt m hn c t = downAt m hn c t' := by
  funext y; rw [downAt_eq, downAt_eq, h]

/-! ## What the output holds, and the invariant -/

open Classical in
/-- What a point leaves in the output's block: the used blocks' computation, zeros in the others. -/
def leaves (c : Dev nD) (t : Fin (cfg m hn).N) : Vec F S512x1024 .f32 :=
  if Used (tab1 m) t.val then
    outputOf (rowsAt m hn c t) (k0_pay1 (gateAt m hn c t)) (k0_pay2 (upAt m hn c t)) (k0_pay3 (downAt m hn c t))
  else k0_pay8

/-- Before position `n` the scratch buffers of weights hold those of the block before, rounded, if it was used. -/
def Carried (c : Dev nD) (n : ℕ) (g u d : Vec F S1024x1024 .bf16) : Prop :=
  ∀ t : Fin (cfg m hn).N, t.val + 1 = n → Used (tab1 m) t.val →
    g = k0_pay1 (gateAt m hn c t) ∧ u = k0_pay2 (upAt m hn c t) ∧ d = k0_pay3 (downAt m hn c t)

/-- What the grid carries: the scratch buffers, and the core's halves of the tables. -/
def Inv (c : Dev nD) (n : ℕ) : sProp 𝕄 :=
  iprop((∃ f, hidden.view.loc (c : Thread nD τ) ↦{fullShare} f)
    ∗ (∃ a1 a2 a3, ⌜Carried m hn c n (gateCache.view.read (Elt F) a1) (upCache.view.read (Elt F) a2) (downCache.view.read (Elt F) a3)⌝
        ∗ (gateCache.view.loc (c : Thread nD τ) ↦{fullShare} a1)
        ∗ (upCache.view.loc (c : Thread nD τ) ↦{fullShare} a2)
        ∗ (downCache.view.loc (c : Thread nD τ) ↦{fullShare} a3))
    ∗ (experts.view.loc (c : Thread nD τ) ↦{fullShare.right} tab0 m)
    ∗ (count.view.loc (c : Thread nD τ) ↦{fullShare.right} tab1 m))

/-- The pipeline's proof data. -/
def dats (_ : Fin 1) (c : Dev nD) : Dat τ (Elt F) Unit ℕ (UR sig nD τ) ℕ (cfg m hn) c where
  A w := m (((cfg m hn).win w).arr.view.loc (c : Thread nD τ))
  after w t := match w with
    | ⟨0, _⟩ => blockAt m hn c (0 : Fin 5) t
    | ⟨1, _⟩ => blockAt m hn c (1 : Fin 5) t
    | ⟨2, _⟩ => blockAt m hn c (2 : Fin 5) t
    | ⟨3, _⟩ => blockAt m hn c (3 : Fin 5) t
    | ⟨4, _⟩ => leaves m hn c t
  Φ t := Inv m hn c t.val
  q _ := fullShare
  owed _ := 0

theorem after_out (c : Dev nD) (t : Fin (cfg m hn).N) : (dats m hn 0 c).after (4 : Fin 5) t = leaves m hn c t := rfl

theorem before0 (c : Dev nD) (t : Fin (cfg m hn).N) (d) : (dats m hn 0 c).before (0 : Fin 5) t d = blockAt m hn c (0 : Fin 5) t :=
  ((dats m hn 0 c).before_in_eq_fetched (0 : Fin 5) rfl (fun _ => rfl) (fun _ _ _ => rfl)
    (fun t => by show blockAt m hn c (0 : Fin 5) t = _; unfold Dat.blockOf blockAt; rfl) t d).trans (by unfold Dat.fetched Dat.blockOf blockAt; rfl)

theorem before1 (c : Dev nD) (t : Fin (cfg m hn).N) (d) : (dats m hn 0 c).before (1 : Fin 5) t d = blockAt m hn c (1 : Fin 5) t :=
  ((dats m hn 0 c).before_in_eq_fetched (1 : Fin 5) rfl (fun _ => rfl) (fun _ _ _ => rfl)
    (fun t => by show blockAt m hn c (1 : Fin 5) t = _; unfold Dat.blockOf blockAt; rfl) t d).trans (by unfold Dat.fetched Dat.blockOf blockAt; rfl)

theorem before2 (c : Dev nD) (t : Fin (cfg m hn).N) (d) : (dats m hn 0 c).before (2 : Fin 5) t d = blockAt m hn c (2 : Fin 5) t :=
  ((dats m hn 0 c).before_in_eq_fetched (2 : Fin 5) rfl (fun _ => rfl) (fun _ _ _ => rfl)
    (fun t => by show blockAt m hn c (2 : Fin 5) t = _; unfold Dat.blockOf blockAt; rfl) t d).trans (by unfold Dat.fetched Dat.blockOf blockAt; rfl)

theorem before3 (c : Dev nD) (t : Fin (cfg m hn).N) (d) : (dats m hn 0 c).before (3 : Fin 5) t d = blockAt m hn c (3 : Fin 5) t :=
  ((dats m hn 0 c).before_in_eq_fetched (3 : Fin 5) rfl (fun _ => rfl) (fun _ _ _ => rfl)
    (fun t => by show blockAt m hn c (3 : Fin 5) t = _; unfold Dat.blockOf blockAt; rfl) t d).trans (by unfold Dat.fetched Dat.blockOf blockAt; rfl)

/-! ## The body at a point -/

theorem carried_here (c : Dev nD) (t : Fin (cfg m hn).N) (g u d : Vec F S1024x1024 .bf16) (hg : g = k0_pay1 (gateAt m hn c t))
    (hu : u = k0_pay2 (upAt m hn c t)) (hd : d = k0_pay3 (downAt m hn c t)) : Carried m hn c (t.val + 1) g u d := by
  intro t' h' _
  have e : t' = t := Fin.ext (by omega)
  subst e
  exact ⟨hg, hu, hd⟩

/-- At a used block that does not refresh, the scratch buffers hold this block's weights. -/
theorem carried_over (c : Dev nD) (t : Fin (cfg m hn).N) (g u d : Vec F S1024x1024 .bf16) (h : Carried m hn c t.val g u d)
    (hr : ¬ refresh (F := F) (tab0 m) (tab1 m) (crd m hn t)) (hu : Used (tab1 m) t.val) :
    g = k0_pay1 (gateAt m hn c t) ∧ u = k0_pay2 (upAt m hn c t) ∧ d = k0_pay3 (downAt m hn c t) := by
  rw [refresh_iff] at hr
  have ev := crd_val t
  simp only [ev] at hr
  have h0 : t.val ≠ 0 := fun h0 => hr ⟨hu, .inl h0⟩
  have he : expertAt (tab0 m) t.val (point_lt m hn t) = expertAt (tab0 m) (t.val - 1) (by have := point_lt m hn t; omega) :=
    Classical.byContradiction fun hne => hr ⟨hu, .inr hne⟩
  have hs := same_expert m hn t ⟨t.val - 1, by have := t.isLt; omega⟩ he
  obtain ⟨h1, h2, h3⟩ := h ⟨t.val - 1, by have := t.isLt; omega⟩ (by show t.val - 1 + 1 = t.val; omega)
    (Used.pred (by rw [show t.val - 1 + 1 = t.val by omega]; exact hu))
  exact ⟨h1.trans (congrArg k0_pay1 (gateAt_same m hn c _ _ hs).symm), h2.trans (congrArg k0_pay2 (upAt_same m hn c _ _ hs).symm),
    h3.trans (congrArg k0_pay3 (downAt_same m hn c _ _ hs).symm)⟩

theorem not_carried (c : Dev nD) (t : Fin (cfg m hn).N) (g u d : Vec F S1024x1024 .bf16) (h : ¬ Used (tab1 m) t.val) :
    Carried m hn c (t.val + 1) g u d := by
  intro t' h' hu
  have e : t' = t := Fin.ext (by omega)
  subst e
  exact absurd hu h

/-- What the body finds … -/
def Before (c : Dev nD) (t : Fin (cfg m hn).N) : sProp 𝕄 :=
  iprop(Inv m hn c t.val ∗ (dats m hn 0 c).owesAt () t.castSucc
    ∗ (∃ d : Unit, owns (c : Thread nD τ) (st0 m hn t) fullShare (rowsAt m hn c t))
    ∗ (∃ d : Unit, owns (c : Thread nD τ) (st1 m hn t) fullShare (gateAt m hn c t))
    ∗ (∃ d : Unit, owns (c : Thread nD τ) (st2 m hn t) fullShare (upAt m hn c t))
    ∗ (∃ d : Unit, owns (c : Thread nD τ) (st3 m hn t) fullShare (downAt m hn c t))
    ∗ (∃ d, owns (c : Thread nD τ) (st4 m hn t) fullShare d))
/-- … and leaves. -/
def After (c : Dev nD) (t : Fin (cfg m hn).N) : sProp 𝕄 :=
  iprop(Inv m hn c (t.val + 1) ∗ (dats m hn 0 c).owesAt () t.castSucc
    ∗ owns (c : Thread nD τ) (st0 m hn t) fullShare (rowsAt m hn c t)
    ∗ owns (c : Thread nD τ) (st1 m hn t) fullShare (gateAt m hn c t)
    ∗ owns (c : Thread nD τ) (st2 m hn t) fullShare (upAt m hn c t)
    ∗ owns (c : Thread nD τ) (st3 m hn t) fullShare (downAt m hn c t)
    ∗ owns (c : Thread nD τ) (st4 m hn t) fullShare (leaves m hn c t))

set_option maxHeartbeats 4000000 in
/-- The body, on each of its three paths. -/
theorem body_point (c : Dev nD) (t : Fin (cfg m hn).N) :
    Before m hn c t ⊢ wp frame (wpE (defs₀ (F := F)) Variants.none c none) Set.univ
      (cc0_moe_ffn (crd m hn t) experts (Memref.isWhole_whole _) count (Memref.isWhole_whole _) (st0 m hn t) (ws0 m hn t) (st1 m hn t) (ws1 m hn t)
        (st2 m hn t) (ws2 m hn t) (st3 m hn t) (ws3 m hn t) (st4 m hn t) (ws4 m hn t) hidden (Memref.isWhole_whole _) gateCache (Memref.isWhole_whole _)
        upCache (Memref.isWhole_whole _) downCache (Memref.isWhole_whole _)) (fun _ => After m hn c t) := by
  have ev := crd_val t
  unfold Before After Inv
  by_cases hu : Used (tab1 m) t.val
  · have hc2 : k0_cond2 (crd m hn t) (usedWord (F := F) (tab1 m)) = 1#1 := (used_cond2 _ _).mpr (by rw [ev]; exact hu)
    have hc3 : ¬ k0_cond3 (crd m hn t) (usedWord (F := F) (tab1 m)) = 1#1 := fun h => (used_cond3 _ _).mp h (by rw [ev]; exact hu)
    have el : leaves m hn c t = outputOf (rowsAt m hn c t) (k0_pay1 (gateAt m hn c t)) (k0_pay2 (upAt m hn c t)) (k0_pay3 (downAt m hn c t)) := if_pos hu
    rw [el]
    by_cases hr : refresh (F := F) (tab0 m) (tab1 m) (crd m hn t)
    · skip
      iintro ⟨⟨⟨%a0, HS0⟩, ⟨%a1, %a2, %a3, %hc, HS1, HS2, HS3⟩, HT0, HT1⟩, Ho, ⟨%d0, H0⟩, ⟨%d1, H1⟩, ⟨%d2, H2⟩, ⟨%d3, H3⟩, ⟨%d4, H4⟩⟩
      iapply (run_refresh c (crd m hn t) (st0 m hn t) (ws0 m hn t) (st1 m hn t) (ws1 m hn t) (st2 m hn t) (ws2 m hn t) (st3 m hn t) (ws3 m hn t)
        (st4 m hn t) (ws4 m hn t) (tab0 m) (tab1 m) (rowsAt m hn c t) (gateAt m hn c t) (upAt m hn c t) (downAt m hn c t) hr hc2 hc3 a0 a1 a2 a3 _)
      isplitl [H0 H1 H2 H3 HT0 HT1]
      · unfold windows
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      isplitl [HS2]; · iexact HS2
      isplitl [HS3]; · iexact HS3
      unfold windows
      iintro ⟨⟨H0, H1, H2, H3, HT0, HT1⟩, H4, HS0, ⟨%b1, %hg, HS1⟩, ⟨%b2, %hv, HS2⟩, ⟨%b3, %hd, HS3⟩⟩
      isplitl [HS0 HS1 HS2 HS3 HT0 HT1]
      · isplitl [HS0]; · iexact HS0
        isplitl [HS1 HS2 HS3]
        · iexists _, _, _; isplitr; swap
          · isplitl [HS1]; · iexact HS1
            isplitl [HS2]; · iexact HS2
            iexact HS3
          · ipureintro; exact carried_here m hn c t _ _ _ hg hv hd
        isplitl [HT0]; · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
    · skip
      iintro ⟨⟨⟨%a0, HS0⟩, ⟨%a1, %a2, %a3, %hc, HS1, HS2, HS3⟩, HT0, HT1⟩, Ho, ⟨%d0, H0⟩, ⟨%d1, H1⟩, ⟨%d2, H2⟩, ⟨%d3, H3⟩, ⟨%d4, H4⟩⟩
      obtain ⟨hg, hv, hd⟩ := carried_over m hn c t _ _ _ hc hr hu
      rw [← hg, ← hv, ← hd]
      iapply (run_carry c (crd m hn t) (st0 m hn t) (ws0 m hn t) (st1 m hn t) (ws1 m hn t) (st2 m hn t) (ws2 m hn t) (st3 m hn t) (ws3 m hn t)
        (st4 m hn t) (ws4 m hn t) (tab0 m) (tab1 m) (rowsAt m hn c t) (gateAt m hn c t) (upAt m hn c t) (downAt m hn c t) hr hc2 hc3 a0 a1 a2 a3 _)
      isplitl [H0 H1 H2 H3 HT0 HT1]
      · unfold windows
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      isplitl [HS2]; · iexact HS2
      isplitl [HS3]; · iexact HS3
      unfold windows
      iintro ⟨⟨H0, H1, H2, H3, HT0, HT1⟩, H4, HS0, HS1, HS2, HS3⟩
      isplitl [HS0 HS1 HS2 HS3 HT0 HT1]
      · isplitl [HS0]; · iexact HS0
        isplitl [HS1 HS2 HS3]
        · iexists _, _, _; isplitr; swap
          · isplitl [HS1]; · iexact HS1
            isplitl [HS2]; · iexact HS2
            iexact HS3
          · ipureintro; exact carried_here m hn c t _ _ _ hg hv hd
        isplitl [HT0]; · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
  · have hc2 : ¬ k0_cond2 (crd m hn t) (usedWord (F := F) (tab1 m)) = 1#1 := fun h => hu (by have := (used_cond2 _ _).mp h; rw [ev] at this; exact this)
    have hc3 : k0_cond3 (crd m hn t) (usedWord (F := F) (tab1 m)) = 1#1 := (used_cond3 _ _).mpr (by rw [ev]; exact hu)
    have hr : ¬ refresh (F := F) (tab0 m) (tab1 m) (crd m hn t) := fun h => hu (by have := ((refresh_iff _ _ _).mp h).1; rw [ev] at this; exact this)
    have el : leaves m hn c t = k0_pay8 := if_neg hu
    rw [el]
    iintro ⟨⟨⟨%a0, HS0⟩, ⟨%a1, %a2, %a3, %hc, HS1, HS2, HS3⟩, HT0, HT1⟩, Ho, ⟨%d0, H0⟩, ⟨%d1, H1⟩, ⟨%d2, H2⟩, ⟨%d3, H3⟩, ⟨%d4, H4⟩⟩
    iapply (run_unused c (crd m hn t) (st0 m hn t) (ws0 m hn t) (st1 m hn t) (ws1 m hn t) (st2 m hn t) (ws2 m hn t) (st3 m hn t) (ws3 m hn t)
      (st4 m hn t) (ws4 m hn t) (tab0 m) (tab1 m) (rowsAt m hn c t) (gateAt m hn c t) (upAt m hn c t) (downAt m hn c t) hr hc2 hc3 a0 a1 a2 a3 _)
    isplitl [H0 H1 H2 H3 HT0 HT1]
    · unfold windows
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS0]; · iexact HS0
    isplitl [HS1]; · iexact HS1
    isplitl [HS2]; · iexact HS2
    isplitl [HS3]; · iexact HS3
    unfold windows
    iintro ⟨⟨H0, H1, H2, H3, HT0, HT1⟩, H4, HS0, HS1, HS2, HS3⟩
    isplitl [HS0 HS1 HS2 HS3 HT0 HT1]
    · isplitl [HS0]; · iexact HS0
      isplitl [HS1 HS2 HS3]
      · iexists _, _, _; isplitr; swap
        · isplitl [HS1]; · iexact HS1
          isplitl [HS2]; · iexact HS2
          iexact HS3
        · ipureintro; exact not_carried m hn c t _ _ _ hu
      isplitl [HT0]; · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexact H4

end Cert.Experts
-- ==== Proof.ExpertsLaunch.lean ====
/- The run of the experts' kernel from a memory whose table names experts: it ends with the arguments as they were, the
   counters at zero and the result at what the pipeline's points leave. -/
module

public import proofs.«01_k».proof.Proof.ExpertsBody

@[expose] public section
set_option maxRecDepth 16384
noncomputable section
namespace Cert.Experts
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hn : Named (tab0 m))

/-- The output is never idle, at any point. -/
theorem idle_out (t : Fin (cfg m hn).N) : (cfg m hn).idle (4 : Fin 5) ((cfg m hn).grid.coords t) = false :=
  never_idle (grid0.coords t) (tables m)

set_option maxHeartbeats 4000000 in
/-- The obligation of the body at every point. -/
theorem obligation (c : Dev nD) : BodyObligation (dats m hn 0 c) (defs₀ (F := F)) Variants.none () Set.univ := fun t => by
  rw [bigSep_W0, bigSep_W0]
  rewrite [idle_out m hn t]
  refine BIBase.Entails.trans ?_ ((body_point m hn c t).trans ?_)
  · unfold Before
    simp only [before0, before1, before2, before3]
    rewrite [show (dats m hn 0 c).Φ t.castSucc = Inv m hn c t.val from rfl]
    iintro ⟨HI, Ho, ⟨%d0, H0⟩, ⟨%d1, H1⟩, ⟨%d2, H2⟩, ⟨%d3, H3⟩, ⟨%d4, H4⟩⟩
    isplitl [HI]; · iexact HI
    isplitl [Ho]; · iexact Ho
    isplitl [H0]; · iexists (); iexact H0
    isplitl [H1]; · iexists (); iexact H1
    isplitl [H2]; · iexists (); iexact H2
    isplitl [H3]; · iexists (); iexact H3
    iexists _; iexact H4
  · exact .rfl

/-! ## The launch -/

abbrev place : Emb (UR sig nD τ) 𝕄 := emb₁

/-- The staging cells' first element. -/
def start : UR sig nD τ :=
  initOf (Pipeline.cells (cfgs m hn) ((launch0 (F := F)).cellOf_inj fun _ => held m hn))
    (Pipeline.launchToks (cfgs m hn) ((launch0 (F := F)).cellOf_inj fun _ => held m hn))

theorem full_share (c : Dev nD) (w : Fin (cfg m hn).W) : (dats m hn 0 c).share w = fullShare := by
  unfold Dat.share; split <;> rfl

/-- The tables as the launch hands them over, one by one. -/
theorem tables_split (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds at first … -/
theorem inv_first (c : Dev nD) :
    iprop(BI.emp ∗ Pipeline.prefHeld pre0 c (fun _ => fullShare.right) (held m hn).1 ∗ Pipeline.scopedRest spec0 c) ⊢ (dats m hn 0 c).Φ 0 := by
  rw [tables_split, scopedRest0_eq, show (dats m hn 0 c).Φ 0 = Inv m hn c 0 from rfl]
  unfold Inv
  iintro ⟨-, ⟨HT0, HT1⟩, HS0, ⟨%a1, HS1⟩, ⟨%a2, HS2⟩, ⟨%a3, HS3⟩⟩
  isplitl [HS0]; · iexact HS0
  isplitl [HS1 HS2 HS3]
  · iexists a1, a2, a3; isplitr; swap
    · isplitl [HS1]; · iexact HS1
      isplitl [HS2]; · iexact HS2
      iexact HS3
    · ipureintro; intro t h; exact absurd h (Nat.succ_ne_zero _)
  isplitl [HT0]; · iexact HT0
  iexact HT1

/-- … and gives the scratch buffers back at last. -/
theorem inv_last (c : Dev nD) : (dats m hn 0 c).Φ (Fin.last (cfg m hn).N) ⊢ iprop(BI.emp ∗ Pipeline.scopedRest spec0 c) := by
  rw [scopedRest0_eq, show (dats m hn 0 c).Φ (Fin.last (cfg m hn).N) = Inv m hn c (cfg m hn).N from rfl]
  unfold Inv
  iintro ⟨HS0, ⟨%a1, %a2, %a3, -, HS1, HS2, HS3⟩, -, -⟩
  isplitr; · iempintro
  isplitl [HS0]; · iexact HS0
  isplitl [HS1]; · iexists a1; iexact HS1
  isplitl [HS2]; · iexists a2; iexact HS2
  iexists a3; iexact HS3

/-- Every array at what the pipeline's points leave, every table as it was. -/
def Ends : PUnit × MemSt nD τ sig (Elt F) → Prop := fun r =>
  ∀ c : Dev nD, (∀ w : Fin (cfg m hn).W, r.2.mem (((cfg m hn).win w).arr.view.loc (c : Thread nD τ)) = (dats m hn 0 c).arrAt w (cfg m hn).N)
    ∧ ∀ j, r.2.mem ((c : Thread nD τ).loc (pre0.ref j)) = (held m hn).1 j

theorem one_core (c : Dev nD) : c = 0 := Subsingleton.elim c 0

theorem tables_held (c : Dev nD) (j : Fin 2) : m ((c : Thread nD τ).loc (pre0.ref j)) = (held m hn).1 j := by
  rw [one_core c]
  match j with
  | ⟨0, _⟩ => rfl
  | ⟨1, _⟩ => rfl

set_option backward.isDefEq.respectTransparency.types false in
set_option maxHeartbeats 4000000 in
theorem run_quiet : θ_run (defs (F := F)) (onTc (τ := τ) (main (F := F))) (s₀ m ρ) (fun r => Ends m hn r ∧ r.2.sem = fun _ => 0) :=
  Pipeline.θ_run_region_noSem_pf_quiescent pcfgs (fun _ => held m hn) (dats m hn) () ((launch0 (F := F)).cellOf_inj fun _ => held m hn) (0 : Fin 1)
    (launch0 (F := F)).win.to₀ (launch0 (F := F)).pre place defs₀ Variants.none m ρ main
    (hbody := fun c => (obligation m hn c).loose) (hne := (launch0 (F := F)).block_pos)
    (harr := (launch0 (F := F)).arr_whole) (hstage := (launch0 (F := F)).stage_whole) (howed := fun _ _ => rfl)
    (u₀ := start m hn) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (cfgs m hn) (dats m hn) 0 (launch0 (F := F)).win.arr_inj c (launch0 (F := F)).arr_whole
      (full_share m hn c) _ _ fun _ => rfl)
    (hpf := tables_held m hn)
    (X := fun _ => iprop(emp)) (Y := fun _ => iprop(emp)) (Z := fun _ => iprop(emp))
    (hX := fun c => by rw [unscopedRestP0_eq]; iintro -; isplitr <;> iempintro)
    (hin := inv_first m hn)
    (hout := inv_last m hn)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves, at the arguments. -/
theorem args_kept (r : PUnit × MemSt nD τ sig (Elt F)) (h : Ends m hn r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (tables_held m hn c 0).symm, ((h c).2 1).trans (tables_held m hn c 1).symm,
    ((h c).1 (0 : Fin 5)).trans ((dats m hn 0 c).arrAt_in (0 : Fin 5) rfl _),
    ((h c).1 (1 : Fin 5)).trans ((dats m hn 0 c).arrAt_in (1 : Fin 5) rfl _),
    ((h c).1 (2 : Fin 5)).trans ((dats m hn 0 c).arrAt_in (2 : Fin 5) rfl _),
    ((h c).1 (3 : Fin 5)).trans ((dats m hn 0 c).arrAt_in (3 : Fin 5) rfl _)⟩

include hn in
/-- The frame: the run ends, the arguments as they were and every counter at zero. -/
theorem run_frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m hn _ h.1, h.2⟩) (run_quiet m ρ hn)

/-- The result, and the arguments as they were. -/
theorem run_result :
    θ_run (defs (F := F)) (onTc (τ := τ) (main (F := F))) ⟨m, fun _ => 0, ρ⟩ (fun r => ∀ c : Dev nD,
      r.2.mem ((c.tc : Thread nD τ).loc main_v0) = (dats m hn 0 c).arrAt (4 : Fin 5) (cfg m hn).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 (4 : Fin 5), (args_kept m hn _ h.1) c⟩) (run_quiet m ρ hn)

end Cert.Experts
-- ==== Proof.ColumnBlocks.lean ====
/- A buffer of `R` rows that is written by stores of `W` columns each, side by side. -/
module

public import Idealize.ShloMosaic.Lib.Pointwise
public import Idealize.ShloMosaic.Lib.Pipeline.FrameBody

@[expose] public section
noncomputable section
namespace Cert.Columns
open Idealize.ShloMosaic Idealize.ShloMosaic.TcCoe Idealize.ShloMosaic.Tactic

variable {F : FTy → Type} [FloatOps F] {R N W n : ℕ} {e : EltTy}

/-- Columns `W h` up to `W h + W`, as a rectangle. -/
abbrev colRect (inb : ∀ (h : Fin n) (a : Fin 2), (![0, W * h.val] : Fin 2 → ℕ) a + (![R, W] : Fin 2 → ℕ) a ≤ (![R, N] : Fin 2 → ℕ) a)
    (h : Fin n) : Rect (⟨2, ![R, N]⟩ : Shape) :=
  Rect.unit (s := ⟨2, ![R, N]⟩) ![0, W * h.val] ![R, W] (inb h)

/-- The store of column block `h`. -/
abbrev colPiece (inb : ∀ (h : Fin n) (a : Fin 2), (![0, W * h.val] : Fin 2 → ℕ) a + (![R, W] : Fin 2 → ℕ) a ≤ (![R, N] : Fin 2 → ℕ) a)
    (pay : Fin n → Vec F ⟨2, ![R, W]⟩ e) (h : Fin n) : View.Piece (Elt F) (⟨2, ![R, N]⟩ : Shape) e :=
  ⟨colRect inb h, pay h⟩

/-- What such stores leave at column `W h + d`: column `d` of block `h`'s value. -/
theorem canon_columns (inb : ∀ (h : Fin n) (a : Fin 2), (![0, W * h.val] : Fin 2 → ℕ) a + (![R, W] : Fin 2 → ℕ) a ≤ (![R, N] : Fin 2 → ℕ) a)
    (pay : Fin n → Vec F ⟨2, ![R, W]⟩ e) (l : List (Fin n)) (h : Fin n) (hm : h ∈ l) (r : Fin R) (d : Fin W) (w : Fin N)
    (hw : w.val = W * h.val + d.val) :
    View.canon (l.map (colPiece inb pay)) (ix2 r w : (⟨2, ![R, N]⟩ : Shape).Idx) = pay h (ix2 r d) := by
  induction l with
  | nil => exact absurd hm List.not_mem_nil
  | cons j l ih =>
    rw [List.map_cons]
    by_cases hj : j = h
    · subst hj
      have e0 : ((colRect inb j).emb (ix2 r d : (colRect inb j).shape.Idx) : (⟨2, ![R, N]⟩ : Shape).Idx) = ix2 r w := by
        funext ax; apply Fin.ext
        match ax with
        | ⟨0, _⟩ => show 0 + 1 * r.val = r.val; omega
        | ⟨1, _⟩ => show W * j.val + 1 * d.val = w.val; omega
      rw [← e0]
      exact View.canon_cons_emb (colRect inb j) _ _ _
    · rw [View.canon_cons_of_not_mem]
      · exact ih ((List.mem_cons.mp hm).resolve_left (fun e => hj e.symm))
      · intro hm
        have hm : (ix2 r w : (⟨2, ![R, N]⟩ : Shape).Idx) ∈ (colRect inb j).set := hm
        rw [Rect.mem_set_unit] at hm
        have h2 : W * j.val ≤ w.val ∧ w.val < W * j.val + W := hm 1
        have hd := d.isLt
        rcases Nat.lt_trichotomy j.val h.val with hl | he | hl
        · have : W * (j.val + 1) ≤ W * h.val := Nat.mul_le_mul_left W hl
          rw [Nat.mul_add, Nat.mul_one] at this; omega
        · exact hj (Fin.ext he)
        · have : W * (h.val + 1) ≤ W * j.val := Nat.mul_le_mul_left W hl
          rw [Nat.mul_add, Nat.mul_one] at this; omega

end Cert.Columns
-- ==== Proof.ExpertsBlock.lean ====
/- One block of the experts' kernel, at an index: the two halves of the hidden layer, and the output. -/
module

public import proofs.«01_k».proof.Proof.ColumnBlocks
public import proofs.«01_k».proof.Proof.ExpertsRun

@[expose] public section
set_option maxRecDepth 16384
noncomputable section
namespace Cert.Experts
open Cert.Kernel3Ideal Cert.Kernel3Ideal.Gen
open Idealize.ShloMosaic Idealize.ShloMosaic.TcCoe Idealize.ShloMosaic.Tactic Cert.Columns

section Generic
variable {F : FTy → Type} [FloatOps F]

theorem inb_weights (h : Fin 2) (a : Fin 2) :
    (![0, 512 * h.val] : Fin 2 → ℕ) a + (![1024, 512] : Fin 2 → ℕ) a ≤ (![1024, 1024] : Fin 2 → ℕ) a := by revert h a; decide
theorem inb_hidden (h : Fin 2) (a : Fin 2) :
    (![0, 512 * h.val] : Fin 2 → ℕ) a + (![512, 512] : Fin 2 → ℕ) a ≤ (![512, 1024] : Fin 2 → ℕ) a := by revert h a; decide

/-- Columns `512 h` up to `512 h + 512` of a weight matrix. -/
abbrev halfRect (h : Fin 2) : Rect S1024x1024 := Rect.unit (s := S1024x1024) ![0, 512 * h.val] ![1024, 512] (inb_weights h)

/-- Half `h` of the hidden layer. -/
def halfOf (x : Vec F S512x1024 .f32) (g u : Vec F S1024x1024 .bf16) (h : Fin 2) : FVec F S512x512 .bf16 :=
  k0_pay5 x (View.ld g (halfRect h)) (View.ld u (halfRect h))

theorem hidden_halves (x : Vec F S512x1024 .f32) (g u : Vec F S1024x1024 .bf16) :
    hiddenOf x g u = View.canon (([1, 0] : List (Fin 2)).map (colPiece inb_hidden (halfOf x g u))) := by
  unfold hiddenOf
  rfl

theorem mem_half (h : Fin 2) : h ∈ ([1, 0] : List (Fin 2)) := by revert h; decide

end Generic

variable (x : Vec Ideal S512x1024 .f32) (g u d : Vec Ideal S1024x1024 .bf16)

/-- A row of the block against a column of a rounded matrix. -/
def dotE (g : Vec Ideal S1024x1024 .bf16) (r : Fin 512) (f : Fin 1024) : EReal := ∑ k : Fin 1024, (x (ix2 r k) * g (ix2 k f) : EReal)

theorem half_read (h : Fin 2) (r : Fin 512) (j : Fin 512) (f : Fin 1024) (hf : f.val = 512 * h.val + j.val) :
    halfOf x g u h (ix2 r j) = dotE x g r f * Ideal.logistic (dotE x g r f) * dotE x u r f := by
  have key (w : Vec Ideal S1024x1024 .bf16) :
      matmul (F := Ideal) (φ₁ := .bf16) (φ₂ := .bf16) dot_S512x1024_S1024x512_S512x512_1_0_0_1_n_n none (k0_pay4 x) (View.ld w (halfRect h)) (constant S512x512 .f32 0x00000000#32) (ix2 r j)
        = dotE x w r f := by
    pointwise [k0_pay4, dotE]
    refine Finset.sum_congr rfl fun k _ => ?_
    exact congrArg (fun i => (x (ix2 r k) * w (ix2 k i) : EReal)) (Fin.ext (by show 512 * h.val + j.val = f.val; omega))
  rw [← key g, ← key u]
  pointwise [halfOf, k0_pay5]

theorem hidden_read (r : Fin 512) (f : Fin 1024) :
    hiddenOf x g u (ix2 r f) = (dotE x g r f * Ideal.logistic (dotE x g r f) * dotE x u r f : EReal) := by
  rw [hidden_halves]
  exact (canon_columns inb_hidden _ _ ⟨f.val / 512, by omega⟩ (mem_half _) r ⟨f.val % 512, by omega⟩ f
    (by show f.val = 512 * (f.val / 512) + f.val % 512; omega)).trans
    (half_read x g u _ r _ f (by show f.val = 512 * (f.val / 512) + f.val % 512; omega))

theorem block_read (r : Fin 512) (w : Fin 1024) :
    outputOf x g u d (ix2 r w)
      = (∑ f : Fin 1024, (dotE x g r f * Ideal.logistic (dotE x g r f) * dotE x u r f) * (d (ix2 f w) : EReal) : EReal) := by
  unfold outputOf
  have e : k0_pay7 (hiddenOf x g u) d (ix2 r w) = (∑ f : Fin 1024, (hiddenOf x g u (ix2 r f) * d (ix2 f w) : EReal) : EReal) := by
    generalize hiddenOf x g u = H
    pointwise [k0_pay7]
  rw [e]
  exact Finset.sum_congr rfl fun f _ => congrArg (fun z : EReal => z * (d (ix2 f w) : EReal)) (hidden_read x g u r f)

/-- The rounded weights are the weights: the cast is the identity here. -/
theorem pay1_read (v : Vec Ideal S1x1x1024x1024 .f32) (k f : Fin 1024) : k0_pay1 v (ix2 k f) = v (ix4 0 0 k f) := by
  pointwise [k0_pay1]
theorem pay2_read (v : Vec Ideal S1x1x1024x1024 .f32) (k f : Fin 1024) : k0_pay2 v (ix2 k f) = v (ix4 0 0 k f) := by
  pointwise [k0_pay2]
theorem pay3_read (v : Vec Ideal S1x1x1024x1024 .f32) (k f : Fin 1024) : k0_pay3 v (ix2 k f) = v (ix4 0 0 k f) := by
  pointwise [k0_pay3]
theorem pay8_read (r : Fin 512) (w : Fin 1024) : (k0_pay8 (F := Ideal) (ix2 r w) : EReal) = 0 := by
  pointwise [k0_pay8]

end Cert.Experts
-- ==== Proof.ExpertsSpec.lean ====
/- The experts' feed-forward in closed form: row `R` of block `R / 512` under the weights of that block's expert, or zero if
   the block is not used. -/
module

public import Idealize.ShloMosaic.Lib.Pointwise

@[expose] public section
set_option maxRecDepth 16384
noncomputable section
namespace Cert.Experts
open Idealize.ShloMosaic Idealize.ShloMosaic.TcCoe Idealize.ShloMosaic.Tactic

abbrev X2 := (⟨2, ![139264, 1024]⟩ : Shape).Idx → EReal
abbrev W4 := (⟨4, ![2, 16, 1024, 1024]⟩ : Shape).Idx → EReal

/-- Row `R` against column `f` of expert `e`'s matrix in layer `l`. -/
def lineE (l : Fin 2) (X : X2) (W : W4) (R : Fin 139264) (e : Fin 16) (f : Fin 1024) : EReal := ∑ k : Fin 1024, X (ix2 R k) * W (ix4 l e k f)

/-- The hidden layer: the gate's SiLU times the other product. -/
def hidE (l : Fin 2) (X : X2) (G U : W4) (R : Fin 139264) (e : Fin 16) (f : Fin 1024) : EReal :=
  lineE l X G R e f * Ideal.logistic (lineE l X G R e f) * lineE l X U R e f

/-- The row's output under expert `e`. -/
def outE (l : Fin 2) (X : X2) (G U D : W4) (R : Fin 139264) (e : Fin 16) (w : Fin 1024) : EReal :=
  ∑ f : Fin 1024, hidE l X G U R e f * D (ix4 l e f w)

/-- The block of a row, -/
def blockOf (R : Fin 139264) : Fin 272 := ⟨R.val / 512, by omega⟩
/-- and the expert that the table names for a block. -/
def expertNo (T0 : (⟨1, ![272]⟩ : Shape).Idx → BitVec 32) (n : Fin 272) : Fin 16 := ⟨(T0 (ix1 n)).toNat % 16, Nat.mod_lt _ (by decide)⟩

/-- The result at row `R`, column `w`. -/
def resE (l : Fin 2) (T0 : (⟨1, ![272]⟩ : Shape).Idx → BitVec 32) (T1 : (⟨1, ![1]⟩ : Shape).Idx → BitVec 32) (X : X2) (G U D : W4)
    (R : Fin 139264) (w : Fin 1024) : EReal :=
  if ((blockOf R).val : ℤ) < (T1 (ix1 0)).toInt then outE l X G U D R (expertNo T0 (blockOf R)) w else 0

end Cert.Experts
-- ==== Proof.ExpertsKernel.lean ====
/- The array the experts' kernel leaves: its point `t`'s block is rows `512 t` up to `512 t + 512`, and holds the closed form. -/
module

public import proofs.«01_k».proof.Proof.ExpertsLaunch
public import proofs.«01_k».proof.Proof.ExpertsBlock
public import proofs.«01_k».proof.Proof.ExpertsSpec
public import Idealize.ShloMosaic.Lib.Pipeline.ValueKit

@[expose] public section
set_option maxRecDepth 16384
noncomputable section
namespace Cert.Experts
open Cert.Kernel3Ideal Cert.Kernel3Ideal.Gen
open Idealize.ShloMosaic Idealize.ShloMosaic.TcCoe Idealize.ShloMosaic.Tactic

variable (m : (ℓ : Loc nD τ sig) → Buf (Elt Ideal) ℓ) (hn : Named (tab0 m))

/-- The arguments. -/
abbrev argX (c : Dev nD) : X2 := m ((c : Thread nD τ).loc main_arg2)
abbrev argG (c : Dev nD) : W4 := m ((c : Thread nD τ).loc main_arg3)
abbrev argU (c : Dev nD) : W4 := m ((c : Thread nD τ).loc main_arg4)
abbrev argD (c : Dev nD) : W4 := m ((c : Thread nD τ).loc main_arg5)

theorem map0_eq : ∀ t : Fin grid0.N, cc0_transform_0 (grid0.coords t) = ![t.val, 0] := by decide +kernel
theorem map4_eq : ∀ t : Fin grid0.N, cc0_transform_4 (grid0.coords t) = ![t.val, 0] := by decide +kernel
theorem index0 (t : Fin (cfg m hn).N) : ((cfg m hn).win (0 : Fin 5)).index t = ![t.val, 0] := map0_eq t
theorem index4 (t : Fin (cfg m hn).N) : ((cfg m hn).win (4 : Fin 5)).index t = ![t.val, 0] := map4_eq t

/-- The row of the whole arrays that row `r` of point `t`'s block is. -/
def rowOf (t : Fin (cfg m hn).N) (r : Fin 512) : Fin 139264 := ⟨512 * t.val + r.val, by have := point_lt m hn t; omega⟩

theorem block_row (t : Fin (cfg m hn).N) (r : Fin 512) : blockOf (rowOf m hn t r) = ⟨t.val, point_lt m hn t⟩ :=
  Fin.ext (by show (512 * t.val + r.val) / 512 = t.val; omega)

theorem expert_row (t : Fin (cfg m hn).N) (r : Fin 512) : expertNo (tab0 m) (blockOf (rowOf m hn t r)) = expertIx m hn t := by
  rw [block_row]
  exact Fin.ext (Nat.mod_eq_of_lt (hn t.val (point_lt m hn t)))

theorem rowsAt_eq (c : Dev nD) (t : Fin (cfg m hn).N) (r : Fin 512) (k : Fin 1024) :
    rowsAt m hn c t (ix2 r k) = argX m c (ix2 (rowOf m hn t r) k) := by
  refine congrArg (argX m c) ?_
  funext ax; apply Fin.ext
  match ax with
  | ⟨0, _⟩ =>
    show ((cfg m hn).win (0 : Fin 5)).index t 0 * 512 + 1 * r.val = 512 * t.val + r.val
    rw [index0]; show t.val * 512 + 1 * r.val = _; omega
  | ⟨1, _⟩ =>
    show ((cfg m hn).win (0 : Fin 5)).index t 1 * 1024 + 1 * k.val = k.val
    rw [index0]; show 0 * 1024 + 1 * k.val = _; omega

theorem emb_out (t : Fin (cfg m hn).N) (r : Fin 512) (w : Fin 1024) :
    (((cfg m hn).win (4 : Fin 5)).blk t).view.emb (ix2 r w) = (ix2 (rowOf m hn t r) w : S139264x1024.Idx) := by
  funext ax; apply Fin.ext
  match ax with
  | ⟨0, _⟩ =>
    show ((cfg m hn).win (4 : Fin 5)).index t 0 * 512 + 1 * r.val = 512 * t.val + r.val
    rw [index4]; show t.val * 512 + 1 * r.val = _; omega
  | ⟨1, _⟩ =>
    show ((cfg m hn).win (4 : Fin 5)).index t 1 * 1024 + 1 * w.val = w.val
    rw [index4]; show 0 * 1024 + 1 * w.val = _; omega

theorem dot_gate (c : Dev nD) (t : Fin (cfg m hn).N) (r : Fin 512) (f : Fin 1024) :
    dotE (rowsAt m hn c t) (k0_pay1 (gateAt m hn c t)) r f = lineE 0 (argX m c) (argG m c) (rowOf m hn t r) (expertIx m hn t) f := by
  unfold dotE lineE
  refine Finset.sum_congr rfl fun k _ => ?_
  rw [rowsAt_eq, pay1_read, gateAt_eq]; rfl
theorem dot_up (c : Dev nD) (t : Fin (cfg m hn).N) (r : Fin 512) (f : Fin 1024) :
    dotE (rowsAt m hn c t) (k0_pay2 (upAt m hn c t)) r f = lineE 0 (argX m c) (argU m c) (rowOf m hn t r) (expertIx m hn t) f := by
  unfold dotE lineE
  refine Finset.sum_congr rfl fun k _ => ?_
  rw [rowsAt_eq, pay2_read, upAt_eq]; rfl

/-- What a point leaves in the output's block. -/
theorem leaves_read (c : Dev nD) (t : Fin (cfg m hn).N) (r : Fin 512) (w : Fin 1024) :
    leaves m hn c t (ix2 r w)
      = resE 0 (tab0 m) (tab1 m) (argX m c) (argG m c) (argU m c) (argD m c) (rowOf m hn t r) w := by
  unfold resE
  rw [expert_row, block_row]
  by_cases h : Used (tab1 m) t.val
  · rw [show leaves m hn c t = _ from if_pos h, block_read]
    refine Eq.trans ?_ (if_pos h).symm
    unfold outE hidE
    refine Finset.sum_congr rfl fun f _ => ?_
    rw [dot_gate, dot_up, pay3_read, downAt_eq]
    rfl
  · rw [show leaves m hn c t = _ from if_neg h]
    exact (pay8_read r w).trans (if_neg h).symm

theorem flush_out : ∀ t : Fin grid0.N, Pipeline.Window.flushOf grid0 true cc0_transform_4 t = true := by decide +kernel

/-- The output's blocks cover its array: the tables play no part in it. -/
theorem covers_out : ((cfg m hn).win (4 : Fin 5)).Covers := by
  refine ⟨fun a => ?_, fun β => ?_⟩
  · match a with
    | ⟨0, _⟩ => show 0 < 512; omega
    | ⟨1, _⟩ => show 0 < 1024; omega
  have h0 : (β (0 : Fin 2)).val < (139264 + 512 - 1) / 512 := (β (0 : Fin 2)).isLt
  have h1 : (β (1 : Fin 2)).val < (1024 + 1024 - 1) / 1024 := (β (1 : Fin 2)).isLt
  refine ⟨⟨(β (0 : Fin 2)).val, by rw [show (cfg m hn).grid.N = 272 from N_0]; omega⟩, flush_out _, fun a => ⟨?_, .inl ?_⟩⟩
  · rw [index4]
    match a with
    | ⟨0, _⟩ => rfl
    | ⟨1, _⟩ => show 0 = (β (1 : Fin 2)).val; omega
  · rfl

theorem array_out (c : Dev nD) : (dats m hn 0 c).arrAt (4 : Fin 5) (cfg m hn).N
    = fun i : S139264x1024.Idx => resE 0 (tab0 m) (tab1 m) (argX m c) (argG m c) (argU m c) (argD m c) (i 0) (i 1) := by
  refine (dats m hn 0 c).arrAt_eq_of_covers (4 : Fin 5) _ (covers_out m hn) fun t hf y => ?_
  blk_simp
  rw [after_out]
  idx_vars y
  exact (leaves_read m hn c t y0 y1).trans
    (congrArg (fun i : S139264x1024.Idx => resE 0 (tab0 m) (tab1 m) (argX m c) (argG m c) (argU m c) (argD m c) (i 0) (i 1))
      (emb_out m hn t y0 y1)).symm

end Cert.Experts
-- ==== Proof.ExpertsNamed.lean ====
/- The precondition, read: where every table entry tests as at least zero and below sixteen, it names an expert. -/
module

public import proofs.«01_k».proof.Proof.ExpertsWords
public import proofs.«01_k».proof.Proof.Gen.Pre_experts_named

@[expose] public section
noncomputable section
namespace Cert.Experts
open Idealize.ShloMosaic Idealize.ShloMosaic.Tactic

variable {F : FTy → Type} [FloatOps F]

/-- A word between zero and fifteen, read signed, is below sixteen. -/
theorem word_small (w : BitVec 32) (h0 : 0 ≤ w.toInt) (h1 : w.toInt < 16) : w.toNat < 16 := by
  rw [BitVec.toInt_eq_toNat_cond] at h0 h1
  split at h0 <;> omega

theorem named_of_test (T0 : IVec Cert.Pre_experts_named.S272 32) (T1 : IVec Cert.Pre_experts_named.S1 32)
    (X : FVec F Cert.Pre_experts_named.S139264x1024 .f32) (G U D : FVec F Cert.Pre_experts_named.S2x16x1024x1024 .f32)
    (h : Cert.Pre_experts_named.fn T0 T1 X G U D = fun _ => 1#1) : Named T0 := by
  intro n hlt
  have h2 : Scalar.andi (Scalar.cmpi .sge (T0 (ix1 ⟨n, hlt⟩)) 0#32) (Scalar.cmpi .slt (T0 (ix1 ⟨n, hlt⟩)) 16#32) = 1#1 := congrFun h (ix1 ⟨n, hlt⟩)
  rw [andi_one, cmpi_sge, cmpi_slt] at h2
  exact word_small _ h2.1 h2.2

end Cert.Experts
-- ==== Proof.ExpertsSame.lean ====
/- The printed kernel and its idealization are the same program: nothing was rewritten between them, so a run of the one is
   a run of the other. -/
module

public import proofs.«01_k».proof.Defs
public import proofs.«01_k».proof.Proof.Gen.Kernel3
public import proofs.«01_k».proof.Proof.Gen.Kernel3Ideal

@[expose] public section
set_option maxRecDepth 16384
noncomputable section
namespace Cert.Experts
open Idealize.ShloMosaic Idealize.ShloMosaic.TcCoe Idealize.SL.Sem

theorem same_sig : Cert.Kernel3.sig = Cert.Kernel3Ideal.sig := rfl

/-- The body, the pipeline, the main function and the table of definitions agree. -/
theorem same_body : @Cert.Kernel3.cc0_moe_ffn Bits _ _ = @Cert.Kernel3Ideal.cc0_moe_ffn Bits _ _ := rfl

theorem same_cfgs : @Cert.Kernel3.pcfgs Bits _ _ = @Cert.Kernel3Ideal.pcfgs Bits _ _ := rfl

theorem same_main : @Cert.Kernel3.main Bits _ _ = @Cert.Kernel3Ideal.main Bits _ _ := rfl

theorem same_defs₀ : @Cert.Kernel3.defs₀ Bits _ _ = @Cert.Kernel3Ideal.defs₀ Bits _ _ := by
  unfold Cert.Kernel3.defs₀ Cert.Kernel3Ideal.defs₀
  refine congrArg Defs.onTc ?_
  funext l x
  match l, x with
  | 0, (t, s) => simp only [same_body]; rfl
  | ⟨_ + 1, h⟩, _ => exact absurd h (Nat.not_lt.2 (Nat.le_add_left _ _))

theorem same_defs : @Cert.Kernel3.defs Bits _ _ = @Cert.Kernel3Ideal.defs Bits _ _ :=
  congrArg (Pipeline.defs Cert.Kernel3Ideal.pcfgs) same_defs₀

/-- A run of the idealization at the words is a run of the printed kernel. -/
theorem same (m : (ℓ : Loc Cert.Kernel3.nD Cert.Kernel3.τ Cert.Kernel3.sig) → Buf (Elt Bits) ℓ) (g : Dev Cert.Kernel3.nD → PrngReg)
    (Q : PUnit × MemSt Cert.Kernel3.nD Cert.Kernel3.τ Cert.Kernel3.sig (Elt Bits) → Prop)
    (h : θ_run (Cert.Kernel3Ideal.defs (F := Bits)) (onTc (τ := Cert.Kernel3Ideal.τ) (Cert.Kernel3Ideal.main (F := Bits))) ⟨m, fun _ => 0, g⟩ Q) :
    θ_run (Cert.Kernel3.defs (F := Bits)) (onTc (τ := Cert.Kernel3.τ) (Cert.Kernel3.main (F := Bits))) ⟨m, fun _ => 0, g⟩ Q := by
  rw [same_defs, same_main]; exact h

end Cert.Experts
-- ==== Proof.ExpertsReference.lean ====
/- The reference's result as the closed form: each block's weights gathered by its expert's number, the products, the unused
   blocks set to zero. -/
module

public import proofs.«01_k».proof.Proof.ExpertsSpec
public import proofs.«01_k».proof.Proof.ExpertsWords
public import proofs.«01_k».proof.Proof.Gen.Reference3Ideal
public import Idealize.ShloMosaic.Lib.Pipeline.ValueKit
public import Idealize.ShloMosaic.Lib.StableHlo.ReadAt

@[expose] public section
set_option maxRecDepth 16384
noncomputable section
namespace Cert.Experts.Plain
open Cert.Reference3Ideal
open Idealize.ShloMosaic Idealize.ShloMosaic.TcCoe Idealize.ShloMosaic.Tactic Cert.Experts Cert.Reference3Ideal.Gen

/-- The gather of the sixteen matrices: block `n`'s is the one its first start index names, read signed and clamped. -/
abbrev take : GatherDims S16x1024x1024 S272x3 S272x1x1024x1024 := gather_S16x1024x1024_S272x3_S272x1x1024x1024_123_n_n_n_012_1_110241024

theorem start_row (n : Fin 272) (k f : Fin 1024) (c : Fin 3) : take.siIdx (ix4 n 0 k f) c = (ix2 n c : S272x3.Idx) := by
  funext b; apply Fin.ext
  match b with
  | ⟨0, _⟩ => rfl
  | ⟨1, _⟩ => rfl

theorem take_read {α : Type} (x : S16x1024x1024.Idx → α) (idx : IVec S272x3 32) (n : Fin 272) (k f : Fin 1024) (e : Fin 16)
    (h0 : (idx (ix2 n 0)).toInt = (e.val : ℤ)) (h1 : idx (ix2 n 1) = 0#32) (h2 : idx (ix2 n 2) = 0#32) :
    Host.gather take x idx (ix4 n 0 k f) = x (ix3 e k f) := by
  refine congrArg x ?_
  funext a; apply Fin.ext
  match a with
  | ⟨0, _⟩ =>
    show min (idx (take.siIdx (ix4 n 0 k f) (0 : Fin 3))).toInt.toNat 15 + 0 + 0 = e.val
    rw [start_row, h0]; omega
  | ⟨1, _⟩ =>
    show min (idx (take.siIdx (ix4 n 0 k f) (1 : Fin 3))).toInt.toNat 0 + 0 + k.val = k.val
    omega
  | ⟨2, _⟩ =>
    show min (idx (take.siIdx (ix4 n 0 k f) (2 : Fin 3))).toInt.toNat 0 + 0 + f.val = f.val
    omega

abbrev Table := (⟨1, ![272]⟩ : Shape).Idx → BitVec 32

/-- The start indices of the gather: the block's expert, counted from the end if negative, and two zeros. -/
def starts (T0 : Table) : IVec S272x3 32 :=
  concatenate S272x3 1
    [⟨S272x1, broadcastInDim S272x1 ![0] bcast_S272_S272x1_0 (select (cmpi .slt (T0 : IVec S272 32) (broadcastInDim S272 ![] bcast_S_S272 (constantI S_ 32 0#32)))
        (addi (T0 : IVec S272 32) (broadcastInDim S272 ![] bcast_S_S272 (constantI S_ 32 16#32))) (T0 : IVec S272 32))⟩,
      ⟨S272x1, broadcastInDim S272x1 ![] bcast_S_S272x1
        (select (cmpi .slt (constantI S_ 32 0#32) (constantI S_ 32 0#32)) (addi (constantI S_ 32 0#32) (constantI S_ 32 1024#32)) (constantI S_ 32 0#32))⟩,
      ⟨S272x1, broadcastInDim S272x1 ![] bcast_S_S272x1
        (select (cmpi .slt (constantI S_ 32 0#32) (constantI S_ 32 0#32)) (addi (constantI S_ 32 0#32) (constantI S_ 32 1024#32)) (constantI S_ 32 0#32))⟩]
    concatenates_S272x1_S272x1_S272x1_S272x3_d1

/-- Layer `l`'s part of the weights lies inside them. -/
theorem layer_inside (l : Fin 2) : S2x16x1024x1024.Slices ![l.val, 0, 0, 0] S1x16x1024x1024 := by
  revert l; decide

/-- The matrices of every block's expert in layer `l`. -/
def chosen (l : Fin 2) (T0 : Table) (W : FVec Ideal S2x16x1024x1024 .f32) : FVec Ideal S272x1024x1024 .f32 :=
  shapeCast _ (Host.gather take (shapeCast _ (extractStridedSlice S1x16x1024x1024 ![l.val, 0, 0, 0] W (layer_inside l))
    shapeCasts_S1x16x1024x1024_S16x1024x1024) (starts T0)) shapeCasts_S272x1x1024x1024_S272x1024x1024

theorem starts_zero (T0 : Table) (n : Fin 272) (h : (T0 (ix1 n)).toNat < 16) : starts T0 (ix2 n 0) = T0 (ix1 n) := by
  pointwise [starts]
  have e : ¬ IntOp.cmpi .slt (T0 (ix1 n)) 0#32 = 1#1 := by
    rw [show IntOp.cmpi .slt (T0 (ix1 n)) 0#32 = Scalar.cmpi .slt (T0 (ix1 n)) 0#32 from rfl, cmpi_slt, BitVec.toInt_eq_toNat_of_lt (by omega),
      show (0#32 : BitVec 32).toInt = 0 from rfl]
    omega
  exact if_neg e
theorem starts_one (T0 : Table) (n : Fin 272) : starts T0 (ix2 n 1) = 0#32 := by
  pointwise [starts]
  decide
theorem starts_two (T0 : Table) (n : Fin 272) : starts T0 (ix2 n 2) = 0#32 := by
  pointwise [starts]
  decide

theorem chosen_read (l : Fin 2) (T0 : Table) (W : FVec Ideal S2x16x1024x1024 .f32) (n : Fin 272) (h : (T0 (ix1 n)).toNat < 16) (k f : Fin 1024) :
    chosen l T0 W (ix3 n k f) = W (ix4 l (expertNo T0 n) k f) := by
  have e : chosen l T0 W (ix3 n k f) = Host.gather take (shapeCast _ (extractStridedSlice S1x16x1024x1024 ![l.val, 0, 0, 0] W (layer_inside l))
    shapeCasts_S1x16x1024x1024_S16x1024x1024) (starts T0) (ix4 n 0 k f) := by
    pointwise [chosen]
  rw [e, take_read _ _ n k f (expertNo T0 n) _ (starts_one T0 n) (starts_two T0 n)]
  · pointwise []
  · rw [starts_zero T0 n h]
    show (T0 (ix1 n)).toInt = (((T0 (ix1 n)).toNat % 16 : ℕ) : ℤ)
    rw [Nat.mod_eq_of_lt h, BitVec.toInt_eq_toNat_of_lt (by omega)]

variable (l : Fin 2) (T0 : Table) (T1 : (⟨1, ![1]⟩ : Shape).Idx → BitVec 32) (X : X2) (G U D : W4)

/-- Every block's rows against every block's matrix. -/
def prod (x : FVec Ideal S272x512x1024 .f32) (W : FVec Ideal S272x1024x1024 .f32) : FVec Ideal S272x512x1024 .f32 :=
  Host.dotGeneral (F := Ideal) (φ₁ := .f32) (φ₂ := .f32) dot_S272x512x1024_S272x1024x1024_S272x512x1024_2_1_1_2_0_0 none x W

theorem prod_read (x : FVec Ideal S272x512x1024 .f32) (W : FVec Ideal S272x1024x1024 .f32) (n : Fin 272) (r : Fin 512) (w : Fin 1024) :
    prod x W (ix3 n r w) = (∑ k : Fin 1024, (x (ix3 n r k) * W (ix3 n k w) : EReal) : EReal) := by
  pointwise [prod]

/-- The rows, block by block. -/
def rows (X : X2) : FVec Ideal S272x512x1024 .f32 := shapeCast _ (X : FVec Ideal S139264x1024 .f32) shapeCasts_S139264x1024_S272x512x1024

theorem rows_read (R : Fin 139264) (k : Fin 1024) :
    rows X (ix3 (blockOf R) ⟨R.val % 512, by omega⟩ k) = X (ix2 R k) := by
  pointwise [rows]
  exact congrArg X (by
    funext ax; apply Fin.ext
    match ax with
    | ⟨0, _⟩ => show R.val / 512 * 512 + R.val % 512 = R.val; omega
    | ⟨1, _⟩ => rfl)

/-- The hidden layer of every block. -/
def hid (l : Fin 2) (T0 : Table) (X : X2) (G U : W4) : FVec Ideal S272x512x1024 .f32 :=
  mulf (mulf (prod (rows X) (chosen l T0 G))
      (Host.divf (broadcastInDim S272x512x1024 ![] bcast_S_S272x512x1024 (constant S_ .f32 0x3F800000#32))
        (addf (broadcastInDim S272x512x1024 ![] bcast_S_S272x512x1024 (constant S_ .f32 0x3F800000#32))
          (Host.exp (Host.negf (prod (rows X) (chosen l T0 G)))))))
    (prod (rows X) (chosen l T0 U))

/-- The result: unused blocks set to zero, the blocks one after another. -/
def result : FVec Ideal S139264x1024 .f32 :=
  shapeCast _ (select
      (broadcastInDim S272x512x1024 ![0, 1, 2] bcast_S272x1x1_S272x512x1024_0_1_2 (broadcastInDim S272x1x1 ![0] bcast_S272_S272x1x1_0
        (cmpi .slt (iotaInDim S272 32 0) (broadcastInDim S272 ![] bcast_S_S272 (shapeCast _ (T1 : IVec S1 32) shapeCasts_S1_S_)))))
      (prod (hid l T0 X G U) (chosen l T0 D))
      (broadcastInDim S272x512x1024 ![] bcast_S_S272x512x1024 (id (constant (F := Ideal) S_ .f32 0x00000000#32))))
    shapeCasts_S272x512x1024_S139264x1024

theorem line_read (W : FVec Ideal S2x16x1024x1024 .f32) (R : Fin 139264) (h : (T0 (ix1 (blockOf R))).toNat < 16) (f : Fin 1024) :
    prod (rows X) (chosen l T0 W) (ix3 (blockOf R) ⟨R.val % 512, by omega⟩ f)
      = lineE l X W R (expertNo T0 (blockOf R)) f := by
  rw [prod_read]
  unfold lineE
  refine Finset.sum_congr rfl fun k _ => ?_
  rw [rows_read, chosen_read l _ _ _ h]

theorem hid_read (R : Fin 139264) (h : (T0 (ix1 (blockOf R))).toNat < 16) (f : Fin 1024) :
    hid l T0 X G U (ix3 (blockOf R) ⟨R.val % 512, by omega⟩ f)
      = hidE l X G U R (expertNo T0 (blockOf R)) f := by
  unfold hidE
  rw [← line_read l T0 X G R h f, ← line_read l T0 X U R h f]
  unfold hid
  generalize prod (rows X) (chosen l T0 G) = A
  generalize prod (rows X) (chosen l T0 U) = B
  pointwise []
  rfl

theorem result_read (R : Fin 139264) (h : (T0 (ix1 (blockOf R))).toNat < 16) (w : Fin 1024) :
    result l T0 T1 X G U D (ix2 R w) = resE l T0 T1 X G U D R w := by
  unfold result
  have key : prod (hid l T0 X G U) (chosen l T0 D) (ix3 (blockOf R) ⟨R.val % 512, by omega⟩ w)
      = outE l X G U D R (expertNo T0 (blockOf R)) w := by
    rw [prod_read]
    unfold outE
    refine Finset.sum_congr rfl fun k _ => ?_
    rw [hid_read l T0 X G U R h, chosen_read l _ _ _ h]
  unfold resE
  rw [← key]
  generalize prod (hid l T0 X G U) (chosen l T0 D) = Z
  pointwise []
  have ez : (id (constant (F := Ideal) S_ FTy.f32 0#32) ix0 : EReal) = 0 := by
    show (constant (F := Ideal) S_ FTy.f32 0#32 ix0 : EReal) = 0
    pointwise []
  have ec : IntOp.cmpi .slt (BitVec.ofNat 32 (R.val / 512)) (T1 (ix1 0)) = 1#1
      ↔ ((blockOf R).val : ℤ) < (T1 (ix1 0)).toInt := by
    rw [show IntOp.cmpi .slt (BitVec.ofNat 32 (R.val / 512)) (T1 (ix1 0)) = Scalar.cmpi .slt (BitVec.ofNat 32 (blockOf R).val) (T1 (ix1 0)) from rfl,
      cmpi_slt, toInt_coord]
  by_cases hu : ((blockOf R).val : ℤ) < (T1 (ix1 0)).toInt
  · exact (if_pos (ec.mpr hu)).trans (if_pos hu).symm
  · exact (if_neg (fun h => hu (ec.mp h))).trans (ez.trans (if_neg hu).symm)

end Cert.Experts.Plain
-- ==== Proof.ExpertsPlain.lean ====
/- What the two references return, one for each layer. -/
module

public import proofs.«01_k».proof.Proof.ExpertsReference
public import proofs.«01_k».proof.Proof.Gen.Reference3Ideal.Run
public import proofs.«01_k».proof.Proof.Gen.Reference4Ideal.Run

@[expose] public section
set_option maxRecDepth 16384
noncomputable section
namespace Cert.Experts.Plain
open Idealize.ShloMosaic Idealize.ShloMosaic.TcCoe

theorem first_layer (m : (ℓ : Loc Cert.Reference3Ideal.nD Cert.Reference3Ideal.τ Cert.Reference3Ideal.sig) → Buf (Elt Ideal) ℓ) (c : Dev Cert.Reference3Ideal.nD) :
    Cert.Reference3Ideal.Value.res_out0 m c = result 0 (m ((c.tc : Thread Cert.Reference3Ideal.nD Cert.Reference3Ideal.τ).loc Cert.Reference3Ideal.main_arg0)) (m (c.tc.loc Cert.Reference3Ideal.main_arg1))
      (m (c.tc.loc Cert.Reference3Ideal.main_arg2)) (m (c.tc.loc Cert.Reference3Ideal.main_arg3)) (m (c.tc.loc Cert.Reference3Ideal.main_arg4)) (m (c.tc.loc Cert.Reference3Ideal.main_arg5)) := rfl

theorem second_layer (m : (ℓ : Loc Cert.Reference4Ideal.nD Cert.Reference4Ideal.τ Cert.Reference4Ideal.sig) → Buf (Elt Ideal) ℓ) (c : Dev Cert.Reference4Ideal.nD) :
    Cert.Reference4Ideal.Value.res_out0 m c = result 1 (m ((c.tc : Thread Cert.Reference4Ideal.nD Cert.Reference4Ideal.τ).loc Cert.Reference4Ideal.main_arg0)) (m (c.tc.loc Cert.Reference4Ideal.main_arg1))
      (m (c.tc.loc Cert.Reference4Ideal.main_arg2)) (m (c.tc.loc Cert.Reference4Ideal.main_arg3)) (m (c.tc.loc Cert.Reference4Ideal.main_arg4)) (m (c.tc.loc Cert.Reference4Ideal.main_arg5)) := rfl

end Cert.Experts.Plain
-- ==== Proof.SecondExpertsRun.lean ====
/- One grid point of the second layer's experts' kernel: what its body leaves on each of its three paths. -/
module

public import proofs.«01_k».proof.Defs
public import proofs.«01_k».proof.Proof.Gen.Kernel4Ideal
public import proofs.«01_k».proof.Proof.Gen.Kernel4Ideal.Launch
public import proofs.«01_k».proof.Proof.Gen.Kernel4Ideal.Skeleton
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section
set_option maxRecDepth 16384
noncomputable section
namespace Cert.SecondExperts
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables and the scratch buffers the kernel is handed -/

/-- The expert of each block. -/
abbrev experts : Memref sig .tc .smem S272 .i32 := Memref.whole main_arg0
/-- How many blocks are used. -/
abbrev count : Memref sig .tc .smem S1 .i32 := Memref.whole main_arg1
/-- The hidden layer of the block. -/
abbrev hidden : Memref sig .tc .vmem S512x1024 .bf16 := Memref.whole cc0_scratch0
/-- The three weight matrices of the current expert, rounded. -/
abbrev gateCache : Memref sig .tc .vmem S1024x1024 .bf16 := Memref.whole cc0_scratch1
abbrev upCache : Memref sig .tc .vmem S1024x1024 .bf16 := Memref.whole cc0_scratch2
abbrev downCache : Memref sig .tc .vmem S1024x1024 .bf16 := Memref.whole cc0_scratch3

/-- The number of used blocks, as the body loads it. -/
abbrev usedWord (T1 : S1.Idx → BitVec 32) : BitVec 32 :=
  View.readAt (Elt F) count.view (Rect.unit (s := S1) ![0] S1.size inb_S1_S1_0).toLoadRect T1 (Shape.Idx.first (numel1_S1.symm ▸ Nat.one_pos))
/-- The expert of this block, -/
abbrev hereWord (T0 : S272.Idx → BitVec 32) (i : grid0.Coords) : BitVec 32 :=
  View.readAt (Elt F) experts.view (Rect.unit (s := S272) (k0_off1 i) S1.size (k0_off1_inb i)).toLoadRect T0 (Shape.Idx.first (numel1_S1.symm ▸ Nat.one_pos))
/-- and of the block before it. -/
abbrev beforeWord (T0 : S272.Idx → BitVec 32) (i : grid0.Coords) : BitVec 32 :=
  View.readAt (Elt F) experts.view (Rect.unit (s := S272) (k0_off2 i) S1.size (k0_off2_inb i)).toLoadRect T0 (Shape.Idx.first (numel1_S1.symm ▸ Nat.one_pos))

/-- The body refreshes its rounded weights: the block is used, and it is the first one or of another expert than the one before. -/
abbrev refresh (T0 : S272.Idx → BitVec 32) (T1 : S1.Idx → BitVec 32) (i : grid0.Coords) : Prop :=
  (Scalar.cmpi .ne (Scalar.extui (Scalar.andi (Scalar.cmpi .slt (BitVec.ofNat 32 (i 0).val) (usedWord (F := F) T1)) (Scalar.ori (Scalar.cmpi .eq (BitVec.ofNat 32 (i 0).val) 0#32) (Scalar.cmpi .ne (hereWord (F := F) T0 i) (beforeWord (F := F) T0 i))))) 0#32) = 1#1

/-! ## What a point computes -/

/-- The hidden layer of a block `x` under the rounded weights `g` and `u`: two column halves, stored side by side. -/
def hiddenOf (x : Vec F S512x1024 .f32) (g u : Vec F S1024x1024 .bf16) : Vec F S512x1024 .bf16 :=
  View.canon
    [⟨Rect.unit (s := S512x1024) ![0, 512] S512x512.size inb_S512x1024_S512x512_0_512,
        k0_pay6 x (View.ld g (Rect.unit (s := S1024x1024) ![0, 512] S1024x512.size inb_S1024x1024_S1024x512_0_512))
          (View.ld u (Rect.unit (s := S1024x1024) ![0, 512] S1024x512.size inb_S1024x1024_S1024x512_0_512))⟩,
      ⟨Rect.unit (s := S512x1024) ![0, 0] S512x512.size inb_S512x1024_S512x512_0_0,
        k0_pay5 x (View.ld g (Rect.unit (s := S1024x1024) ![0, 0] S1024x512.size inb_S1024x1024_S1024x512_0_0))
          (View.ld u (Rect.unit (s := S1024x1024) ![0, 0] S1024x512.size inb_S1024x1024_S1024x512_0_0))⟩]

/-- The block's output under the rounded weights `g`, `u`, `d`. -/
def outputOf (x : Vec F S512x1024 .f32) (g u d : Vec F S1024x1024 .bf16) : Vec F S512x1024 .f32 :=
  k0_pay7 (hiddenOf x g u) d

/-- A load of the whole of what stores over anything unspecified left. -/
theorem readCov_all {s : Shape} {e : EltTy} (v : View sig .tc .vmem s e) (L : List (View.Piece (Elt F) s e)) {off : Fin s.rank → ℕ}
    (inb : ∀ a, off a + s.size a ≤ s.size a) : v.readCov L (Rect.unit off s.size inb).toLoadRect = View.canon L := by
  show v.readAt (Elt F) _ (v.writes (Elt F) v.junk L) = _
  rw [View.readAt_full]
  funext y
  exact View.read_writes_junk_apply_eq_canon v y L

/-- A load of a part of what one store of the whole left: that part of the stored value. -/
theorem readCov_part {s : Shape} {e : EltTy} (v : View sig .tc .vmem s e) {off : Fin s.rank → ℕ} (inb : ∀ a, off a + s.size a ≤ s.size a)
    (w : s.Idx → Elt F e) (r : Rect s) : v.readCov [⟨Rect.unit off s.size inb, w⟩] r.toLoadRect = View.ld w r := by
  show View.ld (v.read (Elt F) (v.writes (Elt F) v.junk [⟨Rect.unit off s.size inb, w⟩])) r = _
  rw [View.read_writes_full]

/-- What the body's loads and stores of a used block come to. -/
theorem output_read (v7 : View sig .tc .vmem S512x1024 .f32) (vh : View sig .tc .vmem S512x1024 .bf16)
    (x : Vec F S512x1024 .f32) (g u d : Vec F S1024x1024 .bf16) (x0 x0' : Vec F S512x1024 .f32)
    (gl ul gh uh : Vec F S1024x512 .bf16) (d' : Vec F S1024x1024 .bf16) (h0 : x0 = x) (h0' : x0' = x)
    (hgl : gl = View.ld g (Rect.unit (s := S1024x1024) ![0, 0] S1024x512.size inb_S1024x1024_S1024x512_0_0))
    (hul : ul = View.ld u (Rect.unit (s := S1024x1024) ![0, 0] S1024x512.size inb_S1024x1024_S1024x512_0_0))
    (hgh : gh = View.ld g (Rect.unit (s := S1024x1024) ![0, 512] S1024x512.size inb_S1024x1024_S1024x512_0_512))
    (huh : uh = View.ld u (Rect.unit (s := S1024x1024) ![0, 512] S1024x512.size inb_S1024x1024_S1024x512_0_512))
    (hd : d' = d) :
    v7.read (Elt F) (v7.writes (Elt F) v7.junk [⟨Rect.unit (s := S512x1024) ![0, 0] S512x1024.size inb_S512x1024_S512x1024_0_0,
      k0_pay7 (vh.readCov [⟨Rect.unit (s := S512x1024) ![0, 512] S512x512.size inb_S512x1024_S512x512_0_512, k0_pay6 x0 gh uh⟩,
          ⟨Rect.unit (s := S512x1024) ![0, 0] S512x512.size inb_S512x1024_S512x512_0_0, k0_pay5 x0' gl ul⟩]
        (Rect.unit (s := S512x1024) ![0, 0] S512x1024.size inb_S512x1024_S512x1024_0_0).toLoadRect) d'⟩]) = outputOf x g u d := by
  subst h0 h0' hgl hul hgh huh hd
  rw [View.read_writes_full, readCov_all]
  rfl

/-- The four input blocks and the core's halves of the two tables, which a point only reads. -/
def windows (c : Dev nD) (arg3 : Memref sig .tc .vmem S512x1024 .f32) (arg4 arg5 arg6 : Memref sig .tc .vmem S1x1x1024x1024 .f32)
    (T0 : S272.Idx → BitVec 32) (T1 : S1.Idx → BitVec 32) (x0 : Vec F S512x1024 .f32) (x1 x2 x3 : Vec F S1x1x1024x1024 .f32) : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (experts.view.loc (c : Thread nD τ) ↦{fullShare.right} T0)
    ∗ (count.view.loc (c : Thread nD τ) ↦{fullShare.right} T1))

set_option maxHeartbeats 8000000 in
/-- A used block that refreshes the rounded weights. -/
theorem run_refresh (c : Dev nD) (i : grid0.Coords) (arg3 : Memref sig .tc .vmem S512x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S512x1024 .f32) (harg7 : arg7.IsWhole) (T0 : S272.Idx → BitVec 32) (T1 : S1.Idx → BitVec 32)
    (x0 : Vec F S512x1024 .f32) (x1 x2 x3 : Vec F S1x1x1024x1024 .f32)
    (hc0 : refresh (F := F) T0 T1 i) (hc2 : k0_cond2 i (usedWord (F := F) T1) = 1#1) (hc3 : ¬ k0_cond3 i (usedWord (F := F) T1) = 1#1)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3)) (K : PUnit → sProp 𝕄) :
    iprop(windows c arg3 arg4 arg5 arg6 T0 T1 x0 x1 x2 x3
          ∗ (∃ d, owns (c : Thread nD τ) arg7 fullShare d)
          ∗ (hidden.view.loc (c : Thread nD τ) ↦{fullShare} a0)
          ∗ (gateCache.view.loc (c : Thread nD τ) ↦{fullShare} a1)
          ∗ (upCache.view.loc (c : Thread nD τ) ↦{fullShare} a2)
          ∗ (downCache.view.loc (c : Thread nD τ) ↦{fullShare} a3)
          ∗ (iprop(windows c arg3 arg4 arg5 arg6 T0 T1 x0 x1 x2 x3
              ∗ owns (c : Thread nD τ) arg7 fullShare (outputOf x0 (k0_pay1 x1) (k0_pay2 x2) (k0_pay3 x3))
              ∗ (∃ f, hidden.view.loc (c : Thread nD τ) ↦{fullShare} f)
              ∗ (∃ f, ⌜gateCache.view.read (Elt F) f = k0_pay1 x1⌝ ∗ gateCache.view.loc (c : Thread nD τ) ↦{fullShare} f)
              ∗ (∃ f, ⌜upCache.view.read (Elt F) f = k0_pay2 x2⌝ ∗ upCache.view.loc (c : Thread nD τ) ↦{fullShare} f)
              ∗ (∃ f, ⌜downCache.view.read (Elt F) f = k0_pay3 x3⌝ ∗ downCache.view.loc (c : Thread nD τ) ↦{fullShare} f)) -∗ K ⟨⟩))
      ⊢ wp frame (wpE (defs₀ (F := F)) Variants.none c none) Set.univ (cc0_moe_ffn i experts (Memref.isWhole_whole _) count (Memref.isWhole_whole _) arg3 harg3 arg4 harg4 arg5 harg5 arg6 harg6 arg7 harg7 hidden (Memref.isWhole_whole _) gateCache (Memref.isWhole_whole _) upCache (Memref.isWhole_whole _) downCache (Memref.isWhole_whole _)) K := by
    unfold windows owns
    rw [cc0_moe_ffn_eq_skeleton]; unfold cc0_moe_ffn_skel
    iintro ⟨⟨H0, H1, H2, H3, HT0, HT1⟩, ⟨%d4, %f4, -, HO4⟩, HS0, HS1, HS2, HS3, Hk⟩
    have hS0 : hidden.IsWhole := Memref.isWhole_whole _
    have hS1 : gateCache.IsWhole := Memref.isWhole_whole _
    have hS2 : upCache.IsWhole := Memref.isWhole_whole _
    have hS3 : downCache.IsWhole := Memref.isWhole_whole _
    have hT0 : experts.IsWhole := Memref.isWhole_whole _
    have hT1 : count.IsWhole := Memref.isWhole_whole _
    sl_exec! (disch := first | (guard_target = Scalar.cmpi _ _ _ = _; exact hc0) | (guard_target = k0_cond2 _ _ = _; exact hc2) | (guard_target = k0_cond3 _ _ = _; exact hc3) | (guard_target = ¬(Scalar.cmpi _ _ _ = _); exact hc0) | (guard_target = ¬(k0_cond2 _ _ = _); exact hc2) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; swap
      · iexact HO4
      · ipureintro
        exact output_read arg7.view hidden.view x0 (k0_pay1 x1) (k0_pay2 x2) (k0_pay3 x3) _ _ _ _ _ _ _
          (View.readAt_rep_full _ _ _) (View.readAt_rep_full _ _ _)
          ((readCov_part _ _ _ _).trans (by rw [View.readAt_rep_full]))
          ((readCov_part _ _ _ _).trans (by rw [View.readAt_rep_full]))
          ((readCov_part _ _ _ _).trans (by rw [View.readAt_rep_full]))
          ((readCov_part _ _ _ _).trans (by rw [View.readAt_rep_full]))
          ((View.readCov_full _ _ _ _ _).trans (by rw [View.readAt_rep_full]))
    isplitl [HS0]
    · iexists _; iexact HS0
    isplitl [HS1]
    · iexists _; isplitr; swap
      · iexact HS1
      · ipureintro; exact (View.read_writes_full _ _ _ _ _).trans (congrArg k0_pay1 (View.readAt_rep_full _ _ _))
    isplitl [HS2]
    · iexists _; isplitr; swap
      · iexact HS2
      · ipureintro; exact (View.read_writes_full _ _ _ _ _).trans (congrArg k0_pay2 (View.readAt_rep_full _ _ _))
    iexists _; isplitr; swap
    · iexact HS3
    · ipureintro; exact (View.read_writes_full _ _ _ _ _).trans (congrArg k0_pay3 (View.readAt_rep_full _ _ _))

set_option maxHeartbeats 8000000 in
/-- A used block of the expert before: the rounded weights are carried. -/
theorem run_carry (c : Dev nD) (i : grid0.Coords) (arg3 : Memref sig .tc .vmem S512x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S512x1024 .f32) (harg7 : arg7.IsWhole) (T0 : S272.Idx → BitVec 32) (T1 : S1.Idx → BitVec 32)
    (x0 : Vec F S512x1024 .f32) (x1 x2 x3 : Vec F S1x1x1024x1024 .f32)
    (hc0 : ¬ refresh (F := F) T0 T1 i) (hc2 : k0_cond2 i (usedWord (F := F) T1) = 1#1) (hc3 : ¬ k0_cond3 i (usedWord (F := F) T1) = 1#1)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3)) (K : PUnit → sProp 𝕄) :
    iprop(windows c arg3 arg4 arg5 arg6 T0 T1 x0 x1 x2 x3
          ∗ (∃ d, owns (c : Thread nD τ) arg7 fullShare d)
          ∗ (hidden.view.loc (c : Thread nD τ) ↦{fullShare} a0)
          ∗ (gateCache.view.loc (c : Thread nD τ) ↦{fullShare} a1)
          ∗ (upCache.view.loc (c : Thread nD τ) ↦{fullShare} a2)
          ∗ (downCache.view.loc (c : Thread nD τ) ↦{fullShare} a3)
          ∗ (iprop(windows c arg3 arg4 arg5 arg6 T0 T1 x0 x1 x2 x3
              ∗ owns (c : Thread nD τ) arg7 fullShare (outputOf x0 (gateCache.view.read (Elt F) a1) (upCache.view.read (Elt F) a2) (downCache.view.read (Elt F) a3))
              ∗ (∃ f, hidden.view.loc (c : Thread nD τ) ↦{fullShare} f)
              ∗ (gateCache.view.loc (c : Thread nD τ) ↦{fullShare} a1)
              ∗ (upCache.view.loc (c : Thread nD τ) ↦{fullShare} a2)
              ∗ (downCache.view.loc (c : Thread nD τ) ↦{fullShare} a3)) -∗ K ⟨⟩))
      ⊢ wp frame (wpE (defs₀ (F := F)) Variants.none c none) Set.univ (cc0_moe_ffn i experts (Memref.isWhole_whole _) count (Memref.isWhole_whole _) arg3 harg3 arg4 harg4 arg5 harg5 arg6 harg6 arg7 harg7 hidden (Memref.isWhole_whole _) gateCache (Memref.isWhole_whole _) upCache (Memref.isWhole_whole _) downCache (Memref.isWhole_whole _)) K := by
    unfold windows owns
    rw [cc0_moe_ffn_eq_skeleton]; unfold cc0_moe_ffn_skel
    iintro ⟨⟨H0, H1, H2, H3, HT0, HT1⟩, ⟨%d4, %f4, -, HO4⟩, HS0, HS1, HS2, HS3, Hk⟩
    have hS0 : hidden.IsWhole := Memref.isWhole_whole _
    have hS1 : gateCache.IsWhole := Memref.isWhole_whole _
    have hS2 : upCache.IsWhole := Memref.isWhole_whole _
    have hS3 : downCache.IsWhole := Memref.isWhole_whole _
    have hT0 : experts.IsWhole := Memref.isWhole_whole _
    have hT1 : count.IsWhole := Memref.isWhole_whole _
    sl_exec! (disch := first | (guard_target = Scalar.cmpi _ _ _ = _; exact hc0) | (guard_target = k0_cond2 _ _ = _; exact hc2) | (guard_target = k0_cond3 _ _ = _; exact hc3) | (guard_target = ¬(Scalar.cmpi _ _ _ = _); exact hc0) | (guard_target = ¬(k0_cond2 _ _ = _); exact hc2) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; swap
      · iexact HO4
      · ipureintro
        exact output_read arg7.view hidden.view x0 _ _ _ _ _ _ _ _ _ _
          (View.readAt_rep_full _ _ _) (View.readAt_rep_full _ _ _) rfl rfl rfl rfl (View.readAt_full _ _ _)
    isplitl [HS0]
    · iexists _; iexact HS0
    isplitl [HS1]; · iexact HS1
    isplitl [HS2]; · iexact HS2
    iexact HS3

set_option maxHeartbeats 8000000 in
/-- A block that is not used: its output is zeros. -/
theorem run_unused (c : Dev nD) (i : grid0.Coords) (arg3 : Memref sig .tc .vmem S512x1024 .f32) (harg3 : arg3.IsWhole) (arg4 : Memref sig .tc .vmem S1x1x1024x1024 .f32) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S512x1024 .f32) (harg7 : arg7.IsWhole) (T0 : S272.Idx → BitVec 32) (T1 : S1.Idx → BitVec 32)
    (x0 : Vec F S512x1024 .f32) (x1 x2 x3 : Vec F S1x1x1024x1024 .f32)
    (hc0 : ¬ refresh (F := F) T0 T1 i) (hc2 : ¬ k0_cond2 i (usedWord (F := F) T1) = 1#1) (hc3 : k0_cond3 i (usedWord (F := F) T1) = 1#1)
    (a0 : Buf (Elt F) ((c : Thread nD τ).loc cc0_scratch0)) (a1 : Buf (Elt F) ((c : Thread nD τ).loc cc0_scratch1)) (a2 : Buf (Elt F) ((c : Thread nD τ).loc cc0_scratch2)) (a3 : Buf (Elt F) ((c : Thread nD τ).loc cc0_scratch3)) (K : PUnit → sProp 𝕄) :
    iprop(windows c arg3 arg4 arg5 arg6 T0 T1 x0 x1 x2 x3
          ∗ (∃ d, owns (c : Thread nD τ) arg7 fullShare d)
          ∗ (hidden.view.loc (c : Thread nD τ) ↦{fullShare} a0)
          ∗ (gateCache.view.loc (c : Thread nD τ) ↦{fullShare} a1)
          ∗ (upCache.view.loc (c : Thread nD τ) ↦{fullShare} a2)
          ∗ (downCache.view.loc (c : Thread nD τ) ↦{fullShare} a3)
          ∗ (iprop(windows c arg3 arg4 arg5 arg6 T0 T1 x0 x1 x2 x3
              ∗ owns (c : Thread nD τ) arg7 fullShare (k0_pay8)
              ∗ (∃ f, hidden.view.loc (c : Thread nD τ) ↦{fullShare} f)
              ∗ (gateCache.view.loc (c : Thread nD τ) ↦{fullShare} a1)
              ∗ (upCache.view.loc (c : Thread nD τ) ↦{fullShare} a2)
              ∗ (downCache.view.loc (c : Thread nD τ) ↦{fullShare} a3)) -∗ K ⟨⟩))
      ⊢ wp frame (wpE (defs₀ (F := F)) Variants.none c none) Set.univ (cc0_moe_ffn i experts (Memref.isWhole_whole _) count (Memref.isWhole_whole _) arg3 harg3 arg4 harg4 arg5 harg5 arg6 harg6 arg7 harg7 hidden (Memref.isWhole_whole _) gateCache (Memref.isWhole_whole _) upCache (Memref.isWhole_whole _) downCache (Memref.isWhole_whole _)) K := by
    unfold windows owns
    rw [cc0_moe_ffn_eq_skeleton]; unfold cc0_moe_ffn_skel
    iintro ⟨⟨H0, H1, H2, H3, HT0, HT1⟩, ⟨%d4, %f4, -, HO4⟩, HS0, HS1, HS2, HS3, Hk⟩
    have hS0 : hidden.IsWhole := Memref.isWhole_whole _
    have hS1 : gateCache.IsWhole := Memref.isWhole_whole _
    have hS2 : upCache.IsWhole := Memref.isWhole_whole _
    have hS3 : downCache.IsWhole := Memref.isWhole_whole _
    have hT0 : experts.IsWhole := Memref.isWhole_whole _
    have hT1 : count.IsWhole := Memref.isWhole_whole _
    sl_exec! (disch := first | (guard_target = Scalar.cmpi _ _ _ = _; exact hc0) | (guard_target = k0_cond2 _ _ = _; exact hc2) | (guard_target = k0_cond3 _ _ = _; exact hc3) | (guard_target = ¬(Scalar.cmpi _ _ _ = _); exact hc0) | (guard_target = ¬(k0_cond2 _ _ = _); exact hc2) | (guard_target = ¬(k0_cond3 _ _ = _); exact hc3))
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]
    · iexists _; isplitr; swap
      · iexact HO4
      · ipureintro; exact View.read_writes_full _ _ _ _ _
    isplitl [HS0]
    · iexists _; iexact HS0
    isplitl [HS1]; · iexact HS1
    isplitl [HS2]; · iexact HS2
    iexact HS3

end Cert.SecondExperts
-- ==== Proof.SecondExpertsWords.lean ====
/- The words that steer the second layer's experts' kernel: the table of experts and the number of used blocks, and the three conditions
   its body decides with them. -/
module

public import proofs.«01_k».proof.Proof.SecondExpertsRun
public import Idealize.ShloMosaic.Lib.Pointwise
public import Idealize.ShloMosaic.Lib.Pipeline.ValueKit

@[expose] public section
set_option maxRecDepth 16384
noncomputable section
namespace Cert.SecondExperts
open Cert.Kernel4Ideal Cert.Kernel4Ideal.Gen
open Idealize.ShloMosaic Idealize.ShloMosaic.TcCoe Idealize.ShloMosaic.Tactic

variable {F : FTy → Type} [FloatOps F]

theorem coord_lt (i : grid0.Coords) : (i 0).val < 272 := (i 0).isLt

/-- The expert of block `n`. -/
def expertAt (T0 : S272.Idx → BitVec 32) (n : ℕ) (h : n < 272) : BitVec 32 := T0 (ix1 ⟨n, h⟩)

/-- Block `n` is used. -/
def Used (T1 : S1.Idx → BitVec 32) (n : ℕ) : Prop := (n : ℤ) < (T1 (ix1 0)).toInt

theorem Used.pred {T1 : S1.Idx → BitVec 32} {n : ℕ} (h : Used T1 (n + 1)) : Used T1 n := by
  unfold Used at *; push_cast at h; omega

theorem usedWord_eq (T1 : S1.Idx → BitVec 32) : usedWord (F := F) T1 = T1 (ix1 0) := by
  refine congrArg T1 ?_
  funext ax; apply Fin.ext
  match ax with | ⟨0, _⟩ => rfl

theorem off1_eq : ∀ i : grid0.Coords, k0_off1 i 0 = (i 0).val := by decide +kernel
theorem off2_eq : ∀ i : grid0.Coords, k0_off2 i 0 = (i 0).val - 1 := by decide +kernel

theorem hereWord_eq (T0 : S272.Idx → BitVec 32) (i : grid0.Coords) :
    hereWord (F := F) T0 i = expertAt T0 (i 0).val (coord_lt i) := by
  refine congrArg T0 ?_
  funext ax; apply Fin.ext
  match ax with
  | ⟨0, _⟩ => show k0_off1 i 0 + 1 * 0 = (i 0).val; rw [off1_eq]; omega

theorem beforeWord_eq (T0 : S272.Idx → BitVec 32) (i : grid0.Coords) :
    beforeWord (F := F) T0 i = expertAt T0 ((i 0).val - 1) (by have := coord_lt i; omega) := by
  refine congrArg T0 ?_
  funext ax; apply Fin.ext
  match ax with
  | ⟨0, _⟩ => show k0_off2 i 0 + 1 * 0 = (i 0).val - 1; rw [off2_eq]; omega

theorem toInt_coord : ∀ n : Fin 272, (BitVec.ofNat 32 n.val).toInt = (n.val : ℤ) := by decide +kernel
theorem zero_coord : ∀ n : Fin 272, BitVec.ofNat 32 n.val = 0#32 ↔ n.val = 0 := by decide +kernel

theorem bit_cases (b : BitVec 1) : b = 0#1 ∨ b = 1#1 := by
  revert b; decide

/-- A condition widened to a word and compared with zero is the condition. -/
theorem widened (b : BitVec 1) : Scalar.cmpi .ne (Scalar.extui b : BitVec 32) 0#32 = b := by
  revert b; decide

theorem cmpi_slt (x y : BitVec 32) : Scalar.cmpi .slt x y = 1#1 ↔ x.toInt < y.toInt := by
  show BitVec.ofBool (x.slt y) = 1#1 ↔ _
  rw [BitVec.slt]
  by_cases h : x.toInt < y.toInt <;> simp [h]
theorem cmpi_sge (x y : BitVec 32) : Scalar.cmpi .sge x y = 1#1 ↔ y.toInt ≤ x.toInt := by
  show BitVec.ofBool (y.sle x) = 1#1 ↔ _
  rw [BitVec.sle]
  by_cases h : y.toInt ≤ x.toInt <;> simp [h]
theorem cmpi_eq (x y : BitVec 32) : Scalar.cmpi .eq x y = 1#1 ↔ x = y := by
  show BitVec.ofBool (x == y) = 1#1 ↔ _
  by_cases h : x = y
  · simp [h]
  · have e : (x == y) = false := beq_false_of_ne h
    rw [e]; simp [h]
theorem cmpi_ne (x y : BitVec 32) : Scalar.cmpi .ne x y = 1#1 ↔ x ≠ y := by
  show BitVec.ofBool (x != y) = 1#1 ↔ _
  by_cases h : x = y
  · simp [h]
  · have e : (x != y) = true := bne_iff_ne.mpr h
    rw [e]; simp [h]
theorem andi_one (a b : BitVec 1) : Scalar.andi a b = 1#1 ↔ a = 1#1 ∧ b = 1#1 := by
  revert a b; decide
theorem ori_one (a b : BitVec 1) : Scalar.ori a b = 1#1 ↔ a = 1#1 ∨ b = 1#1 := by
  revert a b; decide

variable (T0 : S272.Idx → BitVec 32) (T1 : S1.Idx → BitVec 32) (i : grid0.Coords)

theorem cond2_iff (v : BitVec 32) : k0_cond2 i v = 1#1 ↔ ((i 0).val : ℤ) < v.toInt := by
  show Scalar.cmpi .ne (Scalar.extui (Scalar.cmpi .slt (BitVec.ofNat 32 (i 0).val) v) : BitVec 32) 0#32 = 1#1 ↔ _
  rw [widened, cmpi_slt, toInt_coord ⟨(i 0).val, coord_lt i⟩]
theorem cond3_iff (v : BitVec 32) : k0_cond3 i v = 1#1 ↔ v.toInt ≤ ((i 0).val : ℤ) := by
  show Scalar.cmpi .ne (Scalar.extui (Scalar.cmpi .sge (BitVec.ofNat 32 (i 0).val) v) : BitVec 32) 0#32 = 1#1 ↔ _
  rw [widened, cmpi_sge, toInt_coord ⟨(i 0).val, coord_lt i⟩]

theorem used_cond2 : k0_cond2 i (usedWord (F := F) T1) = 1#1 ↔ Used T1 (i 0).val := by
  rw [cond2_iff, usedWord_eq]; rfl
theorem used_cond3 : k0_cond3 i (usedWord (F := F) T1) = 1#1 ↔ ¬ Used T1 (i 0).val := by
  rw [cond3_iff, usedWord_eq]; exact not_lt.symm

theorem refresh_iff : refresh (F := F) T0 T1 i ↔ Used T1 (i 0).val ∧ ((i 0).val = 0 ∨
    expertAt T0 (i 0).val (coord_lt i) ≠ expertAt T0 ((i 0).val - 1) (by have := coord_lt i; omega)) := by
  unfold refresh
  rw [widened, andi_one, ori_one, cmpi_slt, cmpi_eq, cmpi_ne, zero_coord ⟨(i 0).val, coord_lt i⟩, hereWord_eq, beforeWord_eq,
    usedWord_eq, toInt_coord ⟨(i 0).val, coord_lt i⟩]
  rfl

/-! ## The weights' blocks -/

/-- A table word read by a window's index map. -/
theorem table_at (pf : pre0.Contents (Elt F)) :
    pf.at 0 (Rect.unit (s := S272) ![(Scalar.indexCast (BitVec.ofNat 32 (i 0).val) : Index).toNat] S1.size (k0_off1_inb i)) numel1_S1
      = expertAt (pf 0) (i 0).val (coord_lt i) := by
  refine congrArg (pf 0) ?_
  funext ax; apply Fin.ext
  match ax with
  | ⟨0, _⟩ => show k0_off1 i 0 + 1 * 0 = (i 0).val; rw [off1_eq]; omega

theorem map1_eq (pf : pre0.Contents (Elt F)) :
    cc0_transform_1 k0_off1_inb numel1_S1 pf i = ![1, (expertAt (pf 0) (i 0).val (coord_lt i)).toNat, 0, 0] := by
  rw [← table_at]; rfl
theorem map2_eq (pf : pre0.Contents (Elt F)) :
    cc0_transform_2 k0_off1_inb numel1_S1 pf i = ![1, (expertAt (pf 0) (i 0).val (coord_lt i)).toNat, 0, 0] := by
  rw [← table_at]; rfl
theorem map3_eq (pf : pre0.Contents (Elt F)) :
    cc0_transform_3 k0_off1_inb numel1_S1 pf i = ![1, (expertAt (pf 0) (i 0).val (coord_lt i)).toNat, 0, 0] := by
  rw [← table_at]; rfl

/-- Every table entry names one of the sixteen experts. -/
def Named (T0 : S272.Idx → BitVec 32) : Prop := ∀ (n : ℕ) (h : n < 272), (expertAt T0 n h).toNat < 16

theorem block_inside (n : ℕ) (h : n < 16) : ∀ a : Fin 4, ((![1, n, 0, 0] : Fin 4 → ℕ) a + 1) * S1x1x1024x1024.size a ≤ S2x16x1024x1024.size a
  | ⟨0, _⟩ => by show (1 + 1) * 1 ≤ 2; omega
  | ⟨1, _⟩ => by show (n + 1) * 1 ≤ 16; omega
  | ⟨2, _⟩ => by show (0 + 1) * 1024 ≤ 1024; omega
  | ⟨3, _⟩ => by show (0 + 1) * 1024 ≤ 1024; omega

/-- Then every block of weights is inside its array. -/
theorem blocks_ok (pf : pre0.Contents (Elt F)) (h : Named (pf 0)) : ok0 pf :=
  ⟨fun i => ⟨by rw [map1_eq]; exact block_inside _ (h _ _), .inl rfl⟩,
    fun i => ⟨by rw [map2_eq]; exact block_inside _ (h _ _), .inl rfl⟩,
    fun i => ⟨by rw [map3_eq]; exact block_inside _ (h _ _), .inl rfl⟩⟩

/-- The output's block is stored at every point. -/
theorem never_idle (pf : pre0.Contents (Elt F)) : idle0 pf 4 i = false := by
  show (!(k0_cond2 i (pf.atD 1 ![0]) == 1#1) && !(k0_cond3 i (pf.atD 1 ![0]) == 1#1)) = false
  generalize pf.atD 1 ![0] = v
  by_cases h : ((i 0).val : ℤ) < (show BitVec 32 from v).toInt
  · rw [(cond2_iff i v).mpr h]; rfl
  · rw [(cond3_iff i v).mpr (not_lt.mp h)]; simp

end Cert.SecondExperts
-- ==== Proof.SecondExpertsBody.lean ====
/- The launch of the second layer's experts' kernel: the blocks, the invariant the grid carries, the body at every point, and the run
   from any memory whose table names experts. -/
module

public import proofs.«01_k».proof.Proof.SecondExpertsWords

@[expose] public section
set_option maxRecDepth 16384
noncomputable section
namespace Cert.SecondExperts
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables of the launch -/

/-- The one core. -/
abbrev core : Thread nD τ := ((0 : Dev nD) : Thread nD τ)
/-- The expert of each block, and the number of used blocks, in the launch's memory. -/
abbrev tab0 : S272.Idx → BitVec 32 := m (core.loc main_arg0)
abbrev tab1 : S1.Idx → BitVec 32 := m (core.loc main_arg1)

/-- Both as the contents of the prefetched tables. -/
def tables : pre0.Contents (Elt F) := fun | ⟨0, _⟩ => tab0 m | ⟨1, _⟩ => tab1 m | ⟨_ + 2, h⟩ => absurd h (by simp)

variable (hn : Named (tab0 m))

/-- The pipeline at them. -/
def held : (pcfg0 (F := F)).Adm := ⟨tables m, blocks_ok (tables m) hn⟩
abbrev cfg : Pipeline.Cfg sig Λ₀ := cfg0 (F := F) (held m hn)
abbrev cfgs : Fin 1 → Pipeline.Cfg sig Λ₀ := Pipeline.pin (pcfgs (F := F)) fun _ => held m hn

/-- The coordinates of point `t`: its number. -/
abbrev crd (t : Fin (cfg m hn).N) : grid0.Coords := grid0.coords t
theorem crd_val : ∀ t : Fin grid0.N, (grid0.coords t 0).val = t.val := by decide +kernel
theorem point_lt (t : Fin (cfg m hn).N) : t.val < 272 := lt_of_lt_of_eq t.isLt N_0

/-- The windows' staging buffers at point `t`. -/
abbrev st0 (t : Fin (cfg m hn).N) : Memref sig .tc .vmem S512x1024 .f32 := spec0_0.stage ((cfg m hn).slots t (0 : Fin 5))
abbrev st1 (t : Fin (cfg m hn).N) : Memref sig .tc .vmem S1x1x1024x1024 .f32 := spec0_1.stage ((cfg m hn).slots t (1 : Fin 5))
abbrev st2 (t : Fin (cfg m hn).N) : Memref sig .tc .vmem S1x1x1024x1024 .f32 := spec0_2.stage ((cfg m hn).slots t (2 : Fin 5))
abbrev st3 (t : Fin (cfg m hn).N) : Memref sig .tc .vmem S1x1x1024x1024 .f32 := spec0_3.stage ((cfg m hn).slots t (3 : Fin 5))
abbrev st4 (t : Fin (cfg m hn).N) : Memref sig .tc .vmem S512x1024 .f32 := spec0_4.stage ((cfg m hn).slots t (4 : Fin 5))
abbrev ws0 (t : Fin (cfg m hn).N) : (st0 m hn t).IsWhole := hstage0_0 (((cfg m hn).slots t (0 : Fin 5)).cast nbuf0_0)
abbrev ws1 (t : Fin (cfg m hn).N) : (st1 m hn t).IsWhole := hstage0_1 (((cfg m hn).slots t (1 : Fin 5)).cast nbuf0_1)
abbrev ws2 (t : Fin (cfg m hn).N) : (st2 m hn t).IsWhole := hstage0_2 (((cfg m hn).slots t (2 : Fin 5)).cast nbuf0_2)
abbrev ws3 (t : Fin (cfg m hn).N) : (st3 m hn t).IsWhole := hstage0_3 (((cfg m hn).slots t (3 : Fin 5)).cast nbuf0_3)
abbrev ws4 (t : Fin (cfg m hn).N) : (st4 m hn t).IsWhole := hstage0_4 (((cfg m hn).slots t (4 : Fin 5)).cast nbuf0_4)

/-! ## The blocks -/

/-- Window `w`'s block at point `t`. -/
def blockAt (c : Dev nD) (w : Fin (cfg m hn).W) (t : Fin (cfg m hn).N) :
    (((cfg m hn).win w).xblock ((cfg m hn).grid.coords t)).Idx → Elt F ((cfg m hn).win w).elt :=
  (((cfg m hn).win w).blk t).view.read (Elt F) (m (((cfg m hn).win w).arr.view.loc (c : Thread nD τ)))

/-- The rows of block `t`, and the weights of its expert. -/
abbrev rowsAt (c : Dev nD) (t : Fin (cfg m hn).N) : Vec F S512x1024 .f32 := blockAt m hn c (0 : Fin 5) t
abbrev gateAt (c : Dev nD) (t : Fin (cfg m hn).N) : Vec F S1x1x1024x1024 .f32 := blockAt m hn c (1 : Fin 5) t
abbrev upAt (c : Dev nD) (t : Fin (cfg m hn).N) : Vec F S1x1x1024x1024 .f32 := blockAt m hn c (2 : Fin 5) t
abbrev downAt (c : Dev nD) (t : Fin (cfg m hn).N) : Vec F S1x1x1024x1024 .f32 := blockAt m hn c (3 : Fin 5) t

theorem index1 (t : Fin (cfg m hn).N) : ((cfg m hn).win (1 : Fin 5)).index t = ![1, (expertAt (tab0 m) t.val (point_lt m hn t)).toNat, 0, 0] := by
  refine (map1_eq (grid0.coords t) (tables m)).trans ?_
  have e := crd_val t
  simp only [e]; rfl
theorem index2 (t : Fin (cfg m hn).N) : ((cfg m hn).win (2 : Fin 5)).index t = ![1, (expertAt (tab0 m) t.val (point_lt m hn t)).toNat, 0, 0] := by
  refine (map2_eq (grid0.coords t) (tables m)).trans ?_
  have e := crd_val t
  simp only [e]; rfl
theorem index3 (t : Fin (cfg m hn).N) : ((cfg m hn).win (3 : Fin 5)).index t = ![1, (expertAt (tab0 m) t.val (point_lt m hn t)).toNat, 0, 0] := by
  refine (map3_eq (grid0.coords t) (tables m)).trans ?_
  have e := crd_val t
  simp only [e]; rfl

/-- The expert's number, as an index of the weights. -/
def expertIx (t : Fin (cfg m hn).N) : Fin 16 := ⟨(expertAt (tab0 m) t.val (point_lt m hn t)).toNat, hn _ _⟩

theorem emb_weights {off : Fin 4 → ℕ} {n : Fin 16} (h : off = ![1, n.val, 0, 0])
    (inb : ∀ a, (off a + 1) * S1x1x1024x1024.size a ≤ S2x16x1024x1024.size a) (y : S1x1x1024x1024.Idx) (e : Fin 4 → ℕ)
    (he : ∀ a, e a = off a * S1x1x1024x1024.size a + 1 * (y a).val) (a : Fin 4) :
    e a = ((ix4 1 n (y 2) (y 3) : S2x16x1024x1024.Idx) a).val := by
  subst h
  rw [he]
  match a with
  | ⟨0, _⟩ => show 1 * 1 + 1 * (y 0).val = 1; have : (y 0).val < 1 := (y 0).isLt; omega
  | ⟨1, _⟩ => show n.val * 1 + 1 * (y 1).val = n.val; have : (y 1).val < 1 := (y 1).isLt; omega
  | ⟨2, _⟩ => show 0 * 1024 + 1 * (y 2).val = (y 2).val; omega
  | ⟨3, _⟩ => show 0 * 1024 + 1 * (y 3).val = (y 3).val; omega

theorem gateAt_eq (c : Dev nD) (t : Fin (cfg m hn).N) (y : S1x1x1024x1024.Idx) :
    gateAt m hn c t y = (m ((c : Thread nD τ).loc main_arg3) : S2x16x1024x1024.Idx → Elt F .f32) (ix4 1 (expertIx m hn t) (y 2) (y 3)) := by
  refine congrArg (m ((c : Thread nD τ).loc main_arg3) : S2x16x1024x1024.Idx → Elt F .f32) ?_
  funext a; apply Fin.ext
  exact emb_weights (index1 m hn t) (fun a => by rw [index1]; exact block_inside _ (hn _ _) a) y _ (fun _ => rfl) a

theorem upAt_eq (c : Dev nD) (t : Fin (cfg m hn).N) (y : S1x1x1024x1024.Idx) :
    upAt m hn c t y = (m ((c : Thread nD τ).loc main_arg4) : S2x16x1024x1024.Idx → Elt F .f32) (ix4 1 (expertIx m hn t) (y 2) (y 3)) := by
  refine congrArg (m ((c : Thread nD τ).loc main_arg4) : S2x16x1024x1024.Idx → Elt F .f32) ?_
  funext a; apply Fin.ext
  exact emb_weights (index2 m hn t) (fun a => by rw [index2]; exact block_inside _ (hn _ _) a) y _ (fun _ => rfl) a

theorem downAt_eq (c : Dev nD) (t : Fin (cfg m hn).N) (y : S1x1x1024x1024.Idx) :
    downAt m hn c t y = (m ((c : Thread nD τ).loc main_arg5) : S2x16x1024x1024.Idx → Elt F .f32) (ix4 1 (expertIx m hn t) (y 2) (y 3)) := by
  refine congrArg (m ((c : Thread nD τ).loc main_arg5) : S2x16x1024x1024.Idx → Elt F .f32) ?_
  funext a; apply Fin.ext
  exact emb_weights (index3 m hn t) (fun a => by rw [index3]; exact block_inside _ (hn _ _) a) y _ (fun _ => rfl) a

/-- Two blocks of one expert have the same weights. -/
theorem same_expert (t t' : Fin (cfg m hn).N)
    (h : expertAt (tab0 m) t.val (point_lt m hn t) = expertAt (tab0 m) t'.val (point_lt m hn t')) : expertIx m hn t = expertIx m hn t' :=
  Fin.ext (by
    show (expertAt (tab0 m) t.val (point_lt m hn t)).toNat = (expertAt (tab0 m) t'.val (point_lt m hn t')).toNat
    rw [h])
theorem gateAt_same (c : Dev nD) (t t' : Fin (cfg m hn).N) (h : expertIx m hn t = expertIx m hn t') : gateAt m hn c t = gateAt m hn c t' := by
  funext y; rw [gateAt_eq, gateAt_eq, h]
theorem upAt_same (c : Dev nD) (t t' : Fin (cfg m hn).N) (h : expertIx m hn t = expertIx m hn t') : upAt m hn c t = upAt m hn c t' := by
  funext y; rw [upAt_eq, upAt_eq, h]
theorem downAt_same (c : Dev nD) (t t' : Fin (cfg m hn).N) (h : expertIx m hn t = expertIx m hn t') : downAt m hn c t = downAt m hn c t' := by
  funext y; rw [downAt_eq, downAt_eq, h]

/-! ## What the output holds, and the invariant -/

open Classical in
/-- What a point leaves in the output's block: the used blocks' computation, zeros in the others. -/
def leaves (c : Dev nD) (t : Fin (cfg m hn).N) : Vec F S512x1024 .f32 :=
  if Used (tab1 m) t.val then
    outputOf (rowsAt m hn c t) (k0_pay1 (gateAt m hn c t)) (k0_pay2 (upAt m hn c t)) (k0_pay3 (downAt m hn c t))
  else k0_pay8

/-- Before position `n` the scratch buffers of weights hold those of the block before, rounded, if it was used. -/
def Carried (c : Dev nD) (n : ℕ) (g u d : Vec F S1024x1024 .bf16) : Prop :=
  ∀ t : Fin (cfg m hn).N, t.val + 1 = n → Used (tab1 m) t.val →
    g = k0_pay1 (gateAt m hn c t) ∧ u = k0_pay2 (upAt m hn c t) ∧ d = k0_pay3 (downAt m hn c t)

/-- What the grid carries: the scratch buffers, and the core's halves of the tables. -/
def Inv (c : Dev nD) (n : ℕ) : sProp 𝕄 :=
  iprop((∃ f, hidden.view.loc (c : Thread nD τ) ↦{fullShare} f)
    ∗ (∃ a1 a2 a3, ⌜Carried m hn c n (gateCache.view.read (Elt F) a1) (upCache.view.read (Elt F) a2) (downCache.view.read (Elt F) a3)⌝
        ∗ (gateCache.view.loc (c : Thread nD τ) ↦{fullShare} a1)
        ∗ (upCache.view.loc (c : Thread nD τ) ↦{fullShare} a2)
        ∗ (downCache.view.loc (c : Thread nD τ) ↦{fullShare} a3))
    ∗ (experts.view.loc (c : Thread nD τ) ↦{fullShare.right} tab0 m)
    ∗ (count.view.loc (c : Thread nD τ) ↦{fullShare.right} tab1 m))

/-- The pipeline's proof data. -/
def dats (_ : Fin 1) (c : Dev nD) : Dat τ (Elt F) Unit ℕ (UR sig nD τ) ℕ (cfg m hn) c where
  A w := m (((cfg m hn).win w).arr.view.loc (c : Thread nD τ))
  after w t := match w with
    | ⟨0, _⟩ => blockAt m hn c (0 : Fin 5) t
    | ⟨1, _⟩ => blockAt m hn c (1 : Fin 5) t
    | ⟨2, _⟩ => blockAt m hn c (2 : Fin 5) t
    | ⟨3, _⟩ => blockAt m hn c (3 : Fin 5) t
    | ⟨4, _⟩ => leaves m hn c t
  Φ t := Inv m hn c t.val
  q _ := fullShare
  owed _ := 0

theorem after_out (c : Dev nD) (t : Fin (cfg m hn).N) : (dats m hn 0 c).after (4 : Fin 5) t = leaves m hn c t := rfl

theorem before0 (c : Dev nD) (t : Fin (cfg m hn).N) (d) : (dats m hn 0 c).before (0 : Fin 5) t d = blockAt m hn c (0 : Fin 5) t :=
  ((dats m hn 0 c).before_in_eq_fetched (0 : Fin 5) rfl (fun _ => rfl) (fun _ _ _ => rfl)
    (fun t => by show blockAt m hn c (0 : Fin 5) t = _; unfold Dat.blockOf blockAt; rfl) t d).trans (by unfold Dat.fetched Dat.blockOf blockAt; rfl)

theorem before1 (c : Dev nD) (t : Fin (cfg m hn).N) (d) : (dats m hn 0 c).before (1 : Fin 5) t d = blockAt m hn c (1 : Fin 5) t :=
  ((dats m hn 0 c).before_in_eq_fetched (1 : Fin 5) rfl (fun _ => rfl) (fun _ _ _ => rfl)
    (fun t => by show blockAt m hn c (1 : Fin 5) t = _; unfold Dat.blockOf blockAt; rfl) t d).trans (by unfold Dat.fetched Dat.blockOf blockAt; rfl)

theorem before2 (c : Dev nD) (t : Fin (cfg m hn).N) (d) : (dats m hn 0 c).before (2 : Fin 5) t d = blockAt m hn c (2 : Fin 5) t :=
  ((dats m hn 0 c).before_in_eq_fetched (2 : Fin 5) rfl (fun _ => rfl) (fun _ _ _ => rfl)
    (fun t => by show blockAt m hn c (2 : Fin 5) t = _; unfold Dat.blockOf blockAt; rfl) t d).trans (by unfold Dat.fetched Dat.blockOf blockAt; rfl)

theorem before3 (c : Dev nD) (t : Fin (cfg m hn).N) (d) : (dats m hn 0 c).before (3 : Fin 5) t d = blockAt m hn c (3 : Fin 5) t :=
  ((dats m hn 0 c).before_in_eq_fetched (3 : Fin 5) rfl (fun _ => rfl) (fun _ _ _ => rfl)
    (fun t => by show blockAt m hn c (3 : Fin 5) t = _; unfold Dat.blockOf blockAt; rfl) t d).trans (by unfold Dat.fetched Dat.blockOf blockAt; rfl)

/-! ## The body at a point -/

theorem carried_here (c : Dev nD) (t : Fin (cfg m hn).N) (g u d : Vec F S1024x1024 .bf16) (hg : g = k0_pay1 (gateAt m hn c t))
    (hu : u = k0_pay2 (upAt m hn c t)) (hd : d = k0_pay3 (downAt m hn c t)) : Carried m hn c (t.val + 1) g u d := by
  intro t' h' _
  have e : t' = t := Fin.ext (by omega)
  subst e
  exact ⟨hg, hu, hd⟩

/-- At a used block that does not refresh, the scratch buffers hold this block's weights. -/
theorem carried_over (c : Dev nD) (t : Fin (cfg m hn).N) (g u d : Vec F S1024x1024 .bf16) (h : Carried m hn c t.val g u d)
    (hr : ¬ refresh (F := F) (tab0 m) (tab1 m) (crd m hn t)) (hu : Used (tab1 m) t.val) :
    g = k0_pay1 (gateAt m hn c t) ∧ u = k0_pay2 (upAt m hn c t) ∧ d = k0_pay3 (downAt m hn c t) := by
  rw [refresh_iff] at hr
  have ev := crd_val t
  simp only [ev] at hr
  have h0 : t.val ≠ 0 := fun h0 => hr ⟨hu, .inl h0⟩
  have he : expertAt (tab0 m) t.val (point_lt m hn t) = expertAt (tab0 m) (t.val - 1) (by have := point_lt m hn t; omega) :=
    Classical.byContradiction fun hne => hr ⟨hu, .inr hne⟩
  have hs := same_expert m hn t ⟨t.val - 1, by have := t.isLt; omega⟩ he
  obtain ⟨h1, h2, h3⟩ := h ⟨t.val - 1, by have := t.isLt; omega⟩ (by show t.val - 1 + 1 = t.val; omega)
    (Used.pred (by rw [show t.val - 1 + 1 = t.val by omega]; exact hu))
  exact ⟨h1.trans (congrArg k0_pay1 (gateAt_same m hn c _ _ hs).symm), h2.trans (congrArg k0_pay2 (upAt_same m hn c _ _ hs).symm),
    h3.trans (congrArg k0_pay3 (downAt_same m hn c _ _ hs).symm)⟩

theorem not_carried (c : Dev nD) (t : Fin (cfg m hn).N) (g u d : Vec F S1024x1024 .bf16) (h : ¬ Used (tab1 m) t.val) :
    Carried m hn c (t.val + 1) g u d := by
  intro t' h' hu
  have e : t' = t := Fin.ext (by omega)
  subst e
  exact absurd hu h

/-- What the body finds … -/
def Before (c : Dev nD) (t : Fin (cfg m hn).N) : sProp 𝕄 :=
  iprop(Inv m hn c t.val ∗ (dats m hn 0 c).owesAt () t.castSucc
    ∗ (∃ d : Unit, owns (c : Thread nD τ) (st0 m hn t) fullShare (rowsAt m hn c t))
    ∗ (∃ d : Unit, owns (c : Thread nD τ) (st1 m hn t) fullShare (gateAt m hn c t))
    ∗ (∃ d : Unit, owns (c : Thread nD τ) (st2 m hn t) fullShare (upAt m hn c t))
    ∗ (∃ d : Unit, owns (c : Thread nD τ) (st3 m hn t) fullShare (downAt m hn c t))
    ∗ (∃ d, owns (c : Thread nD τ) (st4 m hn t) fullShare d))
/-- … and leaves. -/
def After (c : Dev nD) (t : Fin (cfg m hn).N) : sProp 𝕄 :=
  iprop(Inv m hn c (t.val + 1) ∗ (dats m hn 0 c).owesAt () t.castSucc
    ∗ owns (c : Thread nD τ) (st0 m hn t) fullShare (rowsAt m hn c t)
    ∗ owns (c : Thread nD τ) (st1 m hn t) fullShare (gateAt m hn c t)
    ∗ owns (c : Thread nD τ) (st2 m hn t) fullShare (upAt m hn c t)
    ∗ owns (c : Thread nD τ) (st3 m hn t) fullShare (downAt m hn c t)
    ∗ owns (c : Thread nD τ) (st4 m hn t) fullShare (leaves m hn c t))

set_option maxHeartbeats 4000000 in
/-- The body, on each of its three paths. -/
theorem body_point (c : Dev nD) (t : Fin (cfg m hn).N) :
    Before m hn c t ⊢ wp frame (wpE (defs₀ (F := F)) Variants.none c none) Set.univ
      (cc0_moe_ffn (crd m hn t) experts (Memref.isWhole_whole _) count (Memref.isWhole_whole _) (st0 m hn t) (ws0 m hn t) (st1 m hn t) (ws1 m hn t)
        (st2 m hn t) (ws2 m hn t) (st3 m hn t) (ws3 m hn t) (st4 m hn t) (ws4 m hn t) hidden (Memref.isWhole_whole _) gateCache (Memref.isWhole_whole _)
        upCache (Memref.isWhole_whole _) downCache (Memref.isWhole_whole _)) (fun _ => After m hn c t) := by
  have ev := crd_val t
  unfold Before After Inv
  by_cases hu : Used (tab1 m) t.val
  · have hc2 : k0_cond2 (crd m hn t) (usedWord (F := F) (tab1 m)) = 1#1 := (used_cond2 _ _).mpr (by rw [ev]; exact hu)
    have hc3 : ¬ k0_cond3 (crd m hn t) (usedWord (F := F) (tab1 m)) = 1#1 := fun h => (used_cond3 _ _).mp h (by rw [ev]; exact hu)
    have el : leaves m hn c t = outputOf (rowsAt m hn c t) (k0_pay1 (gateAt m hn c t)) (k0_pay2 (upAt m hn c t)) (k0_pay3 (downAt m hn c t)) := if_pos hu
    rw [el]
    by_cases hr : refresh (F := F) (tab0 m) (tab1 m) (crd m hn t)
    · skip
      iintro ⟨⟨⟨%a0, HS0⟩, ⟨%a1, %a2, %a3, %hc, HS1, HS2, HS3⟩, HT0, HT1⟩, Ho, ⟨%d0, H0⟩, ⟨%d1, H1⟩, ⟨%d2, H2⟩, ⟨%d3, H3⟩, ⟨%d4, H4⟩⟩
      iapply (run_refresh c (crd m hn t) (st0 m hn t) (ws0 m hn t) (st1 m hn t) (ws1 m hn t) (st2 m hn t) (ws2 m hn t) (st3 m hn t) (ws3 m hn t)
        (st4 m hn t) (ws4 m hn t) (tab0 m) (tab1 m) (rowsAt m hn c t) (gateAt m hn c t) (upAt m hn c t) (downAt m hn c t) hr hc2 hc3 a0 a1 a2 a3 _)
      isplitl [H0 H1 H2 H3 HT0 HT1]
      · unfold windows
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      isplitl [HS2]; · iexact HS2
      isplitl [HS3]; · iexact HS3
      unfold windows
      iintro ⟨⟨H0, H1, H2, H3, HT0, HT1⟩, H4, HS0, ⟨%b1, %hg, HS1⟩, ⟨%b2, %hv, HS2⟩, ⟨%b3, %hd, HS3⟩⟩
      isplitl [HS0 HS1 HS2 HS3 HT0 HT1]
      · isplitl [HS0]; · iexact HS0
        isplitl [HS1 HS2 HS3]
        · iexists _, _, _; isplitr; swap
          · isplitl [HS1]; · iexact HS1
            isplitl [HS2]; · iexact HS2
            iexact HS3
          · ipureintro; exact carried_here m hn c t _ _ _ hg hv hd
        isplitl [HT0]; · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
    · skip
      iintro ⟨⟨⟨%a0, HS0⟩, ⟨%a1, %a2, %a3, %hc, HS1, HS2, HS3⟩, HT0, HT1⟩, Ho, ⟨%d0, H0⟩, ⟨%d1, H1⟩, ⟨%d2, H2⟩, ⟨%d3, H3⟩, ⟨%d4, H4⟩⟩
      obtain ⟨hg, hv, hd⟩ := carried_over m hn c t _ _ _ hc hr hu
      rw [← hg, ← hv, ← hd]
      iapply (run_carry c (crd m hn t) (st0 m hn t) (ws0 m hn t) (st1 m hn t) (ws1 m hn t) (st2 m hn t) (ws2 m hn t) (st3 m hn t) (ws3 m hn t)
        (st4 m hn t) (ws4 m hn t) (tab0 m) (tab1 m) (rowsAt m hn c t) (gateAt m hn c t) (upAt m hn c t) (downAt m hn c t) hr hc2 hc3 a0 a1 a2 a3 _)
      isplitl [H0 H1 H2 H3 HT0 HT1]
      · unfold windows
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      isplitl [HS2]; · iexact HS2
      isplitl [HS3]; · iexact HS3
      unfold windows
      iintro ⟨⟨H0, H1, H2, H3, HT0, HT1⟩, H4, HS0, HS1, HS2, HS3⟩
      isplitl [HS0 HS1 HS2 HS3 HT0 HT1]
      · isplitl [HS0]; · iexact HS0
        isplitl [HS1 HS2 HS3]
        · iexists _, _, _; isplitr; swap
          · isplitl [HS1]; · iexact HS1
            isplitl [HS2]; · iexact HS2
            iexact HS3
          · ipureintro; exact carried_here m hn c t _ _ _ hg hv hd
        isplitl [HT0]; · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      iexact H4
  · have hc2 : ¬ k0_cond2 (crd m hn t) (usedWord (F := F) (tab1 m)) = 1#1 := fun h => hu (by have := (used_cond2 _ _).mp h; rw [ev] at this; exact this)
    have hc3 : k0_cond3 (crd m hn t) (usedWord (F := F) (tab1 m)) = 1#1 := (used_cond3 _ _).mpr (by rw [ev]; exact hu)
    have hr : ¬ refresh (F := F) (tab0 m) (tab1 m) (crd m hn t) := fun h => hu (by have := ((refresh_iff _ _ _).mp h).1; rw [ev] at this; exact this)
    have el : leaves m hn c t = k0_pay8 := if_neg hu
    rw [el]
    iintro ⟨⟨⟨%a0, HS0⟩, ⟨%a1, %a2, %a3, %hc, HS1, HS2, HS3⟩, HT0, HT1⟩, Ho, ⟨%d0, H0⟩, ⟨%d1, H1⟩, ⟨%d2, H2⟩, ⟨%d3, H3⟩, ⟨%d4, H4⟩⟩
    iapply (run_unused c (crd m hn t) (st0 m hn t) (ws0 m hn t) (st1 m hn t) (ws1 m hn t) (st2 m hn t) (ws2 m hn t) (st3 m hn t) (ws3 m hn t)
      (st4 m hn t) (ws4 m hn t) (tab0 m) (tab1 m) (rowsAt m hn c t) (gateAt m hn c t) (upAt m hn c t) (downAt m hn c t) hr hc2 hc3 a0 a1 a2 a3 _)
    isplitl [H0 H1 H2 H3 HT0 HT1]
    · unfold windows
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS0]; · iexact HS0
    isplitl [HS1]; · iexact HS1
    isplitl [HS2]; · iexact HS2
    isplitl [HS3]; · iexact HS3
    unfold windows
    iintro ⟨⟨H0, H1, H2, H3, HT0, HT1⟩, H4, HS0, HS1, HS2, HS3⟩
    isplitl [HS0 HS1 HS2 HS3 HT0 HT1]
    · isplitl [HS0]; · iexact HS0
      isplitl [HS1 HS2 HS3]
      · iexists _, _, _; isplitr; swap
        · isplitl [HS1]; · iexact HS1
          isplitl [HS2]; · iexact HS2
          iexact HS3
        · ipureintro; exact not_carried m hn c t _ _ _ hu
      isplitl [HT0]; · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexact H4

end Cert.SecondExperts
-- ==== Proof.SecondExpertsLaunch.lean ====
/- The run of the second layer's experts' kernel from a memory whose table names experts: it ends with the arguments as they were, the
   counters at zero and the result at what the pipeline's points leave. -/
module

public import proofs.«01_k».proof.Proof.SecondExpertsBody

@[expose] public section
set_option maxRecDepth 16384
noncomputable section
namespace Cert.SecondExperts
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hn : Named (tab0 m))

/-- The output is never idle, at any point. -/
theorem idle_out (t : Fin (cfg m hn).N) : (cfg m hn).idle (4 : Fin 5) ((cfg m hn).grid.coords t) = false :=
  never_idle (grid0.coords t) (tables m)

set_option maxHeartbeats 4000000 in
/-- The obligation of the body at every point. -/
theorem obligation (c : Dev nD) : BodyObligation (dats m hn 0 c) (defs₀ (F := F)) Variants.none () Set.univ := fun t => by
  rw [bigSep_W0, bigSep_W0]
  rewrite [idle_out m hn t]
  refine BIBase.Entails.trans ?_ ((body_point m hn c t).trans ?_)
  · unfold Before
    simp only [before0, before1, before2, before3]
    rewrite [show (dats m hn 0 c).Φ t.castSucc = Inv m hn c t.val from rfl]
    iintro ⟨HI, Ho, ⟨%d0, H0⟩, ⟨%d1, H1⟩, ⟨%d2, H2⟩, ⟨%d3, H3⟩, ⟨%d4, H4⟩⟩
    isplitl [HI]; · iexact HI
    isplitl [Ho]; · iexact Ho
    isplitl [H0]; · iexists (); iexact H0
    isplitl [H1]; · iexists (); iexact H1
    isplitl [H2]; · iexists (); iexact H2
    isplitl [H3]; · iexists (); iexact H3
    iexists _; iexact H4
  · exact .rfl

/-! ## The launch -/

abbrev place : Emb (UR sig nD τ) 𝕄 := emb₁

/-- The staging cells' first element. -/
def start : UR sig nD τ :=
  initOf (Pipeline.cells (cfgs m hn) ((launch0 (F := F)).cellOf_inj fun _ => held m hn))
    (Pipeline.launchToks (cfgs m hn) ((launch0 (F := F)).cellOf_inj fun _ => held m hn))

theorem full_share (c : Dev nD) (w : Fin (cfg m hn).W) : (dats m hn 0 c).share w = fullShare := by
  unfold Dat.share; split <;> rfl

/-- The tables as the launch hands them over, one by one. -/
theorem tables_split (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds at first … -/
theorem inv_first (c : Dev nD) :
    iprop(BI.emp ∗ Pipeline.prefHeld pre0 c (fun _ => fullShare.right) (held m hn).1 ∗ Pipeline.scopedRest spec0 c) ⊢ (dats m hn 0 c).Φ 0 := by
  rw [tables_split, scopedRest0_eq, show (dats m hn 0 c).Φ 0 = Inv m hn c 0 from rfl]
  unfold Inv
  iintro ⟨-, ⟨HT0, HT1⟩, HS0, ⟨%a1, HS1⟩, ⟨%a2, HS2⟩, ⟨%a3, HS3⟩⟩
  isplitl [HS0]; · iexact HS0
  isplitl [HS1 HS2 HS3]
  · iexists a1, a2, a3; isplitr; swap
    · isplitl [HS1]; · iexact HS1
      isplitl [HS2]; · iexact HS2
      iexact HS3
    · ipureintro; intro t h; exact absurd h (Nat.succ_ne_zero _)
  isplitl [HT0]; · iexact HT0
  iexact HT1

/-- … and gives the scratch buffers back at last. -/
theorem inv_last (c : Dev nD) : (dats m hn 0 c).Φ (Fin.last (cfg m hn).N) ⊢ iprop(BI.emp ∗ Pipeline.scopedRest spec0 c) := by
  rw [scopedRest0_eq, show (dats m hn 0 c).Φ (Fin.last (cfg m hn).N) = Inv m hn c (cfg m hn).N from rfl]
  unfold Inv
  iintro ⟨HS0, ⟨%a1, %a2, %a3, -, HS1, HS2, HS3⟩, -, -⟩
  isplitr; · iempintro
  isplitl [HS0]; · iexact HS0
  isplitl [HS1]; · iexists a1; iexact HS1
  isplitl [HS2]; · iexists a2; iexact HS2
  iexists a3; iexact HS3

/-- Every array at what the pipeline's points leave, every table as it was. -/
def Ends : PUnit × MemSt nD τ sig (Elt F) → Prop := fun r =>
  ∀ c : Dev nD, (∀ w : Fin (cfg m hn).W, r.2.mem (((cfg m hn).win w).arr.view.loc (c : Thread nD τ)) = (dats m hn 0 c).arrAt w (cfg m hn).N)
    ∧ ∀ j, r.2.mem ((c : Thread nD τ).loc (pre0.ref j)) = (held m hn).1 j

theorem one_core (c : Dev nD) : c = 0 := Subsingleton.elim c 0

theorem tables_held (c : Dev nD) (j : Fin 2) : m ((c : Thread nD τ).loc (pre0.ref j)) = (held m hn).1 j := by
  rw [one_core c]
  match j with
  | ⟨0, _⟩ => rfl
  | ⟨1, _⟩ => rfl

set_option backward.isDefEq.respectTransparency.types false in
set_option maxHeartbeats 4000000 in
theorem run_quiet : θ_run (defs (F := F)) (onTc (τ := τ) (main (F := F))) (s₀ m ρ) (fun r => Ends m hn r ∧ r.2.sem = fun _ => 0) :=
  Pipeline.θ_run_region_noSem_pf_quiescent pcfgs (fun _ => held m hn) (dats m hn) () ((launch0 (F := F)).cellOf_inj fun _ => held m hn) (0 : Fin 1)
    (launch0 (F := F)).win.to₀ (launch0 (F := F)).pre place defs₀ Variants.none m ρ main
    (hbody := fun c => (obligation m hn c).loose) (hne := (launch0 (F := F)).block_pos)
    (harr := (launch0 (F := F)).arr_whole) (hstage := (launch0 (F := F)).stage_whole) (howed := fun _ _ => rfl)
    (u₀ := start m hn) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (cfgs m hn) (dats m hn) 0 (launch0 (F := F)).win.arr_inj c (launch0 (F := F)).arr_whole
      (full_share m hn c) _ _ fun _ => rfl)
    (hpf := tables_held m hn)
    (X := fun _ => iprop(emp)) (Y := fun _ => iprop(emp)) (Z := fun _ => iprop(emp))
    (hX := fun c => by rw [unscopedRestP0_eq]; iintro -; isplitr <;> iempintro)
    (hin := inv_first m hn)
    (hout := inv_last m hn)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What the run leaves, at the arguments. -/
theorem args_kept (r : PUnit × MemSt nD τ sig (Elt F)) (h : Ends m hn r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 0).trans (tables_held m hn c 0).symm, ((h c).2 1).trans (tables_held m hn c 1).symm,
    ((h c).1 (0 : Fin 5)).trans ((dats m hn 0 c).arrAt_in (0 : Fin 5) rfl _),
    ((h c).1 (1 : Fin 5)).trans ((dats m hn 0 c).arrAt_in (1 : Fin 5) rfl _),
    ((h c).1 (2 : Fin 5)).trans ((dats m hn 0 c).arrAt_in (2 : Fin 5) rfl _),
    ((h c).1 (3 : Fin 5)).trans ((dats m hn 0 c).arrAt_in (3 : Fin 5) rfl _)⟩

include hn in
/-- The frame: the run ends, the arguments as they were and every counter at zero. -/
theorem run_frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_kept m hn _ h.1, h.2⟩) (run_quiet m ρ hn)

/-- The result, and the arguments as they were. -/
theorem run_result :
    θ_run (defs (F := F)) (onTc (τ := τ) (main (F := F))) ⟨m, fun _ => 0, ρ⟩ (fun r => ∀ c : Dev nD,
      r.2.mem ((c.tc : Thread nD τ).loc main_v0) = (dats m hn 0 c).arrAt (4 : Fin 5) (cfg m hn).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1 c).1 (4 : Fin 5), (args_kept m hn _ h.1) c⟩) (run_quiet m ρ hn)

end Cert.SecondExperts
-- ==== Proof.SecondExpertsBlock.lean ====
/- One block of the second layer's experts' kernel, at an index: the two halves of the hidden layer, and the output. -/
module

public import proofs.«01_k».proof.Proof.ColumnBlocks
public import proofs.«01_k».proof.Proof.SecondExpertsRun

@[expose] public section
set_option maxRecDepth 16384
noncomputable section
namespace Cert.SecondExperts
open Cert.Kernel4Ideal Cert.Kernel4Ideal.Gen
open Idealize.ShloMosaic Idealize.ShloMosaic.TcCoe Idealize.ShloMosaic.Tactic Cert.Columns

section Generic
variable {F : FTy → Type} [FloatOps F]

theorem inb_weights (h : Fin 2) (a : Fin 2) :
    (![0, 512 * h.val] : Fin 2 → ℕ) a + (![1024, 512] : Fin 2 → ℕ) a ≤ (![1024, 1024] : Fin 2 → ℕ) a := by revert h a; decide
theorem inb_hidden (h : Fin 2) (a : Fin 2) :
    (![0, 512 * h.val] : Fin 2 → ℕ) a + (![512, 512] : Fin 2 → ℕ) a ≤ (![512, 1024] : Fin 2 → ℕ) a := by revert h a; decide

/-- Columns `512 h` up to `512 h + 512` of a weight matrix. -/
abbrev halfRect (h : Fin 2) : Rect S1024x1024 := Rect.unit (s := S1024x1024) ![0, 512 * h.val] ![1024, 512] (inb_weights h)

/-- Half `h` of the hidden layer. -/
def halfOf (x : Vec F S512x1024 .f32) (g u : Vec F S1024x1024 .bf16) (h : Fin 2) : FVec F S512x512 .bf16 :=
  k0_pay5 x (View.ld g (halfRect h)) (View.ld u (halfRect h))

theorem hidden_halves (x : Vec F S512x1024 .f32) (g u : Vec F S1024x1024 .bf16) :
    hiddenOf x g u = View.canon (([1, 0] : List (Fin 2)).map (colPiece inb_hidden (halfOf x g u))) := by
  unfold hiddenOf
  rfl

theorem mem_half (h : Fin 2) : h ∈ ([1, 0] : List (Fin 2)) := by revert h; decide

end Generic

variable (x : Vec Ideal S512x1024 .f32) (g u d : Vec Ideal S1024x1024 .bf16)

/-- A row of the block against a column of a rounded matrix. -/
def dotE (g : Vec Ideal S1024x1024 .bf16) (r : Fin 512) (f : Fin 1024) : EReal := ∑ k : Fin 1024, (x (ix2 r k) * g (ix2 k f) : EReal)

theorem half_read (h : Fin 2) (r : Fin 512) (j : Fin 512) (f : Fin 1024) (hf : f.val = 512 * h.val + j.val) :
    halfOf x g u h (ix2 r j) = dotE x g r f * Ideal.logistic (dotE x g r f) * dotE x u r f := by
  have key (w : Vec Ideal S1024x1024 .bf16) :
      matmul (F := Ideal) (φ₁ := .bf16) (φ₂ := .bf16) dot_S512x1024_S1024x512_S512x512_1_0_0_1_n_n none (k0_pay4 x) (View.ld w (halfRect h)) (constant S512x512 .f32 0x00000000#32) (ix2 r j)
        = dotE x w r f := by
    pointwise [k0_pay4, dotE]
    refine Finset.sum_congr rfl fun k _ => ?_
    exact congrArg (fun i => (x (ix2 r k) * w (ix2 k i) : EReal)) (Fin.ext (by show 512 * h.val + j.val = f.val; omega))
  rw [← key g, ← key u]
  pointwise [halfOf, k0_pay5]

theorem hidden_read (r : Fin 512) (f : Fin 1024) :
    hiddenOf x g u (ix2 r f) = (dotE x g r f * Ideal.logistic (dotE x g r f) * dotE x u r f : EReal) := by
  rw [hidden_halves]
  exact (canon_columns inb_hidden _ _ ⟨f.val / 512, by omega⟩ (mem_half _) r ⟨f.val % 512, by omega⟩ f
    (by show f.val = 512 * (f.val / 512) + f.val % 512; omega)).trans
    (half_read x g u _ r _ f (by show f.val = 512 * (f.val / 512) + f.val % 512; omega))

theorem block_read (r : Fin 512) (w : Fin 1024) :
    outputOf x g u d (ix2 r w)
      = (∑ f : Fin 1024, (dotE x g r f * Ideal.logistic (dotE x g r f) * dotE x u r f) * (d (ix2 f w) : EReal) : EReal) := by
  unfold outputOf
  have e : k0_pay7 (hiddenOf x g u) d (ix2 r w) = (∑ f : Fin 1024, (hiddenOf x g u (ix2 r f) * d (ix2 f w) : EReal) : EReal) := by
    generalize hiddenOf x g u = H
    pointwise [k0_pay7]
  rw [e]
  exact Finset.sum_congr rfl fun f _ => congrArg (fun z : EReal => z * (d (ix2 f w) : EReal)) (hidden_read x g u r f)

/-- The rounded weights are the weights: the cast is the identity here. -/
theorem pay1_read (v : Vec Ideal S1x1x1024x1024 .f32) (k f : Fin 1024) : k0_pay1 v (ix2 k f) = v (ix4 1 0 k f) := by
  pointwise [k0_pay1]
theorem pay2_read (v : Vec Ideal S1x1x1024x1024 .f32) (k f : Fin 1024) : k0_pay2 v (ix2 k f) = v (ix4 1 0 k f) := by
  pointwise [k0_pay2]
theorem pay3_read (v : Vec Ideal S1x1x1024x1024 .f32) (k f : Fin 1024) : k0_pay3 v (ix2 k f) = v (ix4 1 0 k f) := by
  pointwise [k0_pay3]
theorem pay8_read (r : Fin 512) (w : Fin 1024) : (k0_pay8 (F := Ideal) (ix2 r w) : EReal) = 0 := by
  pointwise [k0_pay8]

end Cert.SecondExperts
-- ==== Proof.SecondExpertsKernel.lean ====
/- The array the second layer's experts' kernel leaves: its point `t`'s block is rows `512 t` up to `512 t + 512`, and holds the closed form. -/
module

public import proofs.«01_k».proof.Proof.SecondExpertsLaunch
public import proofs.«01_k».proof.Proof.SecondExpertsBlock
public import proofs.«01_k».proof.Proof.ExpertsSpec
public import Idealize.ShloMosaic.Lib.Pipeline.ValueKit

@[expose] public section
set_option maxRecDepth 16384
noncomputable section
namespace Cert.SecondExperts
open Cert.Kernel4Ideal Cert.Kernel4Ideal.Gen
open Idealize.ShloMosaic Idealize.ShloMosaic.TcCoe Idealize.ShloMosaic.Tactic
open Cert.Experts (X2 W4 lineE hidE outE resE blockOf expertNo)

variable (m : (ℓ : Loc nD τ sig) → Buf (Elt Ideal) ℓ) (hn : Named (tab0 m))

/-- The arguments. -/
abbrev argX (c : Dev nD) : X2 := m ((c : Thread nD τ).loc main_arg2)
abbrev argG (c : Dev nD) : W4 := m ((c : Thread nD τ).loc main_arg3)
abbrev argU (c : Dev nD) : W4 := m ((c : Thread nD τ).loc main_arg4)
abbrev argD (c : Dev nD) : W4 := m ((c : Thread nD τ).loc main_arg5)

theorem map0_eq : ∀ t : Fin grid0.N, cc0_transform_0 (grid0.coords t) = ![t.val, 0] := by decide +kernel
theorem map4_eq : ∀ t : Fin grid0.N, cc0_transform_4 (grid0.coords t) = ![t.val, 0] := by decide +kernel
theorem index0 (t : Fin (cfg m hn).N) : ((cfg m hn).win (0 : Fin 5)).index t = ![t.val, 0] := map0_eq t
theorem index4 (t : Fin (cfg m hn).N) : ((cfg m hn).win (4 : Fin 5)).index t = ![t.val, 0] := map4_eq t

/-- The row of the whole arrays that row `r` of point `t`'s block is. -/
def rowOf (t : Fin (cfg m hn).N) (r : Fin 512) : Fin 139264 := ⟨512 * t.val + r.val, by have := point_lt m hn t; omega⟩

theorem block_row (t : Fin (cfg m hn).N) (r : Fin 512) : blockOf (rowOf m hn t r) = ⟨t.val, point_lt m hn t⟩ :=
  Fin.ext (by show (512 * t.val + r.val) / 512 = t.val; omega)

theorem expert_row (t : Fin (cfg m hn).N) (r : Fin 512) : expertNo (tab0 m) (blockOf (rowOf m hn t r)) = expertIx m hn t := by
  rw [block_row]
  exact Fin.ext (Nat.mod_eq_of_lt (hn t.val (point_lt m hn t)))

theorem rowsAt_eq (c : Dev nD) (t : Fin (cfg m hn).N) (r : Fin 512) (k : Fin 1024) :
    rowsAt m hn c t (ix2 r k) = argX m c (ix2 (rowOf m hn t r) k) := by
  refine congrArg (argX m c) ?_
  funext ax; apply Fin.ext
  match ax with
  | ⟨0, _⟩ =>
    show ((cfg m hn).win (0 : Fin 5)).index t 0 * 512 + 1 * r.val = 512 * t.val + r.val
    rw [index0]; show t.val * 512 + 1 * r.val = _; omega
  | ⟨1, _⟩ =>
    show ((cfg m hn).win (0 : Fin 5)).index t 1 * 1024 + 1 * k.val = k.val
    rw [index0]; show 0 * 1024 + 1 * k.val = _; omega

theorem emb_out (t : Fin (cfg m hn).N) (r : Fin 512) (w : Fin 1024) :
    (((cfg m hn).win (4 : Fin 5)).blk t).view.emb (ix2 r w) = (ix2 (rowOf m hn t r) w : S139264x1024.Idx) := by
  funext ax; apply Fin.ext
  match ax with
  | ⟨0, _⟩ =>
    show ((cfg m hn).win (4 : Fin 5)).index t 0 * 512 + 1 * r.val = 512 * t.val + r.val
    rw [index4]; show t.val * 512 + 1 * r.val = _; omega
  | ⟨1, _⟩ =>
    show ((cfg m hn).win (4 : Fin 5)).index t 1 * 1024 + 1 * w.val = w.val
    rw [index4]; show 0 * 1024 + 1 * w.val = _; omega

theorem dot_gate (c : Dev nD) (t : Fin (cfg m hn).N) (r : Fin 512) (f : Fin 1024) :
    dotE (rowsAt m hn c t) (k0_pay1 (gateAt m hn c t)) r f = lineE 1 (argX m c) (argG m c) (rowOf m hn t r) (expertIx m hn t) f := by
  unfold dotE lineE
  refine Finset.sum_congr rfl fun k _ => ?_
  rw [rowsAt_eq, pay1_read, gateAt_eq]; rfl
theorem dot_up (c : Dev nD) (t : Fin (cfg m hn).N) (r : Fin 512) (f : Fin 1024) :
    dotE (rowsAt m hn c t) (k0_pay2 (upAt m hn c t)) r f = lineE 1 (argX m c) (argU m c) (rowOf m hn t r) (expertIx m hn t) f := by
  unfold dotE lineE
  refine Finset.sum_congr rfl fun k _ => ?_
  rw [rowsAt_eq, pay2_read, upAt_eq]; rfl

/-- What a point leaves in the output's block. -/
theorem leaves_read (c : Dev nD) (t : Fin (cfg m hn).N) (r : Fin 512) (w : Fin 1024) :
    leaves m hn c t (ix2 r w)
      = resE 1 (tab0 m) (tab1 m) (argX m c) (argG m c) (argU m c) (argD m c) (rowOf m hn t r) w := by
  unfold resE
  rw [expert_row, block_row]
  by_cases h : Used (tab1 m) t.val
  · rw [show leaves m hn c t = _ from if_pos h, block_read]
    refine Eq.trans ?_ (if_pos h).symm
    unfold outE hidE
    refine Finset.sum_congr rfl fun f _ => ?_
    rw [dot_gate, dot_up, pay3_read, downAt_eq]
    rfl
  · rw [show leaves m hn c t = _ from if_neg h]
    exact (pay8_read r w).trans (if_neg h).symm

theorem flush_out : ∀ t : Fin grid0.N, Pipeline.Window.flushOf grid0 true cc0_transform_4 t = true := by decide +kernel

/-- The output's blocks cover its array: the tables play no part in it. -/
theorem covers_out : ((cfg m hn).win (4 : Fin 5)).Covers := by
  refine ⟨fun a => ?_, fun β => ?_⟩
  · match a with
    | ⟨0, _⟩ => show 0 < 512; omega
    | ⟨1, _⟩ => show 0 < 1024; omega
  have h0 : (β (0 : Fin 2)).val < (139264 + 512 - 1) / 512 := (β (0 : Fin 2)).isLt
  have h1 : (β (1 : Fin 2)).val < (1024 + 1024 - 1) / 1024 := (β (1 : Fin 2)).isLt
  refine ⟨⟨(β (0 : Fin 2)).val, by rw [show (cfg m hn).grid.N = 272 from N_0]; omega⟩, flush_out _, fun a => ⟨?_, .inl ?_⟩⟩
  · rw [index4]
    match a with
    | ⟨0, _⟩ => rfl
    | ⟨1, _⟩ => show 0 = (β (1 : Fin 2)).val; omega
  · rfl

theorem array_out (c : Dev nD) : (dats m hn 0 c).arrAt (4 : Fin 5) (cfg m hn).N
    = fun i : S139264x1024.Idx => resE 1 (tab0 m) (tab1 m) (argX m c) (argG m c) (argU m c) (argD m c) (i 0) (i 1) := by
  refine (dats m hn 0 c).arrAt_eq_of_covers (4 : Fin 5) _ (covers_out m hn) fun t hf y => ?_
  blk_simp
  rw [after_out]
  idx_vars y
  exact (leaves_read m hn c t y0 y1).trans
    (congrArg (fun i : S139264x1024.Idx => resE 1 (tab0 m) (tab1 m) (argX m c) (argG m c) (argU m c) (argD m c) (i 0) (i 1))
      (emb_out m hn t y0 y1)).symm

end Cert.SecondExperts
-- ==== Proof.SecondExpertsSame.lean ====
/- The printed kernel and its idealization are the same program: nothing was rewritten between them, so a run of the one is
   a run of the other. -/
module

public import proofs.«01_k».proof.Defs
public import proofs.«01_k».proof.Proof.Gen.Kernel4
public import proofs.«01_k».proof.Proof.Gen.Kernel4Ideal

@[expose] public section
set_option maxRecDepth 16384
noncomputable section
namespace Cert.SecondExperts
open Idealize.ShloMosaic Idealize.ShloMosaic.TcCoe Idealize.SL.Sem

theorem same_sig : Cert.Kernel4.sig = Cert.Kernel4Ideal.sig := rfl

/-- The body, the pipeline, the main function and the table of definitions agree. -/
theorem same_body : @Cert.Kernel4.cc0_moe_ffn Bits _ _ = @Cert.Kernel4Ideal.cc0_moe_ffn Bits _ _ := rfl

theorem same_cfgs : @Cert.Kernel4.pcfgs Bits _ _ = @Cert.Kernel4Ideal.pcfgs Bits _ _ := rfl

theorem same_main : @Cert.Kernel4.main Bits _ _ = @Cert.Kernel4Ideal.main Bits _ _ := rfl

theorem same_defs₀ : @Cert.Kernel4.defs₀ Bits _ _ = @Cert.Kernel4Ideal.defs₀ Bits _ _ := by
  unfold Cert.Kernel4.defs₀ Cert.Kernel4Ideal.defs₀
  refine congrArg Defs.onTc ?_
  funext l x
  match l, x with
  | 0, (t, s) => simp only [same_body]; rfl
  | ⟨_ + 1, h⟩, _ => exact absurd h (Nat.not_lt.2 (Nat.le_add_left _ _))

theorem same_defs : @Cert.Kernel4.defs Bits _ _ = @Cert.Kernel4Ideal.defs Bits _ _ :=
  congrArg (Pipeline.defs Cert.Kernel4Ideal.pcfgs) same_defs₀

/-- A run of the idealization at the words is a run of the printed kernel. -/
theorem same (m : (ℓ : Loc Cert.Kernel4.nD Cert.Kernel4.τ Cert.Kernel4.sig) → Buf (Elt Bits) ℓ) (g : Dev Cert.Kernel4.nD → PrngReg)
    (Q : PUnit × MemSt Cert.Kernel4.nD Cert.Kernel4.τ Cert.Kernel4.sig (Elt Bits) → Prop)
    (h : θ_run (Cert.Kernel4Ideal.defs (F := Bits)) (onTc (τ := Cert.Kernel4Ideal.τ) (Cert.Kernel4Ideal.main (F := Bits))) ⟨m, fun _ => 0, g⟩ Q) :
    θ_run (Cert.Kernel4.defs (F := Bits)) (onTc (τ := Cert.Kernel4.τ) (Cert.Kernel4.main (F := Bits))) ⟨m, fun _ => 0, g⟩ Q := by
  rw [same_defs, same_main]; exact h

end Cert.SecondExperts
-- ==== Proof.RetentionBlock.lean ====
/- What one grid step of the retention kernel does to one head of one of its two sequences, and that a step is sixteen
   of these: the lists of stores the generated frame names are sixteen head blocks and sixteen head states. -/
module

public import proofs.«01_k».proof.Proof.Gen.KernelIdeal.Frame
public import Idealize.ShloMosaic.Lib.Pipeline.Value

@[expose] public section
set_option maxRecDepth 16384
noncomputable section
namespace Cert.KernelIdeal.Gen
open Idealize.ShloMosaic Idealize.ShloMosaic.TcCoe Idealize.ShloMosaic.Tactic

variable {F : FTy → Type} [FloatOps F]

/-- Scores within the chunk, weighted by the decay, applied to the values. -/
def headInner (q k : Vec F S1x256x128 .bf16) (v : Vec F S1x256x256 .bf16) (dec : Vec F S1x256x256 .f32) :
    FVec F S256x256 .f32 :=
  matmul dot_S256x256_S256x256_S256x256_1_0_0_1_n_n none
    (truncf .bf16
      (mulf
        (matmul dot_S256x128_S256x128_S256x256_1_1_0_0_n_n none (shapeCast S256x128 q shapeCasts_S1x256x128_S256x128)
          (shapeCast S256x128 k shapeCasts_S1x256x128_S256x128) (constant S256x256 .f32 0x00000000#32))
        (shapeCast S256x256 dec shapeCasts_S1x256x256_S256x256))
      bitsLt_bf16_f32)
    (shapeCast S256x256 v shapeCasts_S1x256x256_S256x256) (constant S256x256 .f32 0x00000000#32)

/-- The queries against the state, decayed by the row. -/
def headCross (q : Vec F S1x256x128 .bf16) (st : Vec F S1x128x256 .f32) (qd : Vec F S1x256x1 .f32) :
    FVec F S256x256 .f32 :=
  mulf
    (matmul dot_S256x128_S128x256_S256x256_1_0_0_1_n_n none (shapeCast S256x128 q shapeCasts_S1x256x128_S256x128)
      (truncf .bf16 (shapeCast S128x256 st shapeCasts_S1x128x256_S128x256) bitsLt_bf16_f32)
      (constant S256x256 .f32 0x00000000#32))
    (broadcastTo S256x256 (shapeCast S256x1 qd shapeCasts_S1x256x1_S256x1) broadcasts_S256x1_S256x256)

/-- The state after the chunk: decayed, plus the chunk's decayed keys against its values. -/
def headState (k : Vec F S1x256x128 .bf16) (v : Vec F S1x256x256 .bf16) (st : Vec F S1x128x256 .f32)
    (kd : Vec F S1x256x1 .f32) (cd : Vec F S1x1x128 .f32) : FVec F S1x128x256 .f32 :=
  shapeCast S1x128x256
    (addf
      (mulf (shapeCast S128x256 st shapeCasts_S1x128x256_S128x256)
        (broadcastTo S128x256
          (extractStridedSlice S1x1 ![0, 0] (shapeCast S1x128 cd shapeCasts_S1x1x128_S1x128) slices_S1x128_o0_0_S1x1)
          broadcasts_S1x1_S128x256))
      (matmul dot_S256x128_S256x256_S128x256_0_0_1_1_n_n none
        (truncf .bf16
          (mulf (extf .f32 (shapeCast S256x128 k shapeCasts_S1x256x128_S256x128) bitsLt_bf16_f32)
            (broadcastTo S256x128 (shapeCast S256x1 kd shapeCasts_S1x256x1_S256x1) broadcasts_S256x1_S256x128))
          bitsLt_bf16_f32)
        (shapeCast S256x256 v shapeCasts_S1x256x256_S256x256) (constant S128x256 .f32 0x00000000#32)))
    shapeCasts_S128x256_S1x128x256

/-- A row less its mean. -/
def rowCentred (o : FVec F S256x256 .f32) : FVec F S256x256 .f32 :=
  subf o
    (broadcastTo S256x256
      (divf (shapeCast S256x1 (multiReduction .add [1] S256 o 0x00000000#32 reduces_S256x256_S256 (.inl rfl) rfl)
          shapeCasts_S256_S256x1)
        (broadcast S256x1 (Scalar.ofBits .f32 0x43800000#32)))
      broadcasts_S256x1_S256x256)

/-- The head norm of rows already centred, its affine map and the gate. -/
def headNorm (oc : FVec F S256x256 .f32) (gg gb : Vec F S1x256 .f32) (sg : Vec F S1x256x256 .f32) :
    FVec F S1x256x256 .bf16 :=
  shapeCast S1x256x256
    (truncf .bf16
      (mulf (shapeCast S256x256 sg shapeCasts_S1x256x256_S256x256)
        (addf
          (mulf
            (mulf oc
              (broadcastTo S256x256
                (rsqrt
                  (addf
                    (divf
                      (shapeCast S256x1
                        (multiReduction .add [1] S256 (mulf oc oc) 0x00000000#32 reduces_S256x256_S256 (.inl rfl) rfl)
                        shapeCasts_S256_S256x1)
                      (broadcast S256x1 (Scalar.ofBits .f32 0x43800000#32)))
                    (broadcast S256x1 (Scalar.ofBits .f32 0x3727C5AC#32))))
                broadcasts_S256x1_S256x256))
            (broadcastTo S256x256 gg broadcasts_S1x256_S256x256))
          (broadcastTo S256x256 gb broadcasts_S1x256_S256x256)))
      bitsLt_bf16_f32)
    shapeCasts_S256x256_S1x256x256

/-! ## The rectangles of head `i` (sequence `i / 8` of the pair, head `i % 8`) -/

theorem inbQ (i : Fin 16) (a : Fin 3) :
    (![i.val / 8, 0, 128 * (i.val % 8)] : Fin 3 → ℕ) a + (![1, 256, 128] : Fin 3 → ℕ) a ≤ S2x256x1024.size a := by
  revert i a; decide
theorem inbV (i : Fin 16) (a : Fin 3) :
    (![i.val / 8, 0, 256 * (i.val % 8)] : Fin 3 → ℕ) a + (![1, 256, 256] : Fin 3 → ℕ) a ≤ S2x256x2048.size a := by
  revert i a; decide
theorem inbS (i : Fin 16) (a : Fin 3) :
    (![i.val, 0, 0] : Fin 3 → ℕ) a + (![1, 128, 256] : Fin 3 → ℕ) a ≤ S16x128x256.size a := by revert i a; decide
theorem inbDec (i : Fin 16) (a : Fin 3) :
    (![i.val % 8, 0, 0] : Fin 3 → ℕ) a + (![1, 256, 256] : Fin 3 → ℕ) a ≤ S8x256x256.size a := by revert i a; decide
theorem inbRow (i : Fin 16) (a : Fin 3) :
    (![i.val % 8, 0, 0] : Fin 3 → ℕ) a + (![1, 256, 1] : Fin 3 → ℕ) a ≤ S8x256x1.size a := by revert i a; decide
theorem inbCd (i : Fin 16) (a : Fin 3) :
    (![i.val % 8, 0, 0] : Fin 3 → ℕ) a + (![1, 1, 128] : Fin 3 → ℕ) a ≤ S8x1x128.size a := by revert i a; decide
theorem inbG (i : Fin 16) (a : Fin 2) :
    (![0, 256 * (i.val % 8)] : Fin 2 → ℕ) a + (![1, 256] : Fin 2 → ℕ) a ≤ S1x2048.size a := by revert i a; decide

abbrev rQ (i : Fin 16) : Rect S2x256x1024 := Rect.unit ![i.val / 8, 0, 128 * (i.val % 8)] ![1, 256, 128] (inbQ i)
abbrev rV (i : Fin 16) : Rect S2x256x2048 := Rect.unit ![i.val / 8, 0, 256 * (i.val % 8)] ![1, 256, 256] (inbV i)
abbrev rS (i : Fin 16) : Rect S16x128x256 := Rect.unit ![i.val, 0, 0] ![1, 128, 256] (inbS i)
abbrev rDec (i : Fin 16) : Rect S8x256x256 := Rect.unit ![i.val % 8, 0, 0] ![1, 256, 256] (inbDec i)
abbrev rRow (i : Fin 16) : Rect S8x256x1 := Rect.unit ![i.val % 8, 0, 0] ![1, 256, 1] (inbRow i)
abbrev rCd (i : Fin 16) : Rect S8x1x128 := Rect.unit ![i.val % 8, 0, 0] ![1, 1, 128] (inbCd i)
abbrev rG (i : Fin 16) : Rect S1x2048 := Rect.unit ![0, 256 * (i.val % 8)] ![1, 256] (inbG i)

section Pieces

variable (x0 x1 : Vec F S2x256x1024 .bf16) (x2 : Vec F S2x256x2048 .bf16) (x3 : Vec F S2x256x2048 .f32)
  (x4 : Vec F S8x256x256 .f32) (x5 x6 : Vec F S8x256x1 .f32) (x7 : Vec F S8x1x128 .f32) (x8 x9 : Vec F S1x2048 .f32)

/-- Head `i`'s output before the norm, from its state at the chunk's start. -/
def headO (st : Vec F S1x128x256 .f32) (i : Fin 16) : FVec F S256x256 .f32 :=
  addf (headInner (View.ld x0 (rQ i)) (View.ld x1 (rQ i)) (View.ld x2 (rV i)) (View.ld x4 (rDec i)))
    (headCross (View.ld x0 (rQ i)) st (View.ld x5 (rRow i)))

/-- The block a step leaves for head `i`. -/
def headBlock (st : Vec F S1x128x256 .f32) (i : Fin 16) : FVec F S1x256x256 .bf16 :=
  headNorm (rowCentred (headO x0 x1 x2 x4 x5 st i)) (View.ld x8 (rG i)) (View.ld x9 (rG i)) (View.ld x3 (rV i))

/-- The state a step leaves for head `i`. -/
def headNext (st : Vec F S1x128x256 .f32) (i : Fin 16) : FVec F S1x128x256 .f32 :=
  headState (View.ld x1 (rQ i)) (View.ld x2 (rV i)) st (View.ld x6 (rRow i)) (View.ld x7 (rCd i))

/-- The store of head `i`'s block. -/
def pieceO (st : Fin 16 → Vec F S1x128x256 .f32) (i : Fin 16) : View.Piece (Elt F) S2x256x2048 .bf16 :=
  ⟨rV i, headBlock x0 x1 x2 x3 x4 x5 x8 x9 (st i) i⟩

/-- The store of head `i`'s state. -/
def pieceS (st : Fin 16 → Vec F S1x128x256 .f32) (i : Fin 16) : View.Piece (Elt F) S16x128x256 .f32 :=
  ⟨rS i, headNext x1 x2 x6 x7 (st i) i⟩

/-- The sixteen heads, the last one stored first. -/
def heads : List (Fin 16) := [15, 14, 13, 12, 11, 10, 9, 8, 7, 6, 5, 4, 3, 2, 1, 0]

/-- Head `i`'s state as a step that first clears the states reads it. -/
def clearedAt (i : Fin 16) : Vec F S1x128x256 .f32 :=
  (View.whole cc0_scratch0).readCov
    [⟨Rect.unit ![0, 0, 0] ![16, 128, 256] inb_S16x128x256_S16x128x256_0_0_0, k0_pay2 (F := F)⟩] (rS i).toLoadRect

set_option maxHeartbeats 4000000 in
/-- A step that carries the states: the states it stores. -/
theorem listB_S (c : Dev nD) (t : Fin cfg0.N) (h : ¬cond0_0 (grid0.coords t)) (xs0 : Vec F S16x128x256 .f32) :
    (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) h x0 x1 x2 x3 x4 x5 x6 x7 x8 x9 xs0).2.1
      = heads.map (pieceS x1 x2 x6 x7 fun i => View.ld xs0 (rS i)) := by
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole _).read_unread]
  rfl

set_option maxHeartbeats 4000000 in
/-- A step that carries the states: the blocks it stores. -/
theorem listB_O (c : Dev nD) (t : Fin cfg0.N) (h : ¬cond0_0 (grid0.coords t)) (xs0 : Vec F S16x128x256 .f32) :
    (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) h x0 x1 x2 x3 x4 x5 x6 x7 x8 x9 xs0).1
      = heads.map (pieceO x0 x1 x2 x3 x4 x5 x8 x9 fun i => View.ld xs0 (rS i)) := by
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole _).read_unread]
  rfl

set_option maxHeartbeats 4000000 in
/-- A step that clears the states: the states it stores, over the cleared array. -/
theorem listA_S (c : Dev nD) (t : Fin cfg0.N) (h : cond0_0 (grid0.coords t)) :
    (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) h x0 x1 x2 x3 x4 x5 x6 x7 x8 x9).2.1
      = heads.map (pieceS x1 x2 x6 x7 clearedAt) ++ [⟨Rect.unit ![0, 0, 0] ![16, 128, 256] inb_S16x128x256_S16x128x256_0_0_0, k0_pay2 (F := F)⟩] := by
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole _).read_unread]
  rfl

set_option maxHeartbeats 4000000 in
/-- A step that clears the states: the blocks it stores. -/
theorem listA_O (c : Dev nD) (t : Fin cfg0.N) (h : cond0_0 (grid0.coords t)) :
    (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) h x0 x1 x2 x3 x4 x5 x6 x7 x8 x9).1
      = heads.map (pieceO x0 x1 x2 x3 x4 x5 x8 x9 clearedAt) := by
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (Memref.isWhole_whole _).read_unread]
  rfl

end Pieces

end Cert.KernelIdeal.Gen
-- ==== Proof.RetentionStep.lean ====
/- What a grid step of the retention kernel leaves, read head by head. -/
module

public import proofs.«01_k».proof.Proof.RetentionBlock
public import proofs.«01_k».proof.Proof.Gen.KernelIdeal.Value
public import Idealize.ShloMosaic.Lib.Pointwise

@[expose] public section
set_option maxRecDepth 16384
noncomputable section
namespace Cert.KernelIdeal.Gen
open Idealize.ShloMosaic Idealize.ShloMosaic.TcCoe Idealize.ShloMosaic.Tactic

section Generic
variable {F : FTy → Type} [FloatOps F]

variable (x0 x1 : Vec F S2x256x1024 .bf16) (x2 : Vec F S2x256x2048 .bf16) (x3 : Vec F S2x256x2048 .f32)
  (x4 : Vec F S8x256x256 .f32) (x5 x6 : Vec F S8x256x1 .f32) (x7 : Vec F S8x1x128 .f32) (x8 x9 : Vec F S1x2048 .f32)

/-- Head `h` of sequence `n` of the pair. -/
def hd (n : Fin 2) (h : Fin 8) : Fin 16 := ⟨8 * n.val + h.val, by omega⟩

theorem mem_heads (i : Fin 16) : i ∈ heads := by revert i; decide

/-- What a list of the sixteen block stores holds at row `r`, column `256 h + e` of sequence `n`. -/
theorem canon_O (st : Fin 16 → Vec F S1x128x256 .f32) (n : Fin 2) (h : Fin 8) (r e : Fin 256) :
    View.canon (heads.map (pieceO x0 x1 x2 x3 x4 x5 x8 x9 st)) (ix3 n r ⟨256 * h.val + e.val, by omega⟩ : S2x256x2048.Idx)
      = headBlock x0 x1 x2 x3 x4 x5 x8 x9 (st (hd n h)) (hd n h) (ix3 0 r e) := by
  have step : ∀ l : List (Fin 16), hd n h ∈ l →
      View.canon (l.map (pieceO x0 x1 x2 x3 x4 x5 x8 x9 st)) (ix3 n r ⟨256 * h.val + e.val, by omega⟩ : S2x256x2048.Idx)
        = headBlock x0 x1 x2 x3 x4 x5 x8 x9 (st (hd n h)) (hd n h) (ix3 0 r e) := by
    intro l
    induction l with
    | nil => intro h; exact absurd h List.not_mem_nil
    | cons j l ih =>
      intro hm
      rw [List.map_cons]
      by_cases hj : j = hd n h
      · subst hj
        have e0 : ((rV (hd n h)).emb (ix3 0 r e : (rV (hd n h)).shape.Idx) : S2x256x2048.Idx)
            = ix3 n r (⟨256 * h.val + e.val, by omega⟩ : Fin 2048) := by
          funext ax; apply Fin.ext
          match ax with
          | ⟨0, _⟩ => show (8 * n.val + h.val) / 8 + 1 * 0 = n.val; omega
          | ⟨1, _⟩ => show 0 + 1 * r.val = r.val; omega
          | ⟨2, _⟩ => show 256 * ((8 * n.val + h.val) % 8) + 1 * e.val = 256 * h.val + e.val; omega
        rw [← e0]
        exact View.canon_cons_emb (rV (hd n h)) _ _ _
      · rw [View.canon_cons_of_not_mem]
        · exact ih ((List.mem_cons.mp hm).resolve_left (fun e => hj e.symm))
        · intro hm
          have hm : (ix3 n r ⟨256 * h.val + e.val, by omega⟩ : S2x256x2048.Idx) ∈ (rV j).set := hm
          rw [Rect.mem_set_unit] at hm
          have h0 : j.val / 8 ≤ n.val ∧ n.val < j.val / 8 + 1 := hm 0
          have h2 : 256 * (j.val % 8) ≤ 256 * h.val + e.val ∧ 256 * h.val + e.val < 256 * (j.val % 8) + 256 := hm 2
          exact hj (Fin.ext (by show j.val = 8 * n.val + h.val; omega))
  exact step heads (mem_heads _)

/-- What a list of writes that begins with the sixteen state stores holds at head `i`. -/
theorem canon_S (st : Fin 16 → Vec F S1x128x256 .f32) (L : List (View.Piece (Elt F) S16x128x256 .f32))
    (i : Fin 16) (d : Fin 128) (e : Fin 256) :
    View.canon (heads.map (pieceS x1 x2 x6 x7 st) ++ L) (ix3 i d e : S16x128x256.Idx)
      = headNext x1 x2 x6 x7 (st i) i (ix3 0 d e) := by
  have step : ∀ l : List (Fin 16), i ∈ l →
      View.canon (l.map (pieceS x1 x2 x6 x7 st) ++ L) (ix3 i d e : S16x128x256.Idx)
        = headNext x1 x2 x6 x7 (st i) i (ix3 0 d e) := by
    intro l
    induction l with
    | nil => intro h; exact absurd h List.not_mem_nil
    | cons j l ih =>
      intro h
      rw [List.map_cons, List.cons_append]
      by_cases hj : j = i
      · subst hj
        have e0 : ((rS j).emb (ix3 0 d e : (rS j).shape.Idx) : S16x128x256.Idx) = ix3 j d e := by
          funext ax; apply Fin.ext
          match ax with
          | ⟨0, _⟩ => show j.val + 1 * 0 = j.val; omega
          | ⟨1, _⟩ => show 0 + 1 * d.val = d.val; omega
          | ⟨2, _⟩ => show 0 + 1 * e.val = e.val; omega
        rw [← e0]
        exact View.canon_cons_emb (rS j) _ _ _
      · rw [View.canon_cons_of_not_mem]
        · exact ih ((List.mem_cons.mp h).resolve_left (fun e => hj e.symm))
        · intro hm
          have hm : (ix3 i d e : S16x128x256.Idx) ∈ (rS j).set := hm
          rw [Rect.mem_set_unit] at hm
          have h0 : j.val ≤ i.val ∧ i.val < j.val + 1 := hm 0
          exact hj (Fin.ext (by omega))
  exact step heads (mem_heads i)

/-- A step that clears the states reads zero states. -/
theorem clearedAt_eq (i : Fin 16) : clearedAt (F := F) i = fun _ => Scalar.ofBits .f32 0x00000000#32 := by
  unfold clearedAt
  rw [View.readCov_eq_canon_ld _ _ _ (fun y => ⟨_, List.mem_singleton_self _, by
    rw [Rect.mem_set_unit]; intro ax
    match ax with
    | ⟨0, _⟩ => exact ⟨Nat.zero_le _, lt_of_lt_of_eq (y 0).isLt rfl⟩
    | ⟨1, _⟩ => exact ⟨Nat.zero_le _, lt_of_lt_of_eq (y 1).isLt rfl⟩
    | ⟨2, _⟩ => exact ⟨Nat.zero_le _, lt_of_lt_of_eq (y 2).isLt rfl⟩⟩)]
  exact congrArg (fun X : Vec F S16x128x256 .f32 => View.ld X (rS i))
    (View.canon_unit_zero (S := S16x128x256) (off := ![0, 0, 0])
      (by funext ax; match ax with | ⟨0, _⟩ => rfl | ⟨1, _⟩ => rfl | ⟨2, _⟩ => rfl) _ (k0_pay2 (F := F)))

variable (m : (ℓ : Loc nD τ sig) → Buf (Elt F) ℓ)

/-- The states after a step that clears them first. -/
theorem stepA_state (c : Dev nD) (t : Fin cfg0.N) (acc : Vec F S2x256x2048 .bf16 × Vec F S16x128x256 .f32)
    (h0 : t.val % 32 = 0) (i : Fin 16) (d : Fin 128) (e : Fin 256) :
    (Value.stAt0 m c t.val t.isLt acc).2 (ix3 i d e)
      = headNext (iblk m c 1 t) (iblk m c 2 t) (iblk m c 6 t) (iblk m c 7 t) (fun _ => Scalar.ofBits .f32 0x00000000#32) i
        (ix3 0 d e) := by
  rw [Value.stAt0_A m c t acc h0]
  unfold sout0_A_0
  dsimp only
  rw [View.read_writes_apply_eq_canon _ _ _ _ (scover0_A_0 ..), listA_S, canon_S, clearedAt_eq]

/-- The states after a step that carries them. -/
theorem stepB_state (c : Dev nD) (t : Fin cfg0.N) (acc : Vec F S2x256x2048 .bf16 × Vec F S16x128x256 .f32)
    (h0 : ¬t.val % 32 = 0) (i : Fin 16) (d : Fin 128) (e : Fin 256) :
    (Value.stAt0 m c t.val t.isLt acc).2 (ix3 i d e)
      = headNext (iblk m c 1 t) (iblk m c 2 t) (iblk m c 6 t) (iblk m c 7 t) (View.ld acc.2 (rS i)) i (ix3 0 d e) := by
  rw [Value.stAt0_B m c t acc h0]
  unfold sout0_B_0
  dsimp only
  rw [View.read_writes_apply_eq_canon _ _ _ _ (scover0_B_0 ..), listB_S, ← List.append_nil (List.map _ _), canon_S]

/-- The block a step leaves that clears the states first. -/
theorem stepA_block (c : Dev nD) (t : Fin cfg0.N) (acc : Vec F S2x256x2048 .bf16 × Vec F S16x128x256 .f32)
    (h0 : t.val % 32 = 0) (n : Fin 2) (h : Fin 8) (r e : Fin 256) :
    (Value.stAt0 m c t.val t.isLt acc).1 (ix3 n r ⟨256 * h.val + e.val, by omega⟩)
      = headBlock (iblk m c 0 t) (iblk m c 1 t) (iblk m c 2 t) (iblk m c 3 t) (iblk m c 4 t) (iblk m c 5 t) (iblk m c 8 t)
          (iblk m c 9 t) (fun _ => Scalar.ofBits .f32 0x00000000#32) (hd n h) (ix3 0 r e) := by
  rw [Value.stAt0_A m c t acc h0]
  unfold out0_A_10
  dsimp only
  rw [View.read_writes_apply_eq_canon _ _ _ _ (cover0_A_10 ..), listA_O, canon_O, clearedAt_eq]

/-- The block a step leaves that carries the states. -/
theorem stepB_block (c : Dev nD) (t : Fin cfg0.N) (acc : Vec F S2x256x2048 .bf16 × Vec F S16x128x256 .f32)
    (h0 : ¬t.val % 32 = 0) (n : Fin 2) (h : Fin 8) (r e : Fin 256) :
    (Value.stAt0 m c t.val t.isLt acc).1 (ix3 n r ⟨256 * h.val + e.val, by omega⟩)
      = headBlock (iblk m c 0 t) (iblk m c 1 t) (iblk m c 2 t) (iblk m c 3 t) (iblk m c 4 t) (iblk m c 5 t) (iblk m c 8 t)
          (iblk m c 9 t) (View.ld acc.2 (rS (hd n h))) (hd n h) (ix3 0 r e) := by
  rw [Value.stAt0_B m c t acc h0]
  unfold out0_B_10
  dsimp only
  rw [View.read_writes_apply_eq_canon _ _ _ _ (cover0_B_10 ..), listB_O, canon_O]

end Generic
end Cert.KernelIdeal.Gen
-- ==== Proof.RetentionMath.lean ====
/-
  The retention of one head over the real numbers, in closed form: the state after the first `n` positions and the
  output of every position, each as one sum over earlier positions; and that a chunked computation, whatever its chunk
  size, gives exactly these. The kernel works in chunks of 256 positions, the reference in chunks of 128; both meet
  in these two closed forms. The last section says the same of extended reals that are real numbers.
-/
module

public import Idealize.ShloMosaic.PureOps.Ideal
public import Mathlib.Data.EReal.Operations
public import Mathlib.Analysis.SpecialFunctions.Exp
public import Mathlib.Algebra.BigOperators.Fin

@[expose] public section

noncomputable section

namespace Cert.Retention

open Finset

variable {D E : Type} [Fintype D]

/-- The state after the first `n` positions: each earlier key times its value, decayed by its age. -/
def stR (g : ℝ) (k : ℕ → D → ℝ) (v : ℕ → E → ℝ) (n : ℕ) (d : D) (e : E) : ℝ :=
  ∑ s ∈ range n, Real.exp (((n : ℝ) - 1 - s) * g) * (k s d * v s e)

/-- The output of position `t`: every position up to `t`, its value weighted by the query's product with its key and by its age. -/
def outR (g : ℝ) (q k : ℕ → D → ℝ) (v : ℕ → E → ℝ) (t : ℕ) (e : E) : ℝ :=
  ∑ s ∈ range (t + 1), Real.exp (((t : ℝ) - s) * g) * ((∑ d, q t d * k s d) * v s e)

/-- The decay between positions `i` and `j` of one chunk: nothing flows from a later position. -/
def decR (g : ℝ) (i j : ℕ) : ℝ := if j ≤ i then Real.exp (((i : ℝ) - j) * g) else 0

theorem stR_zero (g : ℝ) (k : ℕ → D → ℝ) (v : ℕ → E → ℝ) (d : D) (e : E) : stR g k v 0 d e = 0 := by
  simp [stR]

/-- A chunk of `C` positions carries the state from `n` to `n + C`. -/
theorem stR_step (g : ℝ) (k : ℕ → D → ℝ) (v : ℕ → E → ℝ) (n C : ℕ) (d : D) (e : E) :
    stR g k v n d e * Real.exp (C * g) + ∑ j : Fin C, k (n + j) d * Real.exp (((C : ℝ) - 1 - (j : ℕ)) * g) * v (n + j) e
      = stR g k v (n + C) d e := by
  unfold stR
  rw [sum_range_add, sum_mul, Fin.sum_univ_eq_sum_range (fun j => k (n + j) d * Real.exp (((C : ℝ) - 1 - (j : ℕ)) * g) * v (n + j) e)]
  congr 1
  · refine sum_congr rfl fun s _ => ?_
    rw [show (((n + C : ℕ) : ℝ) - 1 - s) * g = ((n : ℝ) - 1 - s) * g + C * g by push_cast; ring, Real.exp_add]
    ring
  · refine sum_congr rfl fun j _ => ?_
    rw [show (((n + C : ℕ) : ℝ) - 1 - ((n + j : ℕ) : ℝ)) * g = ((C : ℝ) - 1 - (j : ℕ)) * g by push_cast; ring]
    ring

/-- Position `n + i` of a chunk that begins at `n`: the chunk's own positions, and the state the chunk began with. -/
theorem outR_chunk (g : ℝ) (q k : ℕ → D → ℝ) (v : ℕ → E → ℝ) (n C : ℕ) (i : Fin C) (e : E) :
    (∑ j : Fin C, (∑ d, q (n + i) d * k (n + j) d) * decR g i j * v (n + j) e)
      + (∑ d, q (n + i) d * stR g k v n d e) * Real.exp (((i : ℕ) + 1 : ℝ) * g)
      = outR g q k v (n + i) e := by
  unfold outR
  rw [show n + (i : ℕ) + 1 = n + ((i : ℕ) + 1) by ring, sum_range_add, add_comm]
  congr 1
  · unfold stR
    simp only [mul_sum, sum_mul]
    rw [sum_comm]
    refine sum_congr rfl fun s _ => sum_congr rfl fun d _ => ?_
    rw [show (((n + (i : ℕ) : ℕ) : ℝ) - s) * g = ((n : ℝ) - 1 - s) * g + ((i : ℕ) + 1 : ℝ) * g by push_cast; ring, Real.exp_add]
    ring
  · rw [Fin.sum_univ_eq_sum_range (fun j => (∑ d, q (n + i) d * k (n + j) d) * decR g i j * v (n + j) e) C]
    rw [← sum_subset (s₁ := range ((i : ℕ) + 1)) (range_subset_range.2 i.isLt) fun j _ hj => by
      have : ¬ j ≤ (i : ℕ) := by simpa [Nat.lt_succ_iff] using hj
      simp [decR, this]]
    refine sum_congr rfl fun j hj => ?_
    have : j ≤ (i : ℕ) := by simpa [Nat.lt_succ_iff] using hj
    rw [decR, if_pos this, show (((n + (i : ℕ) : ℕ) : ℝ) - ((n + j : ℕ) : ℝ)) * g = (((i : ℕ) : ℝ) - j) * g by push_cast; ring]
    ring

/-! ## The same of extended reals that are real numbers -/

/-- The sum of real numbers is the real number their sum is. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- `stR_step` of extended reals. -/
theorem stE_step (g : ℝ) (k : ℕ → D → ℝ) (v : ℕ → E → ℝ) (n C : ℕ) (d : D) (e : E) :
    (stR g k v n d e : EReal) * (Real.exp (C * g) : ℝ)
        + ∑ j : Fin C, (k (n + j) d : EReal) * (Real.exp (((C : ℝ) - 1 - (j : ℕ)) * g) : ℝ) * (v (n + j) e : EReal)
      = (stR g k v (n + C) d e : ℝ) := by
  rw [← stR_step]
  simp only [← EReal.coe_mul, coe_sum, ← EReal.coe_add]

/-- `outR_chunk` of extended reals. -/
theorem outE_chunk (g : ℝ) (q k : ℕ → D → ℝ) (v : ℕ → E → ℝ) (n C : ℕ) (i : Fin C) (e : E) :
    (∑ j : Fin C, (∑ d, (q (n + i) d : EReal) * (k (n + j) d : EReal)) * (decR g i j : ℝ) * (v (n + j) e : EReal))
      + (∑ d, (q (n + i) d : EReal) * (stR g k v n d e : ℝ)) * (Real.exp (((i : ℕ) + 1 : ℝ) * g) : ℝ)
      = (outR g q k v (n + i) e : ℝ) := by
  rw [← outR_chunk]
  simp only [← EReal.coe_mul, coe_sum, ← EReal.coe_add]

end Cert.Retention
-- ==== Proof.RetentionTables.lean ====
/- The decay tables both programs compute on the host, as real numbers: a head's logarithm of its decay is a real
   number, and each table entry is the exponential of a multiple of it. -/
module

public import proofs.«01_k».proof.Proof.RetentionMath
public import Idealize.ShloMosaic.Lib.Pointwise
public import Mathlib.Analysis.SpecialFunctions.Pow.Real

@[expose] public section

noncomputable section

namespace Cert.Retention

open Idealize.ShloMosaic

theorem ofBits_two : Ideal.ofBits .f32 0x40000000#32 = ((2 : ℝ) : EReal) := by
  simp [Ideal.ofBits, Ideal.ieee, -EReal.coe_mul]; norm_num
theorem ofBits_neg_five : Ideal.ofBits .f32 0xC0A00000#32 = ((-5 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num
theorem ofBits_127 : Ideal.ofBits .f32 0x42FE0000#32 = ((127 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num

/-- An entry of a float iota. -/
theorem iota_real (r : ℕ) (h : r < 2 ^ 31) :
    FloatOps.sitofp (F := Ideal) FTy.f32 (BitVec.ofNat 32 r) = ((r : ℝ) : EReal) := by
  show (((BitVec.ofNat 32 r).toInt : ℝ) : EReal) = _
  have h1 : (BitVec.ofNat 32 r).toInt = (r : ℤ) := by
    rw [BitVec.toInt_eq_toNat_of_lt] <;> rw [BitVec.toNat_ofNat, Nat.mod_eq_of_lt (by omega)]
    omega
  rw [h1]; norm_cast

/-- The logarithm of head `h`'s decay as the programs compute it … -/
def lgE (h : ℕ) : EReal :=
  Ideal.log (1 - Ideal.pow (Ideal.ofBits FTy.f32 0x40000000#32)
    (Ideal.ofBits FTy.f32 0xC0A00000#32 - FloatOps.sitofp (F := Ideal) FTy.f32 (BitVec.ofNat 32 h)))

/-- … and as a real number. -/
def lg (h : ℕ) : ℝ := Real.log (1 - Real.rpow 2 (-5 - h))

theorem lgE_eq (h : ℕ) (hh : h < 2 ^ 31) : lgE h = ((lg h : ℝ) : EReal) := by
  have hlt : Real.rpow 2 (-5 - (h : ℝ)) < 1 :=
    Real.rpow_lt_one_of_one_lt_of_neg (by norm_num) (by have : (0 : ℝ) ≤ h := Nat.cast_nonneg h; linarith)
  unfold lgE lg
  rw [iota_real h hh, ofBits_two, ofBits_neg_five, ← EReal.coe_sub]
  show Ideal.log (1 - ((Real.rpow 2 (-5 - (h : ℝ)) : ℝ) : EReal)) = _
  rw [← EReal.coe_one, ← EReal.coe_sub]
  show (if 1 - Real.rpow 2 (-5 - (h : ℝ)) ≤ 0 then (⊥ : EReal) else _) = _
  rw [if_neg (by linarith)]

theorem exp_coe (x : ℝ) : Ideal.exp ((x : ℝ) : EReal) = ((Real.exp x : ℝ) : EReal) := rfl

/-- The decay between two positions of a chunk. -/
theorem dec_eq (h i j : ℕ) (hh : h < 2 ^ 31) (hi : i < 2 ^ 31) (hj : j < 2 ^ 31) :
    (if (0 : EReal) ≤ FloatOps.sitofp (F := Ideal) FTy.f32 (BitVec.ofNat 32 i) - FloatOps.sitofp (F := Ideal) FTy.f32 (BitVec.ofNat 32 j) then
      Ideal.exp (max (FloatOps.sitofp (F := Ideal) FTy.f32 (BitVec.ofNat 32 i) - FloatOps.sitofp (F := Ideal) FTy.f32 (BitVec.ofNat 32 j)) 0 * lgE h)
    else (0 : EReal)) = ((decR (lg h) i j : ℝ) : EReal) := by
  rw [iota_real i hi, iota_real j hj, lgE_eq h hh, ← EReal.coe_sub, decR]
  by_cases hij : j ≤ i
  · have h0 : (0 : ℝ) ≤ (i : ℝ) - j := sub_nonneg.mpr (Nat.cast_le.mpr hij)
    rw [if_pos (by exact_mod_cast h0), if_pos hij, max_eq_left (by exact_mod_cast h0), ← EReal.coe_mul, exp_coe]
  · have h0 : ¬ (0 : ℝ) ≤ (i : ℝ) - j := by
      rw [sub_nonneg, Nat.cast_le]; exact hij
    rw [if_neg (by exact_mod_cast h0), if_neg hij, EReal.coe_zero]

/-- The decay of a query's row. -/
theorem qd_eq (h i : ℕ) (hh : h < 2 ^ 31) (hi : i < 2 ^ 31) :
    Ideal.exp ((FloatOps.sitofp (F := Ideal) FTy.f32 (BitVec.ofNat 32 i) + 1) * lgE h)
      = ((Real.exp (((i : ℕ) + 1 : ℝ) * lg h) : ℝ) : EReal) := by
  rw [iota_real i hi, lgE_eq h hh, ← EReal.coe_one, ← EReal.coe_add, ← EReal.coe_mul, exp_coe]

/-- The decay of a key's row, in a chunk whose last row is `c`. -/
theorem kd_eq (h i : ℕ) (c : ℝ) (hh : h < 2 ^ 31) (hi : i < 2 ^ 31) :
    Ideal.exp (((c : ℝ) - FloatOps.sitofp (F := Ideal) FTy.f32 (BitVec.ofNat 32 i)) * lgE h)
      = ((Real.exp ((c - (i : ℕ)) * lg h) : ℝ) : EReal) := by
  rw [iota_real i hi, lgE_eq h hh, ← EReal.coe_sub, ← EReal.coe_mul, exp_coe]

/-- The decay of the state over a chunk of `c`. -/
theorem cd_eq (h : ℕ) (c : ℝ) (hh : h < 2 ^ 31) :
    Ideal.exp (((c : ℝ) : EReal) * lgE h) = ((Real.exp (c * lg h) : ℝ) : EReal) := by
  rw [lgE_eq h hh, ← EReal.coe_mul, exp_coe]

end Cert.Retention
-- ==== Proof.RetentionSpec.lean ====
/- The retention layer's result in closed form, from its arguments: what both programs are shown to compute. -/
module

public import proofs.«01_k».proof.Proof.RetentionTables

@[expose] public section

noncomputable section

namespace Cert.Retention

open Idealize.ShloMosaic

abbrev QKShape : Shape := ⟨3, ![8, 8192, 1024]⟩
abbrev VShape : Shape := ⟨3, ![8, 8192, 2048]⟩
abbrev GShape : Shape := ⟨2, ![1, 2048]⟩

/-- Head `h` of sequence `b` of the queries or the keys: its row at position `t`. -/
def qkR (X : QKShape.Idx → EReal) (b h : Fin 8) (t : ℕ) (d : Fin 128) : ℝ :=
  (X (ix3 b ⟨t % 8192, Nat.mod_lt _ (by decide)⟩ ⟨128 * h.val + d.val, by omega⟩)).toReal

/-- Head `h` of sequence `b` of the values: its row at position `t`. -/
def vR (X : VShape.Idx → EReal) (b h : Fin 8) (t : ℕ) (e : Fin 256) : ℝ :=
  (X (ix3 b ⟨t % 8192, Nat.mod_lt _ (by decide)⟩ ⟨256 * h.val + e.val, by omega⟩)).toReal

/-- Every entry is a real number. -/
def Real' {S : Shape} (X : S.Idx → EReal) : Prop := ∀ i, X i = ((X i).toReal : EReal)

theorem qk_coe (X : QKShape.Idx → EReal) (hX : Real' X) (b h : Fin 8) (t : Fin 8192) (w : Fin 1024) (d : Fin 128) (n : ℕ)
    (hn : t.val = n) (hw : w.val = 128 * h.val + d.val) : X (ix3 b t w) = ((qkR X b h n d : ℝ) : EReal) := by
  subst hn
  have : (⟨t.val % 8192, Nat.mod_lt _ (by decide)⟩ : Fin 8192) = t := Fin.ext (Nat.mod_eq_of_lt t.isLt)
  have hw' : ∀ p, (⟨128 * h.val + d.val, p⟩ : Fin _) = w := fun _ => Fin.ext hw.symm
  rw [qkR, this, hw']; exact hX _

theorem v_coe (X : VShape.Idx → EReal) (hX : Real' X) (b h : Fin 8) (t : Fin 8192) (w : Fin 2048) (e : Fin 256) (n : ℕ)
    (hn : t.val = n) (hw : w.val = 256 * h.val + e.val) : X (ix3 b t w) = ((vR X b h n e : ℝ) : EReal) := by
  subst hn
  have : (⟨t.val % 8192, Nat.mod_lt _ (by decide)⟩ : Fin 8192) = t := Fin.ext (Nat.mod_eq_of_lt t.isLt)
  have hw' : ∀ p, (⟨256 * h.val + e.val, p⟩ : Fin _) = w := fun _ => Fin.ext hw.symm
  rw [vR, this, hw']; exact hX _

/-- The head norm of a row `o`, its affine map and the gate, at column `e`. -/
def normE (o : Fin 256 → EReal) (g b s : EReal) (e : Fin 256) : EReal :=
  s * ((o e - Ideal.div (∑ x, o x) (Ideal.ofBits FTy.f32 1132462080#32)) *
        Ideal.rsqrt
          (Ideal.div
              (∑ x, (o x - Ideal.div (∑ x, o x) (Ideal.ofBits FTy.f32 1132462080#32)) *
                  (o x - Ideal.div (∑ x, o x) (Ideal.ofBits FTy.f32 1132462080#32)))
              (Ideal.ofBits FTy.f32 1132462080#32) +
            Ideal.ofBits FTy.f32 925353388#32) * g + b)

/-- The state of head `h` of sequence `b` after `n` positions. -/
def stateR (K : QKShape.Idx → EReal) (V : VShape.Idx → EReal) (b h : Fin 8) (n : ℕ) (d : Fin 128) (e : Fin 256) : ℝ :=
  stR (lg h.val) (qkR K b h) (vR V b h) n d e

/-- The retention of head `h` of sequence `b` at position `t`, before the head norm. -/
def retR (Q K : QKShape.Idx → EReal) (V : VShape.Idx → EReal) (b h : Fin 8) (t : ℕ) (e : Fin 256) : ℝ :=
  outR (lg h.val) (qkR Q b h) (qkR K b h) (vR V b h) t e

/-- The layer's result at position `t`, column `e` of head `h`. -/
def resE (Q K : QKShape.Idx → EReal) (V SG : VShape.Idx → EReal) (G B : GShape.Idx → EReal) (b : Fin 8) (t : Fin 8192)
    (h : Fin 8) (e : Fin 256) : EReal :=
  normE (fun x => ((retR Q K V b h t.val x : ℝ) : EReal)) (G (ix2 0 ⟨256 * h.val + e.val, by omega⟩))
    (B (ix2 0 ⟨256 * h.val + e.val, by omega⟩)) (SG (ix3 b t ⟨256 * h.val + e.val, by omega⟩)) e

end Cert.Retention
-- ==== Proof.RetentionKernel.lean ====
/- The retention kernel over the extended reals: each step's heads as sums over its blocks, the blocks as parts of the
   arguments, the states along the grid, and the array the kernel leaves. -/
module

public import proofs.«01_k».proof.Proof.RetentionStep
public import proofs.«01_k».proof.Proof.RetentionSpec
public import Idealize.ShloMosaic.Lib.Pipeline.ValueKit
public import Idealize.ShloMosaic.Lib.StableHlo.ReadAt

@[expose] public section
set_option maxRecDepth 16384
noncomputable section
namespace Cert.KernelIdeal.Gen
open Idealize.ShloMosaic Idealize.ShloMosaic.TcCoe Idealize.ShloMosaic.Tactic Cert.Retention

section Heads

variable (x0 x1 : Vec Ideal S2x256x1024 .bf16) (x2 : Vec Ideal S2x256x2048 .bf16) (x3 : Vec Ideal S2x256x2048 .f32)
  (x4 : Vec Ideal S8x256x256 .f32) (x5 x6 : Vec Ideal S8x256x1 .f32) (x7 : Vec Ideal S8x1x128 .f32) (x8 x9 : Vec Ideal S1x2048 .f32)

theorem hd_div (n : Fin 2) (h : Fin 8) (p : (hd n h).val / 8 < 2) : (⟨(hd n h).val / 8, p⟩ : Fin 2) = n :=
  Fin.ext (by show (8 * n.val + h.val) / 8 = n.val; omega)
theorem hd_mod (n : Fin 2) (h : Fin 8) (p : (hd n h).val % 8 < 8) : (⟨(hd n h).val % 8, p⟩ : Fin 8) = h :=
  Fin.ext (by show (8 * n.val + h.val) % 8 = h.val; omega)
theorem hd_col (N s : ℕ) (n : Fin 2) (h : Fin 8) (x : ℕ) (p : s * ((hd n h).val % 8) + x < N) (p' : s * h.val + x < N) :
    (⟨s * ((hd n h).val % 8) + x, p⟩ : Fin N) = ⟨s * h.val + x, p'⟩ :=
  Fin.ext (by show s * ((8 * n.val + h.val) % 8) + x = _; rw [show (8 * n.val + h.val) % 8 = h.val by omega])

/-- A head's output before the norm. -/
theorem headO_read (st : Vec Ideal S1x128x256 .f32) (n : Fin 2) (h : Fin 8) (r e : Fin 256) :
    headO x0 x1 x2 x4 x5 st (hd n h) (ix2 r e)
      = (∑ j : Fin 256, (∑ d : Fin 128, x0 (ix3 n r ⟨128 * h.val + d.val, by omega⟩) * x1 (ix3 n j ⟨128 * h.val + d.val, by omega⟩))
            * x4 (ix3 h r j) * x2 (ix3 n j ⟨256 * h.val + e.val, by omega⟩) : EReal)
        + (∑ d : Fin 128, x0 (ix3 n r ⟨128 * h.val + d.val, by omega⟩) * st (ix3 0 d e)) * x5 (ix3 h r 0) := by
  pointwise [headO, headInner, headCross]
  simp only [hd_div, hd_mod]
  have h8 : (hd n h).val % 8 = h.val := by show (8 * n.val + h.val) % 8 = h.val; omega
  simp only [h8]

/-- A head's next state. -/
theorem headNext_read (st : Vec Ideal S1x128x256 .f32) (n : Fin 2) (h : Fin 8) (d : Fin 128) (e : Fin 256) :
    headNext x1 x2 x6 x7 st (hd n h) (ix3 0 d e)
      = (st (ix3 0 d e) * x7 (ix3 h 0 0)
        + ∑ j : Fin 256, x1 (ix3 n j ⟨128 * h.val + d.val, by omega⟩) * x6 (ix3 h j 0) * x2 (ix3 n j ⟨256 * h.val + e.val, by omega⟩) : EReal) := by
  pointwise [headNext, headState]
  simp only [hd_div, hd_mod]
  have h8 : (hd n h).val % 8 = h.val := by show (8 * n.val + h.val) % 8 = h.val; omega
  simp only [h8]

/-- A head's block. -/
theorem headBlock_read (st : Vec Ideal S1x128x256 .f32) (n : Fin 2) (h : Fin 8) (r e : Fin 256) :
    headBlock x0 x1 x2 x3 x4 x5 x8 x9 st (hd n h) (ix3 0 r e)
      = normE (fun x => headO x0 x1 x2 x4 x5 st (hd n h) (ix2 r x)) (x8 (ix2 0 ⟨256 * h.val + e.val, by omega⟩))
          (x9 (ix2 0 ⟨256 * h.val + e.val, by omega⟩)) (x3 (ix3 n r ⟨256 * h.val + e.val, by omega⟩)) e := by
  unfold headBlock
  generalize headO x0 x1 x2 x4 x5 st (hd n h) = o
  pointwise [headNorm, rowCentred, normE]
  simp only [hd_div]
  have h8 : (hd n h).val % 8 = h.val := by show (8 * n.val + h.val) % 8 = h.val; omega
  simp only [h8]

end Heads

variable (m : (ℓ : Loc nD τ sig) → Buf (Elt Ideal) ℓ)

/-! ## The blocks of a grid point -/

theorem idx0 (t : Fin cfg0.N) : (cfg0.win 0).index t = ![t.val / 32, t.val % 32, 0] := by revert t; decide +kernel
theorem idx1 (t : Fin cfg0.N) : (cfg0.win 1).index t = ![t.val / 32, t.val % 32, 0] := by revert t; decide +kernel
theorem idx2 (t : Fin cfg0.N) : (cfg0.win 2).index t = ![t.val / 32, t.val % 32, 0] := by revert t; decide +kernel
theorem idx3 (t : Fin cfg0.N) : (cfg0.win 3).index t = ![t.val / 32, t.val % 32, 0] := by revert t; decide +kernel
theorem idx4 (t : Fin cfg0.N) : (cfg0.win 4).index t = ![0, 0, 0] := by revert t; decide +kernel
theorem idx5 (t : Fin cfg0.N) : (cfg0.win 5).index t = ![0, 0, 0] := by revert t; decide +kernel
theorem idx6 (t : Fin cfg0.N) : (cfg0.win 6).index t = ![0, 0, 0] := by revert t; decide +kernel
theorem idx7 (t : Fin cfg0.N) : (cfg0.win 7).index t = ![0, 0, 0] := by revert t; decide +kernel
theorem idx8 (t : Fin cfg0.N) : (cfg0.win 8).index t = ![0, 0] := by revert t; decide +kernel
theorem idx9 (t : Fin cfg0.N) : (cfg0.win 9).index t = ![0, 0] := by revert t; decide +kernel

theorem point_lt (t : Fin cfg0.N) : t.val < 128 := lt_of_lt_of_eq t.isLt N_0

/-- The sequence and the position of row `r` of sequence `n` of point `t`'s pair. -/
def seqOf (t : Fin cfg0.N) (n : Fin 2) : Fin 8 := ⟨2 * (t.val / 32) + n.val, by have := point_lt t; omega⟩
def posOf (t : Fin cfg0.N) (r : Fin 256) : Fin 8192 := ⟨256 * (t.val % 32) + r.val, by omega⟩

theorem iblk0 (c : Dev nD) (t : Fin cfg0.N) (n : Fin 2) (r : Fin 256) (w : Fin 1024) :
    iblk m c 0 t (ix3 n r w) = m ((c : Thread nD τ).loc main_arg0) (ix3 (seqOf t n) (posOf t r) w) := by
  blk_ext [iblk, V, idx0 t, seqOf, posOf]
theorem iblk1 (c : Dev nD) (t : Fin cfg0.N) (n : Fin 2) (r : Fin 256) (w : Fin 1024) :
    iblk m c 1 t (ix3 n r w) = m ((c : Thread nD τ).loc main_arg1) (ix3 (seqOf t n) (posOf t r) w) := by
  blk_ext [iblk, V, idx1 t, seqOf, posOf]
theorem iblk2 (c : Dev nD) (t : Fin cfg0.N) (n : Fin 2) (r : Fin 256) (w : Fin 2048) :
    iblk m c 2 t (ix3 n r w) = m ((c : Thread nD τ).loc main_arg2) (ix3 (seqOf t n) (posOf t r) w) := by
  blk_ext [iblk, V, idx2 t, seqOf, posOf]
theorem iblk3 (c : Dev nD) (t : Fin cfg0.N) (n : Fin 2) (r : Fin 256) (w : Fin 2048) :
    iblk m c 3 t (ix3 n r w) = m ((c : Thread nD τ).loc main_arg3) (ix3 (seqOf t n) (posOf t r) w) := by
  blk_ext [iblk, V, idx3 t, seqOf, posOf]
theorem iblk8 (c : Dev nD) (t : Fin cfg0.N) (w : Fin 2048) :
    iblk m c 8 t (ix2 0 w) = m ((c : Thread nD τ).loc main_arg4) (ix2 0 w) := by
  blk_ext [iblk, V, idx8 t]
theorem iblk9 (c : Dev nD) (t : Fin cfg0.N) (w : Fin 2048) :
    iblk m c 9 t (ix2 0 w) = m ((c : Thread nD τ).loc main_arg5) (ix2 0 w) := by
  blk_ext [iblk, V, idx9 t]

/-- The decay within a chunk. -/
theorem iblk4 (c : Dev nD) (t : Fin cfg0.N) (h : Fin 8) (r j : Fin 256) :
    iblk m c 4 t (ix3 h r j) = ((decR (lg h.val) r.val j.val : ℝ) : EReal) := by
  have e : iblk m c 4 t (ix3 h r j) = V m c main_v24 (ix3 h r j) := by blk_ext [iblk, idx4 t]
  rw [e]
  unfold V
  after_reads_at
  exact (congrArg (fun z : EReal => ite _ _ z) (Ideal.ofBits_zero_f32)).trans
    (dec_eq h.val r.val j.val (by omega) (by omega) (by omega))
/-- The decay of a query's row. -/
theorem iblk5 (c : Dev nD) (t : Fin cfg0.N) (h : Fin 8) (r : Fin 256) :
    iblk m c 5 t (ix3 h r 0) = ((Real.exp (((r.val : ℕ) + 1 : ℝ) * lg h.val) : ℝ) : EReal) := by
  have e : iblk m c 5 t (ix3 h r 0) = V m c main_v33 (ix3 h r 0) := by blk_ext [iblk, idx5 t]
  rw [e]
  unfold V
  after_reads_at
  exact qd_eq h.val r.val (by omega) (by omega)
/-- The decay of a key's row. -/
theorem iblk6 (c : Dev nD) (t : Fin cfg0.N) (h : Fin 8) (r : Fin 256) :
    iblk m c 6 t (ix3 h r 0) = ((Real.exp ((((256 : ℕ) : ℝ) - 1 - (r.val : ℕ)) * lg h.val) : ℝ) : EReal) := by
  have e : iblk m c 6 t (ix3 h r 0) = V m c main_v42 (ix3 h r 0) := by blk_ext [iblk, idx6 t]
  rw [e]
  unfold V
  after_reads_at
  rw [ofBits_255, show (((256 : ℕ) : ℝ) - 1) = 255 by norm_num]
  exact kd_eq h.val r.val 255 (by omega) (by omega)
/-- The decay of the state over a chunk. -/
theorem iblk7 (c : Dev nD) (t : Fin cfg0.N) (h : Fin 8) :
    iblk m c 7 t (ix3 h 0 0) = ((Real.exp (((256 : ℕ) : ℝ) * lg h.val) : ℝ) : EReal) := by
  have e : iblk m c 7 t (ix3 h 0 0) = V m c main_v47 (ix3 h 0 0) := by blk_ext [iblk, idx7 t]
  rw [e]
  unfold V
  after_reads_at
  rw [ofBits_256, show (((256 : ℕ) : ℝ)) = 256 by norm_num]
  exact cd_eq h.val 256 (by omega)

end Cert.KernelIdeal.Gen
-- ==== Proof.RetentionFold.lean ====
/- The states along the grid and the array the retention kernel leaves. -/
module

public import proofs.«01_k».proof.Proof.RetentionKernel

@[expose] public section
set_option maxRecDepth 16384
noncomputable section
namespace Cert.KernelIdeal.Gen
open Idealize.ShloMosaic Idealize.ShloMosaic.TcCoe Idealize.ShloMosaic.Tactic Cert.Retention

variable (m : (ℓ : Loc nD τ sig) → Buf (Elt Ideal) ℓ) (c : Dev nD)

/-- The queries, keys, values, gates and the norm's scale and shift, as arrays of extended reals. -/
abbrev argQ : QKShape.Idx → EReal := m ((c : Thread nD τ).loc main_arg0)
abbrev argK : QKShape.Idx → EReal := m ((c : Thread nD τ).loc main_arg1)
abbrev argV : VShape.Idx → EReal := m ((c : Thread nD τ).loc main_arg2)
abbrev argSG : VShape.Idx → EReal := m ((c : Thread nD τ).loc main_arg3)
abbrev argG : GShape.Idx → EReal := m ((c : Thread nD τ).loc main_arg4)
abbrev argB : GShape.Idx → EReal := m ((c : Thread nD τ).loc main_arg5)

variable (hQ : Real' (argQ m c)) (hK : Real' (argK m c)) (hV : Real' (argV m c))

/-- The states a point begins with. -/
def StartsWith (t : Fin cfg0.N) (n : Fin 2) (h : Fin 8) (st : Vec Ideal S1x128x256 .f32) : Prop :=
  ∀ (d : Fin 128) (e : Fin 256),
    (st (ix3 0 d e) : EReal) = ((stateR (argK m c) (argV m c) (seqOf t n) h (256 * (t.val % 32)) d e : ℝ) : EReal)

include hQ in
theorem blockQ (t : Fin cfg0.N) (n : Fin 2) (h : Fin 8) (r : Fin 256) (d : Fin 128) :
    (iblk m c 0 t (ix3 n r (⟨128 * h.val + d.val, by omega⟩ : Fin 1024)) : EReal)
      = ((qkR (argQ m c) (seqOf t n) h (256 * (t.val % 32) + r.val) d : ℝ) : EReal) :=
  (iblk0 m c t n r _).trans (qk_coe (argQ m c) hQ (seqOf t n) h (posOf t r) _ d _ rfl rfl)
include hK in
theorem blockK (t : Fin cfg0.N) (n : Fin 2) (h : Fin 8) (r : Fin 256) (d : Fin 128) :
    (iblk m c 1 t (ix3 n r (⟨128 * h.val + d.val, by omega⟩ : Fin 1024)) : EReal)
      = ((qkR (argK m c) (seqOf t n) h (256 * (t.val % 32) + r.val) d : ℝ) : EReal) :=
  (iblk1 m c t n r _).trans (qk_coe (argK m c) hK (seqOf t n) h (posOf t r) _ d _ rfl rfl)
include hV in
theorem blockV (t : Fin cfg0.N) (n : Fin 2) (h : Fin 8) (r : Fin 256) (e : Fin 256) :
    (iblk m c 2 t (ix3 n r (⟨256 * h.val + e.val, by omega⟩ : Fin 2048)) : EReal)
      = ((vR (argV m c) (seqOf t n) h (256 * (t.val % 32) + r.val) e : ℝ) : EReal) :=
  (iblk2 m c t n r _).trans (v_coe (argV m c) hV (seqOf t n) h (posOf t r) _ e _ rfl rfl)

include hK hV in
/-- A step carries a head's state over its 256 positions. -/
theorem headNext_val (t : Fin cfg0.N) (n : Fin 2) (h : Fin 8) (st : Vec Ideal S1x128x256 .f32) (hs : StartsWith m c t n h st)
    (d : Fin 128) (e : Fin 256) :
    (headNext (iblk m c 1 t) (iblk m c 2 t) (iblk m c 6 t) (iblk m c 7 t) st (hd n h) (ix3 0 d e) : EReal)
      = ((stateR (argK m c) (argV m c) (seqOf t n) h (256 * (t.val % 32) + 256) d e : ℝ) : EReal) := by
  refine (headNext_read _ _ _ _ st n h d e).trans (Eq.trans ?_
    (stE_step (lg h.val) (qkR (argK m c) (seqOf t n) h) (vR (argV m c) (seqOf t n) h) (256 * (t.val % 32)) 256 d e))
  rw [hs d e, iblk7, stateR]
  refine congrArg (fun z : EReal => (_ : EReal) + z) (Finset.sum_congr rfl fun j _ => ?_)
  rw [blockK m c hK, blockV m c hV, iblk6]

include hQ hK hV in
/-- A step's rows before the norm are the retention of its positions. -/
theorem headO_val (t : Fin cfg0.N) (n : Fin 2) (h : Fin 8) (st : Vec Ideal S1x128x256 .f32) (hs : StartsWith m c t n h st)
    (r e : Fin 256) :
    (headO (iblk m c 0 t) (iblk m c 1 t) (iblk m c 2 t) (iblk m c 4 t) (iblk m c 5 t) st (hd n h) (ix2 r e) : EReal)
      = ((retR (argQ m c) (argK m c) (argV m c) (seqOf t n) h (posOf t r).val e : ℝ) : EReal) := by
  refine (headO_read _ _ _ _ _ st n h r e).trans (Eq.trans ?_
    (outE_chunk (lg h.val) (qkR (argQ m c) (seqOf t n) h) (qkR (argK m c) (seqOf t n) h) (vR (argV m c) (seqOf t n) h)
      (256 * (t.val % 32)) 256 r e))
  rw [iblk5]
  refine congrArg₂ (fun y z : EReal => y + z) (Finset.sum_congr rfl fun j _ => ?_)
    (congrArg (fun z : EReal => z * (_ : EReal)) (Finset.sum_congr rfl fun d _ => ?_))
  · rw [iblk4, blockV m c hV]
    refine congrArg (fun z : EReal => z * (_ : EReal) * (_ : EReal)) (Finset.sum_congr rfl fun d _ => ?_)
    rw [blockQ m c hQ, blockK m c hK]
  · rw [blockQ m c hQ, hs d e, stateR]

include hQ hK hV in
/-- A step's block is the layer's result at its positions. -/
theorem headBlock_val (t : Fin cfg0.N) (n : Fin 2) (h : Fin 8) (st : Vec Ideal S1x128x256 .f32) (hs : StartsWith m c t n h st)
    (r e : Fin 256) :
    (headBlock (iblk m c 0 t) (iblk m c 1 t) (iblk m c 2 t) (iblk m c 3 t) (iblk m c 4 t) (iblk m c 5 t) (iblk m c 8 t)
        (iblk m c 9 t) st (hd n h) (ix3 0 r e) : EReal)
      = resE (argQ m c) (argK m c) (argV m c) (argSG m c) (argG m c) (argB m c) (seqOf t n) (posOf t r) h e := by
  refine (headBlock_read _ _ _ _ _ _ _ _ st n h r e).trans ?_
  rw [resE, iblk8, iblk9, iblk3]
  congr 1
  funext x
  exact headO_val m c hQ hK hV t n h st hs r x

/-- A cleared state is the state before the first position. -/
theorem starts_cleared (t : Fin cfg0.N) (h0 : t.val % 32 = 0) (n : Fin 2) (h : Fin 8) :
    StartsWith m c t n h (fun _ => Scalar.ofBits (F := Ideal) .f32 0x00000000#32) := by
  intro d e
  rw [stateR, h0, Nat.mul_zero, stR_zero, EReal.coe_zero]
  exact Ideal.ofBits_zero_f32

theorem ld_state (S : Vec Ideal S16x128x256 .f32) (n : Fin 2) (h : Fin 8) (d : Fin 128) (e : Fin 256) :
    View.ld S (rS (hd n h)) (ix3 0 d e) = S (ix3 (hd n h) d e) := by
  pointwise []

include hK hV in
/-- After point `n` the scratch holds every head's state after the positions up to the point's last. -/
theorem states (n : ℕ) (hn : n < cfg0.N) (a : Fin 2) (h : Fin 8) (d : Fin 128) (e : Fin 256) :
    ((outsAt0 m c n hn).2 (ix3 (hd a h) d e) : EReal)
      = ((stateR (argK m c) (argV m c) (seqOf ⟨n, hn⟩ a) h (256 * (n % 32) + 256) d e : ℝ) : EReal) := by
  induction n generalizing d e with
  | zero =>
    rw [Value.outsAt0_zero]
    refine (stepA_state m c ⟨0, hn⟩ _ rfl _ d e).trans ?_
    exact headNext_val m c hK hV ⟨0, hn⟩ a h _ (starts_cleared m c ⟨0, hn⟩ rfl a h) d e
  | succ n ih =>
    rw [Value.outsAt0_succ]
    by_cases h0 : (n + 1) % 32 = 0
    · refine (stepA_state m c ⟨n + 1, hn⟩ _ h0 _ d e).trans ?_
      exact headNext_val m c hK hV ⟨n + 1, hn⟩ a h _ (starts_cleared m c ⟨n + 1, hn⟩ h0 a h) d e
    · refine (stepB_state m c ⟨n + 1, hn⟩ _ h0 _ d e).trans ?_
      refine headNext_val m c hK hV ⟨n + 1, hn⟩ a h _ (fun d e => ?_) d e
      refine (ld_state _ a h d e).trans ((ih (Nat.lt_of_succ_lt hn) d e).trans ?_)
      rw [show 256 * (n % 32) + 256 = 256 * ((⟨n + 1, hn⟩ : Fin cfg0.N).val % 32) by show _ = 256 * ((n + 1) % 32); omega]
      have es : seqOf ⟨n, Nat.lt_of_succ_lt hn⟩ a = seqOf ⟨n + 1, hn⟩ a :=
        Fin.ext (by show 2 * (n / 32) + a.val = 2 * ((n + 1) / 32) + a.val; omega)
      rw [es]

include hQ hK hV in
/-- What point `n` leaves in the result's block. -/
theorem blocks (n : ℕ) (hn : n < cfg0.N) (a : Fin 2) (h : Fin 8) (r e : Fin 256) :
    ((outsAt0 m c n hn).1 (ix3 a r ⟨256 * h.val + e.val, by omega⟩) : EReal)
      = resE (argQ m c) (argK m c) (argV m c) (argSG m c) (argG m c) (argB m c) (seqOf ⟨n, hn⟩ a) (posOf ⟨n, hn⟩ r) h e := by
  cases n with
  | zero =>
    rw [Value.outsAt0_zero]
    refine (stepA_block m c ⟨0, hn⟩ _ rfl a h r e).trans ?_
    exact headBlock_val m c hQ hK hV ⟨0, hn⟩ a h _ (starts_cleared m c ⟨0, hn⟩ rfl a h) r e
  | succ n =>
    rw [Value.outsAt0_succ]
    by_cases h0 : (n + 1) % 32 = 0
    · refine (stepA_block m c ⟨n + 1, hn⟩ _ h0 a h r e).trans ?_
      exact headBlock_val m c hQ hK hV ⟨n + 1, hn⟩ a h _ (starts_cleared m c ⟨n + 1, hn⟩ h0 a h) r e
    · refine (stepB_block m c ⟨n + 1, hn⟩ _ h0 a h r e).trans ?_
      refine headBlock_val m c hQ hK hV ⟨n + 1, hn⟩ a h _ (fun d e => ?_) r e
      refine (ld_state _ a h d e).trans ((states m c hK hV n (Nat.lt_of_succ_lt hn) a h d e).trans ?_)
      rw [show 256 * (n % 32) + 256 = 256 * ((⟨n + 1, hn⟩ : Fin cfg0.N).val % 32) by show _ = 256 * ((n + 1) % 32); omega]
      have es : seqOf ⟨n, Nat.lt_of_succ_lt hn⟩ a = seqOf ⟨n + 1, hn⟩ a :=
        Fin.ext (by show 2 * (n / 32) + a.val = 2 * ((n + 1) / 32) + a.val; omega)
      rw [es]

include hQ hK hV in
/-- The array the kernel leaves is the layer's result. -/
theorem result (b : Fin 8) (p : Fin 8192) (h : Fin 8) (e : Fin 256) (w : Fin 2048) (hw : w.val = 256 * h.val + e.val) :
    (Value.G10 m c (ix3 b p w) : EReal)
      = resE (argQ m c) (argK m c) (argV m c) (argSG m c) (argG m c) (argB m c) b p h e := by
  have hN : cfg0.N = 128 := N_0
  have hpt : Value.pt10Of (ix3 b p w) = 32 * (b.val / 2) + p.val / 256 := by
    show 32 * (b.val / 2 - 0) + 1 * (p.val / 256 - 0) + 1 * (w.val / 2048 - 0) = _
    omega
  have hlt : Value.pt10Of (ix3 b p w) < cfg0.N := by rw [hpt, hN]; omega
  have hloc : Value.loc10Of (ix3 b p w)
      = ix3 (⟨b.val % 2, by omega⟩ : Fin 2) (⟨p.val % 256, by omega⟩ : Fin 256) (⟨256 * h.val + e.val, by clear hw; omega⟩ : Fin 2048) := by
    funext ax; apply Fin.ext
    match ax with
    | ⟨0, _⟩ => rfl
    | ⟨1, _⟩ => rfl
    | ⟨2, _⟩ => show w.val % 2048 = 256 * h.val + e.val; omega
  unfold Value.G10
  rw [dif_pos hlt, ← Value.outsAt0_sweep m c _ hlt, hloc]
  refine (blocks m c hQ hK hV _ hlt _ h _ e).trans ?_
  have e1 : seqOf ⟨Value.pt10Of (ix3 b p w), hlt⟩ (⟨b.val % 2, by omega⟩ : Fin 2) = b := by
    apply Fin.ext; show 2 * (Value.pt10Of (ix3 b p w) / 32) + b.val % 2 = b.val; rw [hpt]; omega
  have e2 : posOf ⟨Value.pt10Of (ix3 b p w), hlt⟩ (⟨p.val % 256, by omega⟩ : Fin 256) = p := by
    apply Fin.ext; show 256 * (Value.pt10Of (ix3 b p w) % 32) + p.val % 256 = p.val; rw [hpt]; omega
  rw [e1, e2]

end Cert.KernelIdeal.Gen
-- ==== Proof.RetentionChunks.lean ====
/- One chunk read out of a five-axis array at the loop's counter, and one chunk written into it: the counter is in range, so
   the clamp of the start is the identity. -/
module

public import Idealize.ShloMosaic.Lib.Pointwise
public import Idealize.ShloMosaic.Lib.DynamicIndex

@[expose] public section

noncomputable section

namespace Cert.Retention

open Idealize.ShloMosaic

variable {α : Type}

/-- The array cut into `n` chunks, and one chunk. -/
abbrev Chunks (n a : ℕ) : Shape := ⟨5, ![n, 8, 8, 128, a]⟩

/-- A slice of one chunk at the counter `k` is chunk `k`. -/
theorem chunk_read {a : ℕ} (x : (Chunks 64 a).Idx → α) (start : Fin 5 → Int) (hs : (Chunks 64 a).Slices (fun _ => 0) (Chunks 1 a))
    (k : ℕ) (hk : k < 64) (h0 : start = ![(k : Int), 0, 0, 0, 0]) (b h : Fin 8) (i : Fin 128) (e : Fin a) :
    Host.dynamicSlice (Chunks 1 a) x start hs (ix5 0 b h i e) = x (ix5 ⟨k, hk⟩ b h i e) := by
  subst h0
  unfold Host.dynamicSlice
  refine congrArg x (funext fun ax => Fin.ext ?_)
  fin_cases ax
  · show (min (max (k : Int) 0) ((64 - 1 : ℕ) : Int)).toNat + 0 = k; omega
  · show (min (max (0 : Int) 0) ((8 - 8 : ℕ) : Int)).toNat + b.val = b.val; omega
  · show (min (max (0 : Int) 0) ((8 - 8 : ℕ) : Int)).toNat + h.val = h.val; omega
  · show (min (max (0 : Int) 0) ((128 - 128 : ℕ) : Int)).toNat + i.val = i.val; omega
  · show (min (max (0 : Int) 0) ((a - a : ℕ) : Int)).toNat + e.val = e.val; omega

/-- Writing one chunk at the counter `k` changes chunk `k` and no other. -/
theorem chunk_write {a : ℕ} (x : (Chunks 64 a).Idx → α) (u : (Chunks 1 a).Idx → α) (start : Fin 5 → Int)
    (hs : (Chunks 64 a).Slices (fun _ => 0) (Chunks 1 a))
    (k : ℕ) (hk : k < 64) (h0 : start = ![(k : Int), 0, 0, 0, 0]) (j : Fin 64) (b h : Fin 8) (i : Fin 128) (e : Fin a) :
    Host.dynamicUpdateSlice x u start hs (ix5 j b h i e) = if j.val = k then u (ix5 0 b h i e) else x (ix5 j b h i e) := by
  have c0 : Host.clampedStart (Chunks 64 a) (Chunks 1 a) hs.1 start 0 = k :=
    Host.clampedStart_of_le _ _ _ k (by rw [h0]; rfl) (by show k + 1 ≤ 64; omega)
  have c1 : Host.clampedStart (Chunks 64 a) (Chunks 1 a) hs.1 start 1 = 0 :=
    Host.clampedStart_of_le _ _ _ 0 (by rw [h0]; rfl) (by show 0 + 8 ≤ 8; omega)
  have c2 : Host.clampedStart (Chunks 64 a) (Chunks 1 a) hs.1 start 2 = 0 :=
    Host.clampedStart_of_le _ _ _ 0 (by rw [h0]; rfl) (by show 0 + 8 ≤ 8; omega)
  have c3 : Host.clampedStart (Chunks 64 a) (Chunks 1 a) hs.1 start 3 = 0 :=
    Host.clampedStart_of_le _ _ _ 0 (by rw [h0]; rfl) (by show 0 + 128 ≤ 128; omega)
  have c4 : Host.clampedStart (Chunks 64 a) (Chunks 1 a) hs.1 start 4 = 0 :=
    Host.clampedStart_of_le _ _ _ 0 (by rw [h0]; rfl) (by show 0 + a ≤ a; omega)
  rw [Host.dynamicUpdateSlice_apply]
  by_cases hj : j.val = k
  · rw [if_pos hj, dif_pos]
    · rw [Shape.Idx.norm_def]
      refine congrArg u (funext fun ax => Fin.ext ?_)
      fin_cases ax
      · show j.val - Host.clampedStart (Chunks 64 a) (Chunks 1 a) hs.1 start 0 = 0; rw [c0]; omega
      · show b.val - Host.clampedStart (Chunks 64 a) (Chunks 1 a) hs.1 start 1 = b.val; rw [c1]; omega
      · show h.val - Host.clampedStart (Chunks 64 a) (Chunks 1 a) hs.1 start 2 = h.val; rw [c2]; omega
      · show i.val - Host.clampedStart (Chunks 64 a) (Chunks 1 a) hs.1 start 3 = i.val; rw [c3]; omega
      · show e.val - Host.clampedStart (Chunks 64 a) (Chunks 1 a) hs.1 start 4 = e.val; rw [c4]; omega
    · intro ax
      fin_cases ax
      · show Host.clampedStart (Chunks 64 a) (Chunks 1 a) hs.1 start 0 ≤ j.val ∧ j.val < Host.clampedStart (Chunks 64 a) (Chunks 1 a) hs.1 start 0 + 1
        rw [c0]; omega
      · show Host.clampedStart (Chunks 64 a) (Chunks 1 a) hs.1 start 1 ≤ b.val ∧ b.val < Host.clampedStart (Chunks 64 a) (Chunks 1 a) hs.1 start 1 + 8
        rw [c1]; have := b.isLt; omega
      · show Host.clampedStart (Chunks 64 a) (Chunks 1 a) hs.1 start 2 ≤ h.val ∧ h.val < Host.clampedStart (Chunks 64 a) (Chunks 1 a) hs.1 start 2 + 8
        rw [c2]; have := h.isLt; omega
      · show Host.clampedStart (Chunks 64 a) (Chunks 1 a) hs.1 start 3 ≤ i.val ∧ i.val < Host.clampedStart (Chunks 64 a) (Chunks 1 a) hs.1 start 3 + 128
        rw [c3]; have := i.isLt; omega
      · show Host.clampedStart (Chunks 64 a) (Chunks 1 a) hs.1 start 4 ≤ e.val ∧ e.val < Host.clampedStart (Chunks 64 a) (Chunks 1 a) hs.1 start 4 + a
        rw [c4]; have := e.isLt; omega
  · rw [if_neg hj, dif_neg]
    intro hin
    have h1 : Host.clampedStart (Chunks 64 a) (Chunks 1 a) hs.1 start 0 ≤ j.val ∧ j.val < Host.clampedStart (Chunks 64 a) (Chunks 1 a) hs.1 start 0 + 1 := hin 0
    rw [c0] at h1
    omega

end Cert.Retention
-- ==== Proof.RetentionTrip.lean ====
/- One trip of the reference's loop, read entry by entry: the chunk of queries, keys and values at the counter, the new
   state and the new outputs; and what the loop's arrays hold when it is entered. -/
module

public import proofs.«01_k».proof.Proof.RetentionSpec
public import proofs.«01_k».proof.Proof.RetentionChunks
public import proofs.«01_k».proof.Proof.Gen.ReferenceIdeal.Run
public import Idealize.ShloMosaic.Lib.Pipeline.ValueKit
public import Idealize.ShloMosaic.Lib.StableHlo.ReadAt
public import Idealize.ShloMosaic.Lib.Tactic.ValueTie

@[expose] public section

set_option maxRecDepth 16384

noncomputable section

namespace Cert.ReferenceIdeal.Value

open Idealize.ShloMosaic Idealize.ShloMosaic.TcCoe Idealize.ShloMosaic.Tactic Cert.Retention
open Idealize.ShloMosaic.StableHlo Cert.ReferenceIdeal.Gen

variable (m : (ℓ : Loc nD τ sig) → Buf (Elt Ideal) ℓ) (c : Dev nD) (V0 : Valuation τ sig (Elt Ideal))

/-- The loop's queries. -/
abbrev qA : (Chunks 64 128).Idx → EReal := V0 (Proc.devRef .tc main_v61_0)
/-- The loop's keys. -/
abbrev kA : (Chunks 64 128).Idx → EReal := V0 (Proc.devRef .tc main_v61_1)
/-- The loop's values. -/
abbrev vA : (Chunks 64 256).Idx → EReal := V0 (Proc.devRef .tc main_v61_2)
/-- The loop's decays inside a chunk. -/
abbrev decA : (⟨3, ![8, 128, 128]⟩ : Shape).Idx → EReal := V0 (Proc.devRef .tc main_v61_3)
/-- The loop's queries' decays. -/
abbrev qdA : (⟨3, ![8, 128, 1]⟩ : Shape).Idx → EReal := V0 (Proc.devRef .tc main_v61_4)
/-- The loop's state's decays over a chunk. -/
abbrev cdA : (⟨3, ![8, 1, 1]⟩ : Shape).Idx → EReal := V0 (Proc.devRef .tc main_v61_5)
/-- The loop's keys' decays. -/
abbrev kdA : (⟨3, ![8, 128, 1]⟩ : Shape).Idx → EReal := V0 (Proc.devRef .tc main_v61_6)
/-- The loop's state. -/
abbrev stA : (⟨4, ![8, 8, 128, 256]⟩ : Shape).Idx → EReal := V0 (Proc.devRef .tc main_v61_8)
/-- The loop's outputs. -/
abbrev outA : (Chunks 64 256).Idx → EReal := V0 (Proc.devRef .tc main_v61_9)
/-- The chunk of queries at the counter. -/
abbrev qC : (⟨4, ![8, 8, 128, 128]⟩ : Shape).Idx → EReal := res_main_while0b_v93 V0
/-- The chunk of keys at the counter. -/
abbrev kC : (⟨4, ![8, 8, 128, 128]⟩ : Shape).Idx → EReal := res_main_while0b_v94 V0
/-- The chunk of values at the counter. -/
abbrev vC : (⟨4, ![8, 8, 128, 256]⟩ : Shape).Idx → EReal := res_main_while0b_v95 V0

/-- The five starts of a slice at the counter `k`. -/
theorem starts (k : ℕ) (hk : k < 64) (hc : V0 (Proc.devRef .tc main_v61_7) = fun _ => BitVec.ofNat 32 k) :
    (fun x : Fin 5 => BitVec.toInt ((![V0 (Proc.devRef .tc main_v61_7), constantI S_ 32 0#32, constantI S_ 32 0#32,
      constantI S_ 32 0#32, constantI S_ 32 0#32] : Fin 5 → IVec S_ 32) x (Shape.Idx.first h_S_))) = ![(k : Int), 0, 0, 0, 0] := by
  funext x
  fin_cases x
  · show BitVec.toInt (V0 (Proc.devRef .tc main_v61_7) _) = (k : Int)
    rw [hc]
    exact toInt_ofNat_of_lt (by omega)
  all_goals rfl

theorem read_q (k : ℕ) (hk : k < 64) (hc : V0 (Proc.devRef .tc main_v61_7) = fun _ => BitVec.ofNat 32 k)
    (b h : Fin 8) (i d : Fin 128) :
    (qC V0 (ix4 b h i d) : EReal) = qA V0 (ix5 ⟨k, hk⟩ b h i d) := by
  refine Eq.trans ?_ (chunk_read (qA V0) _ (by decide) k hk (starts V0 k hk hc) b h i d)
  unfold qC res_main_while0b_v93
  generalize Host.dynamicSlice (s := S64x8x8x128x128) S1x8x8x128x128 _ _ _ = y
  pointwise

theorem read_k (k : ℕ) (hk : k < 64) (hc : V0 (Proc.devRef .tc main_v61_7) = fun _ => BitVec.ofNat 32 k)
    (b h : Fin 8) (i d : Fin 128) :
    (kC V0 (ix4 b h i d) : EReal) = kA V0 (ix5 ⟨k, hk⟩ b h i d) := by
  refine Eq.trans ?_ (chunk_read (kA V0) _ (by decide) k hk (starts V0 k hk hc) b h i d)
  unfold kC res_main_while0b_v94
  generalize Host.dynamicSlice (s := S64x8x8x128x128) S1x8x8x128x128 _ _ _ = y
  pointwise

theorem read_v (k : ℕ) (hk : k < 64) (hc : V0 (Proc.devRef .tc main_v61_7) = fun _ => BitVec.ofNat 32 k)
    (b h : Fin 8) (i : Fin 128) (e : Fin 256) :
    (vC V0 (ix4 b h i e) : EReal) = vA V0 (ix5 ⟨k, hk⟩ b h i e) := by
  refine Eq.trans ?_ (chunk_read (vA V0) _ (by decide) k hk (starts V0 k hk hc) b h i e)
  unfold vC res_main_while0b_v95
  generalize Host.dynamicSlice (s := S64x8x8x128x256) S1x8x8x128x256 _ _ _ = y
  pointwise

/-- The state after a trip. -/
theorem trip_state (b h : Fin 8) (d : Fin 128) (e : Fin 256) :
    (step_main_v61_8 V0 (ix4 b h d e) : EReal)
      = (stA V0 (ix4 b h d e) : EReal) * (cdA V0 (ix3 h 0 0) : EReal)
        + ∑ j : Fin 128, ((kC V0 (ix4 b h j d) : EReal) * (kdA V0 (ix3 h j 0) : EReal))
            * (vC V0 (ix4 b h j e) : EReal) := by
  unfold step_main_v61_8
  clean_types
  rw [id_eq]
  pointwise

/-- The outputs after a trip. -/
theorem trip_out (k : ℕ) (hk : k < 64) (hc : V0 (Proc.devRef .tc main_v61_7) = fun _ => BitVec.ofNat 32 k)
    (j : Fin 64) (b h : Fin 8) (i : Fin 128) (e : Fin 256) :
    (step_main_v61_9 V0 (ix5 j b h i e) : EReal)
      = if j.val = k then
          (∑ a : Fin 128, ((∑ d : Fin 128, (qC V0 (ix4 b h i d) : EReal) * (kC V0 (ix4 b h a d) : EReal))
              * (decA V0 (ix3 h i a) : EReal)) * (vC V0 (ix4 b h a e) : EReal))
            + (∑ d : Fin 128, (qC V0 (ix4 b h i d) : EReal) * (stA V0 (ix4 b h d e) : EReal))
              * (qdA V0 (ix3 h i 0) : EReal)
        else outA V0 (ix5 j b h i e) := by
  refine Eq.trans (chunk_write (outA V0) _ _ (by decide) k hk (starts V0 k hk hc) j b h i e) ?_
  refine if_congr Iff.rfl ?_ rfl
  pointwise

theorem entry_q (j : Fin 64) (b h : Fin 8) (i d : Fin 128) :
    (qA (entryContents preI m c) (ix5 j b h i d) : EReal)
      = m ((c : Thread nD τ).loc main_arg0) (ix3 b ⟨j.val * 128 + i.val, by omega⟩ ⟨h.val * 128 + d.val, by omega⟩) := by
  simp only [entryContents, afterL_cons, afterL_nil]
  after_reads_at
  rw [id_eq]
  pointwise

theorem entry_k (j : Fin 64) (b h : Fin 8) (i d : Fin 128) :
    (kA (entryContents preI m c) (ix5 j b h i d) : EReal)
      = m ((c : Thread nD τ).loc main_arg1) (ix3 b ⟨j.val * 128 + i.val, by omega⟩ ⟨h.val * 128 + d.val, by omega⟩) := by
  simp only [entryContents, afterL_cons, afterL_nil]
  after_reads_at
  rw [id_eq]
  pointwise

theorem entry_v (j : Fin 64) (b h : Fin 8) (i : Fin 128) (e : Fin 256) :
    (vA (entryContents preI m c) (ix5 j b h i e) : EReal)
      = m ((c : Thread nD τ).loc main_arg2) (ix3 b ⟨j.val * 128 + i.val, by omega⟩ ⟨h.val * 256 + e.val, by omega⟩) := by
  simp only [entryContents, afterL_cons, afterL_nil]
  after_reads_at
  rw [id_eq]
  pointwise

theorem entry_dec (h : Fin 8) (i j : Fin 128) :
    (decA (entryContents preI m c) (ix3 h i j) : EReal) = ((decR (lg h.val) i.val j.val : ℝ) : EReal) := by
  refine Eq.trans ?_ (dec_eq h.val i.val j.val (by omega) (by omega) (by omega))
  simp only [entryContents, afterL_cons, afterL_nil]
  after_reads_at
  simp only [id_eq]
  pointwise [lgE]

theorem entry_qd (h : Fin 8) (i : Fin 128) :
    (qdA (entryContents preI m c) (ix3 h i 0) : EReal)
      = ((Real.exp (((i.val : ℕ) + 1 : ℝ) * lg h.val) : ℝ) : EReal) := by
  refine Eq.trans ?_ (qd_eq h.val i.val (by omega) (by omega))
  simp only [entryContents, afterL_cons, afterL_nil]
  after_reads_at
  simp only [id_eq]
  pointwise [lgE]

theorem entry_cd (h : Fin 8) :
    (cdA (entryContents preI m c) (ix3 h 0 0) : EReal) = ((Real.exp ((128 : ℝ) * lg h.val) : ℝ) : EReal) := by
  refine Eq.trans ?_ (cd_eq h.val 128 (by omega))
  rw [← ofBits_128]
  simp only [entryContents, afterL_cons, afterL_nil]
  after_reads_at
  simp only [id_eq]
  pointwise [lgE]

theorem entry_kd (h : Fin 8) (i : Fin 128) :
    (kdA (entryContents preI m c) (ix3 h i 0) : EReal)
      = ((Real.exp (((127 : ℝ) - (i.val : ℕ)) * lg h.val) : ℝ) : EReal) := by
  refine Eq.trans ?_ (kd_eq h.val i.val 127 (by omega) (by omega))
  rw [← ofBits_127]
  simp only [entryContents, afterL_cons, afterL_nil]
  after_reads_at
  simp only [id_eq]
  pointwise [lgE]

theorem entry_counter : (entryContents preI m c (Proc.devRef .tc main_v61_7)) = fun _ => 0#32 := by
  simp only [entryContents, afterL_cons, afterL_nil]
  after_reads_simp
  rfl

theorem entry_state (b h : Fin 8) (d : Fin 128) (e : Fin 256) :
    (stA (entryContents preI m c) (ix4 b h d e) : EReal) = (0 : EReal) := by
  simp only [entryContents, afterL_cons, afterL_nil]
  after_reads_at
  rw [id_eq]
  pointwise

/-- The result, from the loop's outputs. -/
theorem result_read (b : Fin 8) (t : Fin 8192) (h : Fin 8) (e : Fin 256) (w : Fin 2048) (hw : w.val = 256 * h.val + e.val) :
    (out_main_v92 V0 (ix3 b t w) : EReal)
      = normE (fun x => outA V0 (ix5 ⟨t.val / 128, by omega⟩ b h ⟨t.val % 128, by omega⟩ x))
          (V0 (Proc.devRef .tc main_arg4) (ix2 0 w)) (V0 (Proc.devRef .tc main_arg5) (ix2 0 w)) (V0 (Proc.devRef .tc main_arg3) (ix3 b t w)) e := by
  have hh : ∀ p, (⟨w.val / 256, p⟩ : Fin 8) = h := fun p => Fin.ext (by show w.val / 256 = h.val; omega)
  have he : ∀ p, (⟨w.val % 256, p⟩ : Fin 256) = e := fun p => Fin.ext (by show w.val % 256 = e.val; omega)
  unfold out_main_v92
  clean_types
  pointwise
  simp only [hh, he]
  rfl

end Cert.ReferenceIdeal.Value
-- ==== Proof.RetentionReference.lean ====
/- The reference's loop, trip after trip: after `k` trips the state is the closed form at `128 k` positions and the first `k`
   chunks of outputs hold the closed form. The result follows. -/
module

public import proofs.«01_k».proof.Proof.RetentionTrip

@[expose] public section

set_option maxRecDepth 16384

noncomputable section

namespace Cert.ReferenceIdeal.Value

open Idealize.ShloMosaic Idealize.ShloMosaic.TcCoe Idealize.ShloMosaic.Tactic Cert.Retention
open Idealize.ShloMosaic.StableHlo Cert.ReferenceIdeal.Gen

variable (m : (ℓ : Loc nD τ sig) → Buf (Elt Ideal) ℓ) (c : Dev nD)

/-- The loop's arrays after `k` trips. -/
abbrev after (k : ℕ) : Valuation τ sig (Elt Ideal) := STEP^[k] (entryContents preI m c)

theorem after_succ (k : ℕ) : after m c (k + 1) = STEP (after m c k) := Function.iterate_succ_apply' _ _ _

/-- What a trip leaves alone holds after every trip what it held at the entry. -/
theorem after_const (k : ℕ) :
    qA (after m c k) = qA (entryContents preI m c) ∧ kA (after m c k) = kA (entryContents preI m c)
    ∧ vA (after m c k) = vA (entryContents preI m c) ∧ decA (after m c k) = decA (entryContents preI m c)
    ∧ qdA (after m c k) = qdA (entryContents preI m c) ∧ cdA (after m c k) = cdA (entryContents preI m c)
    ∧ kdA (after m c k) = kdA (entryContents preI m c) := by
  induction k with
  | zero => exact ⟨rfl, rfl, rfl, rfl, rfl, rfl, rfl⟩
  | succ k ih =>
    obtain ⟨h0, h1, h2, h3, h4, h5, h6⟩ := ih
    rw [after_succ]
    exact ⟨(STEP_main_v61_0 _).trans h0, (STEP_main_v61_1 _).trans h1, (STEP_main_v61_2 _).trans h2, (STEP_main_v61_3 _).trans h3,
      (STEP_main_v61_4 _).trans h4, (STEP_main_v61_5 _).trans h5, (STEP_main_v61_6 _).trans h6⟩

/-- The counter after `k` trips. -/
theorem after_counter (k : ℕ) : after m c k (Proc.devRef .tc main_v61_7) = fun _ => BitVec.ofNat 32 k := by
  induction k with
  | zero => exact entry_counter m c
  | succ k ih =>
    rw [after_succ, STEP_main_v61_7]
    unfold step_main_v61_7
    rw [ih]
    funext i
    show BitVec.ofNat 32 k + 1#32 = BitVec.ofNat 32 (k + 1)
    rw [BitVec.ofNat_add]

/-- The launch's queries, keys and values. -/
abbrev inQ : QKShape.Idx → EReal := m ((c : Thread nD τ).loc main_arg0)
abbrev inK : QKShape.Idx → EReal := m ((c : Thread nD τ).loc main_arg1)
abbrev inV : VShape.Idx → EReal := m ((c : Thread nD τ).loc main_arg2)

variable (hQ : Real' (inQ m c)) (hK : Real' (inK m c)) (hV : Real' (inV m c))

include hQ in
theorem chunk_q (k : ℕ) (hk : k < 64) (b h : Fin 8) (i d : Fin 128) :
    qC (after m c k) (ix4 b h i d) = ((qkR (inQ m c) b h (128 * k + i.val) d : ℝ) : EReal) := by
  refine (read_q _ k hk (after_counter m c k) b h i d).trans ?_
  rw [(after_const m c k).1]
  refine (entry_q m c ⟨k, hk⟩ b h i d).trans ?_
  exact qk_coe (inQ m c) hQ b h _ _ d _ (by show k * 128 + i.val = _; omega) (by show h.val * 128 + d.val = _; omega)

include hK in
theorem chunk_k (k : ℕ) (hk : k < 64) (b h : Fin 8) (i d : Fin 128) :
    kC (after m c k) (ix4 b h i d) = ((qkR (inK m c) b h (128 * k + i.val) d : ℝ) : EReal) := by
  refine (read_k _ k hk (after_counter m c k) b h i d).trans ?_
  rw [(after_const m c k).2.1]
  refine (entry_k m c ⟨k, hk⟩ b h i d).trans ?_
  exact qk_coe (inK m c) hK b h _ _ d _ (by show k * 128 + i.val = _; omega) (by show h.val * 128 + d.val = _; omega)

include hV in
theorem chunk_v (k : ℕ) (hk : k < 64) (b h : Fin 8) (i : Fin 128) (e : Fin 256) :
    vC (after m c k) (ix4 b h i e) = ((vR (inV m c) b h (128 * k + i.val) e : ℝ) : EReal) := by
  refine (read_v _ k hk (after_counter m c k) b h i e).trans ?_
  rw [(after_const m c k).2.2.1]
  refine (entry_v m c ⟨k, hk⟩ b h i e).trans ?_
  exact v_coe (inV m c) hV b h _ _ e _ (by show k * 128 + i.val = _; omega) (by show h.val * 256 + e.val = _; omega)

include hK hV in
/-- The state after `k` trips. -/
theorem after_state (k : ℕ) (hk : k ≤ 64) (b h : Fin 8) (d : Fin 128) (e : Fin 256) :
    stA (after m c k) (ix4 b h d e) = ((stateR (inK m c) (inV m c) b h (128 * k) d e : ℝ) : EReal) := by
  induction k with
  | zero =>
    refine (entry_state m c b h d e).trans ?_
    rw [stateR, Nat.mul_zero, stR_zero, EReal.coe_zero]
  | succ k ih =>
    have h1 : stA (after m c (k + 1)) (ix4 b h d e) = step_main_v61_8 (after m c k) (ix4 b h d e) := by
      rw [after_succ]; exact congrFun (STEP_main_v61_8 _) _
    refine h1.trans ((trip_state _ b h d e).trans ?_)
    rw [ih (by omega), (after_const m c k).2.2.2.2.2.1, (after_const m c k).2.2.2.2.2.2, entry_cd m c h]
    refine Eq.trans ?_ (stE_step (lg h.val) (qkR (inK m c) b h) (vR (inV m c) b h) (128 * k) 128 d e)
    refine congrArg₂ (fun x y : EReal => x + y) (by rw [stateR]; norm_num) (Finset.sum_congr rfl fun j _ => ?_)
    rw [chunk_k m c hK k (by omega) b h j d, chunk_v m c hV k (by omega) b h j e, entry_kd m c h j]
    norm_num

include hQ hK hV in
/-- The outputs after `k` trips. -/
theorem after_out (k : ℕ) (hk : k ≤ 64) (j : Fin 64) (hj : j.val < k) (b h : Fin 8) (i : Fin 128) (e : Fin 256) :
    outA (after m c k) (ix5 j b h i e) = ((retR (inQ m c) (inK m c) (inV m c) b h (128 * j.val + i.val) e : ℝ) : EReal) := by
  induction k with
  | zero => omega
  | succ k ih =>
    have h1 : outA (after m c (k + 1)) (ix5 j b h i e) = step_main_v61_9 (after m c k) (ix5 j b h i e) := by
      rw [after_succ]; exact congrFun (STEP_main_v61_9 _) _
    refine h1.trans ((trip_out _ k (by omega) (after_counter m c k) j b h i e).trans ?_)
    by_cases hjk : j.val = k
    · rw [if_pos hjk, hjk]
      refine Eq.trans ?_ (outE_chunk (lg h.val) (qkR (inQ m c) b h) (qkR (inK m c) b h) (vR (inV m c) b h) (128 * k) 128 i e)
      refine congrArg₂ (fun x y : EReal => x + y) (Finset.sum_congr rfl fun a _ => ?_) ?_
      · rw [(after_const m c k).2.2.2.1, entry_dec m c h i a, chunk_v m c hV k (by omega) b h a e]
        refine congrArg (fun z : EReal => z * _ * _) (Finset.sum_congr rfl fun d _ => ?_)
        rw [chunk_q m c hQ k (by omega) b h i d, chunk_k m c hK k (by omega) b h a d]
      · rw [(after_const m c k).2.2.2.2.1, entry_qd m c h i]
        refine congrArg (fun z : EReal => z * _) (Finset.sum_congr rfl fun d _ => ?_)
        rw [chunk_q m c hQ k (by omega) b h i d, after_state m c hK hV k (by omega) b h d e, stateR]
    · rw [if_neg hjk]
      exact ih (by omega) (by omega)

include hQ hK hV in
/-- The reference's result is the closed form. -/
theorem reference_eq (b : Fin 8) (t : Fin 8192) (h : Fin 8) (e : Fin 256) (w : Fin 2048) (hw : w.val = 256 * h.val + e.val) :
    (out_main_v92 (STEP^[64] (entryContents preI m c)) (ix3 b t w) : EReal)
      = resE (inQ m c) (inK m c) (inV m c) (m ((c : Thread nD τ).loc main_arg3)) (m ((c : Thread nD τ).loc main_arg4))
          (m ((c : Thread nD τ).loc main_arg5)) b t h e := by
  have hw' : ∀ p, (⟨256 * h.val + e.val, p⟩ : Fin 2048) = w := fun _ => Fin.ext hw.symm
  refine (result_read (after m c 64) b t h e w hw).trans ?_
  have e3 : after m c 64 (Proc.devRef .tc main_arg3) = m ((c.tc : Thread nD τ).loc main_arg3) := iter_main_arg3 m c 64
  have e4 : after m c 64 (Proc.devRef .tc main_arg4) = m ((c.tc : Thread nD τ).loc main_arg4) := iter_main_arg4 m c 64
  have e5 : after m c 64 (Proc.devRef .tc main_arg5) = m ((c.tc : Thread nD τ).loc main_arg5) := iter_main_arg5 m c 64
  rw [e3, e4, e5, resE, hw']
  refine congrArg (fun o => normE o _ _ _ e) (funext fun x => ?_)
  rw [after_out m c hQ hK hV 64 le_rfl ⟨t.val / 128, by omega⟩ (by show t.val / 128 < 64; omega) b h ⟨t.val % 128, by omega⟩ x]
  rw [show 128 * (t.val / 128) + t.val % 128 = t.val by omega]

end Cert.ReferenceIdeal.Value
-- ==== Proof.RetentionFinite.lean ====
/- The precondition, read: where `x - x` equals zero, `x` is a real number. -/
module

public import proofs.«01_k».proof.Proof.RetentionSpec
public import proofs.«01_k».proof.Pre_finite_qkv

@[expose] public section

noncomputable section

namespace Cert.Retention

open Idealize.ShloMosaic

theorem real_of_sub (x : EReal) (h : x - x = 0) : x = ((x.toReal : ℝ) : EReal) := by
  induction x using EReal.rec with
  | bot => exact absurd h (by simp)
  | coe r => rfl
  | top => exact absurd h (by simp)

/-- An array whose test comes out true everywhere is an array of real numbers. -/
theorem real_of_test {S : Shape} (X : FVec Ideal S .bf16) (hb : FTy.bits .bf16 < FTy.bits .f32) (z : FVec Ideal S .f32)
    (hz : ∀ i, (z i : EReal) = 0) (h : cmpf .oeq (subf (extf .f32 X hb) (extf .f32 X hb)) z = fun _ => 1#1) : Real' X := by
  intro i
  have hi := congrFun h i
  refine real_of_sub _ ?_
  have h2 : Ideal.cmp .oeq ((X i : EReal) - X i) (z i) = 1#1 := hi
  rw [hz i] at h2
  by_contra hne
  have h3 : Ideal.cmp .oeq ((X i : EReal) - X i) 0 = 0#1 := by
    simp [Ideal.cmp, hne]
  rw [h3] at h2
  exact absurd h2 (by decide)

/-- The zero the test compares with. -/
theorem zero_splat {S : Shape} (h : (⟨0, ![]⟩ : Shape).BroadcastsInDim S ![]) (i : S.Idx) :
    (broadcastInDim S ![] h (constant (F := Ideal) (⟨0, ![]⟩ : Shape) .f32 0x00000000#32) i : EReal) = 0 := by
  pointwise

end Cert.Retention

namespace Cert.Pre_finite_qkv

/-- The precondition's side conditions. -/
theorem side : Facts where
  bitsLt_bf16_f32 := by decide
  bcast_S_S8x8192x1024 := ⟨fun i => i.elim0, fun i => i.elim0⟩
  bcast_S_S8x8192x2048 := ⟨fun i => i.elim0, fun i => i.elim0⟩

end Cert.Pre_finite_qkv
-- ==== Proof.ProjectionBlock.lean ====
/- One grid step of the projection kernel: the values of the stores, head by head for the rotated queries and keys and
   half by half for the values and the gate. -/
module

public import proofs.«01_k».proof.Proof.ColumnBlocks
public import proofs.«01_k».proof.Proof.Gen.Kernel2Ideal.Value

@[expose] public section
set_option maxRecDepth 16384
noncomputable section
namespace Cert.Kernel2Ideal.Gen
open Idealize.ShloMosaic Idealize.ShloMosaic.TcCoe Idealize.ShloMosaic.Tactic Cert.Columns

section Generic
variable {F : FTy → Type} [FloatOps F]
variable (x0 : Vec F S512x1024 .f32) (x1 : Vec F S1024x6144 .bf16) (x2 x3 : Vec F S512x128 .f32)

/-- The rows against 256 columns of the weights … -/
def prod256 (wb : Vec F S1024x256 .bf16) : FVec F S512x256 .f32 :=
  matmul dot_S512x1024_S1024x256_S512x256_1_0_0_1_n_n none (truncf .bf16 (View.ld x0 r0_0) bitsLt_bf16_f32)
    (shapeCast S1024x256 wb shapeCasts_S1024x256_S1024x256) (constant S512x256 .f32 0x00000000#32)
/-- … and against 1024. -/
def prod1024 (wb : Vec F S1024x1024 .bf16) : FVec F S512x1024 .f32 :=
  matmul dot_S512x1024_S1024x1024_S512x1024_1_0_0_1_n_n none (truncf .bf16 (View.ld x0 r0_0) bitsLt_bf16_f32)
    (shapeCast S1024x1024 wb shapeCasts_S1024x1024_S1024x1024) (constant S512x1024 .f32 0x00000000#32)

/-- The rotation of one head. -/
def headRot (y : FVec F S512x128 .f32) : FVec F S512x128 .f32 :=
  addf (mulf y (shapeCast S512x128 (View.ld x2 r0_1) shapeCasts_S512x128_S512x128))
    (mulf (dynamicRotate 1 64#32 none y rotates_S512x128_d1) (shapeCast S512x128 (View.ld x3 r0_1) shapeCasts_S512x128_S512x128))

theorem inbPair (off : ℕ) (h : off + 2048 ≤ 6144) (c : Fin 8) (a : Fin 2) :
    (![0, off + 256 * (c.val / 2)] : Fin 2 → ℕ) a + (![1024, 256] : Fin 2 → ℕ) a ≤ (![1024, 6144] : Fin 2 → ℕ) a := by
  match a with
  | ⟨0, _⟩ => show 0 + 1024 ≤ 1024; omega
  | ⟨1, _⟩ => show off + 256 * (c.val / 2) + 256 ≤ 6144; omega
/-- The weights' columns of head `h` and its neighbour, the heads beginning at column `off`. -/
abbrev rPair (off : ℕ) (h : off + 2048 ≤ 6144) (c : Fin 8) : Rect S1024x6144 :=
  Rect.unit (s := S1024x6144) ![0, off + 256 * (c.val / 2)] ![1024, 256] (inbPair off h c)

theorem slicesHead (h : Fin 8) : S512x256.Slices ![0, 128 * (h.val % 2)] S512x128 := by revert h; decide

/-- The rows against head `h`'s columns. -/
def headY (off : ℕ) (ho : off + 2048 ≤ 6144) (h : Fin 8) : FVec F S512x128 .f32 :=
  extractStridedSlice S512x128 ![0, 128 * (h.val % 2)] (prod256 x0 (View.ld x1 (rPair off ho h))) (slicesHead h)

/-- Head `h`'s queries … -/
def headQ (h : Fin 8) : FVec F S512x128 .bf16 :=
  truncf .bf16 (headRot x2 x3 (headY x0 x1 0 (by omega) h)) bitsLt_bf16_f32
/-- … and keys. -/
def headK (h : Fin 8) : FVec F S512x128 .bf16 :=
  truncf .bf16 (mulf (headRot x2 x3 (headY x0 x1 1024 (by omega) h)) (broadcast S512x128 (Scalar.ofBits .f32 0x3DB504F3#32)))
    bitsLt_bf16_f32

theorem inbHalf (off : ℕ) (ho : off + 2048 ≤ 6144) (j : Fin 2) (a : Fin 2) :
    (![0, off + 1024 * j.val] : Fin 2 → ℕ) a + (![1024, 1024] : Fin 2 → ℕ) a ≤ (![1024, 6144] : Fin 2 → ℕ) a := by
  match a with
  | ⟨0, _⟩ => show 0 + 1024 ≤ 1024; omega
  | ⟨1, _⟩ => show off + 1024 * j.val + 1024 ≤ 6144; omega
/-- The weights' columns of half `j` of 2048 columns beginning at `off`. -/
abbrev rHalf (off : ℕ) (ho : off + 2048 ≤ 6144) (j : Fin 2) : Rect S1024x6144 :=
  Rect.unit (s := S1024x6144) ![0, off + 1024 * j.val] ![1024, 1024] (inbHalf off ho j)

/-- Half `j` of the values … -/
def halfV (j : Fin 2) : FVec F S512x1024 .bf16 :=
  truncf .bf16 (prod1024 x0 (View.ld x1 (rHalf 2048 (by omega) j))) bitsLt_bf16_f32
/-- … and of the gate. -/
def halfG (j : Fin 2) : FVec F S512x1024 .f32 :=
  mulf (prod1024 x0 (View.ld x1 (rHalf 4096 (by omega) j))) (logistic (prod1024 x0 (View.ld x1 (rHalf 4096 (by omega) j))))

theorem inbO8 (h : Fin 8) (a : Fin 2) :
    (![0, 128 * h.val] : Fin 2 → ℕ) a + (![512, 128] : Fin 2 → ℕ) a ≤ (![512, 1024] : Fin 2 → ℕ) a := by
  revert h a; decide
theorem inbO2 (h : Fin 2) (a : Fin 2) :
    (![0, 1024 * h.val] : Fin 2 → ℕ) a + (![512, 1024] : Fin 2 → ℕ) a ≤ (![512, 2048] : Fin 2 → ℕ) a := by
  revert h a; decide

theorem out_q : out0_4 x0 x1 x2 x3
    = View.canon (([7, 6, 5, 4, 3, 2, 1, 0] : List (Fin 8)).map (colPiece inbO8 (headQ x0 x1 x2 x3))) := by
  unfold_out out0_4
  rfl
theorem out_k : out0_5 x0 x1 x2 x3
    = View.canon (([7, 6, 5, 4, 3, 2, 1, 0] : List (Fin 8)).map (colPiece inbO8 (headK x0 x1 x2 x3))) := by
  unfold_out out0_5
  rfl
theorem out_v : out0_6 x0 x1 x2 x3 = View.canon (([1, 0] : List (Fin 2)).map (colPiece inbO2 (halfV x0 x1))) := by
  unfold_out out0_6
  rfl
theorem out_g : out0_7 x0 x1 x2 x3 = View.canon (([1, 0] : List (Fin 2)).map (colPiece inbO2 (halfG x0 x1))) := by
  unfold_out out0_7
  rfl

theorem mem8 (h : Fin 8) : h ∈ ([7, 6, 5, 4, 3, 2, 1, 0] : List (Fin 8)) := by revert h; decide
theorem mem2 (h : Fin 2) : h ∈ ([1, 0] : List (Fin 2)) := by revert h; decide

end Generic

section Read
variable (x0 : Vec Ideal S512x1024 .f32) (x1 : Vec Ideal S1024x6144 .bf16) (x2 x3 : Vec Ideal S512x128 .f32)

/-- The rows against a column of the weights. -/
def colE (r : Fin 512) (c : Fin 6144) : EReal := ∑ k : Fin 1024, (x0 (ix2 r k) * x1 (ix2 k c) : EReal)

theorem headY_read (off : ℕ) (ho : off + 2048 ≤ 6144) (h : Fin 8) (r : Fin 512) (d : Fin 128) :
    headY x0 x1 off ho h (ix2 r d) = colE x0 x1 r ⟨off + 128 * h.val + d.val, by omega⟩ := by
  pointwise [headY, prod256, colE]
  refine Finset.sum_congr rfl fun k _ => ?_
  exact congrArg (fun w => (x0 (ix2 r k) * x1 (ix2 k w) : EReal))
    (Fin.ext (by show off + 256 * (h.val / 2) + (128 * (h.val % 2) + d.val) = off + 128 * h.val + d.val; omega))

theorem headRot_read (y : FVec Ideal S512x128 .f32) (r : Fin 512) (d : Fin 128) :
    headRot x2 x3 y (ix2 r d) = (y (ix2 r d) * x2 (ix2 r d) + y (ix2 r ⟨(d.val + 64) % 128, by omega⟩) * x3 (ix2 r d) : EReal) := by
  pointwise [headRot]
  exact congrArg (fun w => (y (ix2 r d) * x2 (ix2 r d) + y (ix2 r w) * x3 (ix2 r d) : EReal))
    (Fin.ext (by show (d.val + 128 - 64) % 128 = (d.val + 64) % 128; omega))

theorem halfV_read (j : Fin 2) (r : Fin 512) (d : Fin 1024) :
    halfV x0 x1 j (ix2 r d) = colE x0 x1 r ⟨2048 + 1024 * j.val + d.val, by omega⟩ := by
  pointwise [halfV, prod1024, colE]
theorem halfG_read (j : Fin 2) (r : Fin 512) (d : Fin 1024) :
    halfG x0 x1 j (ix2 r d) = colE x0 x1 r ⟨4096 + 1024 * j.val + d.val, by omega⟩
      * Ideal.logistic (colE x0 x1 r ⟨4096 + 1024 * j.val + d.val, by omega⟩) := by
  pointwise [halfG, prod1024, colE]

theorem headQ_read (h : Fin 8) (r : Fin 512) (d : Fin 128) :
    headQ x0 x1 x2 x3 h (ix2 r d)
      = (colE x0 x1 r ⟨128 * h.val + d.val, by omega⟩ * x2 (ix2 r d)
        + colE x0 x1 r ⟨128 * h.val + (d.val + 64) % 128, by omega⟩ * x3 (ix2 r d) : EReal) := by
  refine (headRot_read x2 x3 _ r d).trans ?_
  rw [headY_read, headY_read]
  simp only [Nat.zero_add]

theorem headK_read (h : Fin 8) (r : Fin 512) (d : Fin 128) :
    headK x0 x1 x2 x3 h (ix2 r d)
      = ((colE x0 x1 r ⟨1024 + 128 * h.val + d.val, by omega⟩ * x2 (ix2 r d)
        + colE x0 x1 r ⟨1024 + 128 * h.val + (d.val + 64) % 128, by omega⟩ * x3 (ix2 r d))
          * Ideal.ofBits .f32 0x3DB504F3#32 : EReal) := by
  refine (congrArg (fun z : EReal => z * Ideal.ofBits .f32 0x3DB504F3#32) (headRot_read x2 x3 _ r d)).trans ?_
  rw [headY_read, headY_read]

end Read
end Cert.Kernel2Ideal.Gen
-- ==== Proof.ProjectionSpec.lean ====
/- The projection's results in closed form: the rows against the weights, the rotation of the queries and keys by the
   position's angles, and the gate's SiLU. -/
module

public import Idealize.ShloMosaic.Lib.Pointwise

@[expose] public section
set_option maxRecDepth 16384
noncomputable section
namespace Cert.Projection
open Idealize.ShloMosaic Idealize.ShloMosaic.TcCoe Idealize.ShloMosaic.Tactic

/-- Point `d` of the 64 evenly spaced from 0 to 1, as the programs compute it. -/
def linE (d : ℕ) : EReal :=
  if _h : d < 63 then
    0 * (1 - Ideal.div (FloatOps.sitofp (F := Ideal) FTy.f32 (BitVec.ofNat 32 d)) (Ideal.ofBits FTy.f32 1115422720#32))
      + Ideal.div (FloatOps.sitofp (F := Ideal) FTy.f32 (BitVec.ofNat 32 d)) (Ideal.ofBits FTy.f32 1115422720#32)
  else 1

/-- The angle of pair `d` at position `p`. -/
def angE (p d : ℕ) : EReal :=
  FloatOps.sitofp (F := Ideal) FTy.f32 (BitVec.ofNat 32 p) * Ideal.pow (Ideal.ofBits FTy.f32 1176256512#32) (-linE d)

abbrev X2 := (⟨2, ![65536, 1024]⟩ : Shape).Idx → EReal
abbrev W2 := (⟨2, ![1024, 6144]⟩ : Shape).Idx → EReal

variable (X : X2) (W : W2)

/-- Row `t` against column `c`. -/
def projE (t : Fin 65536) (c : ℕ) (hc : c < 6144) : EReal := ∑ k : Fin 1024, X (ix2 t k) * W (ix2 k ⟨c, hc⟩)

/-- Column `d` of a head whose columns begin at `o`, rotated by the row's position. -/
def rotE (t : Fin 65536) (o : ℕ) (ho : o + 128 ≤ 6144) (d : ℕ) (hd : d < 128) : EReal :=
  if h : d < 64 then
    projE X W t (o + d) (by omega) * Ideal.cos (angE (t.val % 8192) d)
      - projE X W t (o + (64 + d)) (by omega) * Ideal.sin (angE (t.val % 8192) d)
  else
    projE X W t (o + (64 + (d - 64))) (by omega) * Ideal.cos (angE (t.val % 8192) (d - 64))
      + projE X W t (o + (d - 64)) (by omega) * Ideal.sin (angE (t.val % 8192) (d - 64))

/-- The queries, … -/
def resQ (t : Fin 65536) (w : Fin 1024) : EReal :=
  rotE X W t (w.val / 128 * 128) (by omega) (w.val % 128) (by omega)
/-- … the keys with their scale, … -/
def resK (t : Fin 65536) (w : Fin 1024) : EReal :=
  rotE X W t (1024 + w.val / 128 * 128) (by omega) (w.val % 128) (by omega) * Ideal.ofBits .f32 0x3DB504F3#32
/-- … the values, … -/
def resV (t : Fin 65536) (w : Fin 2048) : EReal := projE X W t (2048 + w.val) (by omega)
/-- … and the gate. -/
def resG (t : Fin 65536) (w : Fin 2048) : EReal :=
  projE X W t (4096 + w.val) (by omega) * Ideal.logistic (projE X W t (4096 + w.val) (by omega))

/-- The tables' form of the rotation: both columns against the cosine and the signed sine. -/
theorem rot_tables (t : Fin 65536) (o : ℕ) (ho : o + 128 ≤ 6144) (d : ℕ) (hd : d < 128) (C S : EReal)
    (hC : C = if _h : d < 64 then Ideal.cos (angE (t.val % 8192) d) else Ideal.cos (angE (t.val % 8192) (d - 64)))
    (hS : S = if _h : d < 64 then -Ideal.sin (angE (t.val % 8192) d) else Ideal.sin (angE (t.val % 8192) (d - 64))) :
    projE X W t (o + d) (by omega) * C + projE X W t (o + (d + 64) % 128) (by omega) * S = rotE X W t o ho d hd := by
  subst hC hS
  unfold rotE
  by_cases h : d < 64
  · simp only [dif_pos h]
    rw [mul_neg, ← sub_eq_add_neg]
    have e : o + (d + 64) % 128 = o + (64 + d) := by omega
    simp only [e]
  · simp only [dif_neg h]
    have e : o + (d + 64) % 128 = o + (d - 64) := by omega
    have e' : o + (64 + (d - 64)) = o + d := by omega
    simp only [e, e']

end Cert.Projection
-- ==== Proof.ProjectionKernel.lean ====
/- The projection kernel's arrays: each grid point's blocks as parts of the arguments and of the tables, and the four
   arrays as the closed form. -/
module

public import proofs.«01_k».proof.Proof.ProjectionBlock
public import proofs.«01_k».proof.Proof.ProjectionSpec
public import Idealize.ShloMosaic.Lib.Pipeline.ValueKit
public import Idealize.ShloMosaic.Lib.StableHlo.ReadAt

@[expose] public section
set_option maxRecDepth 16384
noncomputable section
namespace Cert.Kernel2Ideal.Gen
open Idealize.ShloMosaic Idealize.ShloMosaic.TcCoe Idealize.ShloMosaic.Tactic Cert.Columns Cert.Projection

variable (m : (ℓ : Loc nD τ sig) → Buf (Elt Ideal) ℓ)

theorem idx0 (t : Fin cfg0.N) : (cfg0.win 0).index t = ![t.val, 0] := by revert t; decide +kernel
theorem idx1 (t : Fin cfg0.N) : (cfg0.win 1).index t = ![0, 0] := by revert t; decide +kernel
theorem idx2 (t : Fin cfg0.N) : (cfg0.win 2).index t = ![t.val % 16, 0] := by revert t; decide +kernel
theorem idx3 (t : Fin cfg0.N) : (cfg0.win 3).index t = ![t.val % 16, 0] := by revert t; decide +kernel
theorem idx4 (t : Fin cfg0.N) : (cfg0.win 4).index t = ![t.val, 0] := by revert t; decide +kernel
theorem idx5 (t : Fin cfg0.N) : (cfg0.win 5).index t = ![t.val, 0] := by revert t; decide +kernel
theorem idx6 (t : Fin cfg0.N) : (cfg0.win 6).index t = ![t.val, 0] := by revert t; decide +kernel
theorem idx7 (t : Fin cfg0.N) : (cfg0.win 7).index t = ![t.val, 0] := by revert t; decide +kernel

theorem point_lt (t : Fin cfg0.N) : t.val < 128 := lt_of_lt_of_eq t.isLt N_0

/-- The row of the whole arrays that row `r` of point `t`'s block is. -/
def rowOf (t : Fin cfg0.N) (r : Fin 512) : Fin 65536 := ⟨512 * t.val + r.val, by have := point_lt t; omega⟩

theorem rowOf_mod (t : Fin cfg0.N) (r : Fin 512) : (rowOf t r).val % 8192 = 512 * (t.val % 16) + r.val := by
  show (512 * t.val + r.val) % 8192 = _; omega

/-- The arguments. -/
abbrev argX (c : Dev nD) : X2 := m ((c : Thread nD τ).loc main_arg0)
abbrev argW (c : Dev nD) : W2 := m ((c : Thread nD τ).loc main_arg1)

theorem iblk0 (c : Dev nD) (t : Fin cfg0.N) (r : Fin 512) (k : Fin 1024) :
    iblk m c 0 t (ix2 r k) = argX m c (ix2 (rowOf t r) k) := by
  blk_ext [iblk, V, idx0 t, rowOf]
theorem iblk1 (c : Dev nD) (t : Fin cfg0.N) (k : Fin 1024) (w : Fin 6144) :
    iblk m c 1 t (ix2 k w) = argW m c (ix2 k w) := by
  have e : iblk m c 1 t (ix2 k w) = V m c main_v15 (ix2 k w) := by blk_ext [iblk, idx1 t]
  rw [e]
  unfold V
  after_reads_at

theorem lin_inner (c : Dev nD) (i : Fin 63) :
    StableHlo.upto [hostOps0, hostOps0_1, hostOps0_2].flatten (fun b => m (c, b)) 22 (Proc.tc.devRef main_call0_v15) (ix1 i)
      = linE i.val := by
  unfold StableHlo.upto
  after_reads_at
  rw [id_eq, id_eq, linE, dif_pos i.isLt]
  pointwise []
theorem lin_last (c : Dev nD) (i : Fin 1) :
    StableHlo.upto [hostOps0, hostOps0_1, hostOps0_2].flatten (fun b => m (c, b)) 22 (Proc.tc.devRef main_call0_v16) (ix1 i)
      = (1 : EReal) := by
  unfold StableHlo.upto
  after_reads_at
  rw [id_eq]
  pointwise []

theorem lin_at (c : Dev nD) (d : ℕ) (hd : d < 64) :
    (if h : d < 63 then
        StableHlo.upto [hostOps0, hostOps0_1, hostOps0_2].flatten (fun b => m (c, b)) 22 (Proc.tc.devRef main_call0_v15) (ix1 ⟨d, h⟩)
      else StableHlo.upto [hostOps0, hostOps0_1, hostOps0_2].flatten (fun b => m (c, b)) 22 (Proc.tc.devRef main_call0_v16)
        (ix1 ⟨d - 63, by omega⟩)) = linE d := by
  by_cases h : d < 63
  · rw [dif_pos h]; exact lin_inner m c ⟨d, h⟩
  · rw [dif_neg h, linE, dif_neg h]; exact lin_last m c _

set_option maxHeartbeats 4000000 in
/-- The cosine's table … -/
theorem iblk2 (c : Dev nD) (t : Fin cfg0.N) (r : Fin 512) (d : Fin 128) :
    iblk m c 2 t (ix2 r d) = if _h : d.val < 64 then Ideal.cos (angE ((rowOf t r).val % 8192) d.val)
      else Ideal.cos (angE ((rowOf t r).val % 8192) (d.val - 64)) := by
  have e : iblk m c 2 t (ix2 r d) = V m c main_v12 (ix2 (⟨512 * (t.val % 16) + r.val, by omega⟩ : Fin 8192) d) := by
    blk_ext [iblk, idx2 t]
  rw [e, rowOf_mod]
  unfold V
  after_reads_at
  refine dite_congr rfl (fun h => ?_) (fun h => ?_)
  · exact congrArg (fun z : EReal => Ideal.cos (_ * Ideal.pow _ (-z))) (lin_at m c d.val (by omega))
  · exact congrArg (fun z : EReal => Ideal.cos (_ * Ideal.pow _ (-z))) (lin_at m c (d.val - 64) (by omega))

set_option maxHeartbeats 4000000 in
/-- … and the signed sine's. -/
theorem iblk3 (c : Dev nD) (t : Fin cfg0.N) (r : Fin 512) (d : Fin 128) :
    iblk m c 3 t (ix2 r d) = if _h : d.val < 64 then -Ideal.sin (angE ((rowOf t r).val % 8192) d.val)
      else Ideal.sin (angE ((rowOf t r).val % 8192) (d.val - 64)) := by
  have e : iblk m c 3 t (ix2 r d) = V m c main_v14 (ix2 (⟨512 * (t.val % 16) + r.val, by omega⟩ : Fin 8192) d) := by
    blk_ext [iblk, idx3 t]
  rw [e, rowOf_mod]
  unfold V
  after_reads_at
  refine dite_congr rfl (fun h => ?_) (fun h => ?_)
  · exact congrArg (fun z : EReal => -Ideal.sin (_ * Ideal.pow _ (-z))) (lin_at m c d.val (by omega))
  · exact congrArg (fun z : EReal => Ideal.sin (_ * Ideal.pow _ (-z))) (lin_at m c (d.val - 64) (by omega))

/-- A column of the rows against the weights. -/
theorem col_val (c : Dev nD) (t : Fin cfg0.N) (r : Fin 512) (w : ℕ) (hw : w < 6144) :
    colE (iblk m c 0 t) (iblk m c 1 t) r ⟨w, hw⟩ = projE (argX m c) (argW m c) (rowOf t r) w hw := by
  unfold colE projE
  refine Finset.sum_congr rfl fun k _ => ?_
  rw [iblk0, iblk1]

/-- What a point leaves in each output's block. -/
theorem block_q (c : Dev nD) (t : Fin cfg0.N) (r : Fin 512) (w : Fin 1024) :
    out0_4 (iblk m c 0 t) (iblk m c 1 t) (iblk m c 2 t) (iblk m c 3 t) (ix2 r w) = resQ (argX m c) (argW m c) (rowOf t r) w := by
  rw [out_q]
  refine (canon_columns inbO8 _ _ ⟨w.val / 128, by omega⟩ (mem8 _) r ⟨w.val % 128, by omega⟩ w
    (by show w.val = 128 * (w.val / 128) + w.val % 128; omega)).trans ?_
  refine (headQ_read _ _ _ _ _ r _).trans ?_
  rw [col_val, col_val]
  have e : 128 * (w.val / 128) = w.val / 128 * 128 := Nat.mul_comm _ _
  simp only [e]
  exact rot_tables (argX m c) (argW m c) (rowOf t r) _ _ _ _ _ _ (iblk2 m c t r _) (iblk3 m c t r _)

theorem block_k (c : Dev nD) (t : Fin cfg0.N) (r : Fin 512) (w : Fin 1024) :
    out0_5 (iblk m c 0 t) (iblk m c 1 t) (iblk m c 2 t) (iblk m c 3 t) (ix2 r w) = resK (argX m c) (argW m c) (rowOf t r) w := by
  rw [out_k]
  refine (canon_columns inbO8 _ _ ⟨w.val / 128, by omega⟩ (mem8 _) r ⟨w.val % 128, by omega⟩ w
    (by show w.val = 128 * (w.val / 128) + w.val % 128; omega)).trans ?_
  refine (headK_read _ _ _ _ _ r _).trans ?_
  rw [col_val, col_val]
  have e : 128 * (w.val / 128) = w.val / 128 * 128 := Nat.mul_comm _ _
  simp only [e]
  exact congrArg (fun z : EReal => z * Ideal.ofBits .f32 0x3DB504F3#32)
    (rot_tables (argX m c) (argW m c) (rowOf t r) _ _ _ _ _ _ (iblk2 m c t r _) (iblk3 m c t r _))

theorem block_v (c : Dev nD) (t : Fin cfg0.N) (r : Fin 512) (w : Fin 2048) :
    out0_6 (iblk m c 0 t) (iblk m c 1 t) (iblk m c 2 t) (iblk m c 3 t) (ix2 r w) = resV (argX m c) (argW m c) (rowOf t r) w := by
  rw [out_v]
  refine (canon_columns inbO2 _ _ ⟨w.val / 1024, by omega⟩ (mem2 _) r ⟨w.val % 1024, by omega⟩ w
    (by show w.val = 1024 * (w.val / 1024) + w.val % 1024; omega)).trans ?_
  refine (halfV_read _ _ _ r _).trans ?_
  rw [col_val]
  have e : 2048 + 1024 * (w.val / 1024) + w.val % 1024 = 2048 + w.val := by omega
  simp only [e, resV]

theorem block_g (c : Dev nD) (t : Fin cfg0.N) (r : Fin 512) (w : Fin 2048) :
    out0_7 (iblk m c 0 t) (iblk m c 1 t) (iblk m c 2 t) (iblk m c 3 t) (ix2 r w) = resG (argX m c) (argW m c) (rowOf t r) w := by
  rw [out_g]
  refine (canon_columns inbO2 _ _ ⟨w.val / 1024, by omega⟩ (mem2 _) r ⟨w.val % 1024, by omega⟩ w
    (by show w.val = 1024 * (w.val / 1024) + w.val % 1024; omega)).trans ?_
  refine (halfG_read _ _ _ r _).trans ?_
  rw [col_val]
  have e : 4096 + 1024 * (w.val / 1024) + w.val % 1024 = 4096 + w.val := by omega
  simp only [e, resG]

/-! ## The arrays the kernel leaves: point `t`'s block of each output is rows `512 t` up to `512 t + 512` -/

theorem emb4 (t : Fin cfg0.N) (r : Fin 512) (w : Fin 1024) :
    ((cfg0.win 4).blk t).view.emb (ix2 r w) = (ix2 (rowOf t r) w : S65536x1024.Idx) := by
  funext ax; apply Fin.ext
  match ax with
  | ⟨0, _⟩ =>
    show (cfg0.win 4).index t 0 * 512 + 1 * r.val = 512 * t.val + r.val
    rw [idx4]; show t.val * 512 + 1 * r.val = _; omega
  | ⟨1, _⟩ =>
    show (cfg0.win 4).index t 1 * 1024 + 1 * w.val = w.val
    rw [idx4]; show 0 * 1024 + 1 * w.val = _; omega

theorem emb5 (t : Fin cfg0.N) (r : Fin 512) (w : Fin 1024) :
    ((cfg0.win 5).blk t).view.emb (ix2 r w) = (ix2 (rowOf t r) w : S65536x1024.Idx) := by
  funext ax; apply Fin.ext
  match ax with
  | ⟨0, _⟩ =>
    show (cfg0.win 5).index t 0 * 512 + 1 * r.val = 512 * t.val + r.val
    rw [idx5]; show t.val * 512 + 1 * r.val = _; omega
  | ⟨1, _⟩ =>
    show (cfg0.win 5).index t 1 * 1024 + 1 * w.val = w.val
    rw [idx5]; show 0 * 1024 + 1 * w.val = _; omega

theorem emb6 (t : Fin cfg0.N) (r : Fin 512) (w : Fin 2048) :
    ((cfg0.win 6).blk t).view.emb (ix2 r w) = (ix2 (rowOf t r) w : S65536x2048.Idx) := by
  funext ax; apply Fin.ext
  match ax with
  | ⟨0, _⟩ =>
    show (cfg0.win 6).index t 0 * 512 + 1 * r.val = 512 * t.val + r.val
    rw [idx6]; show t.val * 512 + 1 * r.val = _; omega
  | ⟨1, _⟩ =>
    show (cfg0.win 6).index t 1 * 2048 + 1 * w.val = w.val
    rw [idx6]; show 0 * 2048 + 1 * w.val = _; omega

theorem emb7 (t : Fin cfg0.N) (r : Fin 512) (w : Fin 2048) :
    ((cfg0.win 7).blk t).view.emb (ix2 r w) = (ix2 (rowOf t r) w : S65536x2048.Idx) := by
  funext ax; apply Fin.ext
  match ax with
  | ⟨0, _⟩ =>
    show (cfg0.win 7).index t 0 * 512 + 1 * r.val = 512 * t.val + r.val
    rw [idx7]; show t.val * 512 + 1 * r.val = _; omega
  | ⟨1, _⟩ =>
    show (cfg0.win 7).index t 1 * 2048 + 1 * w.val = w.val
    rw [idx7]; show 0 * 2048 + 1 * w.val = _; omega

theorem array_q (c : Dev nD) : (dats m 0 c).arrAt 4 cfg0.N = fun i : S65536x1024.Idx => resQ (argX m c) (argW m c) (i 0) (i 1) := by
  refine (dats m 0 c).arrAt_eq_of_covers 4 _ (by decide +kernel) fun t hf y => ?_
  blk_simp
  rw [after0_4]
  idx_vars y
  exact (block_q m c t y0 y1).trans
    (congrArg (fun i : S65536x1024.Idx => resQ (argX m c) (argW m c) (i 0) (i 1)) (emb4 t y0 y1)).symm

theorem array_k (c : Dev nD) : (dats m 0 c).arrAt 5 cfg0.N = fun i : S65536x1024.Idx => resK (argX m c) (argW m c) (i 0) (i 1) := by
  refine (dats m 0 c).arrAt_eq_of_covers 5 _ (by decide +kernel) fun t hf y => ?_
  blk_simp
  rw [after0_5]
  idx_vars y
  exact (block_k m c t y0 y1).trans
    (congrArg (fun i : S65536x1024.Idx => resK (argX m c) (argW m c) (i 0) (i 1)) (emb5 t y0 y1)).symm

theorem array_v (c : Dev nD) : (dats m 0 c).arrAt 6 cfg0.N = fun i : S65536x2048.Idx => resV (argX m c) (argW m c) (i 0) (i 1) := by
  refine (dats m 0 c).arrAt_eq_of_covers 6 _ (by decide +kernel) fun t hf y => ?_
  blk_simp
  rw [after0_6]
  idx_vars y
  exact (block_v m c t y0 y1).trans
    (congrArg (fun i : S65536x2048.Idx => resV (argX m c) (argW m c) (i 0) (i 1)) (emb6 t y0 y1)).symm

theorem array_g (c : Dev nD) : (dats m 0 c).arrAt 7 cfg0.N = fun i : S65536x2048.Idx => resG (argX m c) (argW m c) (i 0) (i 1) := by
  refine (dats m 0 c).arrAt_eq_of_covers 7 _ (by decide +kernel) fun t hf y => ?_
  blk_simp
  rw [after0_7]
  idx_vars y
  exact (block_g m c t y0 y1).trans
    (congrArg (fun i : S65536x2048.Idx => resG (argX m c) (argW m c) (i 0) (i 1)) (emb7 t y0 y1)).symm

end Cert.Kernel2Ideal.Gen
-- ==== Proof.ProjectionReference.lean ====
/- The reference's four results as the closed form. -/
module

public import proofs.«01_k».proof.Proof.ProjectionSpec
public import proofs.«01_k».proof.Proof.Gen.Reference2Ideal.Run
public import Idealize.ShloMosaic.Lib.Pipeline.ValueKit
public import Idealize.ShloMosaic.Lib.StableHlo.ReadAt

@[expose] public section
set_option maxRecDepth 16384
noncomputable section
namespace Cert.Reference2Ideal.Value
open Idealize.ShloMosaic Idealize.ShloMosaic.TcCoe Idealize.ShloMosaic.Tactic Cert.Projection Cert.Reference2Ideal.Gen

variable (m : (ℓ : Loc nD τ sig) → Buf (Elt Ideal) ℓ)

/-- The arguments. -/
abbrev inX (c : Dev nD) : X2 := m ((c : Thread nD τ).loc main_arg0)
abbrev inW (c : Dev nD) : W2 := m ((c : Thread nD τ).loc main_arg1)

/-- Column `w` of a head, from its head's first column. -/
theorem col_split (w : Fin 1024) : w.val / 128 * 128 + w.val % 128 = w.val := by omega

theorem reference_q (c : Dev nD) (t : Fin 65536) (w : Fin 1024) :
    res_out0 m c (ix2 t w) = resQ (inX m c) (inW m c) t w := by
  show (res_main_v59 m c : S65536x1024.Idx → EReal) (ix2 t w) = _
  unfold res_main_v59
  clean_types
  simp only [id_eq]
  pointwise []
  unfold resQ rotE projE angE linE
  simp only [col_split]

theorem reference_k (c : Dev nD) (t : Fin 65536) (w : Fin 1024) :
    res_out1 m c (ix2 t w) = resK (inX m c) (inW m c) t w := by
  show (res_main_v61 m c : S65536x1024.Idx → EReal) (ix2 t w) = _
  unfold res_main_v61
  clean_types
  simp only [id_eq]
  pointwise []
  unfold resK rotE projE angE linE
  simp only [Nat.add_assoc, col_split]

theorem reference_v (c : Dev nD) (t : Fin 65536) (w : Fin 2048) :
    (truncf .bf16 (shapeCast _ (extractStridedSlice S8x8192x2048 ![0, 0, 2048] (Host.dotGeneral (F := Ideal) (φ₁ := .f32) (φ₂ := .f32) dot_S8x8192x1024_S1024x6144_S8x8192x6144_2_0_01_1_n_n none (shapeCast _ (m ((c.tc : Thread nD τ).loc main_arg0)) shapeCasts_S65536x1024_S8x8192x1024) (m ((c.tc : Thread nD τ).loc main_arg1))) slices_S8x8192x6144_S8x8192x2048_0_0_2048) shapeCasts_S8x8192x2048_S65536x2048) bitsLt_bf16_f32 : FVec Ideal S65536x2048 .bf16) (ix2 t w)
      = resV (inX m c) (inW m c) t w := by
  clean_types
  pointwise []
  rfl

/-- The gate as the reference computes it: `g / (1 + exp (-g))` written as a product. -/
theorem reference_g (c : Dev nD) (t : Fin 65536) (w : Fin 2048) :
    (shapeCast _ (mulf (extractStridedSlice S8x8192x2048 ![0, 0, 4096] (Host.dotGeneral (F := Ideal) (φ₁ := .f32) (φ₂ := .f32) dot_S8x8192x1024_S1024x6144_S8x8192x6144_2_0_01_1_n_n none (shapeCast _ (m ((c.tc : Thread nD τ).loc main_arg0)) shapeCasts_S65536x1024_S8x8192x1024) (m ((c.tc : Thread nD τ).loc main_arg1))) slices_S8x8192x6144_S8x8192x2048_0_0_4096) (Host.divf (broadcastInDim S8x8192x2048 ![] bcast_S_S8x8192x2048 (constant S_ .f32 0x3F800000#32)) (addf (broadcastInDim S8x8192x2048 ![] bcast_S_S8x8192x2048 (constant S_ .f32 0x3F800000#32)) (Host.exp (Host.negf (extractStridedSlice S8x8192x2048 ![0, 0, 4096] (Host.dotGeneral (F := Ideal) (φ₁ := .f32) (φ₂ := .f32) dot_S8x8192x1024_S1024x6144_S8x8192x6144_2_0_01_1_n_n none (shapeCast _ (m ((c.tc : Thread nD τ).loc main_arg0)) shapeCasts_S65536x1024_S8x8192x1024) (m ((c.tc : Thread nD τ).loc main_arg1))) slices_S8x8192x6144_S8x8192x2048_0_0_4096)))))) shapeCasts_S8x8192x2048_S65536x2048 : FVec Ideal S65536x2048 .f32) (ix2 t w)
      = resG (inX m c) (inW m c) t w := by
  clean_types
  pointwise []
  rfl

end Cert.Reference2Ideal.Value
-- ==== Proof.SlabBlocks.lean ====
/- A buffer of `M` slabs of `R` rows that is written by stores of `W` columns of one slab each, `q` to a slab. -/
module

public import Idealize.ShloMosaic.Lib.Pointwise
public import Idealize.ShloMosaic.Lib.Pipeline.FrameBody

@[expose] public section
noncomputable section
namespace Cert.Slabs
open Idealize.ShloMosaic Idealize.ShloMosaic.TcCoe Idealize.ShloMosaic.Tactic

variable {F : FTy → Type} [FloatOps F] {M R N W n q : ℕ} {e : EltTy}

/-- Columns `W (h % q)` up to `W (h % q) + W` of slab `h / q`, as a rectangle. -/
abbrev slabRect (inb : ∀ (h : Fin n) (a : Fin 3), (![h.val / q, 0, W * (h.val % q)] : Fin 3 → ℕ) a + (![1, R, W] : Fin 3 → ℕ) a ≤ (![M, R, N] : Fin 3 → ℕ) a)
    (h : Fin n) : Rect (⟨3, ![M, R, N]⟩ : Shape) :=
  Rect.unit (s := ⟨3, ![M, R, N]⟩) ![h.val / q, 0, W * (h.val % q)] ![1, R, W] (inb h)

/-- The store of block `h`. -/
abbrev slabPiece (inb : ∀ (h : Fin n) (a : Fin 3), (![h.val / q, 0, W * (h.val % q)] : Fin 3 → ℕ) a + (![1, R, W] : Fin 3 → ℕ) a ≤ (![M, R, N] : Fin 3 → ℕ) a)
    (pay : Fin n → Vec F ⟨3, ![1, R, W]⟩ e) (h : Fin n) : View.Piece (Elt F) (⟨3, ![M, R, N]⟩ : Shape) e :=
  ⟨slabRect inb h, pay h⟩

/-- What such stores leave in slab `h / q` at column `W (h % q) + d`: column `d` of block `h`'s value. -/
theorem canon_slabs (inb : ∀ (h : Fin n) (a : Fin 3), (![h.val / q, 0, W * (h.val % q)] : Fin 3 → ℕ) a + (![1, R, W] : Fin 3 → ℕ) a ≤ (![M, R, N] : Fin 3 → ℕ) a)
    (pay : Fin n → Vec F ⟨3, ![1, R, W]⟩ e) (l : List (Fin n)) (h : Fin n) (hm : h ∈ l) (a : Fin M) (r : Fin R) (d : Fin W) (w : Fin N)
    (ha : a.val = h.val / q) (hw : w.val = W * (h.val % q) + d.val) :
    View.canon (l.map (slabPiece inb pay)) (ix3 a r w : (⟨3, ![M, R, N]⟩ : Shape).Idx) = pay h (ix3 0 r d) := by
  induction l with
  | nil => exact absurd hm List.not_mem_nil
  | cons j l ih =>
    rw [List.map_cons]
    by_cases hj : j = h
    · subst hj
      have e0 : ((slabRect inb j).emb (ix3 0 r d : (slabRect inb j).shape.Idx) : (⟨3, ![M, R, N]⟩ : Shape).Idx) = ix3 a r w := by
        funext ax; apply Fin.ext
        match ax with
        | ⟨0, _⟩ => show j.val / q + 1 * 0 = a.val; omega
        | ⟨1, _⟩ => show 0 + 1 * r.val = r.val; omega
        | ⟨2, _⟩ => show W * (j.val % q) + 1 * d.val = w.val; omega
      rw [← e0]
      exact View.canon_cons_emb (slabRect inb j) _ _ _
    · rw [View.canon_cons_of_not_mem]
      · exact ih ((List.mem_cons.mp hm).resolve_left (fun e => hj e.symm))
      · intro hm
        have hm : (ix3 a r w : (⟨3, ![M, R, N]⟩ : Shape).Idx) ∈ (slabRect inb j).set := hm
        rw [Rect.mem_set_unit] at hm
        have h0 : j.val / q ≤ a.val ∧ a.val < j.val / q + 1 := hm 0
        have h2 : W * (j.val % q) ≤ w.val ∧ w.val < W * (j.val % q) + W := hm 2
        have hd := d.isLt
        have eq0 : j.val / q = h.val / q := by omega
        rcases Nat.lt_trichotomy (j.val % q) (h.val % q) with hl | he | hl
        · have : W * (j.val % q + 1) ≤ W * (h.val % q) := Nat.mul_le_mul_left W hl
          rw [Nat.mul_add, Nat.mul_one] at this; omega
        · exact hj (Fin.ext (by rw [← Nat.div_add_mod j.val q, ← Nat.div_add_mod h.val q, eq0, he]))
        · have : W * (h.val % q + 1) ≤ W * (j.val % q) := Nat.mul_le_mul_left W hl
          rw [Nat.mul_add, Nat.mul_one] at this; omega

end Cert.Slabs
-- ==== Proof.FirstBlock.lean ====
/- One grid step of the first projection's kernel: the values of its stores, part by part. -/
module

public import proofs.«01_k».proof.Proof.ColumnBlocks
public import proofs.«01_k».proof.Proof.SlabBlocks
public import proofs.«01_k».proof.Proof.Gen.Kernel5Ideal.Value

@[expose] public section
set_option maxRecDepth 16384
noncomputable section
namespace Cert.Kernel5Ideal.Gen
open Idealize.ShloMosaic Idealize.ShloMosaic.TcCoe Idealize.ShloMosaic.Tactic Cert.Columns Cert.Slabs

section Generic
variable {F : FTy → Type} [FloatOps F]
variable (x0 : Vec F S512x1024 .f32) (x1 : Vec F S1024x3456 .bf16) (x2 x3 x4 : Vec F S512x128 .f32) (x5 : Vec F S16x32x512 .bf16)

/-- The rows against 512 columns of the weights, … -/
def prod512 (wb : Vec F S1024x512 .bf16) : FVec F S512x512 .f32 :=
  matmul dot_S512x1024_S1024x512_S512x512_1_0_0_1_n_n none (truncf .bf16 (View.ld x0 r0_0) bitsLt_bf16_f32)
    (shapeCast S1024x512 wb shapeCasts_S1024x512_S1024x512) (constant S512x512 .f32 0x00000000#32)
/-- … against 768 … -/
def prod768 (wb : Vec F S1024x768 .bf16) : FVec F S512x768 .f32 :=
  matmul dot_S512x1024_S1024x768_S512x768_1_0_0_1_n_n none (truncf .bf16 (View.ld x0 r0_0) bitsLt_bf16_f32)
    (shapeCast S1024x768 wb shapeCasts_S1024x768_S1024x768) (constant S512x768 .f32 0x00000000#32)
/-- … and against 128. -/
def prod128 (wb : Vec F S1024x128 .bf16) : FVec F S512x128 .f32 :=
  matmul dot_S512x1024_S1024x128_S512x128_1_0_0_1_n_n none (truncf .bf16 (View.ld x0 r0_0) bitsLt_bf16_f32)
    (shapeCast S1024x128 wb shapeCasts_S1024x128_S1024x128) (constant S512x128 .f32 0x00000000#32)

/-- The rotation of 128 columns. -/
def ropeY (y : FVec F S512x128 .f32) : FVec F S512x128 .f32 :=
  addf (addf (mulf y (shapeCast S512x128 (View.ld x2 r0_9) shapeCasts_S512x128_S512x128))
      (mulf (dynamicRotate 1 120#32 none y rotates_S512x128_d1) (shapeCast S512x128 (View.ld x3 r0_9) shapeCasts_S512x128_S512x128)))
    (mulf (dynamicRotate 1 8#32 none y rotates_S512x128_d1) (shapeCast S512x128 (View.ld x4 r0_9) shapeCasts_S512x128_S512x128))

theorem inbR (c : Fin 4) (a : Fin 2) :
    (![0, 512 * c.val] : Fin 2 → ℕ) a + (![1024, 512] : Fin 2 → ℕ) a ≤ (![1024, 3456] : Fin 2 → ℕ) a := by
  revert c a; decide
/-- The weights' columns of the decay projection's part `c`. -/
abbrev rR (c : Fin 4) : Rect S1024x3456 := Rect.unit (s := S1024x3456) ![0, 512 * c.val] ![1024, 512] (inbR c)
/-- Part `c` of the decay projection. -/
def partR (c : Fin 4) : FVec F S512x512 .f32 := prod512 x0 (View.ld x1 (rR c))

theorem slicesQ (c : Fin 4) : S512x512.Slices ![0, 128 * c.val] S512x128 := by revert c; decide
/-- Two heads of the queries. -/
def partQ (c : Fin 4) : FVec F S512x128 .bf16 :=
  truncf .bf16 (mulf (ropeY x2 x3 x4 (extractStridedSlice S512x128 ![0, 128 * c.val] (prod512 x0 (View.ld x1 r0_10)) (slicesQ c)))
    (broadcast S512x128 (Scalar.ofBits .f32 0x3E38AA3B#32))) bitsLt_bf16_f32

theorem slicesKV (s : Fin 6) : S512x768.Slices ![0, 128 * s.val] S512x128 := by revert s; decide
/-- Part `s` of the keys and values. -/
def partY (s : Fin 6) : FVec F S512x128 .f32 :=
  extractStridedSlice S512x128 ![0, 128 * s.val] (prod768 x0 (View.ld x1 r0_15)) (slicesKV s)
/-- The keys of the two local branches. -/
def partK (c : Fin 2) : FVec F S512x128 .bf16 :=
  truncf .bf16 (ropeY x2 x3 x4 (partY x0 x1 ⟨2 + 2 * c.val, by omega⟩)) bitsLt_bf16_f32
/-- The gates. -/
def partG (c : Fin 1) : FVec F S512x128 .f32 := logistic (prod128 x0 (View.ld x1 r0_70))

/-- The rows that are compressed: rotated keys, and values. -/
def packed (a : ℕ) : FVec F S512x128 .bf16 :=
  match a with
  | 0 => truncf .bf16 (ropeY x2 x3 x4 (partY x0 x1 0)) bitsLt_bf16_f32
  | _ => truncf .bf16 (partY x0 x1 1) bitsLt_bf16_f32

theorem inbP (h : Fin 32) (a : Fin 3) :
    (![h.val % 16, 0, 0] : Fin 3 → ℕ) a + (![1, 32, 512] : Fin 3 → ℕ) a ≤ (![16, 32, 512] : Fin 3 → ℕ) a := by
  revert h a; decide
/-- The matrix that picks every sixteenth row. -/
abbrev rP (h : Fin 32) : Rect S16x32x512 := Rect.unit (s := S16x32x512) ![h.val % 16, 0, 0] ![1, 32, 512] (inbP h)
/-- Every sixteenth of the rows. -/
def partC (h : Fin 32) : FVec F S1x32x128 .bf16 :=
  shapeCast S1x32x128 (truncf .bf16
    (matmul dot_S32x512_S512x128_S32x128_1_0_0_1_n_n none (shapeCast S32x512 (View.ld x5 (rP h)) shapeCasts_S1x32x512_S32x512)
      (packed x0 x1 x2 x3 x4 (h.val / 16)) (constant S32x128 .f32 0x00000000#32)) bitsLt_bf16_f32) shapeCasts_S32x128_S1x32x128

theorem inbOR (h : Fin 4) (a : Fin 2) :
    (![0, 512 * h.val] : Fin 2 → ℕ) a + (![512, 512] : Fin 2 → ℕ) a ≤ (![512, 2048] : Fin 2 → ℕ) a := by
  revert h a; decide
theorem inbOQ (h : Fin 4) (a : Fin 2) :
    (![0, 128 * h.val] : Fin 2 → ℕ) a + (![512, 128] : Fin 2 → ℕ) a ≤ (![512, 512] : Fin 2 → ℕ) a := by
  revert h a; decide
theorem inbOK (h : Fin 2) (a : Fin 2) :
    (![0, 128 * h.val] : Fin 2 → ℕ) a + (![512, 128] : Fin 2 → ℕ) a ≤ (![512, 256] : Fin 2 → ℕ) a := by
  revert h a; decide
theorem inbOG (h : Fin 1) (a : Fin 2) :
    (![0, 128 * h.val] : Fin 2 → ℕ) a + (![512, 128] : Fin 2 → ℕ) a ≤ (![512, 128] : Fin 2 → ℕ) a := by
  revert h a; decide
theorem inbOC (h : Fin 32) (a : Fin 3) :
    (![h.val / 16, 0, 128 * (h.val % 16)] : Fin 3 → ℕ) a + (![1, 32, 128] : Fin 3 → ℕ) a ≤ (![2, 32, 2048] : Fin 3 → ℕ) a := by
  revert h a; decide

theorem out_r : out0_6 x0 x1 x2 x3 x4 x5
    = View.canon (([3, 2, 1, 0] : List (Fin 4)).map (colPiece inbOR (partR x0 x1))) := by
  unfold_out out0_6
  rfl
theorem out_q : out0_7 x0 x1 x2 x3 x4 x5
    = View.canon (([3, 2, 1, 0] : List (Fin 4)).map (colPiece inbOQ (partQ x0 x1 x2 x3 x4))) := by
  unfold_out out0_7
  rfl
theorem out_k : out0_8 x0 x1 x2 x3 x4 x5
    = View.canon (([1, 0] : List (Fin 2)).map (colPiece inbOK (partK x0 x1 x2 x3 x4))) := by
  unfold_out out0_8
  rfl
theorem out_g : out0_9 x0 x1 x2 x3 x4 x5
    = View.canon (([0] : List (Fin 1)).map (colPiece inbOG (partG x0 x1))) := by
  unfold_out out0_9
  rfl
set_option maxHeartbeats 4000000 in
theorem out_c : out0_11 x0 x1 x2 x3 x4 x5
    = View.canon (([31, 30, 29, 28, 27, 26, 25, 24, 23, 22, 21, 20, 19, 18, 17, 16, 15, 14, 13, 12, 11, 10, 9, 8, 7, 6, 5, 4, 3, 2, 1, 0] : List (Fin 32)).map
        (slabPiece inbOC (partC x0 x1 x2 x3 x4 x5))) := by
  unfold_out out0_11
  rfl

theorem mem4 (h : Fin 4) : h ∈ ([3, 2, 1, 0] : List (Fin 4)) := by revert h; decide
theorem mem2 (h : Fin 2) : h ∈ ([1, 0] : List (Fin 2)) := by revert h; decide
theorem mem1 (h : Fin 1) : h ∈ ([0] : List (Fin 1)) := by revert h; decide
theorem mem32 (h : Fin 32) : h ∈ ([31, 30, 29, 28, 27, 26, 25, 24, 23, 22, 21, 20, 19, 18, 17, 16, 15, 14, 13, 12, 11, 10, 9, 8, 7, 6, 5, 4, 3, 2, 1, 0] : List (Fin 32)) := by
  revert h; decide

end Generic

section Read
variable (x0 : Vec Ideal S512x1024 .f32) (x1 : Vec Ideal S1024x3456 .bf16) (x2 x3 x4 : Vec Ideal S512x128 .f32)
variable (x5 : Vec Ideal S16x32x512 .bf16)

/-- The rows against a column of the weights. -/
def colE (r : Fin 512) (c : Fin 3456) : EReal := ∑ k : Fin 1024, (x0 (ix2 r k) * x1 (ix2 k c) : EReal)

theorem partR_read (c : Fin 4) (r : Fin 512) (d : Fin 512) :
    partR x0 x1 c (ix2 r d) = colE x0 x1 r ⟨512 * c.val + d.val, by omega⟩ := by
  pointwise [partR, prod512, colE]

theorem ropeY_read (y : FVec Ideal S512x128 .f32) (r : Fin 512) (d : Fin 128) :
    ropeY x2 x3 x4 y (ix2 r d) = (y (ix2 r d) * x2 (ix2 r d) + y (ix2 r ⟨(d.val + 8) % 128, by omega⟩) * x3 (ix2 r d)
      + y (ix2 r ⟨(d.val + 120) % 128, by omega⟩) * x4 (ix2 r d) : EReal) := by
  pointwise [ropeY]
  have e1 : (⟨(d.val + 128 - 120) % 128, by omega⟩ : Fin 128) = ⟨(d.val + 8) % 128, by omega⟩ := Fin.ext (by show _ % _ = _ % _; omega)
  have e2 : (⟨(d.val + 128 - 8) % 128, by omega⟩ : Fin 128) = ⟨(d.val + 120) % 128, by omega⟩ := Fin.ext (by show _ % _ = _ % _; omega)
  exact congrArg₂ (fun w z => (y (ix2 r d) * x2 (ix2 r d) + y (ix2 r w) * x3 (ix2 r d) + y (ix2 r z) * x4 (ix2 r d) : EReal)) e1 e2

theorem partQ_read (c : Fin 4) (r : Fin 512) (d : Fin 128) :
    partQ x0 x1 x2 x3 x4 c (ix2 r d)
      = ((colE x0 x1 r ⟨2048 + 128 * c.val + d.val, by omega⟩ * x2 (ix2 r d)
        + colE x0 x1 r ⟨2048 + 128 * c.val + (d.val + 8) % 128, by omega⟩ * x3 (ix2 r d)
        + colE x0 x1 r ⟨2048 + 128 * c.val + (d.val + 120) % 128, by omega⟩ * x4 (ix2 r d)) * Ideal.ofBits .f32 0x3E38AA3B#32 : EReal) := by
  refine (congrArg (fun z : EReal => z * Ideal.ofBits .f32 0x3E38AA3B#32) (ropeY_read x2 x3 x4 _ r d)).trans ?_
  pointwise [prod512, colE]
  simp only [← Nat.add_assoc]

theorem partY_read (s : Fin 6) (r : Fin 512) (d : Fin 128) :
    partY x0 x1 s (ix2 r d) = colE x0 x1 r ⟨2560 + 128 * s.val + d.val, by omega⟩ := by
  pointwise [partY, prod768, colE]
  simp only [← Nat.add_assoc]

theorem partK_read (c : Fin 2) (r : Fin 512) (d : Fin 128) :
    partK x0 x1 x2 x3 x4 c (ix2 r d)
      = (colE x0 x1 r ⟨2560 + 128 * (2 + 2 * c.val) + d.val, by omega⟩ * x2 (ix2 r d)
        + colE x0 x1 r ⟨2560 + 128 * (2 + 2 * c.val) + (d.val + 8) % 128, by omega⟩ * x3 (ix2 r d)
        + colE x0 x1 r ⟨2560 + 128 * (2 + 2 * c.val) + (d.val + 120) % 128, by omega⟩ * x4 (ix2 r d) : EReal) := by
  refine (ropeY_read x2 x3 x4 _ r d).trans ?_
  rw [partY_read, partY_read, partY_read]

theorem partG_read (c : Fin 1) (r : Fin 512) (d : Fin 128) :
    partG x0 x1 c (ix2 r d) = Ideal.logistic (colE x0 x1 r ⟨3328 + d.val, by omega⟩) := by
  pointwise [partG, prod128, colE]

theorem pick_read (wb : FVec Ideal S1x32x512 .bf16) (yb : FVec Ideal S512x128 .bf16) (g : Fin 32) (d : Fin 128) :
    (shapeCast S1x32x128 (truncf .bf16
      (matmul dot_S32x512_S512x128_S32x128_1_0_0_1_n_n none (shapeCast S32x512 wb shapeCasts_S1x32x512_S32x512)
        yb (constant S32x128 .f32 0x00000000#32)) bitsLt_bf16_f32) shapeCasts_S32x128_S1x32x128 : FVec Ideal S1x32x128 .bf16) (ix3 0 g d)
      = ∑ j : Fin 512, (wb (ix3 0 g j) * yb (ix2 j d) : EReal) := by
  pointwise []
theorem pick_at (h : Fin 32) (g : Fin 32) (j : Fin 512) : View.ld x5 (rP h) (ix3 0 g j) = x5 (ix3 ⟨h.val % 16, by omega⟩ g j) := by
  refine congrArg x5 ?_
  funext ax; apply Fin.ext
  match ax with
  | ⟨0, _⟩ => show h.val % 16 + 1 * 0 = h.val % 16; omega
  | ⟨1, _⟩ => show 0 + 1 * g.val = g.val; omega
  | ⟨2, _⟩ => show 0 + 1 * j.val = j.val; omega
theorem partC_read (h : Fin 32) (g : Fin 32) (d : Fin 128) :
    partC x0 x1 x2 x3 x4 x5 h (ix3 0 g d)
      = ∑ j : Fin 512, (x5 (ix3 ⟨h.val % 16, by omega⟩ g j) * packed x0 x1 x2 x3 x4 (h.val / 16) (ix2 j d) : EReal) := by
  refine (pick_read _ _ g d).trans (Finset.sum_congr rfl fun j _ => ?_)
  rw [pick_at]

theorem packed_key (r : Fin 512) (d : Fin 128) :
    packed x0 x1 x2 x3 x4 0 (ix2 r d)
      = (colE x0 x1 r ⟨2560 + 128 * 0 + d.val, by omega⟩ * x2 (ix2 r d)
        + colE x0 x1 r ⟨2560 + 128 * 0 + (d.val + 8) % 128, by omega⟩ * x3 (ix2 r d)
        + colE x0 x1 r ⟨2560 + 128 * 0 + (d.val + 120) % 128, by omega⟩ * x4 (ix2 r d) : EReal) := by
  refine (ropeY_read x2 x3 x4 _ r d).trans ?_
  rw [partY_read, partY_read, partY_read]
  rfl
theorem packed_val (r : Fin 512) (d : Fin 128) :
    packed x0 x1 x2 x3 x4 1 (ix2 r d) = colE x0 x1 r ⟨2560 + 128 * 1 + d.val, by omega⟩ :=
  partY_read x0 x1 1 r d

/-- A transposed tile of values. -/
theorem out_v_read (a : Fin 2) (u : Fin 2) (d : Fin 128) (j : Fin 256) :
    out0_10 x0 x1 x2 x3 x4 x5 (ix4 a u d j)
      = colE x0 x1 ⟨256 * u.val + j.val, by omega⟩ ⟨2560 + 128 * (3 + 2 * a.val) + d.val, by omega⟩ := by
  unfold_out out0_10
  refine (Cert.Kernel5Ideal.Value.canon10_eq (F := Ideal) (View.ld x0 r0_0) (View.ld x1 r0_15) (ix4 a u d j)).trans ?_
  show prod768 x0 (View.ld x1 r0_15) (Cert.Kernel5Ideal.Value.ix10_0 (ix4 a u d j)) = _
  have e : Cert.Kernel5Ideal.Value.ix10_0 (ix4 a u d j)
      = ix2 (⟨256 * u.val + j.val, by omega⟩ : Fin 512) (⟨128 * (3 + 2 * a.val) + d.val, by omega⟩ : Fin 768) := by
    funext ax; apply Fin.ext
    match ax with
    | ⟨0, _⟩ => show u.val * 256 + j.val = 256 * u.val + j.val; omega
    | ⟨1, _⟩ => show a.val * 256 + d.val + 384 = 128 * (3 + 2 * a.val) + d.val; omega
  rw [e]
  pointwise [prod768, colE]
  simp only [← Nat.add_assoc]

end Read
end Cert.Kernel5Ideal.Gen
-- ==== Proof.FirstSpec.lean ====
/- The first projection's results in closed form: the rows against the weights, and the rotation of the first sixteen columns
   of each head of 64 by the position's angles. -/
module

public import Idealize.ShloMosaic.Lib.Pointwise

@[expose] public section
set_option maxRecDepth 16384
noncomputable section
namespace Cert.First
open Idealize.ShloMosaic Idealize.ShloMosaic.TcCoe Idealize.ShloMosaic.Tactic

/-- The angle of pair `d` at position `p`. -/
def angE (p d : ℕ) : EReal :=
  FloatOps.sitofp (F := Ideal) FTy.f32 (BitVec.ofNat 32 p)
    * Ideal.pow (Ideal.ofBits FTy.f32 0x48F42400#32)
        (Ideal.div (-FloatOps.sitofp (F := Ideal) FTy.f32 (BitVec.ofNat 32 d)) (Ideal.ofBits FTy.f32 0x41000000#32))

abbrev X2 := (⟨2, ![65536, 1024]⟩ : Shape).Idx → EReal
abbrev W2 := (⟨2, ![1024, 3352]⟩ : Shape).Idx → EReal

variable (X : X2) (W : W2)

/-- Row `t` against column `c`. -/
def projE (t : Fin 65536) (c : ℕ) (hc : c < 3352) : EReal := ∑ k : Fin 1024, X (ix2 t k) * W (ix2 k ⟨c, hc⟩)

theorem projE_col (t : Fin 65536) (c c' : ℕ) (hc : c < 3352) (e : c = c') : projE X W t c hc = projE X W t c' (e ▸ hc) := by
  subst e; rfl

/-- Column `d` of a head whose columns begin at `o`, its first sixteen columns rotated by the row's position. -/
def rotE (t : Fin 65536) (o : ℕ) (ho : o + 64 ≤ 3352) (d : ℕ) (hd : d < 64) : EReal :=
  if h : d < 8 then
    projE X W t (o + d) (by omega) * Ideal.cos (angE (t.val % 8192) d)
      - projE X W t (o + (8 + d)) (by omega) * Ideal.sin (angE (t.val % 8192) d)
  else if h' : d < 16 then
    projE X W t (o + d) (by omega) * Ideal.cos (angE (t.val % 8192) (d - 8))
      + projE X W t (o + (d - 8)) (by omega) * Ideal.sin (angE (t.val % 8192) (d - 8))
  else projE X W t (o + d) (by omega)

theorem rotE_col (t : Fin 65536) (o o' : ℕ) (ho : o + 64 ≤ 3352) (e : o = o') (d d' : ℕ) (hd : d < 64) (e' : d = d') :
    rotE X W t o ho d hd = rotE X W t o' (e ▸ ho) d' (e' ▸ hd) := by
  subst e e'; rfl

/-- The decay projection's four parts, … -/
def resR (t : Fin 65536) (w : Fin 2048) : EReal := projE X W t w.val (by omega)
/-- … the queries with their scale, … -/
def resQ (t : Fin 65536) (w : Fin 512) : EReal :=
  rotE X W t (2048 + w.val / 64 * 64) (by omega) (w.val % 64) (by omega) * Ideal.ofBits .f32 0x3E38AA3B#32
/-- … lane `w` of the rotated part `s` of the six key and value parts, … -/
def keyE (t : Fin 65536) (s : ℕ) (hs : s < 6) (w : ℕ) (hw : w < 128) : EReal :=
  rotE X W t (2560 + 128 * s + w / 64 * 64) (by omega) (w % 64) (by omega)
/-- … and of a part that is not rotated, … -/
def valE (t : Fin 65536) (s : ℕ) (hs : s < 6) (w : ℕ) (hw : w < 128) : EReal := projE X W t (2560 + 128 * s + w) (by omega)
/-- … the two local branches' keys side by side, … -/
def resK (t : Fin 65536) (w : Fin 256) : EReal :=
  keyE X W t (2 + 2 * (w.val / 128)) (by omega) (w.val % 128) (by omega)
/-- … the gates, with no weights beyond the first 24, … -/
def resG (t : Fin 65536) (w : Fin 128) : EReal :=
  if h : w.val < 24 then Ideal.logistic (projE X W t (3328 + w.val) (by omega)) else Ideal.logistic 0
/-- … the values of the two local branches, transposed in tiles of 256 rows, … -/
def resV (a : Fin 2) (u : Fin 256) (d : Fin 128) (j : Fin 256) : EReal :=
  valE X W ⟨256 * u.val + j.val, by omega⟩ (3 + 2 * a.val) (by omega) d.val d.isLt
/-- … and the keys and values to compress, sixteen rows in one. -/
def resC (a : Fin 2) (g : Fin 4096) (w : Fin 2048) : EReal :=
  if a.val = 0 then keyE X W ⟨16 * g.val + w.val / 128, by omega⟩ 0 (by omega) (w.val % 128) (by omega)
  else valE X W ⟨16 * g.val + w.val / 128, by omega⟩ 1 (by omega) (w.val % 128) (by omega)

/-- The tables' entries: the cosine, … -/
def cosT (p d : ℕ) : EReal :=
  if d % 64 < 8 then Ideal.cos (angE p (d % 64)) else if d % 64 < 16 then Ideal.cos (angE p (d % 64 - 8)) else 1
/-- … the sine for the column eight to the right, negated, … -/
def sinR (p d : ℕ) : EReal := if d % 64 < 8 then -Ideal.sin (angE p (d % 64)) else 0
/-- … and the sine for the column eight to the left. -/
def sinL (p d : ℕ) : EReal := if d % 64 < 8 then 0 else if d % 64 < 16 then Ideal.sin (angE p (d % 64 - 8)) else 0

/-- The tables' form of the rotation: a column and its neighbours eight to the right and left against the three tables. -/
theorem rot_tables (t : Fin 65536) (o : ℕ) (ho : o + 128 ≤ 3352) (d : ℕ) (hd : d < 128) :
    projE X W t (o + d) (by omega) * cosT (t.val % 8192) d + projE X W t (o + (d + 8) % 128) (by omega) * sinR (t.val % 8192) d
      + projE X W t (o + (d + 120) % 128) (by omega) * sinL (t.val % 8192) d
      = rotE X W t (o + d / 64 * 64) (by omega) (d % 64) (by omega) := by
  unfold rotE cosT sinR sinL
  have e0 : o + d / 64 * 64 + d % 64 = o + d := by omega
  by_cases h : d % 64 < 8
  · simp only [if_pos h, dif_pos h]
    rw [mul_zero, add_zero, mul_neg, ← sub_eq_add_neg]
    have e : o + d / 64 * 64 + (8 + d % 64) = o + (d + 8) % 128 := by omega
    simp only [e0, e]
  · by_cases h' : d % 64 < 16
    · simp only [if_neg h, dif_neg h, if_pos h', dif_pos h']
      rw [mul_zero, add_zero]
      have e : o + d / 64 * 64 + (d % 64 - 8) = o + (d + 120) % 128 := by omega
      simp only [e0, e]
    · simp only [if_neg h, dif_neg h, if_neg h', dif_neg h']
      rw [mul_zero, mul_zero, add_zero, add_zero, mul_one]
      simp only [e0]

end Cert.First
-- ==== Proof.FirstTables.lean ====
/- What the first projection's kernel is launched on: the rows, the weights with the gates' columns filled up with zeros,
   the tables of the rotation, and the matrices that pick every sixteenth row. -/
module

public import proofs.«01_k».proof.Proof.FirstBlock
public import proofs.«01_k».proof.Proof.FirstSpec
public import Idealize.ShloMosaic.Lib.Pipeline.ValueKit
public import Idealize.ShloMosaic.Lib.StableHlo.ReadAt

@[expose] public section
set_option maxRecDepth 16384
noncomputable section
namespace Cert.Kernel5Ideal.Gen
open Idealize.ShloMosaic Idealize.ShloMosaic.TcCoe Idealize.ShloMosaic.Tactic Cert.Columns Cert.First

variable (m : (ℓ : Loc nD τ sig) → Buf (Elt Ideal) ℓ)

theorem idx0 (t : Fin cfg0.N) : (cfg0.win 0).index t = ![t.val, 0] := by revert t; decide +kernel
theorem idx1 (t : Fin cfg0.N) : (cfg0.win 1).index t = ![0, 0] := by revert t; decide +kernel
theorem idx2 (t : Fin cfg0.N) : (cfg0.win 2).index t = ![t.val % 16, 0] := by revert t; decide +kernel
theorem idx3 (t : Fin cfg0.N) : (cfg0.win 3).index t = ![t.val % 16, 0] := by revert t; decide +kernel
theorem idx4 (t : Fin cfg0.N) : (cfg0.win 4).index t = ![t.val % 16, 0] := by revert t; decide +kernel
theorem idx5 (t : Fin cfg0.N) : (cfg0.win 5).index t = ![0, 0, 0] := by revert t; decide +kernel

theorem point_lt (t : Fin cfg0.N) : t.val < 128 := lt_of_lt_of_eq t.isLt N_0

/-- The row of the whole arrays that row `r` of point `t`'s block is. -/
def rowOf (t : Fin cfg0.N) (r : Fin 512) : Fin 65536 := ⟨512 * t.val + r.val, by have := point_lt t; omega⟩

theorem rowOf_mod (t : Fin cfg0.N) (r : Fin 512) : (rowOf t r).val % 8192 = 512 * (t.val % 16) + r.val := by
  show (512 * t.val + r.val) % 8192 = _; omega

/-- The arguments. -/
abbrev argX (c : Dev nD) : X2 := m ((c : Thread nD τ).loc main_arg0)
abbrev argW (c : Dev nD) : W2 := m ((c : Thread nD τ).loc main_arg1)

theorem iblk0 (c : Dev nD) (t : Fin cfg0.N) (r : Fin 512) (k : Fin 1024) :
    iblk m c 0 t (ix2 r k) = argX m c (ix2 (rowOf t r) k) := by
  blk_ext [iblk, V, idx0 t, rowOf]

theorem zero_int : FloatOps.sitofp (F := Ideal) FTy.f32 0#32 = (0 : EReal) := by
  show (((0#32 : BitVec 32).toInt : ℝ) : EReal) = 0
  norm_num

theorem kept_at (c : Dev nD) (k : Fin 1024) (w : Fin 3328) :
    StableHlo.upto [hostOps0, hostOps0_1, hostOps0_2].flatten (fun b => m (c, b)) 5 (Proc.tc.devRef main_v0) (ix2 k w) = (argW m c (ix2 k ⟨w.val, by omega⟩) : EReal) := by
  unfold StableHlo.upto
  after_reads_at
theorem padded_at (c : Dev nD) (k : Fin 1024) (w : Fin 128) :
    StableHlo.upto [hostOps0, hostOps0_1, hostOps0_2].flatten (fun b => m (c, b)) 5 (Proc.tc.devRef main_v2) (ix2 k w) = (if h : w.val < 24 then argW m c (ix2 k ⟨3328 + w.val, by omega⟩) else 0 : EReal) := by
  unfold StableHlo.upto
  after_reads_at
  exact dite_congr rfl (fun _ => rfl) (fun _ => zero_int)

/-- The weights' columns, and zeros after them. -/
theorem iblk1 (c : Dev nD) (t : Fin cfg0.N) (k : Fin 1024) (w : Fin 3456) :
    iblk m c 1 t (ix2 k w) = if h : w.val < 3352 then argW m c (ix2 k ⟨w.val, h⟩) else (0 : EReal) := by
  have e : iblk m c 1 t (ix2 k w) = V m c main_v4 (ix2 k w) := by blk_ext [iblk, idx1 t]
  rw [e]
  unfold V
  after_reads_at
  refine Eq.trans (dite_congr rfl (fun _ => kept_at m c _ _) fun _ => padded_at m c _ _) ?_
  have hw := w.isLt
  by_cases h : w.val < 3328
  · rw [dif_pos h, dif_pos (by omega : w.val < 3352)]
  · rw [dif_neg h]
    by_cases h' : w.val < 3352
    · rw [dif_pos h', dif_pos (by omega : w.val - 3328 < 24)]
      exact congrArg (fun z => argW m c (ix2 k z)) (Fin.ext (by show 3328 + (w.val - 3328) = w.val; omega))
    · rw [dif_neg h', dif_neg (by omega : ¬ w.val - 3328 < 24)]

theorem cos_at (c : Dev nD) (p : Fin 8192) (i : Fin 8) :
    StableHlo.upto [hostOps0, hostOps0_1, hostOps0_2].flatten (fun b => m (c, b)) 25 (Proc.tc.devRef main_v17) (ix2 p i) = (Ideal.cos (angE p.val i.val) : EReal) := by
  unfold StableHlo.upto
  after_reads_at
  rfl
theorem one_at (c : Dev nD) (p : Fin 8192) (i : Fin 48) :
    StableHlo.upto [hostOps0, hostOps0_1, hostOps0_2].flatten (fun b => m (c, b)) 25 (Proc.tc.devRef main_v19) (ix2 p i) = (1 : EReal) := by
  unfold StableHlo.upto
  after_reads_at

set_option maxHeartbeats 4000000 in
/-- The table of cosines, … -/
theorem iblk2 (c : Dev nD) (t : Fin cfg0.N) (r : Fin 512) (d : Fin 128) :
    iblk m c 2 t (ix2 r d) = cosT ((rowOf t r).val % 8192) d.val := by
  have e : iblk m c 2 t (ix2 r d) = V m c main_v27 (ix2 (⟨512 * (t.val % 16) + r.val, by omega⟩ : Fin 8192) d) := by
    blk_ext [iblk, idx2 t]
  rw [e, rowOf_mod]
  unfold V
  after_reads_at
  refine Eq.trans (b := (if _h : d.val < 64 then (if _h : d.val < 8 then Ideal.cos (angE (512 * (t.val % 16) + r.val) d.val) else if _h : d.val - 8 < 8 then Ideal.cos (angE (512 * (t.val % 16) + r.val) (d.val - 8)) else 1)
      else (if _h : d.val - 64 < 8 then Ideal.cos (angE (512 * (t.val % 16) + r.val) (d.val - 64)) else if _h : d.val - 64 - 8 < 8 then Ideal.cos (angE (512 * (t.val % 16) + r.val) (d.val - 64 - 8)) else 1) : EReal)) (dite_congr rfl (fun _ => dite_congr rfl (fun _ => cos_at m c _ _) fun _ => dite_congr rfl (fun _ => cos_at m c _ _) fun _ => one_at m c _ _)
    fun _ => dite_congr rfl (fun _ => cos_at m c _ _) fun _ => dite_congr rfl (fun _ => cos_at m c _ _) fun _ => one_at m c _ _) ?_
  have hd := d.isLt
  have e64 : ¬ d.val < 64 → d.val % 64 = d.val - 64 := by omega
  have e0 : d.val < 64 → d.val % 64 = d.val := by omega
  unfold cosT
  by_cases h : d.val < 64
  · rw [dif_pos h, e0 h]
    split_ifs <;> first | rfl | omega
  · rw [dif_neg h, e64 h]
    split_ifs <;> first | rfl | omega

theorem nsin_at (c : Dev nD) (p : Fin 8192) (i : Fin 8) :
    StableHlo.upto [hostOps0, hostOps0_1, hostOps0_2].flatten (fun b => m (c, b)) 29 (Proc.tc.devRef main_v21) (ix2 p i) = (-Ideal.sin (angE p.val i.val) : EReal) := by
  unfold StableHlo.upto
  after_reads_at
  rfl
theorem zero_at (c : Dev nD) (p : Fin 8192) (i : Fin 56) :
    StableHlo.upto [hostOps0, hostOps0_1, hostOps0_2].flatten (fun b => m (c, b)) 29 (Proc.tc.devRef main_v22) (ix2 p i) = (0 : EReal) := by
  unfold StableHlo.upto
  after_reads_at

set_option maxHeartbeats 4000000 in
/-- … of negated sines … -/
theorem iblk3 (c : Dev nD) (t : Fin cfg0.N) (r : Fin 512) (d : Fin 128) :
    iblk m c 3 t (ix2 r d) = sinR ((rowOf t r).val % 8192) d.val := by
  have e : iblk m c 3 t (ix2 r d) = V m c main_v28 (ix2 (⟨512 * (t.val % 16) + r.val, by omega⟩ : Fin 8192) d) := by
    blk_ext [iblk, idx3 t]
  rw [e, rowOf_mod]
  unfold V
  after_reads_at
  refine Eq.trans (dite_congr rfl (fun _ => dite_congr rfl (fun _ => nsin_at m c _ _) fun _ => zero_at m c _ _)
    fun _ => dite_congr rfl (fun _ => nsin_at m c _ _) fun _ => zero_at m c _ _) ?_
  have hd := d.isLt
  have e64 : ¬ d.val < 64 → d.val % 64 = d.val - 64 := by omega
  have e0 : d.val < 64 → d.val % 64 = d.val := by omega
  unfold sinR
  by_cases h : d.val < 64
  · rw [dif_pos h, e0 h]
    split_ifs <;> first | rfl | omega
  · rw [dif_neg h, e64 h]
    split_ifs <;> first | rfl | omega

theorem sin_at (c : Dev nD) (p : Fin 8192) (i : Fin 8) :
    StableHlo.upto [hostOps0, hostOps0_1, hostOps0_2].flatten (fun b => m (c, b)) 34 (Proc.tc.devRef main_v18) (ix2 p i) = (Ideal.sin (angE p.val i.val) : EReal) := by
  unfold StableHlo.upto
  after_reads_at
  rfl
theorem left_zero_at (c : Dev nD) (p : Fin 8192) (i : Fin 8) :
    StableHlo.upto [hostOps0, hostOps0_1, hostOps0_2].flatten (fun b => m (c, b)) 34 (Proc.tc.devRef main_v24) (ix2 p i) = (0 : EReal) := by
  unfold StableHlo.upto
  after_reads_at
theorem right_zero_at (c : Dev nD) (p : Fin 8192) (i : Fin 48) :
    StableHlo.upto [hostOps0, hostOps0_1, hostOps0_2].flatten (fun b => m (c, b)) 34 (Proc.tc.devRef main_v25) (ix2 p i) = (0 : EReal) := by
  unfold StableHlo.upto
  after_reads_at

set_option maxHeartbeats 4000000 in
/-- … and of sines. -/
theorem iblk4 (c : Dev nD) (t : Fin cfg0.N) (r : Fin 512) (d : Fin 128) :
    iblk m c 4 t (ix2 r d) = sinL ((rowOf t r).val % 8192) d.val := by
  have e : iblk m c 4 t (ix2 r d) = V m c main_v29 (ix2 (⟨512 * (t.val % 16) + r.val, by omega⟩ : Fin 8192) d) := by
    blk_ext [iblk, idx4 t]
  rw [e, rowOf_mod]
  unfold V
  after_reads_at
  refine Eq.trans (b := (if _h : d.val < 64 then (if _h : d.val < 8 then (0 : EReal) else if _h : d.val - 8 < 8 then Ideal.sin (angE (512 * (t.val % 16) + r.val) (d.val - 8)) else 0)
      else (if _h : d.val - 64 < 8 then (0 : EReal) else if _h : d.val - 64 - 8 < 8 then Ideal.sin (angE (512 * (t.val % 16) + r.val) (d.val - 64 - 8)) else 0) : EReal)) (dite_congr rfl (fun _ => dite_congr rfl (fun _ => left_zero_at m c _ _) fun _ => dite_congr rfl (fun _ => sin_at m c _ _) fun _ => right_zero_at m c _ _)
    fun _ => dite_congr rfl (fun _ => left_zero_at m c _ _) fun _ => dite_congr rfl (fun _ => sin_at m c _ _) fun _ => right_zero_at m c _ _) ?_
  have hd := d.isLt
  have e64 : ¬ d.val < 64 → d.val % 64 = d.val - 64 := by omega
  have e0 : d.val < 64 → d.val % 64 = d.val := by omega
  unfold sinL
  by_cases h : d.val < 64
  · rw [dif_pos h, e0 h]
    split_ifs <;> first | rfl | omega
  · rw [dif_neg h, e64 h]
    split_ifs <;> first | rfl | omega

set_option maxHeartbeats 4000000 in
/-- One where column `j` is row `16 g + l`, zero elsewhere. -/
theorem iblk5 (c : Dev nD) (t : Fin cfg0.N) (l : Fin 16) (g : Fin 32) (j : Fin 512) :
    iblk m c 5 t (ix3 l g j) = if j.val = 16 * g.val + l.val then (1 : EReal) else 0 := by
  have e : iblk m c 5 t (ix3 l g j) = V m c main_v44 (ix3 l g j) := by blk_ext [iblk, idx5 t]
  rw [e]
  unfold V
  after_reads_at
  have hg := g.isLt
  have hl := l.isLt
  have hj := j.isLt
  have ew : IntOp.addi (IntOp.muli (BitVec.ofNat 32 g.val) 16#32) (BitVec.ofNat 32 l.val) = BitVec.ofNat 32 (16 * g.val + l.val) := by
    show BitVec.ofNat 32 g.val * 16#32 + BitVec.ofNat 32 l.val = _
    rw [show (16#32 : BitVec 32) = BitVec.ofNat 32 16 from rfl, ← BitVec.ofNat_mul, ← BitVec.ofNat_add, Nat.mul_comm]
  rw [ew, WordCmp.cmpi_eq_ofNat (by omega) (by omega)]
  by_cases h : j.val = 16 * g.val + l.val
  · rw [if_pos h]
    rw [decide_eq_true h]
    show (((BitVec.ofBool true).toNat : ℝ) : EReal) = 1
    norm_num
    rfl
  · rw [if_neg h, decide_eq_false h]
    show (((BitVec.ofBool false).toNat : ℝ) : EReal) = 0
    norm_num

end Cert.Kernel5Ideal.Gen
-- ==== Proof.FirstKernel.lean ====
/- The first projection's kernel's arrays: each grid point's blocks as parts of the arguments, and the six arrays as the
   closed form. -/
module

public import proofs.«01_k».proof.Proof.FirstTables

@[expose] public section
set_option maxRecDepth 16384
noncomputable section
namespace Cert.Kernel5Ideal.Gen
open Idealize.ShloMosaic Idealize.ShloMosaic.TcCoe Idealize.ShloMosaic.Tactic Cert.Columns Cert.Slabs Cert.First

variable (m : (ℓ : Loc nD τ sig) → Buf (Elt Ideal) ℓ)

theorem idx6 (t : Fin cfg0.N) : (cfg0.win 6).index t = ![t.val, 0] := by revert t; decide +kernel
theorem idx7 (t : Fin cfg0.N) : (cfg0.win 7).index t = ![t.val, 0] := by revert t; decide +kernel
theorem idx8 (t : Fin cfg0.N) : (cfg0.win 8).index t = ![t.val, 0] := by revert t; decide +kernel
theorem idx9 (t : Fin cfg0.N) : (cfg0.win 9).index t = ![t.val, 0] := by revert t; decide +kernel
theorem idx10 (t : Fin cfg0.N) : (cfg0.win 10).index t = ![0, t.val, 0, 0] := by revert t; decide +kernel
theorem idx11 (t : Fin cfg0.N) : (cfg0.win 11).index t = ![0, t.val, 0] := by revert t; decide +kernel

/-- A column of the rows against the weights, … -/
theorem col_val (c : Dev nD) (t : Fin cfg0.N) (r : Fin 512) (w : ℕ) (hw : w < 3456) (hw' : w < 3352) :
    colE (iblk m c 0 t) (iblk m c 1 t) r ⟨w, hw⟩ = projE (argX m c) (argW m c) (rowOf t r) w hw' := by
  unfold colE projE
  refine Finset.sum_congr rfl fun k _ => ?_
  rw [iblk0, iblk1, dif_pos hw']
/-- … and of those beyond the weights. -/
theorem col_pad (c : Dev nD) (t : Fin cfg0.N) (r : Fin 512) (w : ℕ) (hw : w < 3456) (hw' : ¬ w < 3352) :
    colE (iblk m c 0 t) (iblk m c 1 t) r ⟨w, hw⟩ = 0 := by
  unfold colE
  refine Finset.sum_eq_zero fun k _ => ?_
  rw [iblk1, dif_neg hw', mul_zero]

/-- 128 columns from `o`, rotated. -/
theorem rot_val (c : Dev nD) (t : Fin cfg0.N) (r : Fin 512) (o : ℕ) (ho : o + 128 ≤ 3352) (d : Fin 128) :
    (colE (iblk m c 0 t) (iblk m c 1 t) r ⟨o + d.val, by omega⟩ * iblk m c 2 t (ix2 r d)
        + colE (iblk m c 0 t) (iblk m c 1 t) r ⟨o + (d.val + 8) % 128, by omega⟩ * iblk m c 3 t (ix2 r d)
        + colE (iblk m c 0 t) (iblk m c 1 t) r ⟨o + (d.val + 120) % 128, by omega⟩ * iblk m c 4 t (ix2 r d) : EReal)
      = rotE (argX m c) (argW m c) (rowOf t r) (o + d.val / 64 * 64) (by omega) (d.val % 64) (by omega) := by
  rw [col_val m c t r _ _ (by omega), col_val m c t r _ _ (by omega), col_val m c t r _ _ (by omega), iblk2, iblk3, iblk4]
  exact rot_tables (argX m c) (argW m c) (rowOf t r) o ho d.val d.isLt

/-- What a point leaves in each output's block. -/
theorem block_r (c : Dev nD) (t : Fin cfg0.N) (r : Fin 512) (w : Fin 2048) :
    out0_6 (iblk m c 0 t) (iblk m c 1 t) (iblk m c 2 t) (iblk m c 3 t) (iblk m c 4 t) (iblk m c 5 t) (ix2 r w)
      = resR (argX m c) (argW m c) (rowOf t r) w := by
  rw [out_r]
  refine (canon_columns inbOR _ _ ⟨w.val / 512, by omega⟩ (mem4 _) r ⟨w.val % 512, by omega⟩ w
    (by show w.val = 512 * (w.val / 512) + w.val % 512; omega)).trans ?_
  refine (partR_read _ _ _ r _).trans ?_
  rw [col_val m c t r _ _ (by show 512 * (w.val / 512) + w.val % 512 < 3352; omega)]
  exact projE_col _ _ _ _ _ _ (by show 512 * (w.val / 512) + w.val % 512 = w.val; omega)

theorem block_q (c : Dev nD) (t : Fin cfg0.N) (r : Fin 512) (w : Fin 512) :
    out0_7 (iblk m c 0 t) (iblk m c 1 t) (iblk m c 2 t) (iblk m c 3 t) (iblk m c 4 t) (iblk m c 5 t) (ix2 r w)
      = resQ (argX m c) (argW m c) (rowOf t r) w := by
  rw [out_q]
  refine (canon_columns inbOQ _ _ ⟨w.val / 128, by omega⟩ (mem4 _) r ⟨w.val % 128, by omega⟩ w
    (by show w.val = 128 * (w.val / 128) + w.val % 128; omega)).trans ?_
  refine (partQ_read _ _ _ _ _ _ r _).trans ?_
  refine congrArg (fun z : EReal => z * Ideal.ofBits .f32 0x3E38AA3B#32) ?_
  refine (rot_val m c t r (2048 + 128 * (w.val / 128)) (by omega) ⟨w.val % 128, by omega⟩).trans ?_
  exact rotE_col _ _ _ _ _ _ (by show 2048 + 128 * (w.val / 128) + w.val % 128 / 64 * 64 = 2048 + w.val / 64 * 64; omega)
    _ _ _ (by show w.val % 128 % 64 = w.val % 64; omega)

theorem block_k (c : Dev nD) (t : Fin cfg0.N) (r : Fin 512) (w : Fin 256) :
    out0_8 (iblk m c 0 t) (iblk m c 1 t) (iblk m c 2 t) (iblk m c 3 t) (iblk m c 4 t) (iblk m c 5 t) (ix2 r w)
      = resK (argX m c) (argW m c) (rowOf t r) w := by
  rw [out_k]
  refine (canon_columns inbOK _ _ ⟨w.val / 128, by omega⟩ (mem2 _) r ⟨w.val % 128, by omega⟩ w
    (by show w.val = 128 * (w.val / 128) + w.val % 128; omega)).trans ?_
  refine (partK_read _ _ _ _ _ _ r _).trans ?_
  exact rot_val m c t r (2560 + 128 * (2 + 2 * (w.val / 128))) (by omega) ⟨w.val % 128, by omega⟩

theorem block_g (c : Dev nD) (t : Fin cfg0.N) (r : Fin 512) (w : Fin 128) :
    out0_9 (iblk m c 0 t) (iblk m c 1 t) (iblk m c 2 t) (iblk m c 3 t) (iblk m c 4 t) (iblk m c 5 t) (ix2 r w)
      = resG (argX m c) (argW m c) (rowOf t r) w := by
  rw [out_g]
  refine (canon_columns inbOG _ _ ⟨0, by omega⟩ (mem1 _) r ⟨w.val, by omega⟩ w
    (by show w.val = 128 * 0 + w.val; omega)).trans ?_
  refine (partG_read _ _ _ r _).trans ?_
  unfold resG
  by_cases h : w.val < 24
  · rw [dif_pos h, col_val m c t r _ _ (by show 3328 + w.val < 3352; omega)]
  · rw [dif_neg h, col_pad m c t r _ _ (by show ¬ 3328 + w.val < 3352; omega)]

theorem block_v (c : Dev nD) (t : Fin cfg0.N) (a : Fin 2) (u : Fin 2) (d : Fin 128) (j : Fin 256) :
    out0_10 (iblk m c 0 t) (iblk m c 1 t) (iblk m c 2 t) (iblk m c 3 t) (iblk m c 4 t) (iblk m c 5 t) (ix4 a u d j)
      = resV (argX m c) (argW m c) a ⟨2 * t.val + u.val, by have := point_lt t; omega⟩ d j := by
  refine (out_v_read _ _ _ _ _ _ a u d j).trans ?_
  rw [col_val m c t _ _ _ (by omega)]
  unfold resV valE
  refine congrArg (fun z => projE (argX m c) (argW m c) z _ _) (Fin.ext ?_)
  show 512 * t.val + (256 * u.val + j.val) = 256 * (2 * t.val + u.val) + j.val
  omega

theorem block_c (c : Dev nD) (t : Fin cfg0.N) (a : Fin 2) (g : Fin 32) (w : Fin 2048) :
    out0_11 (iblk m c 0 t) (iblk m c 1 t) (iblk m c 2 t) (iblk m c 3 t) (iblk m c 4 t) (iblk m c 5 t) (ix3 a g w)
      = resC (argX m c) (argW m c) a ⟨32 * t.val + g.val, by have := point_lt t; omega⟩ w := by
  have ha := a.isLt
  have hg := g.isLt
  have hw := w.isLt
  rw [out_c]
  refine (canon_slabs inbOC _ _ ⟨16 * a.val + w.val / 128, by omega⟩ (mem32 _) a g ⟨w.val % 128, by omega⟩ w
    (by show a.val = (16 * a.val + w.val / 128) / 16; omega)
    (by show w.val = 128 * ((16 * a.val + w.val / 128) % 16) + w.val % 128; omega)).trans ?_
  refine (partC_read _ _ _ _ _ _ _ g _).trans ?_
  refine (Finset.sum_eq_single (⟨16 * g.val + w.val / 128, by omega⟩ : Fin 512) (fun j _ hj => ?_)
    (fun hn => absurd (Finset.mem_univ _) hn)).trans ?_
  · rw [iblk5, if_neg, zero_mul]
    intro he
    apply hj
    apply Fin.ext
    have he' : j.val = 16 * g.val + (16 * a.val + w.val / 128) % 16 := he
    show j.val = 16 * g.val + w.val / 128
    omega
  · rw [iblk5, if_pos (by show 16 * g.val + w.val / 128 = 16 * g.val + (16 * a.val + w.val / 128) % 16; omega), one_mul]
    have er : rowOf t ⟨16 * g.val + w.val / 128, by omega⟩
        = ⟨16 * (32 * t.val + g.val) + w.val / 128, by have := point_lt t; omega⟩ :=
      Fin.ext (by show 512 * t.val + (16 * g.val + w.val / 128) = 16 * (32 * t.val + g.val) + w.val / 128; omega)
    unfold resC
    by_cases h : a.val = 0
    · rw [if_pos h]
      have eh : (16 * a.val + w.val / 128) / 16 = 0 := by omega
      simp only [eh]
      refine (packed_key _ _ _ _ _ _ _).trans ?_
      refine (rot_val m c t _ (2560 + 128 * 0) (by omega) ⟨w.val % 128, by omega⟩).trans ?_
      rw [er]
      rfl
    · rw [if_neg h]
      have eh : (16 * a.val + w.val / 128) / 16 = 1 := by omega
      simp only [eh]
      refine (packed_val _ _ _ _ _ _ _).trans ?_
      rw [col_val m c t _ _ _ (by show 2560 + 128 * 1 + w.val % 128 < 3352; omega), er]
      rfl

/-! ## The arrays the kernel leaves -/

theorem emb6 (t : Fin cfg0.N) (r : Fin 512) (w : Fin 2048) :
    ((cfg0.win 6).blk t).view.emb (ix2 r w) = (ix2 (rowOf t r) w : S65536x2048.Idx) := by
  funext ax; apply Fin.ext
  match ax with
  | ⟨0, _⟩ =>
    show (cfg0.win 6).index t 0 * 512 + 1 * r.val = 512 * t.val + r.val
    rw [idx6]; show t.val * 512 + 1 * r.val = _; omega
  | ⟨1, _⟩ =>
    show (cfg0.win 6).index t 1 * 2048 + 1 * w.val = w.val
    rw [idx6]; show 0 * 2048 + 1 * w.val = _; omega

theorem array_r (c : Dev nD) : (dats m 0 c).arrAt 6 cfg0.N = fun i : S65536x2048.Idx => resR (argX m c) (argW m c) (i 0) (i 1) := by
  refine (dats m 0 c).arrAt_eq_of_covers 6 _ (by decide +kernel) fun t hf y => ?_
  blk_simp
  rw [after0_6]
  idx_vars y
  exact (block_r m c t y0 y1).trans
    (congrArg (fun i : S65536x2048.Idx => resR (argX m c) (argW m c) (i 0) (i 1)) (emb6 t y0 y1)).symm

theorem emb7 (t : Fin cfg0.N) (r : Fin 512) (w : Fin 512) :
    ((cfg0.win 7).blk t).view.emb (ix2 r w) = (ix2 (rowOf t r) w : S65536x512.Idx) := by
  funext ax; apply Fin.ext
  match ax with
  | ⟨0, _⟩ =>
    show (cfg0.win 7).index t 0 * 512 + 1 * r.val = 512 * t.val + r.val
    rw [idx7]; show t.val * 512 + 1 * r.val = _; omega
  | ⟨1, _⟩ =>
    show (cfg0.win 7).index t 1 * 512 + 1 * w.val = w.val
    rw [idx7]; show 0 * 512 + 1 * w.val = _; omega

theorem array_q (c : Dev nD) : (dats m 0 c).arrAt 7 cfg0.N = fun i : S65536x512.Idx => resQ (argX m c) (argW m c) (i 0) (i 1) := by
  refine (dats m 0 c).arrAt_eq_of_covers 7 _ (by decide +kernel) fun t hf y => ?_
  blk_simp
  rw [after0_7]
  idx_vars y
  exact (block_q m c t y0 y1).trans
    (congrArg (fun i : S65536x512.Idx => resQ (argX m c) (argW m c) (i 0) (i 1)) (emb7 t y0 y1)).symm

theorem emb8 (t : Fin cfg0.N) (r : Fin 512) (w : Fin 256) :
    ((cfg0.win 8).blk t).view.emb (ix2 r w) = (ix2 (rowOf t r) w : S65536x256.Idx) := by
  funext ax; apply Fin.ext
  match ax with
  | ⟨0, _⟩ =>
    show (cfg0.win 8).index t 0 * 512 + 1 * r.val = 512 * t.val + r.val
    rw [idx8]; show t.val * 512 + 1 * r.val = _; omega
  | ⟨1, _⟩ =>
    show (cfg0.win 8).index t 1 * 256 + 1 * w.val = w.val
    rw [idx8]; show 0 * 256 + 1 * w.val = _; omega

theorem array_k (c : Dev nD) : (dats m 0 c).arrAt 8 cfg0.N = fun i : S65536x256.Idx => resK (argX m c) (argW m c) (i 0) (i 1) := by
  refine (dats m 0 c).arrAt_eq_of_covers 8 _ (by decide +kernel) fun t hf y => ?_
  blk_simp
  rw [after0_8]
  idx_vars y
  exact (block_k m c t y0 y1).trans
    (congrArg (fun i : S65536x256.Idx => resK (argX m c) (argW m c) (i 0) (i 1)) (emb8 t y0 y1)).symm

theorem emb9 (t : Fin cfg0.N) (r : Fin 512) (w : Fin 128) :
    ((cfg0.win 9).blk t).view.emb (ix2 r w) = (ix2 (rowOf t r) w : S65536x128.Idx) := by
  funext ax; apply Fin.ext
  match ax with
  | ⟨0, _⟩ =>
    show (cfg0.win 9).index t 0 * 512 + 1 * r.val = 512 * t.val + r.val
    rw [idx9]; show t.val * 512 + 1 * r.val = _; omega
  | ⟨1, _⟩ =>
    show (cfg0.win 9).index t 1 * 128 + 1 * w.val = w.val
    rw [idx9]; show 0 * 128 + 1 * w.val = _; omega

theorem array_g (c : Dev nD) : (dats m 0 c).arrAt 9 cfg0.N = fun i : S65536x128.Idx => resG (argX m c) (argW m c) (i 0) (i 1) := by
  refine (dats m 0 c).arrAt_eq_of_covers 9 _ (by decide +kernel) fun t hf y => ?_
  blk_simp
  rw [after0_9]
  idx_vars y
  exact (block_g m c t y0 y1).trans
    (congrArg (fun i : S65536x128.Idx => resG (argX m c) (argW m c) (i 0) (i 1)) (emb9 t y0 y1)).symm

theorem emb10 (t : Fin cfg0.N) (a : Fin 2) (u : Fin 2) (d : Fin 128) (j : Fin 256) :
    ((cfg0.win 10).blk t).view.emb (ix4 a u d j)
      = (ix4 a (⟨2 * t.val + u.val, by have := point_lt t; omega⟩ : Fin 256) d j : S2x256x128x256.Idx) := by
  funext ax; apply Fin.ext
  match ax with
  | ⟨0, _⟩ =>
    show (cfg0.win 10).index t 0 * 2 + 1 * a.val = a.val
    rw [idx10]; show 0 * 2 + 1 * a.val = _; omega
  | ⟨1, _⟩ =>
    show (cfg0.win 10).index t 1 * 2 + 1 * u.val = 2 * t.val + u.val
    rw [idx10]; show t.val * 2 + 1 * u.val = _; omega
  | ⟨2, _⟩ =>
    show (cfg0.win 10).index t 2 * 128 + 1 * d.val = d.val
    rw [idx10]; show 0 * 128 + 1 * d.val = _; omega
  | ⟨3, _⟩ =>
    show (cfg0.win 10).index t 3 * 256 + 1 * j.val = j.val
    rw [idx10]; show 0 * 256 + 1 * j.val = _; omega

theorem array_v (c : Dev nD) : (dats m 0 c).arrAt 10 cfg0.N
    = fun i : S2x256x128x256.Idx => resV (argX m c) (argW m c) (i 0) (i 1) (i 2) (i 3) := by
  refine (dats m 0 c).arrAt_eq_of_covers 10 _ (by decide +kernel) fun t hf y => ?_
  blk_simp
  rw [after0_10]
  idx_vars y
  exact (block_v m c t y0 y1 y2 y3).trans
    (congrArg (fun i : S2x256x128x256.Idx => resV (argX m c) (argW m c) (i 0) (i 1) (i 2) (i 3)) (emb10 t y0 y1 y2 y3)).symm

theorem emb11 (t : Fin cfg0.N) (a : Fin 2) (g : Fin 32) (w : Fin 2048) :
    ((cfg0.win 11).blk t).view.emb (ix3 a g w)
      = (ix3 a (⟨32 * t.val + g.val, by have := point_lt t; omega⟩ : Fin 4096) w : S2x4096x2048.Idx) := by
  funext ax; apply Fin.ext
  match ax with
  | ⟨0, _⟩ =>
    show (cfg0.win 11).index t 0 * 2 + 1 * a.val = a.val
    rw [idx11]; show 0 * 2 + 1 * a.val = _; omega
  | ⟨1, _⟩ =>
    show (cfg0.win 11).index t 1 * 32 + 1 * g.val = 32 * t.val + g.val
    rw [idx11]; show t.val * 32 + 1 * g.val = _; omega
  | ⟨2, _⟩ =>
    show (cfg0.win 11).index t 2 * 2048 + 1 * w.val = w.val
    rw [idx11]; show 0 * 2048 + 1 * w.val = _; omega

theorem array_c (c : Dev nD) : (dats m 0 c).arrAt 11 cfg0.N
    = fun i : S2x4096x2048.Idx => resC (argX m c) (argW m c) (i 0) (i 1) (i 2) := by
  refine (dats m 0 c).arrAt_eq_of_covers 11 _ (by decide +kernel) fun t hf y => ?_
  blk_simp
  rw [after0_11]
  idx_vars y
  exact (block_c m c t y0 y1 y2).trans
    (congrArg (fun i : S2x4096x2048.Idx => resC (argX m c) (argW m c) (i 0) (i 1) (i 2)) (emb11 t y0 y1 y2)).symm

end Cert.Kernel5Ideal.Gen
-- ==== Proof.FirstParts.lean ====
/- The parts of the first projection's reference: the rows against the weights, the rotation of a part, and each read at an
   index. -/
module

public import proofs.«01_k».proof.Proof.FirstSpec
public import proofs.«01_k».proof.Proof.Gen.Reference5Ideal.Run
public import Idealize.ShloMosaic.Lib.Pipeline.ValueKit
public import Idealize.ShloMosaic.Lib.StableHlo.ReadAt

@[expose] public section
set_option maxRecDepth 16384
noncomputable section
namespace Cert.Reference5Ideal.Value
open Idealize.ShloMosaic Idealize.ShloMosaic.TcCoe Idealize.ShloMosaic.Tactic Cert.First Cert.Reference5Ideal.Gen

section Generic
variable {F : FTy → Type} [FloatOps F]
variable (m : (ℓ : Loc nD τ sig) → Buf (Elt F) ℓ)

/-- The tables of cosines … -/
def cosTab : FVec F S8x8192x2x8 .f32 :=
  broadcastInDim S8x8192x2x8 ![0, 1, 2, 3] bcast_S1x8192x1x8_S8x8192x2x8_0_1_2_3 (broadcastInDim S1x8192x1x8 ![1, 2, 3] bcast_S8192x1x8_S1x8192x1x8_1_2_3 (broadcastInDim S8192x1x8 ![0, 2] bcast_S8192x8_S8192x1x8_0_2 (Host.cos (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))))))
/-- … and sines. -/
def sinTab : FVec F S8x8192x2x8 .f32 :=
  broadcastInDim S8x8192x2x8 ![0, 1, 2, 3] bcast_S1x8192x1x8_S8x8192x2x8_0_1_2_3 (broadcastInDim S1x8192x1x8 ![1, 2, 3] bcast_S8192x1x8_S1x8192x1x8_1_2_3 (broadcastInDim S8192x1x8 ![0, 2] bcast_S8192x8_S8192x1x8_0_2 (Host.sin (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))))))
/-- The rotation of a part of two heads. -/
def ropeF (x : FVec F S8x8192x2x64 .f32) : FVec F S8x8192x2x64 .f32 :=
  concatenate S8x8192x2x64 3 [⟨S8x8192x2x16, (concatenate S8x8192x2x16 3 [⟨S8x8192x2x8, (subf (mulf (extractStridedSlice S8x8192x2x8 ![0, 0, 0, 0] (extractStridedSlice S8x8192x2x16 ![0, 0, 0, 0] x slices_S8x8192x2x64_S8x8192x2x16_0_0_0_0) slices_S8x8192x2x16_S8x8192x2x8_0_0_0_0) cosTab) (mulf (extractStridedSlice S8x8192x2x8 ![0, 0, 0, 8] (extractStridedSlice S8x8192x2x16 ![0, 0, 0, 0] x slices_S8x8192x2x64_S8x8192x2x16_0_0_0_0) slices_S8x8192x2x16_S8x8192x2x8_0_0_0_8) sinTab))⟩, ⟨S8x8192x2x8, (addf (mulf (extractStridedSlice S8x8192x2x8 ![0, 0, 0, 8] (extractStridedSlice S8x8192x2x16 ![0, 0, 0, 0] x slices_S8x8192x2x64_S8x8192x2x16_0_0_0_0) slices_S8x8192x2x16_S8x8192x2x8_0_0_0_8) cosTab) (mulf (extractStridedSlice S8x8192x2x8 ![0, 0, 0, 0] (extractStridedSlice S8x8192x2x16 ![0, 0, 0, 0] x slices_S8x8192x2x64_S8x8192x2x16_0_0_0_0) slices_S8x8192x2x16_S8x8192x2x8_0_0_0_0) sinTab))⟩] concatenates_S8x8192x2x8_S8x8192x2x8_S8x8192x2x16_d3)⟩, ⟨S8x8192x2x48, (extractStridedSlice S8x8192x2x48 ![0, 0, 0, 16] x slices_S8x8192x2x64_S8x8192x2x48_0_0_0_16)⟩] concatenates_S8x8192x2x16_S8x8192x2x48_S8x8192x2x64_d3
/-- The rows against the weights, … -/
def dots (c : Dev nD) : FVec F S8x8192x3352 .f32 :=
  Host.dotGeneral dot_S8x8192x1024_S1024x3352_S8x8192x3352_2_0_01_1_n_n none (shapeCast _ (m ((c.tc : Thread nD τ).loc main_arg0)) shapeCasts_S65536x1024_S8x8192x1024) (m ((c.tc : Thread nD τ).loc main_arg1))
/-- … the six parts of keys and values … -/
def parts (c : Dev nD) : FVec F S8x8192x6x2x64 .f32 :=
  shapeCast _ (extractStridedSlice S8x8192x768 ![0, 0, 512] (extractStridedSlice S8x8192x1304 ![0, 0, 2048] (dots m c) slices_S8x8192x3352_S8x8192x1304_0_0_2048) slices_S8x8192x1304_S8x8192x768_0_0_512) shapeCasts_S8x8192x768_S8x8192x6x2x64
/-- Part 0. -/
def part0 (c : Dev nD) : FVec F S8x8192x2x64 .f32 :=
  shapeCast _ (extractStridedSlice S8x8192x1x2x64 ![0, 0, 0, 0, 0] (parts m c) slices_S8x8192x6x2x64_S8x8192x1x2x64_0_0_0_0_0) shapeCasts_S8x8192x1x2x64_S8x8192x2x64
/-- Part 1. -/
def part1 (c : Dev nD) : FVec F S8x8192x2x64 .f32 :=
  shapeCast _ (extractStridedSlice S8x8192x1x2x64 ![0, 0, 1, 0, 0] (parts m c) slices_S8x8192x6x2x64_S8x8192x1x2x64_0_0_1_0_0) shapeCasts_S8x8192x1x2x64_S8x8192x2x64
/-- Part 2. -/
def part2 (c : Dev nD) : FVec F S8x8192x2x64 .f32 :=
  shapeCast _ (extractStridedSlice S8x8192x1x2x64 ![0, 0, 2, 0, 0] (parts m c) slices_S8x8192x6x2x64_S8x8192x1x2x64_0_0_2_0_0) shapeCasts_S8x8192x1x2x64_S8x8192x2x64
/-- Part 4. -/
def part4 (c : Dev nD) : FVec F S8x8192x2x64 .f32 :=
  shapeCast _ (extractStridedSlice S8x8192x1x2x64 ![0, 0, 4, 0, 0] (parts m c) slices_S8x8192x6x2x64_S8x8192x1x2x64_0_0_4_0_0) shapeCasts_S8x8192x1x2x64_S8x8192x2x64

theorem keys_eq (c : Dev nD) : res_main_v132 m c = truncf .bf16 (concatenate S65536x256 1
    [⟨S65536x128, shapeCast _ (ropeF (part2 m c)) shapeCasts_S8x8192x2x64_S65536x128⟩,
      ⟨S65536x128, shapeCast _ (ropeF (part4 m c)) shapeCasts_S8x8192x2x64_S65536x128⟩]
    concatenates_S65536x128_S65536x128_S65536x256_d1) bitsLt_bf16_f32 := rfl
theorem packed_eq (c : Dev nD) : res_main_v147 m c = truncf .bf16 (concatenate S2x4096x2048 0
    [⟨S1x4096x2048, broadcastInDim S1x4096x2048 ![1, 2] bcast_S4096x2048_S1x4096x2048_1_2
        (shapeCast _ (ropeF (part0 m c)) shapeCasts_S8x8192x2x64_S4096x2048)⟩,
      ⟨S1x4096x2048, broadcastInDim S1x4096x2048 ![1, 2] bcast_S4096x2048_S1x4096x2048_1_2
        (shapeCast _ (part1 m c) shapeCasts_S8x8192x2x64_S4096x2048)⟩]
    concatenates_S1x4096x2048_S1x4096x2048_S2x4096x2048_d0) bitsLt_bf16_f32 := rfl
end Generic

section Read
variable (m : (ℓ : Loc nD τ sig) → Buf (Elt Ideal) ℓ)

/-- The arguments. -/
abbrev inX (c : Dev nD) : X2 := m ((c : Thread nD τ).loc main_arg0)
abbrev inW (c : Dev nD) : W2 := m ((c : Thread nD τ).loc main_arg1)

theorem cos_read (b : Fin 8) (s : Fin 8192) (g : Fin 2) (d : Fin 8) :
    cosTab (F := Ideal) (ix4 b s g d) = (Ideal.cos (angE s.val d.val) : EReal) := by
  pointwise [cosTab]
  rfl
theorem sin_read (b : Fin 8) (s : Fin 8192) (g : Fin 2) (d : Fin 8) :
    sinTab (F := Ideal) (ix4 b s g d) = (Ideal.sin (angE s.val d.val) : EReal) := by
  pointwise [sinTab]
  rfl

theorem rope_read (x : FVec Ideal S8x8192x2x64 .f32) (b : Fin 8) (s : Fin 8192) (g : Fin 2) (d : Fin 64) :
    ropeF x (ix4 b s g d) = (if h : d.val < 8 then
        x (ix4 b s g d) * Ideal.cos (angE s.val d.val) - x (ix4 b s g ⟨8 + d.val, by omega⟩) * Ideal.sin (angE s.val d.val)
      else if h' : d.val < 16 then
        x (ix4 b s g d) * Ideal.cos (angE s.val (d.val - 8)) + x (ix4 b s g ⟨d.val - 8, by omega⟩) * Ideal.sin (angE s.val (d.val - 8))
      else x (ix4 b s g d) : EReal) := by
  pointwise [ropeF]
  by_cases h : d.val < 8
  · simp only [dif_pos h, dif_pos (by omega : d.val < 16), cos_read, sin_read]
  · by_cases h' : d.val < 16
    · have e8 : (⟨8 + (d.val - 8), by omega⟩ : Fin 64) = d := Fin.ext (by show 8 + (d.val - 8) = d.val; omega)
      simp only [dif_neg h, dif_pos h', cos_read, sin_read, e8]
    · have e16 : (⟨16 + (d.val - 16), by omega⟩ : Fin 64) = d := Fin.ext (by show 16 + (d.val - 16) = d.val; omega)
      simp only [dif_neg h, dif_neg h', e16]

theorem dots_read (c : Dev nD) (b : Fin 8) (s : Fin 8192) (w : Fin 3352) :
    dots m c (ix3 b s w) = projE (inX m c) (inW m c) ⟨b.val * 8192 + s.val, by omega⟩ w.val w.isLt := by
  unfold dots
  clean_types
  pointwise []
  rfl

theorem parts_read (c : Dev nD) (b : Fin 8) (s : Fin 8192) (n : Fin 6) (g : Fin 2) (d : Fin 64) :
    parts m c (ix5 b s n g d)
      = projE (inX m c) (inW m c) ⟨b.val * 8192 + s.val, by omega⟩ (2560 + 128 * n.val + 64 * g.val + d.val) (by omega) := by
  have e : parts m c (ix5 b s n g d) = dots m c (ix3 b s ⟨2560 + 128 * n.val + 64 * g.val + d.val, by omega⟩) := by
    pointwise [parts]
    exact congrArg (fun z => dots m c (ix3 b s z))
      (Fin.ext (by show 2048 + (512 + (n.val * 128 + g.val * 64 + d.val)) = 2560 + 128 * n.val + 64 * g.val + d.val; omega))
  rw [e, dots_read]

theorem part0_read (c : Dev nD) (b : Fin 8) (s : Fin 8192) (g : Fin 2) (d : Fin 64) :
    part0 m c (ix4 b s g d) = parts m c (ix5 b s 0 g d) := by
  pointwise [part0]
theorem part1_read (c : Dev nD) (b : Fin 8) (s : Fin 8192) (g : Fin 2) (d : Fin 64) :
    part1 m c (ix4 b s g d) = parts m c (ix5 b s 1 g d) := by
  pointwise [part1]
theorem part2_read (c : Dev nD) (b : Fin 8) (s : Fin 8192) (g : Fin 2) (d : Fin 64) :
    part2 m c (ix4 b s g d) = parts m c (ix5 b s 2 g d) := by
  pointwise [part2]
theorem part4_read (c : Dev nD) (b : Fin 8) (s : Fin 8192) (g : Fin 2) (d : Fin 64) :
    part4 m c (ix4 b s g d) = parts m c (ix5 b s 4 g d) := by
  pointwise [part4]

/-- The rotation of part `n`. -/
theorem rope_part (c : Dev nD) (n : Fin 6) (x : FVec Ideal S8x8192x2x64 .f32)
    (hx : ∀ (b : Fin 8) (s : Fin 8192) (g : Fin 2) (d : Fin 64), x (ix4 b s g d) = parts m c (ix5 b s n g d))
    (b : Fin 8) (s : Fin 8192) (g : Fin 2) (d : Fin 64) (t : Fin 65536) (ht : t.val = b.val * 8192 + s.val) (w : ℕ) (hw : w < 128)
    (hg : w / 64 = g.val) (hd : w % 64 = d.val) :
    ropeF x (ix4 b s g d) = keyE (inX m c) (inW m c) t n.val n.isLt w hw := by
  have et : (⟨b.val * 8192 + s.val, by omega⟩ : Fin 65536) = t := Fin.ext ht.symm
  have em : t.val % 8192 = s.val := by omega
  rw [rope_read]
  unfold keyE rotE
  simp only [hx, parts_read, et, em, hg, hd, Nat.mul_comm g.val 64]

end Read
end Cert.Reference5Ideal.Value
-- ==== Proof.FirstReference.lean ====
/- The first projection's reference: its six results as the closed form. -/
module

public import proofs.«01_k».proof.Proof.FirstParts
public import Idealize.ShloMosaic.Lib.Pipeline.ValueKit
public import Idealize.ShloMosaic.Lib.StableHlo.ReadAt

@[expose] public section
set_option maxRecDepth 16384
noncomputable section
namespace Cert.Reference5Ideal.Value
open Idealize.ShloMosaic Idealize.ShloMosaic.TcCoe Idealize.ShloMosaic.Tactic Cert.First Cert.Reference5Ideal.Gen

variable (m : (ℓ : Loc nD τ sig) → Buf (Elt Ideal) ℓ)

theorem zero_int : FloatOps.sitofp (F := Ideal) FTy.f32 0#32 = (0 : EReal) := by
  show (((0#32 : BitVec 32).toInt : ℝ) : EReal) = 0
  norm_num

theorem reference_r (c : Dev nD) (t : Fin 65536) (w : Fin 2048) :
    (shapeCast _ (extractStridedSlice S8x8192x2048 ![0, 0, 0] (Host.dotGeneral (F := Ideal) (φ₁ := .f32) (φ₂ := .f32) dot_S8x8192x1024_S1024x3352_S8x8192x3352_2_0_01_1_n_n none (shapeCast _ (m ((c.tc : Thread nD τ).loc main_arg0)) shapeCasts_S65536x1024_S8x8192x1024) (m ((c.tc : Thread nD τ).loc main_arg1))) slices_S8x8192x3352_S8x8192x2048_0_0_0) shapeCasts_S8x8192x2048_S65536x2048 : FVec Ideal S65536x2048 .f32) (ix2 t w)
      = resR (inX m c) (inW m c) t w := by
  clean_types
  pointwise []
  rfl

theorem gate_cases {p q : Prop} {dp : Decidable p} {dq : Decidable q} (hpq : p ↔ q) (a : p → EReal) (b : q → EReal)
    (hab : ∀ h h', a h = b h') (z : EReal) (hz : z = 0) :
    Ideal.div 1 (1 + Ideal.exp (-(if h : p then a h else z)))
      = if h : q then Ideal.logistic (b h) else Ideal.logistic 0 := by
  subst hz
  by_cases h : p
  · rw [dif_pos h, dif_pos (hpq.mp h), hab h (hpq.mp h)]
    rfl
  · rw [dif_neg h, dif_neg (fun hh => h (hpq.mpr hh))]
    rfl
/-- The gates of any columns. -/
theorem gate_read (y : FVec Ideal S8x8192x3352 .f32) (t : Fin 65536) (w : Fin 128) :
    (shapeCast _ (Host.divf (broadcastInDim S8x8192x128 ![] bcast_S_S8x8192x128 (constant S_ .f32 0x3F800000#32)) (addf (broadcastInDim S8x8192x128 ![] bcast_S_S8x8192x128 (constant S_ .f32 0x3F800000#32)) (Host.exp (Host.negf (pad S8x8192x128 ![0, 0, 0] ![0, 0, 104] ![0, 0, 0] (extractStridedSlice S8x8192x24 ![0, 0, 1280] (extractStridedSlice S8x8192x1304 ![0, 0, 2048] y slices_S8x8192x3352_S8x8192x1304_0_0_2048) slices_S8x8192x1304_S8x8192x24_0_0_1280) (sitofp .f32 (constantI S_ 32 0#32)) pads_S8x8192x24_S8x8192x128_000_000_01040 h_S_))))) shapeCasts_S8x8192x128_S65536x128 : FVec Ideal S65536x128 .f32) (ix2 t w)
      = (if h : w.val < 24 then
          Ideal.logistic (y (ix3 ⟨t.val / 8192, by omega⟩ ⟨t.val % 8192, by omega⟩ ⟨2048 + (1280 + w.val), by omega⟩))
        else Ideal.logistic 0 : EReal) := by
  pointwise []
  refine gate_cases (p := t.val / 8192 < 8 ∧ t.val % 8192 < 8192 ∧ w.val < 24) (q := w.val < 24)
    ⟨fun h => h.2.2, fun h => ⟨by omega, by omega, h⟩⟩
    (fun h => y (ix3 ⟨t.val / 8192, by omega⟩ ⟨t.val % 8192, by omega⟩ ⟨2048 + (1280 + w.val), by omega⟩))
    (fun h => y (ix3 ⟨t.val / 8192, by omega⟩ ⟨t.val % 8192, by omega⟩ ⟨2048 + (1280 + w.val), by omega⟩))
    (fun _ _ => rfl) _ zero_int

theorem reference_g (c : Dev nD) (t : Fin 65536) (w : Fin 128) :
    (shapeCast _ (Host.divf (broadcastInDim S8x8192x128 ![] bcast_S_S8x8192x128 (constant S_ .f32 0x3F800000#32)) (addf (broadcastInDim S8x8192x128 ![] bcast_S_S8x8192x128 (constant S_ .f32 0x3F800000#32)) (Host.exp (Host.negf (pad S8x8192x128 ![0, 0, 0] ![0, 0, 104] ![0, 0, 0] (extractStridedSlice S8x8192x24 ![0, 0, 1280] (extractStridedSlice S8x8192x1304 ![0, 0, 2048] (Host.dotGeneral (F := Ideal) (φ₁ := .f32) (φ₂ := .f32) dot_S8x8192x1024_S1024x3352_S8x8192x3352_2_0_01_1_n_n none (shapeCast _ (m ((c.tc : Thread nD τ).loc main_arg0)) shapeCasts_S65536x1024_S8x8192x1024) (m ((c.tc : Thread nD τ).loc main_arg1))) slices_S8x8192x3352_S8x8192x1304_0_0_2048) slices_S8x8192x1304_S8x8192x24_0_0_1280) (sitofp .f32 (constantI S_ 32 0#32)) pads_S8x8192x24_S8x8192x128_000_000_01040 h_S_))))) shapeCasts_S8x8192x128_S65536x128 : FVec Ideal S65536x128 .f32) (ix2 t w)
      = resG (inX m c) (inW m c) t w := by
  refine (gate_read (dots m c) t w).trans ?_
  unfold resG
  refine dite_congr rfl (fun h => ?_) fun _ => rfl
  rw [dots_read]
  have et : (⟨t.val / 8192 * 8192 + t.val % 8192, by omega⟩ : Fin 65536) = t :=
    Fin.ext (by show t.val / 8192 * 8192 + t.val % 8192 = t.val; omega)
  have ec : 2048 + (1280 + w.val) = 3328 + w.val := by omega
  simp only [et, ec]

theorem reference_v (c : Dev nD) (a : Fin 2) (u : Fin 256) (d : Fin 128) (j : Fin 256) :
    (truncf .bf16 (concatenate S2x256x128x256 0 [⟨S1x256x128x256, (broadcastInDim S1x256x128x256 ![1, 2, 3] bcast_S256x128x256_S1x256x128x256_1_2_3 (transpose S256x128x256 [0, 2, 1] (shapeCast _ (shapeCast _ (extractStridedSlice S8x8192x1x2x64 ![0, 0, 3, 0, 0] (shapeCast _ (extractStridedSlice S8x8192x768 ![0, 0, 512] (extractStridedSlice S8x8192x1304 ![0, 0, 2048] (Host.dotGeneral (F := Ideal) (φ₁ := .f32) (φ₂ := .f32) dot_S8x8192x1024_S1024x3352_S8x8192x3352_2_0_01_1_n_n none (shapeCast _ (m ((c.tc : Thread nD τ).loc main_arg0)) shapeCasts_S65536x1024_S8x8192x1024) (m ((c.tc : Thread nD τ).loc main_arg1))) slices_S8x8192x3352_S8x8192x1304_0_0_2048) slices_S8x8192x1304_S8x8192x768_0_0_512) shapeCasts_S8x8192x768_S8x8192x6x2x64) slices_S8x8192x6x2x64_S8x8192x1x2x64_0_0_3_0_0) shapeCasts_S8x8192x1x2x64_S8x8192x2x64) shapeCasts_S8x8192x2x64_S256x256x128) transposes_S256x256x128_S256x128x256_0_2_1))⟩, ⟨S1x256x128x256, (broadcastInDim S1x256x128x256 ![1, 2, 3] bcast_S256x128x256_S1x256x128x256_1_2_3 (transpose S256x128x256 [0, 2, 1] (shapeCast _ (shapeCast _ (extractStridedSlice S8x8192x1x2x64 ![0, 0, 5, 0, 0] (shapeCast _ (extractStridedSlice S8x8192x768 ![0, 0, 512] (extractStridedSlice S8x8192x1304 ![0, 0, 2048] (Host.dotGeneral (F := Ideal) (φ₁ := .f32) (φ₂ := .f32) dot_S8x8192x1024_S1024x3352_S8x8192x3352_2_0_01_1_n_n none (shapeCast _ (m ((c.tc : Thread nD τ).loc main_arg0)) shapeCasts_S65536x1024_S8x8192x1024) (m ((c.tc : Thread nD τ).loc main_arg1))) slices_S8x8192x3352_S8x8192x1304_0_0_2048) slices_S8x8192x1304_S8x8192x768_0_0_512) shapeCasts_S8x8192x768_S8x8192x6x2x64) slices_S8x8192x6x2x64_S8x8192x1x2x64_0_0_5_0_0) shapeCasts_S8x8192x1x2x64_S8x8192x2x64) shapeCasts_S8x8192x2x64_S256x256x128) transposes_S256x256x128_S256x128x256_0_2_1))⟩] concatenates_S1x256x128x256_S1x256x128x256_S2x256x128x256_d0) bitsLt_bf16_f32 : FVec Ideal S2x256x128x256 .bf16) (ix4 a u d j)
      = resV (inX m c) (inW m c) a u d j := by
  clean_types
  pointwise []
  unfold resV valE projE
  have ha := a.isLt
  have er : u.val / 32 * 8192 + (u.val % 32 * 256 + j.val) = 256 * u.val + j.val := by omega
  by_cases h : a.val < 1
  · have ec : 2048 + (512 + (384 + d.val / 64 * 64 + d.val % 64)) = 2560 + 128 * (3 + 2 * a.val) + d.val := by omega
    simp only [dif_pos h, er, ec]
  · have ec : 2048 + (512 + (640 + d.val / 64 * 64 + d.val % 64)) = 2560 + 128 * (3 + 2 * a.val) + d.val := by omega
    simp only [dif_neg h, er, ec]

theorem reference_q (c : Dev nD) (t : Fin 65536) (w : Fin 512) :
    res_out1 m c (ix2 t w) = resQ (inX m c) (inW m c) t w := by
  show (res_main_v128 m c : S65536x512.Idx → EReal) (ix2 t w) = _
  unfold res_main_v128
  clean_types
  pointwise []
  unfold resQ rotE projE angE
  have e0 : w.val / 64 * 64 + w.val % 64 = w.val := by omega
  by_cases h : w.val % 64 < 8
  · simp only [dif_pos h, dif_pos (by omega : w.val % 64 < 16), Nat.add_assoc, e0]
  · by_cases h' : w.val % 64 < 16
    · have e8 : 8 + (w.val % 64 - 8) = w.val % 64 := by omega
      simp only [dif_neg h, dif_pos h', Nat.add_assoc, e8, e0]
    · have e16 : 16 + (w.val % 64 - 16) = w.val % 64 := by omega
      simp only [dif_neg h, dif_neg h', Nat.add_assoc, e16, e0]

theorem part2_at (c : Dev nD) (b : Fin 8) (s : Fin 8192) (g : Fin 2) (d : Fin 64) (t : Fin 65536) (ht : t.val = b.val * 8192 + s.val)
    (w : ℕ) (hw : w < 128) (hg : w / 64 = g.val) (hd : w % 64 = d.val) :
    ropeF (part2 m c) (ix4 b s g d) = keyE (inX m c) (inW m c) t 2 (by omega) w hw :=
  rope_part m c 2 _ (part2_read m c) b s g d t ht w hw hg hd
theorem part4_at (c : Dev nD) (b : Fin 8) (s : Fin 8192) (g : Fin 2) (d : Fin 64) (t : Fin 65536) (ht : t.val = b.val * 8192 + s.val)
    (w : ℕ) (hw : w < 128) (hg : w / 64 = g.val) (hd : w % 64 = d.val) :
    ropeF (part4 m c) (ix4 b s g d) = keyE (inX m c) (inW m c) t 4 (by omega) w hw :=
  rope_part m c 4 _ (part4_read m c) b s g d t ht w hw hg hd
theorem part0_at (c : Dev nD) (b : Fin 8) (s : Fin 8192) (g : Fin 2) (d : Fin 64) (t : Fin 65536) (ht : t.val = b.val * 8192 + s.val)
    (w : ℕ) (hw : w < 128) (hg : w / 64 = g.val) (hd : w % 64 = d.val) :
    ropeF (part0 m c) (ix4 b s g d) = keyE (inX m c) (inW m c) t 0 (by omega) w hw :=
  rope_part m c 0 _ (part0_read m c) b s g d t ht w hw hg hd
theorem part1_at (c : Dev nD) (b : Fin 8) (s : Fin 8192) (g : Fin 2) (d : Fin 64) (t : Fin 65536) (ht : t.val = b.val * 8192 + s.val)
    (w : ℕ) (hw : w < 128) (hg : w / 64 = g.val) (hd : w % 64 = d.val) :
    part1 m c (ix4 b s g d) = valE (inX m c) (inW m c) t 1 (by omega) w hw := by
  have et : (⟨b.val * 8192 + s.val, by omega⟩ : Fin 65536) = t := Fin.ext ht.symm
  rw [part1_read, parts_read]
  unfold valE
  rw [et]
  exact projE_col _ _ _ _ _ _ (by show 2560 + 128 * 1 + 64 * g.val + d.val = 2560 + 128 * 1 + w; omega)

/-- Two parts side by side. -/
theorem pair_read (x y : FVec Ideal S8x8192x2x64 .f32) (t : Fin 65536) (w : Fin 256) :
    (truncf .bf16 (concatenate S65536x256 1
      [⟨S65536x128, shapeCast _ x shapeCasts_S8x8192x2x64_S65536x128⟩,
        ⟨S65536x128, shapeCast _ y shapeCasts_S8x8192x2x64_S65536x128⟩]
      concatenates_S65536x128_S65536x128_S65536x256_d1) bitsLt_bf16_f32 : FVec Ideal S65536x256 .bf16) (ix2 t w)
      = (if h : w.val < 128 then
          x (ix4 ⟨t.val / 8192, by omega⟩ ⟨t.val % 8192, by omega⟩ ⟨w.val / 64, by omega⟩ ⟨w.val % 64, by omega⟩)
        else y (ix4 ⟨t.val / 8192, by omega⟩ ⟨t.val % 8192, by omega⟩ ⟨(w.val - 128) / 64, by omega⟩ ⟨(w.val - 128) % 64, by omega⟩) : EReal) := by
  pointwise []

theorem reference_k (c : Dev nD) (t : Fin 65536) (w : Fin 256) :
    res_out2 m c (ix2 t w) = resK (inX m c) (inW m c) t w := by
  show (res_main_v132 m c : S65536x256.Idx → EReal) (ix2 t w) = _
  rw [keys_eq]
  refine (pair_read _ _ t w).trans ?_
  have hw := w.isLt
  unfold resK
  by_cases h : w.val < 128
  · rw [dif_pos h]
    refine (part2_at m c _ _ _ _ t (by show t.val = t.val / 8192 * 8192 + t.val % 8192; omega) (w.val % 128) (by omega)
      (by show w.val % 128 / 64 = w.val / 64; omega) (by show w.val % 128 % 64 = w.val % 64; omega)).trans ?_
    have e : 2 + 2 * (w.val / 128) = 2 := by omega
    simp only [e]
  · rw [dif_neg h]
    refine (part4_at m c _ _ _ _ t (by show t.val = t.val / 8192 * 8192 + t.val % 8192; omega) (w.val % 128) (by omega)
      (by show w.val % 128 / 64 = (w.val - 128) / 64; omega) (by show w.val % 128 % 64 = (w.val - 128) % 64; omega)).trans ?_
    have e : 2 + 2 * (w.val / 128) = 4 := by omega
    simp only [e]

/-- Two parts, one above the other, sixteen rows in one. -/
theorem stack_read (x y : FVec Ideal S8x8192x2x64 .f32) (a : Fin 2) (g : Fin 4096) (w : Fin 2048) :
    (truncf .bf16 (concatenate S2x4096x2048 0
      [⟨S1x4096x2048, broadcastInDim S1x4096x2048 ![1, 2] bcast_S4096x2048_S1x4096x2048_1_2
          (shapeCast _ x shapeCasts_S8x8192x2x64_S4096x2048)⟩,
        ⟨S1x4096x2048, broadcastInDim S1x4096x2048 ![1, 2] bcast_S4096x2048_S1x4096x2048_1_2
          (shapeCast _ y shapeCasts_S8x8192x2x64_S4096x2048)⟩]
      concatenates_S1x4096x2048_S1x4096x2048_S2x4096x2048_d0) bitsLt_bf16_f32 : FVec Ideal S2x4096x2048 .bf16) (ix3 a g w)
      = (if h : a.val < 1 then
          x (ix4 ⟨g.val / 512, by omega⟩ ⟨g.val % 512 * 16 + w.val / 128, by omega⟩ ⟨w.val / 64 % 2, by omega⟩ ⟨w.val % 64, by omega⟩)
        else y (ix4 ⟨g.val / 512, by omega⟩ ⟨g.val % 512 * 16 + w.val / 128, by omega⟩ ⟨w.val / 64 % 2, by omega⟩ ⟨w.val % 64, by omega⟩) : EReal) := by
  pointwise []

theorem reference_c (c : Dev nD) (a : Fin 2) (g : Fin 4096) (w : Fin 2048) :
    res_out5 m c (ix3 a g w) = resC (inX m c) (inW m c) a g w := by
  show (res_main_v147 m c : S2x4096x2048.Idx → EReal) (ix3 a g w) = _
  rw [packed_eq]
  refine (stack_read _ _ a g w).trans ?_
  have hw := w.isLt
  have hg := g.isLt
  unfold resC
  by_cases h : a.val < 1
  · rw [dif_pos h, if_pos (by omega : a.val = 0)]
    exact part0_at m c _ _ _ _ _ (by show 16 * g.val + w.val / 128 = g.val / 512 * 8192 + (g.val % 512 * 16 + w.val / 128); omega)
      (w.val % 128) (by omega) (by show w.val % 128 / 64 = w.val / 64 % 2; omega) (by show w.val % 128 % 64 = w.val % 64; omega)
  · rw [dif_neg h, if_neg (by omega : ¬ a.val = 0)]
    exact part1_at m c _ _ _ _ _ (by show 16 * g.val + w.val / 128 = g.val / 512 * 8192 + (g.val % 512 * 16 + w.val / 128); omega)
      (w.val % 128) (by omega) (by show w.val % 128 / 64 = w.val / 64 % 2; omega) (by show w.val % 128 % 64 = w.val % 64; omega)

end Cert.Reference5Ideal.Value
-- ==== Proof.OutputSpec.lean ====
/- The first result of the output call in closed form: the mixers' product added to the scaled rows, and each row normed.
   What the kernel and the reference of either layer are shown to compute. -/
module

public import Idealize.ShloMosaic.Lib.Pipeline.ValueKit

@[expose] public section
noncomputable section
namespace Cert.Output
open Idealize.ShloMosaic

abbrev Rows : Type := (⟨2, ![65536, 1024]⟩ : Shape).Idx → EReal
abbrev Row : Type := (⟨2, ![1, 1024]⟩ : Shape).Idx → EReal
abbrev Half : Type := (⟨2, ![65536, 512]⟩ : Shape).Idx → EReal
abbrev Wide : Type := (⟨2, ![65536, 2048]⟩ : Shape).Idx → EReal
abbrev Square : Type := (⟨2, ![1024, 1024]⟩ : Shape).Idx → EReal
abbrev Tall : Type := (⟨2, ![2048, 1024]⟩ : Shape).Idx → EReal

/-- The layer norm of a row `z` and its affine map, at column `w`. -/
def normZ (z : Fin 1024 → EReal) (g b : EReal) (w : Fin 1024) : EReal :=
  (z w - Ideal.div (∑ x, z x) (Ideal.ofBits FTy.f32 1149239296#32)) *
        Ideal.rsqrt
          (Ideal.div
              (∑ x, (z x - Ideal.div (∑ x, z x) (Ideal.ofBits FTy.f32 1149239296#32)) *
                  (z x - Ideal.div (∑ x, z x) (Ideal.ofBits FTy.f32 1149239296#32)))
              (Ideal.ofBits FTy.f32 1149239296#32) +
            Ideal.ofBits FTy.f32 925353388#32) * g + b

/-- The row before the norm: the scaled row of the layer's input and the mixers' product. -/
def sumE (x mix : EReal) : EReal := Ideal.ofBits FTy.f32 0x3FB504F3#32 * x + mix

/-- The second layer: one mixer. -/
def resSecond (A : Wide) (W : Tall) (X : Rows) (G B : Row) (t : Fin 65536) (w : Fin 1024) : EReal :=
  normZ (fun x => sumE (X (ix2 t x)) (∑ k : Fin 2048, A (ix2 t k) * W (ix2 k x))) (G (ix2 0 w)) (B (ix2 0 w)) w

/-- The first layer: two mixers, each against its half of the weights' rows. -/
def resFirst (A₁ A₂ : Half) (W : Square) (X : Rows) (G B : Row) (t : Fin 65536) (w : Fin 1024) : EReal :=
  normZ (fun x => sumE (X (ix2 t x)) ((∑ k : Fin 512, A₁ (ix2 t k) * W (ix2 ⟨k.val, by omega⟩ x))
      + ∑ k : Fin 512, A₂ (ix2 t k) * W (ix2 ⟨512 + k.val, by omega⟩ x))) (G (ix2 0 w)) (B (ix2 0 w)) w

/-- A sum over 1024 columns that are two runs of 512 is the two sums. -/
theorem sum_halves (f : Fin 1024 → EReal) (a b : Fin 512 → EReal) (ha : ∀ k : Fin 512, f ⟨k.val, by omega⟩ = a k)
    (hb : ∀ k : Fin 512, f ⟨512 + k.val, by omega⟩ = b k) : ∑ k, f k = (∑ k, a k) + ∑ k, b k := by
  rw [Fin.sum_univ_add (a := 512) (b := 512) f]
  exact congrArg₂ (· + ·) (Finset.sum_congr rfl fun k _ => ha k) (Finset.sum_congr rfl fun k _ => hb k)

end Cert.Output
-- ==== Proof.OutputBlock.lean ====
/- One grid step of the first layer's output call: the block of normed rows it stores, the same whether or not the step
   clears the counts first. -/
module

public import proofs.«01_k».proof.Proof.OutputSpec
public import proofs.«01_k».proof.Proof.Gen.Kernel6Ideal.Value
public import Idealize.ShloMosaic.Lib.Pointwise

@[expose] public section
set_option maxRecDepth 16384
noncomputable section
namespace Cert.Kernel6Ideal.Gen
open Idealize.ShloMosaic Idealize.ShloMosaic.TcCoe Idealize.ShloMosaic.Tactic Cert.Output

section Generic
variable {F : FTy → Type} [FloatOps F]

/-- The block of normed rows, from the step's inputs. -/
def blockY (x0 : Vec F S1024x512 .f32) (x1 : Vec F S1024x512 .bf16) (x2 x3 : Vec F S512x1024 .bf16) (x4 : Vec F S1024x1024 .f32)
    (x5 x6 : Vec F S1x1024 .f32) : FVec F S1024x1024 .f32 :=
  k0_pay5 (View.ld x5 (Rect.unit (s := S1x1024) ![0, 0] S1x1024.size inb_S1x1024_S1x1024_0_0)) (View.ld x6 (Rect.unit (s := S1x1024) ![0, 0] S1x1024.size inb_S1x1024_S1x1024_0_0)) (k0_pay3 (View.ld x0 (Rect.unit (s := S1024x512) ![0, 0] S1024x512.size inb_S1024x512_S1024x512_0_0)) (View.ld x2 (Rect.unit (s := S512x1024) ![0, 0] S512x1024.size inb_S512x1024_S512x1024_0_0)) (View.ld x1 (Rect.unit (s := S1024x512) ![0, 0] S1024x512.size inb_S1024x512_S1024x512_0_0)) (View.ld x3 (Rect.unit (s := S512x1024) ![0, 0] S512x1024.size inb_S512x1024_S512x1024_0_0)) (View.ld x4 (Rect.unit (s := S1024x1024) ![0, 0] S1024x1024.size inb_S1024x1024_S1024x1024_0_0))) (k0_pay4 (View.ld x0 (Rect.unit (s := S1024x512) ![0, 0] S1024x512.size inb_S1024x512_S1024x512_0_0)) (View.ld x2 (Rect.unit (s := S512x1024) ![0, 0] S512x1024.size inb_S512x1024_S512x1024_0_0)) (View.ld x1 (Rect.unit (s := S1024x512) ![0, 0] S1024x512.size inb_S1024x512_S1024x512_0_0)) (View.ld x3 (Rect.unit (s := S512x1024) ![0, 0] S512x1024.size inb_S512x1024_S512x1024_0_0)) (View.ld x4 (Rect.unit (s := S1024x1024) ![0, 0] S1024x1024.size inb_S1024x1024_S1024x1024_0_0)))

theorem at_zero : (![0, 0] : Fin 2 → ℕ) = fun _ => 0 := by
  funext a; match a with | ⟨0, _⟩ => rfl | ⟨1, _⟩ => rfl

/-- Each load is of a whole buffer. -/
theorem blockY_whole (x0 : Vec F S1024x512 .f32) (x1 : Vec F S1024x512 .bf16) (x2 x3 : Vec F S512x1024 .bf16) (x4 : Vec F S1024x1024 .f32)
    (x5 x6 : Vec F S1x1024 .f32) :
    blockY x0 x1 x2 x3 x4 x5 x6 = k0_pay5 x5 x6 (k0_pay3 x0 x2 x1 x3 x4) (k0_pay4 x0 x2 x1 x3 x4) := by
  unfold blockY
  rw [View.ld_unit_zero (S := S1024x512) at_zero inb_S1024x512_S1024x512_0_0 x0, View.ld_unit_zero (S := S1024x512) at_zero inb_S1024x512_S1024x512_0_0 x1, View.ld_unit_zero (S := S512x1024) at_zero inb_S512x1024_S512x1024_0_0 x2, View.ld_unit_zero (S := S512x1024) at_zero inb_S512x1024_S512x1024_0_0 x3, View.ld_unit_zero (S := S1024x1024) at_zero inb_S1024x1024_S1024x1024_0_0 x4, View.ld_unit_zero (S := S1x1024) at_zero inb_S1x1024_S1x1024_0_0 x5, View.ld_unit_zero (S := S1x1024) at_zero inb_S1x1024_S1x1024_0_0 x6]

section Pieces
variable (x0 : Vec F S1024x512 .f32) (x1 : Vec F S1024x512 .bf16) (x2 x3 : Vec F S512x1024 .bf16) (x4 : Vec F S1024x1024 .f32)
  (x5 x6 : Vec F S1x1024 .f32) (x7 : Vec F S16x1024 .f32) (x8 : Vec F S16x1 .f32) (x9 : Vec F S1024x1024 .bf16)

set_option maxHeartbeats 4000000 in
/-- A step that clears the counts: the block it stores. -/
theorem listA (c : Dev nD) (t : Fin cfg0.N) (h : cond0_0 (grid0.coords t)) :
    (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) h x0 x1 x2 x3 x4 x5 x6 x7 x8 x9).1
      = [⟨Rect.unit (s := S1024x1024) ![0, 0] S1024x1024.size inb_S1024x1024_S1024x1024_0_0, blockY x0 x1 x2 x3 x4 x5 x6⟩] := by
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rfl

set_option maxHeartbeats 4000000 in
/-- A step that carries them: the block it stores. -/
theorem listB (c : Dev nD) (t : Fin cfg0.N) (h : ¬cond0_0 (grid0.coords t)) (xs0 : Vec F S16x1 .f32) :
    (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) h x0 x1 x2 x3 x4 x5 x6 x7 x8 x9 xs0).1
      = [⟨Rect.unit (s := S1024x1024) ![0, 0] S1024x1024.size inb_S1024x1024_S1024x1024_0_0, blockY x0 x1 x2 x3 x4 x5 x6⟩] := by
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread]
  rfl

end Pieces

variable (m : (ℓ : Loc nD τ sig) → Buf (Elt F) ℓ)

/-- What a step leaves in the block. -/
theorem step_block (c : Dev nD) (t : Fin cfg0.N) :
    (outsAt0 m c t.val t.isLt).1 = blockY (iblk m c 0 t) (iblk m c 1 t) (iblk m c 2 t) (iblk m c 3 t) (iblk m c 4 t) (iblk m c 5 t) (iblk m c 6 t) := by
  by_cases h0 : t.val % 64 = 0
  · rw [outsAt0_A m c t h0]
    unfold out0_A_10
    dsimp only
    funext y
    rw [View.read_writes_apply_eq_canon _ _ _ _ (cover0_A_10 ..), listA]
    exact congrFun (View.canon_unit_zero at_zero _ _) y
  · rw [outsAt0_B m c t h0]
    unfold out0_B_10
    dsimp only
    funext y
    rw [View.read_writes_apply_eq_canon _ _ _ _ (cover0_B_10 ..), listB]
    exact congrFun (View.canon_unit_zero at_zero _ _) y

end Generic
end Cert.Kernel6Ideal.Gen
-- ==== Proof.OutputKernel.lean ====
/- The array of normed rows the first layer's output call leaves: the closed form at every index. -/
module

public import proofs.«01_k».proof.Proof.OutputBlock
public import Idealize.ShloMosaic.Lib.Pipeline.ValueKit
public import Idealize.ShloMosaic.Lib.StableHlo.ReadAt

@[expose] public section
set_option maxRecDepth 16384
noncomputable section
namespace Cert.Kernel6Ideal.Gen
open Idealize.ShloMosaic Idealize.ShloMosaic.TcCoe Idealize.ShloMosaic.Tactic Cert.Output

/-- The layer norm as the kernel's operations. -/
def lnBlock (z : FVec Ideal S1024x1024 .f32) (g b : FVec Ideal S1x1024 .f32) : FVec Ideal S1024x1024 .f32 :=
  have mean : FVec Ideal S1024x1 .f32 := divf (shapeCast S1024x1 (multiReduction .add [1] S1024 z 0x00000000#32 reduces_S1024x1024_S1024 (.inl rfl) rfl) shapeCasts_S1024_S1024x1) (broadcast S1024x1 (Scalar.ofBits .f32 0x44800000#32 : Ideal .f32))
  have d : FVec Ideal S1024x1024 .f32 := subf z (broadcastTo S1024x1024 mean broadcasts_S1024x1_S1024x1024)
  have var : FVec Ideal S1024x1 .f32 := divf (shapeCast S1024x1 (multiReduction .add [1] S1024 (mulf d d) 0x00000000#32 reduces_S1024x1024_S1024 (.inl rfl) rfl) shapeCasts_S1024_S1024x1) (broadcast S1024x1 (Scalar.ofBits .f32 0x44800000#32 : Ideal .f32))
  have s : FVec Ideal S1024x1 .f32 := rsqrt (addf var (broadcast S1024x1 (Scalar.ofBits .f32 0x3727C5AC#32 : Ideal .f32)))
  addf (mulf (mulf d (broadcastTo S1024x1024 s broadcasts_S1024x1_S1024x1024)) (broadcastTo S1024x1024 g broadcasts_S1x1024_S1024x1024))
    (broadcastTo S1024x1024 b broadcasts_S1x1024_S1024x1024)

theorem lnBlock_read (z : FVec Ideal S1024x1024 .f32) (g b : FVec Ideal S1x1024 .f32) (r w : Fin 1024) :
    lnBlock z g b (ix2 r w) = normZ (fun x => z (ix2 r x)) (g (ix2 0 w)) (b (ix2 0 w)) w := by
  pointwise [lnBlock]
  rfl

/-- The rows before the norm as the kernel's operations. -/
def preBlock (x0 : Vec Ideal S1024x512 .f32) (x1 : Vec Ideal S1024x512 .bf16) (x2 x3 : Vec Ideal S512x1024 .bf16) (x4 : Vec Ideal S1024x1024 .f32) : FVec Ideal S1024x1024 .f32 :=
  addf (mulf (broadcast S1024x1024 (Scalar.ofBits .f32 0x3FB504F3#32 : Ideal .f32)) x4)
    (addf (matmul (φ₁ := .bf16) (φ₂ := .bf16) dot_S1024x512_S512x1024_S1024x1024_1_0_0_1_n_n none (truncf .bf16 x0 bitsLt_bf16_f32) (shapeCast S512x1024 x2 shapeCasts_S512x1024_S512x1024) (constant S1024x1024 .f32 0x00000000#32))
      (matmul (φ₁ := .bf16) (φ₂ := .bf16) dot_S1024x512_S512x1024_S1024x1024_1_0_0_1_n_n none x1 (shapeCast S512x1024 x3 shapeCasts_S512x1024_S512x1024) (constant S1024x1024 .f32 0x00000000#32)))

theorem preBlock_read (x0 : Vec Ideal S1024x512 .f32) (x1 : Vec Ideal S1024x512 .bf16) (x2 x3 : Vec Ideal S512x1024 .bf16) (x4 : Vec Ideal S1024x1024 .f32) (r x : Fin 1024) :
    preBlock x0 x1 x2 x3 x4 (ix2 r x) = sumE (x4 (ix2 r x)) ((∑ k : Fin 512, x0 (ix2 r k) * x2 (ix2 k x) : EReal) + ∑ k : Fin 512, x1 (ix2 r k) * x3 (ix2 k x) : EReal) := by
  pointwise [preBlock]
  rfl

theorem blockY_eq (x0 : Vec Ideal S1024x512 .f32) (x1 : Vec Ideal S1024x512 .bf16) (x2 x3 : Vec Ideal S512x1024 .bf16) (x4 : Vec Ideal S1024x1024 .f32)
    (x5 x6 : Vec Ideal S1x1024 .f32) :
    blockY x0 x1 x2 x3 x4 x5 x6 = lnBlock (preBlock x0 x1 x2 x3 x4) x5 x6 := (blockY_whole ..).trans rfl

variable (m : (ℓ : Loc nD τ sig) → Buf (Elt Ideal) ℓ)

theorem idx0 (t : Fin cfg0.N) : (cfg0.win 0).index t = ![t.val, 0] := by revert t; decide +kernel
theorem idx1 (t : Fin cfg0.N) : (cfg0.win 1).index t = ![t.val, 0] := by revert t; decide +kernel
theorem idx2 (t : Fin cfg0.N) : (cfg0.win 2).index t = ![0, 0] := by revert t; decide +kernel
theorem idx3 (t : Fin cfg0.N) : (cfg0.win 3).index t = ![0, 0] := by revert t; decide +kernel
theorem idx4 (t : Fin cfg0.N) : (cfg0.win 4).index t = ![t.val, 0] := by revert t; decide +kernel
theorem idx5 (t : Fin cfg0.N) : (cfg0.win 5).index t = ![0, 0] := by revert t; decide +kernel
theorem idx6 (t : Fin cfg0.N) : (cfg0.win 6).index t = ![0, 0] := by revert t; decide +kernel
theorem idx10 (t : Fin cfg0.N) : (cfg0.win 10).index t = ![t.val, 0] := by revert t; decide +kernel

theorem point_lt (t : Fin cfg0.N) : t.val < 64 := lt_of_lt_of_eq t.isLt N_0

/-- The row of the whole arrays that row `r` of point `t`'s block is. -/
def rowOf (t : Fin cfg0.N) (r : Fin 1024) : Fin 65536 := ⟨1024 * t.val + r.val, by have := point_lt t; omega⟩

/-- The arguments. -/
abbrev argA (c : Dev nD) : Half := m ((c : Thread nD τ).loc main_arg0)
abbrev argC (c : Dev nD) : Half := m ((c : Thread nD τ).loc main_arg1)
abbrev argW (c : Dev nD) : Square := m ((c : Thread nD τ).loc main_arg2)
abbrev argX (c : Dev nD) : Rows := m ((c : Thread nD τ).loc main_arg3)
abbrev argG (c : Dev nD) : Row := m ((c : Thread nD τ).loc main_arg4)
abbrev argB (c : Dev nD) : Row := m ((c : Thread nD τ).loc main_arg5)

theorem iblk0 (c : Dev nD) (t : Fin cfg0.N) (r : Fin 1024) (k : Fin 512) :
    iblk m c 0 t (ix2 r k) = argA m c (ix2 (rowOf t r) k) := by
  blk_ext [iblk, V, idx0 t, rowOf]
theorem iblk1 (c : Dev nD) (t : Fin cfg0.N) (r : Fin 1024) (k : Fin 512) :
    iblk m c 1 t (ix2 r k) = argC m c (ix2 (rowOf t r) k) := by
  blk_ext [iblk, V, idx1 t, rowOf]
theorem iblk4 (c : Dev nD) (t : Fin cfg0.N) (r : Fin 1024) (k : Fin 1024) :
    iblk m c 4 t (ix2 r k) = argX m c (ix2 (rowOf t r) k) := by
  blk_ext [iblk, V, idx4 t, rowOf]
theorem iblk5 (c : Dev nD) (t : Fin cfg0.N) (r : Fin 1) (k : Fin 1024) :
    iblk m c 5 t (ix2 r k) = argG m c (ix2 r k) := by
  blk_ext [iblk, V, idx5 t, rowOf]
theorem iblk6 (c : Dev nD) (t : Fin cfg0.N) (r : Fin 1) (k : Fin 1024) :
    iblk m c 6 t (ix2 r k) = argB m c (ix2 r k) := by
  blk_ext [iblk, V, idx6 t, rowOf]
theorem iblk2 (c : Dev nD) (t : Fin cfg0.N) (k : Fin 512) (x : Fin 1024) :
    iblk m c 2 t (ix2 k x) = argW m c (ix2 ⟨k.val, by omega⟩ x) := by
  have e : iblk m c 2 t (ix2 k x) = V m c main_v1 (ix2 k x) := by blk_ext [iblk, idx2 t]
  rw [e]
  unfold V
  after_reads_at
theorem iblk3 (c : Dev nD) (t : Fin cfg0.N) (k : Fin 512) (x : Fin 1024) :
    iblk m c 3 t (ix2 k x) = argW m c (ix2 ⟨512 + k.val, by omega⟩ x) := by
  have e : iblk m c 3 t (ix2 k x) = V m c main_v2 (ix2 k x) := by blk_ext [iblk, idx3 t]
  rw [e]
  unfold V
  after_reads_at

/-- The block a step stores, in closed form. -/
theorem block_y (c : Dev nD) (t : Fin cfg0.N) (r w : Fin 1024) :
    blockY (iblk m c 0 t) (iblk m c 1 t) (iblk m c 2 t) (iblk m c 3 t) (iblk m c 4 t) (iblk m c 5 t) (iblk m c 6 t) (ix2 r w) = resFirst (argA m c) (argC m c) (argW m c) (argX m c) (argG m c) (argB m c) (rowOf t r) w := by
  rw [blockY_eq, lnBlock_read]
  unfold resFirst
  simp only [preBlock_read]
  simp only [iblk0, iblk1, iblk2, iblk3, iblk4, iblk5, iblk6]

theorem emb10 (t : Fin cfg0.N) (r w : Fin 1024) :
    ((cfg0.win 10).blk t).view.emb (ix2 r w) = (ix2 (rowOf t r) w : S65536x1024.Idx) := by
  funext ax; apply Fin.ext
  match ax with
  | ⟨0, _⟩ =>
    show (cfg0.win 10).index t 0 * 1024 + 1 * r.val = 1024 * t.val + r.val
    rw [idx10]; show t.val * 1024 + 1 * r.val = _; omega
  | ⟨1, _⟩ =>
    show (cfg0.win 10).index t 1 * 1024 + 1 * w.val = w.val
    rw [idx10]; show 0 * 1024 + 1 * w.val = _; omega

/-- The result in closed form. -/
def wholeY (c : Dev nD) : S65536x1024.Idx → EReal := fun i => resFirst (argA m c) (argC m c) (argW m c) (argX m c) (argG m c) (argB m c) (i 0) (i 1)

theorem array_y (c : Dev nD) : (dats m 0 c).arrAt 10 cfg0.N = wholeY m c := by
  refine (dats m 0 c).arrAt_eq_of_covers 10 _ (by decide +kernel) fun t hf y => ?_
  blk_simp
  rw [after0_10, step_block]
  idx_vars y
  exact (block_y m c t y0 y1).trans (congrArg (wholeY m c) (emb10 t y0 y1)).symm

end Cert.Kernel6Ideal.Gen
-- ==== Proof.OutputReference.lean ====
/- The first layer's output reference as the closed form. -/
module

public import proofs.«01_k».proof.Proof.OutputSpec
public import proofs.«01_k».proof.Proof.Gen.Reference6Ideal.Run
public import Idealize.ShloMosaic.Lib.Pipeline.ValueKit
public import Idealize.ShloMosaic.Lib.StableHlo.ReadAt

@[expose] public section
set_option maxRecDepth 16384
noncomputable section
namespace Cert.Reference6Ideal.Value
open Idealize.ShloMosaic Idealize.ShloMosaic.TcCoe Idealize.ShloMosaic.Tactic Cert.Output Cert.Reference6Ideal.Gen

/-- The layer norm as the reference's operations. -/
def lnTerm (z : FVec Ideal S65536x1024 .f32) (g b : FVec Ideal S1x1024 .f32) : FVec Ideal S65536x1024 .f32 :=
  addf (mulf (mulf (subf z (broadcastInDim S65536x1024 ![0, 1] bcast_S65536x1_S65536x1024_0_1 (Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))))) (broadcastInDim S65536x1024 ![0, 1] bcast_S65536x1_S65536x1024_0_1 (Host.rsqrt (addf (Host.divf (broadcastInDim S65536x1 ![0] bcast_S65536_S65536x1_0 (Host.reduceAdd (mulf (subf z (broadcastInDim S65536x1024 ![0, 1] bcast_S65536x1_S65536x1024_0_1 (Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))))) (subf z (broadcastInDim S65536x1024 ![0, 1] bcast_S65536x1_S65536x1024_0_1 (Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32)))))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 g)) (broadcastInDim S65536x1024 ![0, 1] bcast_S1x1024_S65536x1024_0_1 b)

theorem lnTerm_read (z : FVec Ideal S65536x1024 .f32) (g b : FVec Ideal S1x1024 .f32) (t : Fin 65536) (w : Fin 1024) :
    lnTerm z g b (ix2 t w) = normZ (fun x => z (ix2 t x)) (g (ix2 0 w)) (b (ix2 0 w)) w := by
  pointwise [lnTerm]
  rfl

/-- The two mixers' rows side by side … -/
def bothTerm (A₁ : FVec Ideal S65536x512 .f32) (A₂ : FVec Ideal S65536x512 .bf16) : FVec Ideal S65536x1024 .f32 :=
  concatenate S65536x1024 1 [⟨S65536x512, A₁⟩, ⟨S65536x512, extf .f32 A₂ bitsLt_bf16_f32⟩] concatenates_S65536x512_S65536x512_S65536x1024_d1

theorem both_left (A₁ : FVec Ideal S65536x512 .f32) (A₂ : FVec Ideal S65536x512 .bf16) (t : Fin 65536) (k : Fin 512) :
    bothTerm A₁ A₂ (ix2 t ⟨k.val, by omega⟩) = A₁ (ix2 t k) := by
  pointwise [bothTerm]

theorem both_right (A₁ : FVec Ideal S65536x512 .f32) (A₂ : FVec Ideal S65536x512 .bf16) (t : Fin 65536) (k : Fin 512) :
    bothTerm A₁ A₂ (ix2 t ⟨512 + k.val, by omega⟩) = A₂ (ix2 t k) := by
  pointwise [bothTerm]

/-- … and the row before the norm, as the reference's operations. -/
def preTerm (A : FVec Ideal S65536x1024 .f32) (W : FVec Ideal S1024x1024 .f32) (X : FVec Ideal S65536x1024 .f32) : FVec Ideal S65536x1024 .f32 :=
  addf (mulf (broadcastInDim S65536x1024 ![] bcast_S_S65536x1024 (constant S_ .f32 0x3FB504F3#32)) X) (Host.dotGeneral (φ₁ := .f32) (φ₂ := .f32) dot_S65536x1024_S1024x1024_S65536x1024_1_0_0_1_n_n none A W)

theorem preTerm_read (A : FVec Ideal S65536x1024 .f32) (W : FVec Ideal S1024x1024 .f32) (X : FVec Ideal S65536x1024 .f32) (t : Fin 65536) (x : Fin 1024) :
    preTerm A W X (ix2 t x) = sumE (X (ix2 t x)) (∑ k : Fin 1024, A (ix2 t k) * W (ix2 k x) : EReal) := by
  pointwise [preTerm]
  rfl

/-- The result in closed form. -/
theorem reference_y (A₁ : FVec Ideal S65536x512 .f32) (A₂ : FVec Ideal S65536x512 .bf16) (W : FVec Ideal S1024x1024 .f32)
    (X : FVec Ideal S65536x1024 .f32) (G B : FVec Ideal S1x1024 .f32) (t : Fin 65536) (w : Fin 1024) :
    lnTerm (preTerm (bothTerm A₁ A₂) W X) G B (ix2 t w) = resFirst A₁ A₂ W X G B t w := by
  rw [lnTerm_read]
  unfold resFirst
  refine congrArg (fun z => normZ z (G (ix2 0 w)) (B (ix2 0 w)) w) (funext fun x => ?_)
  rw [preTerm_read]
  refine congrArg (sumE (X (ix2 t x))) (sum_halves _ _ _ (fun k => ?_) fun k => ?_)
  · exact congrArg (fun a : EReal => a * W (ix2 ⟨k.val, by omega⟩ x)) (both_left A₁ A₂ t k)
  · exact congrArg (fun a : EReal => a * W (ix2 ⟨512 + k.val, by omega⟩ x)) (both_right A₁ A₂ t k)

end Cert.Reference6Ideal.Value
-- ==== Proof.SecondOutputBlock.lean ====
/- One grid step of the second layer's output call: the block of normed rows it stores, the same whether or not the step
   clears the counts first. -/
module

public import proofs.«01_k».proof.Proof.OutputSpec
public import proofs.«01_k».proof.Proof.Gen.Kernel7Ideal.Value
public import Idealize.ShloMosaic.Lib.Pointwise

@[expose] public section
set_option maxRecDepth 16384
noncomputable section
namespace Cert.Kernel7Ideal.Gen
open Idealize.ShloMosaic Idealize.ShloMosaic.TcCoe Idealize.ShloMosaic.Tactic Cert.Output

section Generic
variable {F : FTy → Type} [FloatOps F]

/-- The block of normed rows, from the step's inputs. -/
def blockY (x0 : Vec F S1024x2048 .bf16) (x1 : Vec F S2048x1024 .bf16) (x2 : Vec F S1024x1024 .f32) (x3 x4 : Vec F S1x1024 .f32) : FVec F S1024x1024 .f32 :=
  k0_pay2 (View.ld x0 (Rect.unit (s := S1024x2048) ![0, 0] S1024x2048.size inb_S1024x2048_S1024x2048_0_0)) (View.ld x1 (Rect.unit (s := S2048x1024) ![0, 0] S2048x1024.size inb_S2048x1024_S2048x1024_0_0)) (View.ld x2 (Rect.unit (s := S1024x1024) ![0, 0] S1024x1024.size inb_S1024x1024_S1024x1024_0_0)) (View.ld x3 (Rect.unit (s := S1x1024) ![0, 0] S1x1024.size inb_S1x1024_S1x1024_0_0)) (View.ld x4 (Rect.unit (s := S1x1024) ![0, 0] S1x1024.size inb_S1x1024_S1x1024_0_0))

theorem at_zero : (![0, 0] : Fin 2 → ℕ) = fun _ => 0 := by
  funext a; match a with | ⟨0, _⟩ => rfl | ⟨1, _⟩ => rfl

/-- Each load is of a whole buffer. -/
theorem blockY_whole (x0 : Vec F S1024x2048 .bf16) (x1 : Vec F S2048x1024 .bf16) (x2 : Vec F S1024x1024 .f32) (x3 x4 : Vec F S1x1024 .f32) :
    blockY x0 x1 x2 x3 x4 = k0_pay2 x0 x1 x2 x3 x4 := by
  unfold blockY
  rw [View.ld_unit_zero (S := S1024x2048) at_zero inb_S1024x2048_S1024x2048_0_0 x0, View.ld_unit_zero (S := S2048x1024) at_zero inb_S2048x1024_S2048x1024_0_0 x1, View.ld_unit_zero (S := S1024x1024) at_zero inb_S1024x1024_S1024x1024_0_0 x2, View.ld_unit_zero (S := S1x1024) at_zero inb_S1x1024_S1x1024_0_0 x3, View.ld_unit_zero (S := S1x1024) at_zero inb_S1x1024_S1x1024_0_0 x4]

section Pieces
variable (x0 : Vec F S1024x2048 .bf16) (x1 : Vec F S2048x1024 .bf16) (x2 : Vec F S1024x1024 .f32) (x3 x4 : Vec F S1x1024 .f32)
  (x5 : Vec F S16x1024 .f32) (x6 : Vec F S16x1 .f32) (x7 : Vec F S1024x1024 .bf16)

set_option maxHeartbeats 4000000 in
/-- A step that clears the counts: the block it stores. -/
theorem listA (c : Dev nD) (t : Fin cfg0.N) (h : cond0_0 (grid0.coords t)) :
    (kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h x0 x1 x2 x3 x4 x5 x6 x7).1
      = [⟨Rect.unit (s := S1024x1024) ![0, 0] S1024x1024.size inb_S1024x1024_S1024x1024_0_0, blockY x0 x1 x2 x3 x4⟩] := by
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rfl

set_option maxHeartbeats 4000000 in
/-- A step that carries them: the block it stores. -/
theorem listB (c : Dev nD) (t : Fin cfg0.N) (h : ¬cond0_0 (grid0.coords t)) (xs0 : Vec F S16x1 .f32) :
    (kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) h x0 x1 x2 x3 x4 x5 x6 x7 xs0).1
      = [⟨Rect.unit (s := S1024x1024) ![0, 0] S1024x1024.size inb_S1024x1024_S1024x1024_0_0, blockY x0 x1 x2 x3 x4⟩] := by
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  rfl

end Pieces

variable (m : (ℓ : Loc nD τ sig) → Buf (Elt F) ℓ)

/-- What a step leaves in the block. -/
theorem step_block (c : Dev nD) (t : Fin cfg0.N) :
    (outsAt0 m c t.val t.isLt).1 = blockY (iblk m c 0 t) (iblk m c 1 t) (iblk m c 2 t) (iblk m c 3 t) (iblk m c 4 t) := by
  by_cases h0 : t.val % 64 = 0
  · rw [outsAt0_A m c t h0]
    unfold out0_A_8
    dsimp only
    funext y
    rw [View.read_writes_apply_eq_canon _ _ _ _ (cover0_A_8 ..), listA]
    exact congrFun (View.canon_unit_zero at_zero _ _) y
  · rw [outsAt0_B m c t h0]
    unfold out0_B_8
    dsimp only
    funext y
    rw [View.read_writes_apply_eq_canon _ _ _ _ (cover0_B_8 ..), listB]
    exact congrFun (View.canon_unit_zero at_zero _ _) y

end Generic
end Cert.Kernel7Ideal.Gen
-- ==== Proof.SecondOutputKernel.lean ====
/- The array of normed rows the second layer's output call leaves: the closed form at every index. -/
module

public import proofs.«01_k».proof.Proof.SecondOutputBlock
public import Idealize.ShloMosaic.Lib.Pipeline.ValueKit
public import Idealize.ShloMosaic.Lib.StableHlo.ReadAt

@[expose] public section
set_option maxRecDepth 16384
noncomputable section
namespace Cert.Kernel7Ideal.Gen
open Idealize.ShloMosaic Idealize.ShloMosaic.TcCoe Idealize.ShloMosaic.Tactic Cert.Output

/-- The layer norm as the kernel's operations. -/
def lnBlock (z : FVec Ideal S1024x1024 .f32) (g b : FVec Ideal S1x1024 .f32) : FVec Ideal S1024x1024 .f32 :=
  have mean : FVec Ideal S1024x1 .f32 := divf (shapeCast S1024x1 (multiReduction .add [1] S1024 z 0x00000000#32 reduces_S1024x1024_S1024 (.inl rfl) rfl) shapeCasts_S1024_S1024x1) (broadcast S1024x1 (Scalar.ofBits .f32 0x44800000#32 : Ideal .f32))
  have d : FVec Ideal S1024x1024 .f32 := subf z (broadcastTo S1024x1024 mean broadcasts_S1024x1_S1024x1024)
  have var : FVec Ideal S1024x1 .f32 := divf (shapeCast S1024x1 (multiReduction .add [1] S1024 (mulf d d) 0x00000000#32 reduces_S1024x1024_S1024 (.inl rfl) rfl) shapeCasts_S1024_S1024x1) (broadcast S1024x1 (Scalar.ofBits .f32 0x44800000#32 : Ideal .f32))
  have s : FVec Ideal S1024x1 .f32 := rsqrt (addf var (broadcast S1024x1 (Scalar.ofBits .f32 0x3727C5AC#32 : Ideal .f32)))
  addf (mulf (mulf d (broadcastTo S1024x1024 s broadcasts_S1024x1_S1024x1024)) (broadcastTo S1024x1024 g broadcasts_S1x1024_S1024x1024))
    (broadcastTo S1024x1024 b broadcasts_S1x1024_S1024x1024)

theorem lnBlock_read (z : FVec Ideal S1024x1024 .f32) (g b : FVec Ideal S1x1024 .f32) (r w : Fin 1024) :
    lnBlock z g b (ix2 r w) = normZ (fun x => z (ix2 r x)) (g (ix2 0 w)) (b (ix2 0 w)) w := by
  pointwise [lnBlock]
  rfl

/-- The rows before the norm as the kernel's operations. -/
def preBlock (x0 : Vec Ideal S1024x2048 .bf16) (x1 : Vec Ideal S2048x1024 .bf16) (x2 : Vec Ideal S1024x1024 .f32) : FVec Ideal S1024x1024 .f32 :=
  addf (mulf (broadcast S1024x1024 (Scalar.ofBits .f32 0x3FB504F3#32 : Ideal .f32)) x2)
    (matmul (φ₁ := .bf16) (φ₂ := .bf16) dot_S1024x2048_S2048x1024_S1024x1024_1_0_0_1_n_n none x0 (shapeCast S2048x1024 x1 shapeCasts_S2048x1024_S2048x1024) (constant S1024x1024 .f32 0x00000000#32))

theorem preBlock_read (x0 : Vec Ideal S1024x2048 .bf16) (x1 : Vec Ideal S2048x1024 .bf16) (x2 : Vec Ideal S1024x1024 .f32) (r x : Fin 1024) :
    preBlock x0 x1 x2 (ix2 r x) = sumE (x2 (ix2 r x)) (∑ k : Fin 2048, x0 (ix2 r k) * x1 (ix2 k x) : EReal) := by
  pointwise [preBlock]
  rfl

theorem blockY_eq (x0 : Vec Ideal S1024x2048 .bf16) (x1 : Vec Ideal S2048x1024 .bf16) (x2 : Vec Ideal S1024x1024 .f32) (x3 x4 : Vec Ideal S1x1024 .f32) :
    blockY x0 x1 x2 x3 x4 = lnBlock (preBlock x0 x1 x2) x3 x4 := (blockY_whole ..).trans rfl

variable (m : (ℓ : Loc nD τ sig) → Buf (Elt Ideal) ℓ)

theorem idx0 (t : Fin cfg0.N) : (cfg0.win 0).index t = ![t.val, 0] := by revert t; decide +kernel
theorem idx1 (t : Fin cfg0.N) : (cfg0.win 1).index t = ![0, 0] := by revert t; decide +kernel
theorem idx2 (t : Fin cfg0.N) : (cfg0.win 2).index t = ![t.val, 0] := by revert t; decide +kernel
theorem idx3 (t : Fin cfg0.N) : (cfg0.win 3).index t = ![0, 0] := by revert t; decide +kernel
theorem idx4 (t : Fin cfg0.N) : (cfg0.win 4).index t = ![0, 0] := by revert t; decide +kernel
theorem idx8 (t : Fin cfg0.N) : (cfg0.win 8).index t = ![t.val, 0] := by revert t; decide +kernel

theorem point_lt (t : Fin cfg0.N) : t.val < 64 := lt_of_lt_of_eq t.isLt N_0

/-- The row of the whole arrays that row `r` of point `t`'s block is. -/
def rowOf (t : Fin cfg0.N) (r : Fin 1024) : Fin 65536 := ⟨1024 * t.val + r.val, by have := point_lt t; omega⟩

/-- The arguments. -/
abbrev argA (c : Dev nD) : Wide := m ((c : Thread nD τ).loc main_arg0)
abbrev argW (c : Dev nD) : Tall := m ((c : Thread nD τ).loc main_arg1)
abbrev argX (c : Dev nD) : Rows := m ((c : Thread nD τ).loc main_arg2)
abbrev argG (c : Dev nD) : Row := m ((c : Thread nD τ).loc main_arg3)
abbrev argB (c : Dev nD) : Row := m ((c : Thread nD τ).loc main_arg4)

theorem iblk0 (c : Dev nD) (t : Fin cfg0.N) (r : Fin 1024) (k : Fin 2048) :
    iblk m c 0 t (ix2 r k) = argA m c (ix2 (rowOf t r) k) := by
  blk_ext [iblk, V, idx0 t, rowOf]
theorem iblk2 (c : Dev nD) (t : Fin cfg0.N) (r : Fin 1024) (k : Fin 1024) :
    iblk m c 2 t (ix2 r k) = argX m c (ix2 (rowOf t r) k) := by
  blk_ext [iblk, V, idx2 t, rowOf]
theorem iblk3 (c : Dev nD) (t : Fin cfg0.N) (r : Fin 1) (k : Fin 1024) :
    iblk m c 3 t (ix2 r k) = argG m c (ix2 r k) := by
  blk_ext [iblk, V, idx3 t, rowOf]
theorem iblk4 (c : Dev nD) (t : Fin cfg0.N) (r : Fin 1) (k : Fin 1024) :
    iblk m c 4 t (ix2 r k) = argB m c (ix2 r k) := by
  blk_ext [iblk, V, idx4 t, rowOf]
theorem iblk1 (c : Dev nD) (t : Fin cfg0.N) (k : Fin 2048) (x : Fin 1024) :
    iblk m c 1 t (ix2 k x) = argW m c (ix2 k x) := by
  have e : iblk m c 1 t (ix2 k x) = V m c main_v0 (ix2 k x) := by blk_ext [iblk, idx1 t]
  rw [e]
  unfold V
  after_reads_at

/-- The block a step stores, in closed form. -/
theorem block_y (c : Dev nD) (t : Fin cfg0.N) (r w : Fin 1024) :
    blockY (iblk m c 0 t) (iblk m c 1 t) (iblk m c 2 t) (iblk m c 3 t) (iblk m c 4 t) (ix2 r w) = resSecond (argA m c) (argW m c) (argX m c) (argG m c) (argB m c) (rowOf t r) w := by
  rw [blockY_eq, lnBlock_read]
  unfold resSecond
  simp only [preBlock_read]
  simp only [iblk0, iblk1, iblk2, iblk3, iblk4]

theorem emb8 (t : Fin cfg0.N) (r w : Fin 1024) :
    ((cfg0.win 8).blk t).view.emb (ix2 r w) = (ix2 (rowOf t r) w : S65536x1024.Idx) := by
  funext ax; apply Fin.ext
  match ax with
  | ⟨0, _⟩ =>
    show (cfg0.win 8).index t 0 * 1024 + 1 * r.val = 1024 * t.val + r.val
    rw [idx8]; show t.val * 1024 + 1 * r.val = _; omega
  | ⟨1, _⟩ =>
    show (cfg0.win 8).index t 1 * 1024 + 1 * w.val = w.val
    rw [idx8]; show 0 * 1024 + 1 * w.val = _; omega

/-- The result in closed form. -/
def wholeY (c : Dev nD) : S65536x1024.Idx → EReal := fun i => resSecond (argA m c) (argW m c) (argX m c) (argG m c) (argB m c) (i 0) (i 1)

theorem array_y (c : Dev nD) : (dats m 0 c).arrAt 8 cfg0.N = wholeY m c := by
  refine (dats m 0 c).arrAt_eq_of_covers 8 _ (by decide +kernel) fun t hf y => ?_
  blk_simp
  rw [after0_8, step_block]
  idx_vars y
  exact (block_y m c t y0 y1).trans (congrArg (wholeY m c) (emb8 t y0 y1)).symm

end Cert.Kernel7Ideal.Gen
-- ==== Proof.SecondOutputReference.lean ====
/- The second layer's output reference as the closed form. -/
module

public import proofs.«01_k».proof.Proof.OutputSpec
public import proofs.«01_k».proof.Proof.Gen.Reference7Ideal.Run
public import Idealize.ShloMosaic.Lib.Pipeline.ValueKit
public import Idealize.ShloMosaic.Lib.StableHlo.ReadAt

@[expose] public section
set_option maxRecDepth 16384
noncomputable section
namespace Cert.Reference7Ideal.Value
open Idealize.ShloMosaic Idealize.ShloMosaic.TcCoe Idealize.ShloMosaic.Tactic Cert.Output Cert.Reference7Ideal.Gen

/-- The layer norm as the reference's operations. -/
def lnTerm (z : FVec Ideal S65536x1024 .f32) (g b : FVec Ideal S1x1024 .f32) : FVec Ideal S65536x1024 .f32 :=
  addf (mulf (mulf (subf z (broadcastInDim S65536x1024 ![0, 1] bcast_S65536x1_S65536x1024_0_1 (Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))))) (broadcastInDim S65536x1024 ![0, 1] bcast_S65536x1_S65536x1024_0_1 (Host.rsqrt (addf (Host.divf (broadcastInDim S65536x1 ![0] bcast_S65536_S65536x1_0 (Host.reduceAdd (mulf (subf z (broadcastInDim S65536x1024 ![0, 1] bcast_S65536x1_S65536x1024_0_1 (Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32))))) (subf z (broadcastInDim S65536x1024 ![0, 1] bcast_S65536x1_S65536x1024_0_1 (Host.divf (broadcastInDim S65536x1 ![0] bcast_S65536_S65536x1_0 (Host.reduceAdd z (constant S_ .f32 0x00000000#32) reducesTo_S65536x1024_S65536_d1 h_S_)) (broadcastInDim S65536x1 ![] bcast_S_S65536x1 (constant S_ .f32 0x44800000#32)))))) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 g)) (broadcastInDim S65536x1024 ![0, 1] bcast_S1x1024_S65536x1024_0_1 b)

theorem lnTerm_read (z : FVec Ideal S65536x1024 .f32) (g b : FVec Ideal S1x1024 .f32) (t : Fin 65536) (w : Fin 1024) :
    lnTerm z g b (ix2 t w) = normZ (fun x => z (ix2 t x)) (g (ix2 0 w)) (b (ix2 0 w)) w := by
  pointwise [lnTerm]
  rfl

/-- The row before the norm as the reference's operations. -/
def preTerm (A : FVec Ideal S65536x2048 .bf16) (W : FVec Ideal S2048x1024 .f32) (X : FVec Ideal S65536x1024 .f32) : FVec Ideal S65536x1024 .f32 :=
  addf (mulf (broadcastInDim S65536x1024 ![] bcast_S_S65536x1024 (constant S_ .f32 0x3FB504F3#32)) X) (Host.dotGeneral (φ₁ := .f32) (φ₂ := .f32) dot_S65536x2048_S2048x1024_S65536x1024_1_0_0_1_n_n none (extf .f32 A bitsLt_bf16_f32) W)

theorem preTerm_read (A : FVec Ideal S65536x2048 .bf16) (W : FVec Ideal S2048x1024 .f32) (X : FVec Ideal S65536x1024 .f32) (t : Fin 65536) (x : Fin 1024) :
    preTerm A W X (ix2 t x) = sumE (X (ix2 t x)) (∑ k : Fin 2048, A (ix2 t k) * W (ix2 k x) : EReal) := by
  pointwise [preTerm]
  rfl

/-- The result in closed form. -/
theorem reference_y (A : FVec Ideal S65536x2048 .bf16) (W : FVec Ideal S2048x1024 .f32) (X : FVec Ideal S65536x1024 .f32)
    (G B : FVec Ideal S1x1024 .f32) (t : Fin 65536) (w : Fin 1024) :
    lnTerm (preTerm A W X) G B (ix2 t w) = resSecond A W X G B t w := by
  rw [lnTerm_read]
  unfold resSecond
  simp only [preTerm_read]

end Cert.Reference7Ideal.Value
-- ==== Proof.lean ====
module

public import proofs.«01_k».proof.Proof.ExpertsKernel
public import proofs.«01_k».proof.Proof.ExpertsNamed
public import proofs.«01_k».proof.Proof.ExpertsSame
public import proofs.«01_k».proof.Proof.ExpertsReference
public import proofs.«01_k».proof.Proof.ExpertsPlain
public import proofs.«01_k».proof.Proof.SecondExpertsKernel
public import proofs.«01_k».proof.Proof.SecondExpertsSame
public import proofs.«01_k».proof.Proof.Gen.Pre_experts_named
public import proofs.«01_k».proof.Proof.Gen.Kernel5.Frame
public import proofs.«01_k».proof.Proof.Gen.Kernel5Ideal.Frame
public import proofs.«01_k».proof.Defs
public import proofs.«01_k».proof.Proof.Gen.Kernel.Frame
public import proofs.«01_k».proof.Proof.Gen.Kernel2.Frame
public import proofs.«01_k».proof.Proof.RetentionFold
public import proofs.«01_k».proof.Proof.RetentionReference
public import proofs.«01_k».proof.Proof.RetentionFinite
public import proofs.«01_k».proof.Proof.ProjectionKernel
public import proofs.«01_k».proof.Proof.ProjectionReference
public import proofs.«01_k».proof.Proof.FirstKernel
public import proofs.«01_k».proof.Proof.FirstReference
public import proofs.«01_k».proof.Proof.Gen.Kernel6.Frame
public import proofs.«01_k».proof.Proof.OutputKernel
public import proofs.«01_k».proof.Proof.OutputReference
public import proofs.«01_k».proof.Proof.Gen.Kernel7.Frame
public import proofs.«01_k».proof.Proof.SecondOutputKernel
public import proofs.«01_k».proof.Proof.SecondOutputReference
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem Cert.Retention

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The retention: from equal arguments whose queries, keys and values are real numbers, equal results. -/
theorem retention : algebraic_KernelIdeal_ReferenceIdeal_pre_finite_qkv (hPre_finite_qkv := Cert.Pre_finite_qkv.side) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨a0, a1, a2, a3, a4, a5⟩ := hagree c
  obtain ⟨p0, p1, p2⟩ := hpre c
  have hQ : Real' (Cert.KernelIdeal.Gen.argQ m c) := real_of_test _ _ _ (fun i => zero_splat _ i) p0
  have hK : Real' (Cert.KernelIdeal.Gen.argK m c) := real_of_test _ _ _ (fun i => zero_splat _ i) p1
  have hV : Real' (Cert.KernelIdeal.Gen.argV m c) := real_of_test _ _ _ (fun i => zero_splat _ i) p2
  have eQ : Cert.ReferenceIdeal.Value.inQ m' c = Cert.KernelIdeal.Gen.argQ m c := a0
  have eK : Cert.ReferenceIdeal.Value.inK m' c = Cert.KernelIdeal.Gen.argK m c := a1
  have eV : Cert.ReferenceIdeal.Value.inV m' c = Cert.KernelIdeal.Gen.argV m c := a2
  funext j
  obtain ⟨b, t, w, rfl⟩ : ∃ (b : Fin 8) (t : Fin 8192) (w : Fin 2048), j = ix3 b t w := ⟨j 0, j 1, j 2, eq_ix3 j⟩
  have hw : w.val = 256 * (w.val / 256) + w.val % 256 := by omega
  refine (Cert.ReferenceIdeal.Value.reference_eq m' c (eQ ▸ hQ) (eK ▸ hK) (eV ▸ hV) b t ⟨w.val / 256, by omega⟩
    ⟨w.val % 256, by omega⟩ w hw).trans ?_
  refine Eq.trans ?_ (Cert.KernelIdeal.Gen.result m c hQ hK hV b t ⟨w.val / 256, by omega⟩ ⟨w.val % 256, by omega⟩ w hw).symm
  rw [eQ, eK, eV]
  have e3 : (m' ((c : Thread Cert.ReferenceIdeal.nD Cert.ReferenceIdeal.τ).loc Cert.ReferenceIdeal.main_arg3)) = Cert.KernelIdeal.Gen.argSG m c := a3
  have e4 : (m' ((c : Thread Cert.ReferenceIdeal.nD Cert.ReferenceIdeal.τ).loc Cert.ReferenceIdeal.main_arg4)) = Cert.KernelIdeal.Gen.argG m c := a4
  have e5 : (m' ((c : Thread Cert.ReferenceIdeal.nD Cert.ReferenceIdeal.τ).loc Cert.ReferenceIdeal.main_arg5)) = Cert.KernelIdeal.Gen.argB m c := a5
  rw [e3, e4, e5]

theorem quiescent_Reference2Ideal : quiescent_Reference2Ideal := fun m ρ _ =>
  (θ_run Cert.Reference2Ideal.defs _ _).mono (fun r h => ⟨fun c => (h c).2.2.2.2, sem_eq_zero_of_no_sems (by decide) r.2⟩)
    (Cert.Reference2Ideal.Value.run (F := Ideal) m ρ)

/-- The projection: from equal arguments, four equal results. -/
theorem projection : algebraic_Kernel2Ideal_Reference2Ideal := by
  intro m ρ m' ρ' hpre hagree
  refine ⟨_, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨hq, hk, hv, hg, hargs⟩ := h c
  obtain ⟨a0, a1⟩ := hagree c
  have eX : Cert.Reference2Ideal.Value.inX m' c = Cert.Kernel2Ideal.Gen.argX m c := a0
  have eW : Cert.Reference2Ideal.Value.inW m' c = Cert.Kernel2Ideal.Gen.argW m c := a1
  refine ⟨hq.trans ?_, hk.trans ?_, hv.trans ?_, hg.trans ?_, hargs⟩
  · refine Eq.trans ?_ (Cert.Kernel2Ideal.Gen.array_q m c).symm
    funext j
    obtain ⟨t, w, rfl⟩ : ∃ (t : Fin 65536) (w : Fin 1024), j = ix2 t w := ⟨j 0, j 1, eq_ix2 j⟩
    refine (Cert.Reference2Ideal.Value.reference_q m' c t w).trans ?_
    rw [eX, eW]
    rfl
  · refine Eq.trans ?_ (Cert.Kernel2Ideal.Gen.array_k m c).symm
    funext j
    obtain ⟨t, w, rfl⟩ : ∃ (t : Fin 65536) (w : Fin 1024), j = ix2 t w := ⟨j 0, j 1, eq_ix2 j⟩
    refine (Cert.Reference2Ideal.Value.reference_k m' c t w).trans ?_
    rw [eX, eW]
    rfl
  · refine Eq.trans ?_ (Cert.Kernel2Ideal.Gen.array_v m c).symm
    funext j
    obtain ⟨t, w, rfl⟩ : ∃ (t : Fin 65536) (w : Fin 2048), j = ix2 t w := ⟨j 0, j 1, eq_ix2 j⟩
    refine (Cert.Reference2Ideal.Value.reference_v m' c t w).trans ?_
    rw [eX, eW]
    rfl
  · refine Eq.trans ?_ (Cert.Kernel2Ideal.Gen.array_g m c).symm
    funext j
    obtain ⟨t, w, rfl⟩ : ∃ (t : Fin 65536) (w : Fin 2048), j = ix2 t w := ⟨j 0, j 1, eq_ix2 j⟩
    refine (Cert.Reference2Ideal.Value.reference_g m' c t w).trans ?_
    rw [eX, eW]
    rfl

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The first layer's experts: from equal arguments whose table names experts, equal results. -/
theorem experts : algebraic_Kernel3Ideal_Reference3Ideal := by
  intro m ρ m' ρ' hpre hagree
  have hn : Cert.Experts.Named (Cert.Experts.tab0 m) := Cert.Experts.named_of_test _ _ _ _ _ _ (hpre 0)
  refine ⟨_, Cert.Experts.run_result (F := Ideal) m ρ hn, ?_⟩
  refine (θ_run Cert.Reference3Ideal.defs _ _).mono (fun _ h c => ⟨(h c).1.trans ?_, (h c).2⟩) (Cert.Reference3Ideal.Value.run (F := Ideal) m' ρ')
  obtain rfl : c = 0 := Subsingleton.elim c 0
  obtain ⟨a0, a1, a2, a3, a4, a5⟩ := hagree 0
  refine Eq.trans ?_ (Cert.Experts.array_out m hn 0).symm
  refine (Cert.Experts.Plain.first_layer m' 0).trans ?_
  rw [a0, a1, a2, a3, a4, a5]
  funext j
  obtain ⟨R, w, rfl⟩ : ∃ (R : Fin 139264) (w : Fin 1024), j = ix2 R w := ⟨j 0, j 1, eq_ix2 j⟩
  exact Cert.Experts.Plain.result_read _ _ _ _ _ _ _ R (hn _ _) w

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The second layer's experts, likewise. -/
theorem experts_second : algebraic_Kernel4Ideal_Reference4Ideal := by
  intro m ρ m' ρ' hpre hagree
  have hn : Cert.SecondExperts.Named (Cert.SecondExperts.tab0 m) := Cert.Experts.named_of_test _ _ _ _ _ _ (hpre 0)
  refine ⟨_, Cert.SecondExperts.run_result (F := Ideal) m ρ hn, ?_⟩
  refine (θ_run Cert.Reference4Ideal.defs _ _).mono (fun _ h c => ⟨(h c).1.trans ?_, (h c).2⟩) (Cert.Reference4Ideal.Value.run (F := Ideal) m' ρ')
  obtain rfl : c = 0 := Subsingleton.elim c 0
  obtain ⟨a0, a1, a2, a3, a4, a5⟩ := hagree 0
  refine Eq.trans ?_ (Cert.SecondExperts.array_out m hn 0).symm
  refine (Cert.Experts.Plain.second_layer m' 0).trans ?_
  rw [a0, a1, a2, a3, a4, a5]
  funext j
  obtain ⟨R, w, rfl⟩ : ∃ (R : Fin 139264) (w : Fin 1024), j = ix2 R w := ⟨j 0, j 1, eq_ix2 j⟩
  exact Cert.Experts.Plain.result_read _ _ _ _ _ _ _ R (hn _ _) w

theorem quiescent_Reference5Ideal : quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- The first layer's projection: from equal arguments, six equal results. -/
theorem first_projection : algebraic_Kernel5Ideal_Reference5Ideal := by
  intro m ρ m' ρ' hpre hagree
  refine ⟨_, _, _, _, _, _, Cert.Kernel5Ideal.Value.run_blocks (F := Ideal) m ρ, ?_⟩
  refine (θ_run Cert.Reference5Ideal.defs _ _).mono (fun _ h c => ?_) (Cert.Reference5Ideal.Value.run (F := Ideal) m' ρ')
  obtain ⟨hr, hq, hk, hg, hv, hc, hargs⟩ := h c
  obtain ⟨a0, a1⟩ := hagree c
  have eX : Cert.Reference5Ideal.Value.inX m' c = Cert.Kernel5Ideal.Gen.argX m c := a0
  have eW : Cert.Reference5Ideal.Value.inW m' c = Cert.Kernel5Ideal.Gen.argW m c := a1
  refine ⟨hr.trans ?_, hq.trans ?_, hk.trans ?_, hg.trans ?_, hv.trans ?_, hc.trans ?_, hargs⟩
  · refine Eq.trans ?_ (Cert.Kernel5Ideal.Gen.array_r m c).symm
    funext j
    obtain ⟨t, w, rfl⟩ : ∃ (t : Fin 65536) (w : Fin 2048), j = ix2 t w := ⟨j 0, j 1, eq_ix2 j⟩
    refine (Cert.Reference5Ideal.Value.reference_r m' c t w).trans ?_
    rw [eX, eW]
    rfl
  · refine Eq.trans ?_ (Cert.Kernel5Ideal.Gen.array_q m c).symm
    funext j
    obtain ⟨t, w, rfl⟩ : ∃ (t : Fin 65536) (w : Fin 512), j = ix2 t w := ⟨j 0, j 1, eq_ix2 j⟩
    refine (Cert.Reference5Ideal.Value.reference_q m' c t w).trans ?_
    rw [eX, eW]
    rfl
  · refine Eq.trans ?_ (Cert.Kernel5Ideal.Gen.array_k m c).symm
    funext j
    obtain ⟨t, w, rfl⟩ : ∃ (t : Fin 65536) (w : Fin 256), j = ix2 t w := ⟨j 0, j 1, eq_ix2 j⟩
    refine (Cert.Reference5Ideal.Value.reference_k m' c t w).trans ?_
    rw [eX, eW]
    rfl
  · refine Eq.trans ?_ (Cert.Kernel5Ideal.Gen.array_g m c).symm
    funext j
    obtain ⟨t, w, rfl⟩ : ∃ (t : Fin 65536) (w : Fin 128), j = ix2 t w := ⟨j 0, j 1, eq_ix2 j⟩
    refine (Cert.Reference5Ideal.Value.reference_g m' c t w).trans ?_
    rw [eX, eW]
    rfl
  · refine Eq.trans ?_ (Cert.Kernel5Ideal.Gen.array_v m c).symm
    funext j
    obtain ⟨a, u, d, k, rfl⟩ : ∃ (a : Fin 2) (u : Fin 256) (d : Fin 128) (k : Fin 256), j = ix4 a u d k :=
      ⟨j 0, j 1, j 2, j 3, eq_ix4 j⟩
    refine (Cert.Reference5Ideal.Value.reference_v m' c a u d k).trans ?_
    rw [eX, eW]
    rfl
  · refine Eq.trans ?_ (Cert.Kernel5Ideal.Gen.array_c m c).symm
    funext j
    obtain ⟨a, g, w, rfl⟩ : ∃ (a : Fin 2) (g : Fin 4096) (w : Fin 2048), j = ix3 a g w := ⟨j 0, j 1, j 2, eq_ix3 j⟩
    refine (Cert.Reference5Ideal.Value.reference_c m' c a g w).trans ?_
    rw [eX, eW]
    rfl

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The first layer's output call: from equal arguments, equal normed rows. -/
theorem output_first : algebraic_Kernel6Ideal_Reference6Ideal := by
  intro m ρ m' ρ' hpre hagree
  refine ⟨fun c => (Cert.Kernel6Ideal.Gen.dats m 0 c).arrAt 10 Cert.Kernel6Ideal.cfg0.N,
    (θ_run Cert.Kernel6Ideal.defs _ _).mono (fun _ h c => ⟨(h c).1, (h c).2.2.2.2.2⟩) (Cert.Kernel6Ideal.Value.run_blocks (F := Ideal) m ρ), ?_⟩
  refine (θ_run Cert.Reference6Ideal.defs _ _).mono (fun _ h c => ⟨(h c).1.trans ?_, (h c).2⟩) (Cert.Reference6Ideal.Value.run (F := Ideal) m' ρ')
  obtain ⟨a0, a1, a2, a3, a4, a5, a6, a7⟩ := hagree c
  refine Eq.trans ?_ (Cert.Kernel6Ideal.Gen.array_y m c).symm
  funext j
  obtain ⟨t, w, rfl⟩ : ∃ (t : Fin 65536) (w : Fin 1024), j = ix2 t w := ⟨j 0, j 1, eq_ix2 j⟩
  refine (Cert.Reference6Ideal.Value.reference_y (m' ((c : Thread Cert.Reference6Ideal.nD Cert.Reference6Ideal.τ).loc Cert.Reference6Ideal.main_arg0)) (m' ((c : Thread Cert.Reference6Ideal.nD Cert.Reference6Ideal.τ).loc Cert.Reference6Ideal.main_arg1)) (m' ((c : Thread Cert.Reference6Ideal.nD Cert.Reference6Ideal.τ).loc Cert.Reference6Ideal.main_arg2)) (m' ((c : Thread Cert.Reference6Ideal.nD Cert.Reference6Ideal.τ).loc Cert.Reference6Ideal.main_arg3)) (m' ((c : Thread Cert.Reference6Ideal.nD Cert.Reference6Ideal.τ).loc Cert.Reference6Ideal.main_arg4)) (m' ((c : Thread Cert.Reference6Ideal.nD Cert.Reference6Ideal.τ).loc Cert.Reference6Ideal.main_arg5)) t w).trans ?_
  rw [a0, a1, a2, a3, a4, a5]
  rfl

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The second layer's output call, likewise. -/
theorem output_second : algebraic_Kernel7Ideal_Reference7Ideal := by
  intro m ρ m' ρ' hpre hagree
  refine ⟨fun c => (Cert.Kernel7Ideal.Gen.dats m 0 c).arrAt 8 Cert.Kernel7Ideal.cfg0.N,
    (θ_run Cert.Kernel7Ideal.defs _ _).mono (fun _ h c => ⟨(h c).1, (h c).2.2.2.2.2⟩) (Cert.Kernel7Ideal.Value.run_blocks (F := Ideal) m ρ), ?_⟩
  refine (θ_run Cert.Reference7Ideal.defs _ _).mono (fun _ h c => ⟨(h c).1.trans ?_, (h c).2⟩) (Cert.Reference7Ideal.Value.run (F := Ideal) m' ρ')
  obtain ⟨a0, a1, a2, a3, a4, a5, a6⟩ := hagree c
  refine Eq.trans ?_ (Cert.Kernel7Ideal.Gen.array_y m c).symm
  funext j
  obtain ⟨t, w, rfl⟩ : ∃ (t : Fin 65536) (w : Fin 1024), j = ix2 t w := ⟨j 0, j 1, eq_ix2 j⟩
  refine (Cert.Reference7Ideal.Value.reference_y (m' ((c : Thread Cert.Reference7Ideal.nD Cert.Reference7Ideal.τ).loc Cert.Reference7Ideal.main_arg0)) (m' ((c : Thread Cert.Reference7Ideal.nD Cert.Reference7Ideal.τ).loc Cert.Reference7Ideal.main_arg1)) (m' ((c : Thread Cert.Reference7Ideal.nD Cert.Reference7Ideal.τ).loc Cert.Reference7Ideal.main_arg2)) (m' ((c : Thread Cert.Reference7Ideal.nD Cert.Reference7Ideal.τ).loc Cert.Reference7Ideal.main_arg3)) (m' ((c : Thread Cert.Reference7Ideal.nD Cert.Reference7Ideal.τ).loc Cert.Reference7Ideal.main_arg4)) t w).trans ?_
  rw [a0, a1, a2, a3, a4]
  rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite_qkv.side, Cert.Pre_experts_named.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial,
  fun m ρ _ => Cert.Kernel2.Gen.frame m ρ, fun m ρ _ => Cert.Kernel2Ideal.Gen.frame m ρ, quiescent_Reference2Ideal,
  fun m ρ h => Cert.Experts.same m ρ _ (Cert.Experts.run_frame (F := Bits) m ρ (Cert.Experts.named_of_test _ _ _ _ _ _ (h 0))),
  fun m ρ h => Cert.Experts.run_frame (F := Ideal) m ρ (Cert.Experts.named_of_test _ _ _ _ _ _ (h 0)),
  quiescent_Reference3Ideal, fun m ρ _ => quiescent_Reference3Ideal m ρ trivial,
  fun m ρ h => Cert.SecondExperts.same m ρ _ (Cert.SecondExperts.run_frame (F := Bits) m ρ (Cert.Experts.named_of_test _ _ _ _ _ _ (h 0))),
  fun m ρ h => Cert.SecondExperts.run_frame (F := Ideal) m ρ (Cert.Experts.named_of_test _ _ _ _ _ _ (h 0)),
  quiescent_Reference4Ideal, fun m ρ _ => quiescent_Reference4Ideal m ρ trivial,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  (trivial : preserves_Kernel_KernelIdeal), retention, (trivial : preserves_Kernel2_Kernel2Ideal), projection,
  (trivial : preserves_Kernel3_Kernel3Ideal), experts,
  (trivial : preserves_Kernel4_Kernel4Ideal), experts_second,
  (trivial : preserves_Kernel5_Kernel5Ideal), first_projection,
  (trivial : preserves_Kernel6_Kernel6Ideal), output_first,
  (trivial : preserves_Kernel7_Kernel7Ideal), output_second⟩

end Cert.Proof

end
